-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_QuantW (m : (ℓ : Loc Cert.QuantW.nD Cert.QuantW.τ Cert.QuantW.sig) → Buf (Elt Bits) ℓ) : Prop :=
  True

def Pre_QuantWIdeal (m : (ℓ : Loc Cert.QuantWIdeal.nD Cert.QuantWIdeal.τ Cert.QuantWIdeal.sig) → Buf (Elt Ideal) ℓ) : Prop :=
  True

def Pre_QuantWReferenceIdeal (m : (ℓ : Loc Cert.QuantWReferenceIdeal.nD Cert.QuantWReferenceIdeal.τ Cert.QuantWReferenceIdeal.sig) → Buf (Elt Ideal) ℓ) : Prop :=
  True

def Pre_BiasGrad (m : (ℓ : Loc Cert.BiasGrad.nD Cert.BiasGrad.τ Cert.BiasGrad.sig) → Buf (Elt Bits) ℓ) : Prop :=
  True

def Pre_BiasGradIdeal (m : (ℓ : Loc Cert.BiasGradIdeal.nD Cert.BiasGradIdeal.τ Cert.BiasGradIdeal.sig) → Buf (Elt Ideal) ℓ) : Prop :=
  True

def Pre_BiasGradIdeal_finite [hPre_finite : Cert.Pre_finite.Facts] (m : (ℓ : Loc Cert.BiasGradIdeal.nD Cert.BiasGradIdeal.τ Cert.BiasGradIdeal.sig) → Buf (Elt Ideal) ℓ) : Prop :=
  ∀ c : Dev Cert.BiasGradIdeal.nD,
    (Cert.Pre_finite.fn (F := Ideal) (m ((c.tc : Thread Cert.BiasGradIdeal.nD Cert.BiasGradIdeal.τ).loc Cert.BiasGradIdeal.main_arg0)) (m ((c.tc : Thread Cert.BiasGradIdeal.nD Cert.BiasGradIdeal.τ).loc Cert.BiasGradIdeal.main_arg1)) (m ((c.tc : Thread Cert.BiasGradIdeal.nD Cert.BiasGradIdeal.τ).loc Cert.BiasGradIdeal.main_arg2))) = (fun _ => 1#1)

def Pre_BiasGradReferenceIdeal (m : (ℓ : Loc Cert.BiasGradReferenceIdeal.nD Cert.BiasGradReferenceIdeal.τ Cert.BiasGradReferenceIdeal.sig) → Buf (Elt Ideal) ℓ) : Prop :=
  True

def Pre_BiasGradReferenceIdeal_finite [hPre_finite : Cert.Pre_finite.Facts] (m : (ℓ : Loc Cert.BiasGradReferenceIdeal.nD Cert.BiasGradReferenceIdeal.τ Cert.BiasGradReferenceIdeal.sig) → Buf (Elt Ideal) ℓ) : Prop :=
  ∀ c : Dev Cert.BiasGradReferenceIdeal.nD,
    (Cert.Pre_finite.fn (F := Ideal) (m ((c.tc : Thread Cert.BiasGradReferenceIdeal.nD Cert.BiasGradReferenceIdeal.τ).loc Cert.BiasGradReferenceIdeal.main_arg0)) (m ((c.tc : Thread Cert.BiasGradReferenceIdeal.nD Cert.BiasGradReferenceIdeal.τ).loc Cert.BiasGradReferenceIdeal.main_arg1)) (m ((c.tc : Thread Cert.BiasGradReferenceIdeal.nD Cert.BiasGradReferenceIdeal.τ).loc Cert.BiasGradReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_QuantW [hQuantW : Cert.QuantW.Facts] : Prop :=
  ∀ (m : (ℓ : Loc Cert.QuantW.nD Cert.QuantW.τ Cert.QuantW.sig) → Buf (Elt Bits) ℓ) (g : Dev Cert.QuantW.nD → PrngReg), Pre_QuantW m →
    θ_run (Cert.QuantW.defs (F := Bits)) (onTc (τ := Cert.QuantW.τ) (Cert.QuantW.main (F := Bits))) ⟨m, fun _ => 0, g⟩ (fun r => (∀ c : Dev Cert.QuantW.nD,
      r.2.mem ((c.tc : Thread Cert.QuantW.nD Cert.QuantW.τ).loc Cert.QuantW.main_arg0) = m ((c.tc : Thread Cert.QuantW.nD Cert.QuantW.τ).loc Cert.QuantW.main_arg0)
      ∧ r.2.mem ((c.tc : Thread Cert.QuantW.nD Cert.QuantW.τ).loc Cert.QuantW.main_arg1) = m ((c.tc : Thread Cert.QuantW.nD Cert.QuantW.τ).loc Cert.QuantW.main_arg1)
      ∧ r.2.mem ((c.tc : Thread Cert.QuantW.nD Cert.QuantW.τ).loc Cert.QuantW.main_arg2) = m ((c.tc : Thread Cert.QuantW.nD Cert.QuantW.τ).loc Cert.QuantW.main_arg2)
      ∧ r.2.mem ((c.tc : Thread Cert.QuantW.nD Cert.QuantW.τ).loc Cert.QuantW.main_arg3) = m ((c.tc : Thread Cert.QuantW.nD Cert.QuantW.τ).loc Cert.QuantW.main_arg3))
      ∧ r.2.sem = fun _ => 0)

def quiescent_QuantWIdeal [hQuantWIdeal : Cert.QuantWIdeal.Facts] : Prop :=
  ∀ (m : (ℓ : Loc Cert.QuantWIdeal.nD Cert.QuantWIdeal.τ Cert.QuantWIdeal.sig) → Buf (Elt Ideal) ℓ) (g : Dev Cert.QuantWIdeal.nD → PrngReg), Pre_QuantWIdeal m →
    θ_run (Cert.QuantWIdeal.defs (F := Ideal)) (onTc (τ := Cert.QuantWIdeal.τ) (Cert.QuantWIdeal.main (F := Ideal))) ⟨m, fun _ => 0, g⟩ (fun r => (∀ c : Dev Cert.QuantWIdeal.nD,
      r.2.mem ((c.tc : Thread Cert.QuantWIdeal.nD Cert.QuantWIdeal.τ).loc Cert.QuantWIdeal.main_arg0) = m ((c.tc : Thread Cert.QuantWIdeal.nD Cert.QuantWIdeal.τ).loc Cert.QuantWIdeal.main_arg0)
      ∧ r.2.mem ((c.tc : Thread Cert.QuantWIdeal.nD Cert.QuantWIdeal.τ).loc Cert.QuantWIdeal.main_arg1) = m ((c.tc : Thread Cert.QuantWIdeal.nD Cert.QuantWIdeal.τ).loc Cert.QuantWIdeal.main_arg1)
      ∧ r.2.mem ((c.tc : Thread Cert.QuantWIdeal.nD Cert.QuantWIdeal.τ).loc Cert.QuantWIdeal.main_arg2) = m ((c.tc : Thread Cert.QuantWIdeal.nD Cert.QuantWIdeal.τ).loc Cert.QuantWIdeal.main_arg2)
      ∧ r.2.mem ((c.tc : Thread Cert.QuantWIdeal.nD Cert.QuantWIdeal.τ).loc Cert.QuantWIdeal.main_arg3) = m ((c.tc : Thread Cert.QuantWIdeal.nD Cert.QuantWIdeal.τ).loc Cert.QuantWIdeal.main_arg3))
      ∧ r.2.sem = fun _ => 0)

def quiescent_QuantWReferenceIdeal [hQuantWReferenceIdeal : Cert.QuantWReferenceIdeal.Facts] : Prop :=
  ∀ (m : (ℓ : Loc Cert.QuantWReferenceIdeal.nD Cert.QuantWReferenceIdeal.τ Cert.QuantWReferenceIdeal.sig) → Buf (Elt Ideal) ℓ) (g : Dev Cert.QuantWReferenceIdeal.nD → PrngReg), Pre_QuantWReferenceIdeal m →
    θ_run (Cert.QuantWReferenceIdeal.defs (F := Ideal)) (onTc (τ := Cert.QuantWReferenceIdeal.τ) (Cert.QuantWReferenceIdeal.main (F := Ideal))) ⟨m, fun _ => 0, g⟩ (fun r => (∀ c : Dev Cert.QuantWReferenceIdeal.nD,
      r.2.mem ((c.tc : Thread Cert.QuantWReferenceIdeal.nD Cert.QuantWReferenceIdeal.τ).loc Cert.QuantWReferenceIdeal.main_arg0) = m ((c.tc : Thread Cert.QuantWReferenceIdeal.nD Cert.QuantWReferenceIdeal.τ).loc Cert.QuantWReferenceIdeal.main_arg0)
      ∧ r.2.mem ((c.tc : Thread Cert.QuantWReferenceIdeal.nD Cert.QuantWReferenceIdeal.τ).loc Cert.QuantWReferenceIdeal.main_arg1) = m ((c.tc : Thread Cert.QuantWReferenceIdeal.nD Cert.QuantWReferenceIdeal.τ).loc Cert.QuantWReferenceIdeal.main_arg1)
      ∧ r.2.mem ((c.tc : Thread Cert.QuantWReferenceIdeal.nD Cert.QuantWReferenceIdeal.τ).loc Cert.QuantWReferenceIdeal.main_arg2) = m ((c.tc : Thread Cert.QuantWReferenceIdeal.nD Cert.QuantWReferenceIdeal.τ).loc Cert.QuantWReferenceIdeal.main_arg2)
      ∧ r.2.mem ((c.tc : Thread Cert.QuantWReferenceIdeal.nD Cert.QuantWReferenceIdeal.τ).loc Cert.QuantWReferenceIdeal.main_arg3) = m ((c.tc : Thread Cert.QuantWReferenceIdeal.nD Cert.QuantWReferenceIdeal.τ).loc Cert.QuantWReferenceIdeal.main_arg3))
      ∧ r.2.sem = fun _ => 0)

def quiescent_BiasGrad [hBiasGrad : Cert.BiasGrad.Facts] : Prop :=
  ∀ (m : (ℓ : Loc Cert.BiasGrad.nD Cert.BiasGrad.τ Cert.BiasGrad.sig) → Buf (Elt Bits) ℓ) (g : Dev Cert.BiasGrad.nD → PrngReg), Pre_BiasGrad m →
    θ_run (Cert.BiasGrad.defs (F := Bits)) (onTc (τ := Cert.BiasGrad.τ) (Cert.BiasGrad.main (F := Bits))) ⟨m, fun _ => 0, g⟩ (fun r => (∀ c : Dev Cert.BiasGrad.nD,
      r.2.mem ((c.tc : Thread Cert.BiasGrad.nD Cert.BiasGrad.τ).loc Cert.BiasGrad.main_arg0) = m ((c.tc : Thread Cert.BiasGrad.nD Cert.BiasGrad.τ).loc Cert.BiasGrad.main_arg0)
      ∧ r.2.mem ((c.tc : Thread Cert.BiasGrad.nD Cert.BiasGrad.τ).loc Cert.BiasGrad.main_arg1) = m ((c.tc : Thread Cert.BiasGrad.nD Cert.BiasGrad.τ).loc Cert.BiasGrad.main_arg1)
      ∧ r.2.mem ((c.tc : Thread Cert.BiasGrad.nD Cert.BiasGrad.τ).loc Cert.BiasGrad.main_arg2) = m ((c.tc : Thread Cert.BiasGrad.nD Cert.BiasGrad.τ).loc Cert.BiasGrad.main_arg2))
      ∧ r.2.sem = fun _ => 0)

def quiescent_BiasGradIdeal [hBiasGradIdeal : Cert.BiasGradIdeal.Facts] : Prop :=
  ∀ (m : (ℓ : Loc Cert.BiasGradIdeal.nD Cert.BiasGradIdeal.τ Cert.BiasGradIdeal.sig) → Buf (Elt Ideal) ℓ) (g : Dev Cert.BiasGradIdeal.nD → PrngReg), Pre_BiasGradIdeal m →
    θ_run (Cert.BiasGradIdeal.defs (F := Ideal)) (onTc (τ := Cert.BiasGradIdeal.τ) (Cert.BiasGradIdeal.main (F := Ideal))) ⟨m, fun _ => 0, g⟩ (fun r => (∀ c : Dev Cert.BiasGradIdeal.nD,
      r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0)
      ∧ r.2.mem ((c.tc : Thread Cert.BiasGradIdeal.nD Cert.BiasGradIdeal.τ).loc Cert.BiasGradIdeal.main_arg1) = m ((c.tc : Thread Cert.BiasGradIdeal.nD Cert.BiasGradIdeal.τ).loc Cert.BiasGradIdeal.main_arg1)
      ∧ r.2.mem ((c.tc : Thread Cert.BiasGradIdeal.nD Cert.BiasGradIdeal.τ).loc Cert.BiasGradIdeal.main_arg2) = m ((c.tc : Thread Cert.BiasGradIdeal.nD Cert.BiasGradIdeal.τ).loc Cert.BiasGradIdeal.main_arg2))
      ∧ r.2.sem = fun _ => 0)

def quiescent_BiasGradIdeal_pre_finite [hBiasGradIdeal : Cert.BiasGradIdeal.Facts] [hPre_finite : Cert.Pre_finite.Facts] : Prop :=
  ∀ (m : (ℓ : Loc Cert.BiasGradIdeal.nD Cert.BiasGradIdeal.τ Cert.BiasGradIdeal.sig) → Buf (Elt Ideal) ℓ) (g : Dev Cert.BiasGradIdeal.nD → PrngReg), Pre_BiasGradIdeal_finite m →
    θ_run (Cert.BiasGradIdeal.defs (F := Ideal)) (onTc (τ := Cert.BiasGradIdeal.τ) (Cert.BiasGradIdeal.main (F := Ideal))) ⟨m, fun _ => 0, g⟩ (fun r => (∀ c : Dev Cert.BiasGradIdeal.nD,
      r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0)
      ∧ r.2.mem ((c.tc : Thread Cert.BiasGradIdeal.nD Cert.BiasGradIdeal.τ).loc Cert.BiasGradIdeal.main_arg1) = m ((c.tc : Thread Cert.BiasGradIdeal.nD Cert.BiasGradIdeal.τ).loc Cert.BiasGradIdeal.main_arg1)
      ∧ r.2.mem ((c.tc : Thread Cert.BiasGradIdeal.nD Cert.BiasGradIdeal.τ).loc Cert.BiasGradIdeal.main_arg2) = m ((c.tc : Thread Cert.BiasGradIdeal.nD Cert.BiasGradIdeal.τ).loc Cert.BiasGradIdeal.main_arg2))
      ∧ r.2.sem = fun _ => 0)

def quiescent_BiasGradReferenceIdeal [hBiasGradReferenceIdeal : Cert.BiasGradReferenceIdeal.Facts] : Prop :=
  ∀ (m : (ℓ : Loc Cert.BiasGradReferenceIdeal.nD Cert.BiasGradReferenceIdeal.τ Cert.BiasGradReferenceIdeal.sig) → Buf (Elt Ideal) ℓ) (g : Dev Cert.BiasGradReferenceIdeal.nD → PrngReg), Pre_BiasGradReferenceIdeal m →
    θ_run (Cert.BiasGradReferenceIdeal.defs (F := Ideal)) (onTc (τ := Cert.BiasGradReferenceIdeal.τ) (Cert.BiasGradReferenceIdeal.main (F := Ideal))) ⟨m, fun _ => 0, g⟩ (fun r => (∀ c : Dev Cert.BiasGradReferenceIdeal.nD,
      r.2.mem ((c.tc : Thread Cert.BiasGradReferenceIdeal.nD Cert.BiasGradReferenceIdeal.τ).loc Cert.BiasGradReferenceIdeal.main_arg0) = m ((c.tc : Thread Cert.BiasGradReferenceIdeal.nD Cert.BiasGradReferenceIdeal.τ).loc Cert.BiasGradReferenceIdeal.main_arg0)
      ∧ r.2.mem ((c.tc : Thread Cert.BiasGradReferenceIdeal.nD Cert.BiasGradReferenceIdeal.τ).loc Cert.BiasGradReferenceIdeal.main_arg1) = m ((c.tc : Thread Cert.BiasGradReferenceIdeal.nD Cert.BiasGradReferenceIdeal.τ).loc Cert.BiasGradReferenceIdeal.main_arg1)
      ∧ r.2.mem ((c.tc : Thread Cert.BiasGradReferenceIdeal.nD Cert.BiasGradReferenceIdeal.τ).loc Cert.BiasGradReferenceIdeal.main_arg2) = m ((c.tc : Thread Cert.BiasGradReferenceIdeal.nD Cert.BiasGradReferenceIdeal.τ).loc Cert.BiasGradReferenceIdeal.main_arg2))
      ∧ r.2.sem = fun _ => 0)

def quiescent_BiasGradReferenceIdeal_pre_finite [hBiasGradReferenceIdeal : Cert.BiasGradReferenceIdeal.Facts] [hPre_finite : Cert.Pre_finite.Facts] : Prop :=
  ∀ (m : (ℓ : Loc Cert.BiasGradReferenceIdeal.nD Cert.BiasGradReferenceIdeal.τ Cert.BiasGradReferenceIdeal.sig) → Buf (Elt Ideal) ℓ) (g : Dev Cert.BiasGradReferenceIdeal.nD → PrngReg), Pre_BiasGradReferenceIdeal_finite m →
    θ_run (Cert.BiasGradReferenceIdeal.defs (F := Ideal)) (onTc (τ := Cert.BiasGradReferenceIdeal.τ) (Cert.BiasGradReferenceIdeal.main (F := Ideal))) ⟨m, fun _ => 0, g⟩ (fun r => (∀ c : Dev Cert.BiasGradReferenceIdeal.nD,
      r.2.mem ((c.tc : Thread Cert.BiasGradReferenceIdeal.nD Cert.BiasGradReferenceIdeal.τ).loc Cert.BiasGradReferenceIdeal.main_arg0) = m ((c.tc : Thread Cert.BiasGradReferenceIdeal.nD Cert.BiasGradReferenceIdeal.τ).loc Cert.BiasGradReferenceIdeal.main_arg0)
      ∧ r.2.mem ((c.tc : Thread Cert.BiasGradReferenceIdeal.nD Cert.BiasGradReferenceIdeal.τ).loc Cert.BiasGradReferenceIdeal.main_arg1) = m ((c.tc : Thread Cert.BiasGradReferenceIdeal.nD Cert.BiasGradReferenceIdeal.τ).loc Cert.BiasGradReferenceIdeal.main_arg1)
      ∧ r.2.mem ((c.tc : Thread Cert.BiasGradReferenceIdeal.nD Cert.BiasGradReferenceIdeal.τ).loc Cert.BiasGradReferenceIdeal.main_arg2) = m ((c.tc : Thread Cert.BiasGradReferenceIdeal.nD Cert.BiasGradReferenceIdeal.τ).loc Cert.BiasGradReferenceIdeal.main_arg2))
      ∧ r.2.sem = fun _ => 0)

def preserves_Kernel_KernelIdeal : Prop :=
  True

def algebraic_KernelIdeal_ReferenceIdeal_on_real [hKernelIdeal : Cert.KernelIdeal.Facts] [hReferenceIdeal : Cert.ReferenceIdeal.Facts] [hOn_real : Cert.On_real.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![18432, 6912]⟩ : Shape).Idx, (Cert.On_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v0_0) i = v0 c i)
          ∧ (∀ i : (⟨2, ![18432, 2560]⟩ : Shape).Idx, (Cert.On_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v0_1) i = v1 c i)
          ∧ (∀ i : (⟨3, ![24, 1, 768]⟩ : Shape).Idx, (Cert.On_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.KernelIdeal.nD Cert.KernelIdeal.τ).loc Cert.KernelIdeal.main_v0_2) i = v2 c i)
          ∧ (∀ i : (⟨3, ![24, 1, 768]⟩ : Shape).Idx, (Cert.On_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.KernelIdeal.nD Cert.KernelIdeal.τ).loc Cert.KernelIdeal.main_v0_3) i = v3 c i)
          ∧ (∀ i : (⟨2, ![1, 2560]⟩ : Shape).Idx, (Cert.On_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 i = 1#1 → r.2.mem ((c.tc : Thread Cert.KernelIdeal.nD Cert.KernelIdeal.τ).loc Cert.KernelIdeal.main_v0_4) i = v4 c i)
          ∧ (∀ i : (⟨2, ![1, 2560]⟩ : Shape).Idx, (Cert.On_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 i = 1#1 → r.2.mem ((c.tc : Thread Cert.KernelIdeal.nD Cert.KernelIdeal.τ).loc Cert.KernelIdeal.main_v0_5) i = v5 c i)
          ∧ (∀ i : (⟨2, ![1, 2560]⟩ : Shape).Idx, (Cert.On_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.1 i = 1#1 → r.2.mem ((c.tc : Thread Cert.KernelIdeal.nD Cert.KernelIdeal.τ).loc Cert.KernelIdeal.main_v0_6) i = v6 c i)
          ∧ (∀ i : (⟨2, ![8, 6912]⟩ : Shape).Idx, (Cert.On_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2 i = 1#1 → r.2.mem ((c.tc : Thread Cert.KernelIdeal.nD Cert.KernelIdeal.τ).loc Cert.KernelIdeal.main_v0_7) i = v7 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![18432, 6912]⟩ : Shape).Idx, (Cert.On_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v62) i = v0 c i)
          ∧ (∀ i : (⟨2, ![18432, 2560]⟩ : Shape).Idx, (Cert.On_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v20) i = v1 c i)
          ∧ (∀ i : (⟨3, ![24, 1, 768]⟩ : Shape).Idx, (Cert.On_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.ReferenceIdeal.nD Cert.ReferenceIdeal.τ).loc Cert.ReferenceIdeal.main_v63) i = v2 c i)
          ∧ (∀ i : (⟨3, ![24, 1, 768]⟩ : Shape).Idx, (Cert.On_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.ReferenceIdeal.nD Cert.ReferenceIdeal.τ).loc Cert.ReferenceIdeal.main_v64) i = v3 c i)
          ∧ (∀ i : (⟨2, ![1, 2560]⟩ : Shape).Idx, (Cert.On_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 i = 1#1 → r.2.mem ((c.tc : Thread Cert.ReferenceIdeal.nD Cert.ReferenceIdeal.τ).loc Cert.ReferenceIdeal.main_v66) i = v4 c i)
          ∧ (∀ i : (⟨2, ![1, 2560]⟩ : Shape).Idx, (Cert.On_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 i = 1#1 → r.2.mem ((c.tc : Thread Cert.ReferenceIdeal.nD Cert.ReferenceIdeal.τ).loc Cert.ReferenceIdeal.main_v67) i = v5 c i)
          ∧ (∀ i : (⟨2, ![1, 2560]⟩ : Shape).Idx, (Cert.On_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.1 i = 1#1 → r.2.mem ((c.tc : Thread Cert.ReferenceIdeal.nD Cert.ReferenceIdeal.τ).loc Cert.ReferenceIdeal.main_v68) i = v6 c i)
          ∧ (∀ i : (⟨2, ![8, 6912]⟩ : Shape).Idx, (Cert.On_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2 i = 1#1 → r.2.mem ((c.tc : Thread Cert.ReferenceIdeal.nD Cert.ReferenceIdeal.τ).loc Cert.ReferenceIdeal.main_v61) i = v7 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_QuantW_QuantWIdeal : Prop :=
  True

def algebraic_QuantWIdeal_QuantWReferenceIdeal_on_real_shift [hQuantWIdeal : Cert.QuantWIdeal.Facts] [hQuantWReferenceIdeal : Cert.QuantWReferenceIdeal.Facts] [hOn_real_shift : Cert.On_real_shift.Facts] : Prop :=
  ∀ (m : (ℓ : Loc Cert.QuantWIdeal.nD Cert.QuantWIdeal.τ Cert.QuantWIdeal.sig) → Buf (Elt Ideal) ℓ) (g : Dev Cert.QuantWIdeal.nD → PrngReg)
    (m' : (ℓ : Loc Cert.QuantWReferenceIdeal.nD Cert.QuantWReferenceIdeal.τ Cert.QuantWReferenceIdeal.sig) → Buf (Elt Ideal) ℓ) (g' : Dev Cert.QuantWReferenceIdeal.nD → PrngReg), Pre_QuantWIdeal m →
    (∀ c : Dev Cert.QuantWIdeal.nD,
      m' ((c.tc : Thread Cert.QuantWReferenceIdeal.nD Cert.QuantWReferenceIdeal.τ).loc Cert.QuantWReferenceIdeal.main_arg0) = m ((c.tc : Thread Cert.QuantWIdeal.nD Cert.QuantWIdeal.τ).loc Cert.QuantWIdeal.main_arg0)
      ∧ m' ((c.tc : Thread Cert.QuantWReferenceIdeal.nD Cert.QuantWReferenceIdeal.τ).loc Cert.QuantWReferenceIdeal.main_arg1) = m ((c.tc : Thread Cert.QuantWIdeal.nD Cert.QuantWIdeal.τ).loc Cert.QuantWIdeal.main_arg1)
      ∧ m' ((c.tc : Thread Cert.QuantWReferenceIdeal.nD Cert.QuantWReferenceIdeal.τ).loc Cert.QuantWReferenceIdeal.main_arg2) = m ((c.tc : Thread Cert.QuantWIdeal.nD Cert.QuantWIdeal.τ).loc Cert.QuantWIdeal.main_arg2)
      ∧ m' ((c.tc : Thread Cert.QuantWReferenceIdeal.nD Cert.QuantWReferenceIdeal.τ).loc Cert.QuantWReferenceIdeal.main_arg3) = m ((c.tc : Thread Cert.QuantWIdeal.nD Cert.QuantWIdeal.τ).loc Cert.QuantWIdeal.main_arg3)) →
    ∃ (v0 : (c : Dev Cert.QuantWIdeal.nD) → Buf (Elt Ideal) ((c.tc : Thread Cert.QuantWIdeal.nD Cert.QuantWIdeal.τ).loc Cert.QuantWIdeal.main_v0_0)) (v1 : (c : Dev Cert.QuantWIdeal.nD) → Buf (Elt Ideal) ((c.tc : Thread Cert.QuantWIdeal.nD Cert.QuantWIdeal.τ).loc Cert.QuantWIdeal.main_v0_1)) (v2 : (c : Dev Cert.QuantWIdeal.nD) → Buf (Elt Ideal) ((c.tc : Thread Cert.QuantWIdeal.nD Cert.QuantWIdeal.τ).loc Cert.QuantWIdeal.main_v0_2)) (v3 : (c : Dev Cert.QuantWIdeal.nD) → Buf (Elt Ideal) ((c.tc : Thread Cert.QuantWIdeal.nD Cert.QuantWIdeal.τ).loc Cert.QuantWIdeal.main_v0_3)) (v4 : (c : Dev Cert.QuantWIdeal.nD) → Buf (Elt Ideal) ((c.tc : Thread Cert.QuantWIdeal.nD Cert.QuantWIdeal.τ).loc Cert.QuantWIdeal.main_v0_4)) (v5 : (c : Dev Cert.QuantWIdeal.nD) → Buf (Elt Ideal) ((c.tc : Thread Cert.QuantWIdeal.nD Cert.QuantWIdeal.τ).loc Cert.QuantWIdeal.main_v0_5)),
      θ_run (Cert.QuantWIdeal.defs (F := Ideal)) (onTc (τ := Cert.QuantWIdeal.τ) (Cert.QuantWIdeal.main (F := Ideal))) ⟨m, fun _ => 0, g⟩ (fun r => ∀ c : Dev Cert.QuantWIdeal.nD,
          (∀ i : (⟨2, ![6912, 2560]⟩ : Shape).Idx, (Cert.On_real_shift.fn (F := Ideal) (m ((c.tc : Thread Cert.QuantWIdeal.nD Cert.QuantWIdeal.τ).loc Cert.QuantWIdeal.main_arg0)) (m ((c.tc : Thread Cert.QuantWIdeal.nD Cert.QuantWIdeal.τ).loc Cert.QuantWIdeal.main_arg1)) (m ((c.tc : Thread Cert.QuantWIdeal.nD Cert.QuantWIdeal.τ).loc Cert.QuantWIdeal.main_arg2)) (m ((c.tc : Thread Cert.QuantWIdeal.nD Cert.QuantWIdeal.τ).loc Cert.QuantWIdeal.main_arg3))).1 i = 1#1 → r.2.mem ((c.tc : Thread Cert.QuantWIdeal.nD Cert.QuantWIdeal.τ).loc Cert.QuantWIdeal.main_v0_0) i = v0 c i)
          ∧ (∀ i : (⟨2, ![6912, 20]⟩ : Shape).Idx, (Cert.On_real_shift.fn (F := Ideal) (m ((c.tc : Thread Cert.QuantWIdeal.nD Cert.QuantWIdeal.τ).loc Cert.QuantWIdeal.main_arg0)) (m ((c.tc : Thread Cert.QuantWIdeal.nD Cert.QuantWIdeal.τ).loc Cert.QuantWIdeal.main_arg1)) (m ((c.tc : Thread Cert.QuantWIdeal.nD Cert.QuantWIdeal.τ).loc Cert.QuantWIdeal.main_arg2)) (m ((c.tc : Thread Cert.QuantWIdeal.nD Cert.QuantWIdeal.τ).loc Cert.QuantWIdeal.main_arg3))).2.1 i = 1#1 → r.2.mem ((c.tc : Thread Cert.QuantWIdeal.nD Cert.QuantWIdeal.τ).loc Cert.QuantWIdeal.main_v0_1) i = v1 c i)
          ∧ (∀ i : (⟨2, ![6912, 20]⟩ : Shape).Idx, (Cert.On_real_shift.fn (F := Ideal) (m ((c.tc : Thread Cert.QuantWIdeal.nD Cert.QuantWIdeal.τ).loc Cert.QuantWIdeal.main_arg0)) (m ((c.tc : Thread Cert.QuantWIdeal.nD Cert.QuantWIdeal.τ).loc Cert.QuantWIdeal.main_arg1)) (m ((c.tc : Thread Cert.QuantWIdeal.nD Cert.QuantWIdeal.τ).loc Cert.QuantWIdeal.main_arg2)) (m ((c.tc : Thread Cert.QuantWIdeal.nD Cert.QuantWIdeal.τ).loc Cert.QuantWIdeal.main_arg3))).2.2.1 i = 1#1 → r.2.mem ((c.tc : Thread Cert.QuantWIdeal.nD Cert.QuantWIdeal.τ).loc Cert.QuantWIdeal.main_v0_2) i = v2 c i)
          ∧ (∀ i : (⟨2, ![6912, 2560]⟩ : Shape).Idx, (Cert.On_real_shift.fn (F := Ideal) (m ((c.tc : Thread Cert.QuantWIdeal.nD Cert.QuantWIdeal.τ).loc Cert.QuantWIdeal.main_arg0)) (m ((c.tc : Thread Cert.QuantWIdeal.nD Cert.QuantWIdeal.τ).loc Cert.QuantWIdeal.main_arg1)) (m ((c.tc : Thread Cert.QuantWIdeal.nD Cert.QuantWIdeal.τ).loc Cert.QuantWIdeal.main_arg2)) (m ((c.tc : Thread Cert.QuantWIdeal.nD Cert.QuantWIdeal.τ).loc Cert.QuantWIdeal.main_arg3))).2.2.2.1 i = 1#1 → r.2.mem ((c.tc : Thread Cert.QuantWIdeal.nD Cert.QuantWIdeal.τ).loc Cert.QuantWIdeal.main_v0_3) i = v3 c i)
          ∧ (∀ i : (⟨2, ![6912, 2560]⟩ : Shape).Idx, (Cert.On_real_shift.fn (F := Ideal) (m ((c.tc : Thread Cert.QuantWIdeal.nD Cert.QuantWIdeal.τ).loc Cert.QuantWIdeal.main_arg0)) (m ((c.tc : Thread Cert.QuantWIdeal.nD Cert.QuantWIdeal.τ).loc Cert.QuantWIdeal.main_arg1)) (m ((c.tc : Thread Cert.QuantWIdeal.nD Cert.QuantWIdeal.τ).loc Cert.QuantWIdeal.main_arg2)) (m ((c.tc : Thread Cert.QuantWIdeal.nD Cert.QuantWIdeal.τ).loc Cert.QuantWIdeal.main_arg3))).2.2.2.2.1 i = 1#1 → r.2.mem ((c.tc : Thread Cert.QuantWIdeal.nD Cert.QuantWIdeal.τ).loc Cert.QuantWIdeal.main_v0_4) i = v4 c i)
          ∧ (∀ i : (⟨2, ![1, 6912]⟩ : Shape).Idx, (Cert.On_real_shift.fn (F := Ideal) (m ((c.tc : Thread Cert.QuantWIdeal.nD Cert.QuantWIdeal.τ).loc Cert.QuantWIdeal.main_arg0)) (m ((c.tc : Thread Cert.QuantWIdeal.nD Cert.QuantWIdeal.τ).loc Cert.QuantWIdeal.main_arg1)) (m ((c.tc : Thread Cert.QuantWIdeal.nD Cert.QuantWIdeal.τ).loc Cert.QuantWIdeal.main_arg2)) (m ((c.tc : Thread Cert.QuantWIdeal.nD Cert.QuantWIdeal.τ).loc Cert.QuantWIdeal.main_arg3))).2.2.2.2.2 i = 1#1 → r.2.mem ((c.tc : Thread Cert.QuantWIdeal.nD Cert.QuantWIdeal.τ).loc Cert.QuantWIdeal.main_v0_5) i = v5 c i)
          ∧ r.2.mem ((c.tc : Thread Cert.QuantWIdeal.nD Cert.QuantWIdeal.τ).loc Cert.QuantWIdeal.main_arg0) = m ((c.tc : Thread Cert.QuantWIdeal.nD Cert.QuantWIdeal.τ).loc Cert.QuantWIdeal.main_arg0)
          ∧ r.2.mem ((c.tc : Thread Cert.QuantWIdeal.nD Cert.QuantWIdeal.τ).loc Cert.QuantWIdeal.main_arg1) = m ((c.tc : Thread Cert.QuantWIdeal.nD Cert.QuantWIdeal.τ).loc Cert.QuantWIdeal.main_arg1)
          ∧ r.2.mem ((c.tc : Thread Cert.QuantWIdeal.nD Cert.QuantWIdeal.τ).loc Cert.QuantWIdeal.main_arg2) = m ((c.tc : Thread Cert.QuantWIdeal.nD Cert.QuantWIdeal.τ).loc Cert.QuantWIdeal.main_arg2)
          ∧ r.2.mem ((c.tc : Thread Cert.QuantWIdeal.nD Cert.QuantWIdeal.τ).loc Cert.QuantWIdeal.main_arg3) = m ((c.tc : Thread Cert.QuantWIdeal.nD Cert.QuantWIdeal.τ).loc Cert.QuantWIdeal.main_arg3))
      ∧ θ_run (Cert.QuantWReferenceIdeal.defs (F := Ideal)) (onTc (τ := Cert.QuantWReferenceIdeal.τ) (Cert.QuantWReferenceIdeal.main (F := Ideal))) ⟨m', fun _ => 0, g'⟩ (fun r => ∀ c : Dev Cert.QuantWReferenceIdeal.nD,
          (∀ i : (⟨2, ![6912, 2560]⟩ : Shape).Idx, (Cert.On_real_shift.fn (F := Ideal) (m ((c.tc : Thread Cert.QuantWIdeal.nD Cert.QuantWIdeal.τ).loc Cert.QuantWIdeal.main_arg0)) (m ((c.tc : Thread Cert.QuantWIdeal.nD Cert.QuantWIdeal.τ).loc Cert.QuantWIdeal.main_arg1)) (m ((c.tc : Thread Cert.QuantWIdeal.nD Cert.QuantWIdeal.τ).loc Cert.QuantWIdeal.main_arg2)) (m ((c.tc : Thread Cert.QuantWIdeal.nD Cert.QuantWIdeal.τ).loc Cert.QuantWIdeal.main_arg3))).1 i = 1#1 → r.2.mem ((c.tc : Thread Cert.QuantWReferenceIdeal.nD Cert.QuantWReferenceIdeal.τ).loc Cert.QuantWReferenceIdeal.main_v49) i = v0 c i)
          ∧ (∀ i : (⟨2, ![6912, 20]⟩ : Shape).Idx, (Cert.On_real_shift.fn (F := Ideal) (m ((c.tc : Thread Cert.QuantWIdeal.nD Cert.QuantWIdeal.τ).loc Cert.QuantWIdeal.main_arg0)) (m ((c.tc : Thread Cert.QuantWIdeal.nD Cert.QuantWIdeal.τ).loc Cert.QuantWIdeal.main_arg1)) (m ((c.tc : Thread Cert.QuantWIdeal.nD Cert.QuantWIdeal.τ).loc Cert.QuantWIdeal.main_arg2)) (m ((c.tc : Thread Cert.QuantWIdeal.nD Cert.QuantWIdeal.τ).loc Cert.QuantWIdeal.main_arg3))).2.1 i = 1#1 → r.2.mem ((c.tc : Thread Cert.QuantWReferenceIdeal.nD Cert.QuantWReferenceIdeal.τ).loc Cert.QuantWReferenceIdeal.main_v14) i = v1 c i)
          ∧ (∀ i : (⟨2, ![6912, 20]⟩ : Shape).Idx, (Cert.On_real_shift.fn (F := Ideal) (m ((c.tc : Thread Cert.QuantWIdeal.nD Cert.QuantWIdeal.τ).loc Cert.QuantWIdeal.main_arg0)) (m ((c.tc : Thread Cert.QuantWIdeal.nD Cert.QuantWIdeal.τ).loc Cert.QuantWIdeal.main_arg1)) (m ((c.tc : Thread Cert.QuantWIdeal.nD Cert.QuantWIdeal.τ).loc Cert.QuantWIdeal.main_arg2)) (m ((c.tc : Thread Cert.QuantWIdeal.nD Cert.QuantWIdeal.τ).loc Cert.QuantWIdeal.main_arg3))).2.2.1 i = 1#1 → r.2.mem ((c.tc : Thread Cert.QuantWReferenceIdeal.nD Cert.QuantWReferenceIdeal.τ).loc Cert.QuantWReferenceIdeal.main_v17) i = v2 c i)
          ∧ (∀ i : (⟨2, ![6912, 2560]⟩ : Shape).Idx, (Cert.On_real_shift.fn (F := Ideal) (m ((c.tc : Thread Cert.QuantWIdeal.nD Cert.QuantWIdeal.τ).loc Cert.QuantWIdeal.main_arg0)) (m ((c.tc : Thread Cert.QuantWIdeal.nD Cert.QuantWIdeal.τ).loc Cert.QuantWIdeal.main_arg1)) (m ((c.tc : Thread Cert.QuantWIdeal.nD Cert.QuantWIdeal.τ).loc Cert.QuantWIdeal.main_arg2)) (m ((c.tc : Thread Cert.QuantWIdeal.nD Cert.QuantWIdeal.τ).loc Cert.QuantWIdeal.main_arg3))).2.2.2.1 i = 1#1 → r.2.mem ((c.tc : Thread Cert.QuantWReferenceIdeal.nD Cert.QuantWReferenceIdeal.τ).loc Cert.QuantWReferenceIdeal.main_v50) i = v3 c i)
          ∧ (∀ i : (⟨2, ![6912, 2560]⟩ : Shape).Idx, (Cert.On_real_shift.fn (F := Ideal) (m ((c.tc : Thread Cert.QuantWIdeal.nD Cert.QuantWIdeal.τ).loc Cert.QuantWIdeal.main_arg0)) (m ((c.tc : Thread Cert.QuantWIdeal.nD Cert.QuantWIdeal.τ).loc Cert.QuantWIdeal.main_arg1)) (m ((c.tc : Thread Cert.QuantWIdeal.nD Cert.QuantWIdeal.τ).loc Cert.QuantWIdeal.main_arg2)) (m ((c.tc : Thread Cert.QuantWIdeal.nD Cert.QuantWIdeal.τ).loc Cert.QuantWIdeal.main_arg3))).2.2.2.2.1 i = 1#1 → r.2.mem ((c.tc : Thread Cert.QuantWReferenceIdeal.nD Cert.QuantWReferenceIdeal.τ).loc Cert.QuantWReferenceIdeal.main_v44) i = v4 c i)
          ∧ (∀ i : (⟨2, ![1, 6912]⟩ : Shape).Idx, (Cert.On_real_shift.fn (F := Ideal) (m ((c.tc : Thread Cert.QuantWIdeal.nD Cert.QuantWIdeal.τ).loc Cert.QuantWIdeal.main_arg0)) (m ((c.tc : Thread Cert.QuantWIdeal.nD Cert.QuantWIdeal.τ).loc Cert.QuantWIdeal.main_arg1)) (m ((c.tc : Thread Cert.QuantWIdeal.nD Cert.QuantWIdeal.τ).loc Cert.QuantWIdeal.main_arg2)) (m ((c.tc : Thread Cert.QuantWIdeal.nD Cert.QuantWIdeal.τ).loc Cert.QuantWIdeal.main_arg3))).2.2.2.2.2 i = 1#1 → r.2.mem ((c.tc : Thread Cert.QuantWReferenceIdeal.nD Cert.QuantWReferenceIdeal.τ).loc Cert.QuantWReferenceIdeal.main_v48) i = v5 c i)
          ∧ r.2.mem ((c.tc : Thread Cert.QuantWReferenceIdeal.nD Cert.QuantWReferenceIdeal.τ).loc Cert.QuantWReferenceIdeal.main_arg0) = m' ((c.tc : Thread Cert.QuantWReferenceIdeal.nD Cert.QuantWReferenceIdeal.τ).loc Cert.QuantWReferenceIdeal.main_arg0)
          ∧ r.2.mem ((c.tc : Thread Cert.QuantWReferenceIdeal.nD Cert.QuantWReferenceIdeal.τ).loc Cert.QuantWReferenceIdeal.main_arg1) = m' ((c.tc : Thread Cert.QuantWReferenceIdeal.nD Cert.QuantWReferenceIdeal.τ).loc Cert.QuantWReferenceIdeal.main_arg1)
          ∧ r.2.mem ((c.tc : Thread Cert.QuantWReferenceIdeal.nD Cert.QuantWReferenceIdeal.τ).loc Cert.QuantWReferenceIdeal.main_arg2) = m' ((c.tc : Thread Cert.QuantWReferenceIdeal.nD Cert.QuantWReferenceIdeal.τ).loc Cert.QuantWReferenceIdeal.main_arg2)
          ∧ r.2.mem ((c.tc : Thread Cert.QuantWReferenceIdeal.nD Cert.QuantWReferenceIdeal.τ).loc Cert.QuantWReferenceIdeal.main_arg3) = m' ((c.tc : Thread Cert.QuantWReferenceIdeal.nD Cert.QuantWReferenceIdeal.τ).loc Cert.QuantWReferenceIdeal.main_arg3))

def preserves_BiasGrad_BiasGradIdeal : Prop :=
  True

def algebraic_BiasGradIdeal_BiasGradReferenceIdeal_pre_finite [hBiasGradIdeal : Cert.BiasGradIdeal.Facts] [hBiasGradReferenceIdeal : Cert.BiasGradReferenceIdeal.Facts] [hPre_finite : Cert.Pre_finite.Facts] : Prop :=
  ∀ (m : (ℓ : Loc Cert.BiasGradIdeal.nD Cert.BiasGradIdeal.τ Cert.BiasGradIdeal.sig) → Buf (Elt Ideal) ℓ) (g : Dev Cert.BiasGradIdeal.nD → PrngReg)
    (m' : (ℓ : Loc Cert.BiasGradReferenceIdeal.nD Cert.BiasGradReferenceIdeal.τ Cert.BiasGradReferenceIdeal.sig) → Buf (Elt Ideal) ℓ) (g' : Dev Cert.BiasGradReferenceIdeal.nD → PrngReg), Pre_BiasGradIdeal_finite m →
    (∀ c : Dev Cert.BiasGradIdeal.nD,
      m' ((c.tc : Thread Cert.BiasGradReferenceIdeal.nD Cert.BiasGradReferenceIdeal.τ).loc Cert.BiasGradReferenceIdeal.main_arg0) = m ((c.tc : Thread Cert.BiasGradIdeal.nD Cert.BiasGradIdeal.τ).loc Cert.BiasGradIdeal.main_arg0)
      ∧ m' ((c.tc : Thread Cert.BiasGradReferenceIdeal.nD Cert.BiasGradReferenceIdeal.τ).loc Cert.BiasGradReferenceIdeal.main_arg1) = m ((c.tc : Thread Cert.BiasGradIdeal.nD Cert.BiasGradIdeal.τ).loc Cert.BiasGradIdeal.main_arg1)
      ∧ m' ((c.tc : Thread Cert.BiasGradReferenceIdeal.nD Cert.BiasGradReferenceIdeal.τ).loc Cert.BiasGradReferenceIdeal.main_arg2) = m ((c.tc : Thread Cert.BiasGradIdeal.nD Cert.BiasGradIdeal.τ).loc Cert.BiasGradIdeal.main_arg2)) →
    ∃ (v0 : (c : Dev Cert.BiasGradIdeal.nD) → Buf (Elt Ideal) ((c.tc : Thread Cert.BiasGradIdeal.nD Cert.BiasGradIdeal.τ).loc Cert.BiasGradIdeal.main_v0_0)) (v1 : (c : Dev Cert.BiasGradIdeal.nD) → Buf (Elt Ideal) ((c.tc : Thread Cert.BiasGradIdeal.nD Cert.BiasGradIdeal.τ).loc Cert.BiasGradIdeal.main_v0_1)),
      θ_run (Cert.BiasGradIdeal.defs (F := Ideal)) (onTc (τ := Cert.BiasGradIdeal.τ) (Cert.BiasGradIdeal.main (F := Ideal))) ⟨m, fun _ => 0, g⟩ (fun r => ∀ c : Dev Cert.BiasGradIdeal.nD,
          r.2.mem ((c.tc : Thread Cert.BiasGradIdeal.nD Cert.BiasGradIdeal.τ).loc Cert.BiasGradIdeal.main_v0_0) = v0 c
          ∧ r.2.mem ((c.tc : Thread Cert.BiasGradIdeal.nD Cert.BiasGradIdeal.τ).loc Cert.BiasGradIdeal.main_v0_1) = v1 c
          ∧ r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0)
          ∧ r.2.mem ((c.tc : Thread Cert.BiasGradIdeal.nD Cert.BiasGradIdeal.τ).loc Cert.BiasGradIdeal.main_arg1) = m ((c.tc : Thread Cert.BiasGradIdeal.nD Cert.BiasGradIdeal.τ).loc Cert.BiasGradIdeal.main_arg1)
          ∧ r.2.mem ((c.tc : Thread Cert.BiasGradIdeal.nD Cert.BiasGradIdeal.τ).loc Cert.BiasGradIdeal.main_arg2) = m ((c.tc : Thread Cert.BiasGradIdeal.nD Cert.BiasGradIdeal.τ).loc Cert.BiasGradIdeal.main_arg2))
      ∧ θ_run (Cert.BiasGradReferenceIdeal.defs (F := Ideal)) (onTc (τ := Cert.BiasGradReferenceIdeal.τ) (Cert.BiasGradReferenceIdeal.main (F := Ideal))) ⟨m', fun _ => 0, g'⟩ (fun r => ∀ c : Dev Cert.BiasGradReferenceIdeal.nD,
          r.2.mem ((c.tc : Thread Cert.BiasGradReferenceIdeal.nD Cert.BiasGradReferenceIdeal.τ).loc Cert.BiasGradReferenceIdeal.main_v3) = v0 c
          ∧ r.2.mem ((c.tc : Thread Cert.BiasGradReferenceIdeal.nD Cert.BiasGradReferenceIdeal.τ).loc Cert.BiasGradReferenceIdeal.main_v4) = v1 c
          ∧ r.2.mem ((c.tc : Thread Cert.BiasGradReferenceIdeal.nD Cert.BiasGradReferenceIdeal.τ).loc Cert.BiasGradReferenceIdeal.main_arg0) = m' ((c.tc : Thread Cert.BiasGradReferenceIdeal.nD Cert.BiasGradReferenceIdeal.τ).loc Cert.BiasGradReferenceIdeal.main_arg0)
          ∧ r.2.mem ((c.tc : Thread Cert.BiasGradReferenceIdeal.nD Cert.BiasGradReferenceIdeal.τ).loc Cert.BiasGradReferenceIdeal.main_arg1) = m' ((c.tc : Thread Cert.BiasGradReferenceIdeal.nD Cert.BiasGradReferenceIdeal.τ).loc Cert.BiasGradReferenceIdeal.main_arg1)
          ∧ r.2.mem ((c.tc : Thread Cert.BiasGradReferenceIdeal.nD Cert.BiasGradReferenceIdeal.τ).loc Cert.BiasGradReferenceIdeal.main_arg2) = m' ((c.tc : Thread Cert.BiasGradReferenceIdeal.nD Cert.BiasGradReferenceIdeal.τ).loc Cert.BiasGradReferenceIdeal.main_arg2))

def Claim : Prop :=
  ∃ (hKernel : Cert.Kernel.Facts) (hKernelIdeal : Cert.KernelIdeal.Facts) (hReferenceIdeal : Cert.ReferenceIdeal.Facts) (hQuantW : Cert.QuantW.Facts) (hQuantWIdeal : Cert.QuantWIdeal.Facts) (hQuantWReferenceIdeal : Cert.QuantWReferenceIdeal.Facts) (hBiasGrad : Cert.BiasGrad.Facts) (hBiasGradIdeal : Cert.BiasGradIdeal.Facts) (hBiasGradReferenceIdeal : Cert.BiasGradReferenceIdeal.Facts) (hPre_finite : Cert.Pre_finite.Facts) (hOn_real : Cert.On_real.Facts) (hOn_real_shift : Cert.On_real_shift.Facts),
    quiescent_Kernel (hKernel := hKernel)
    ∧ quiescent_KernelIdeal (hKernelIdeal := hKernelIdeal)
    ∧ quiescent_ReferenceIdeal (hReferenceIdeal := hReferenceIdeal)
    ∧ quiescent_QuantW (hQuantW := hQuantW)
    ∧ quiescent_QuantWIdeal (hQuantWIdeal := hQuantWIdeal)
    ∧ quiescent_QuantWReferenceIdeal (hQuantWReferenceIdeal := hQuantWReferenceIdeal)
    ∧ quiescent_BiasGrad (hBiasGrad := hBiasGrad)
    ∧ quiescent_BiasGradIdeal (hBiasGradIdeal := hBiasGradIdeal)
    ∧ quiescent_BiasGradIdeal_pre_finite (hBiasGradIdeal := hBiasGradIdeal) (hPre_finite := hPre_finite)
    ∧ quiescent_BiasGradReferenceIdeal (hBiasGradReferenceIdeal := hBiasGradReferenceIdeal)
    ∧ quiescent_BiasGradReferenceIdeal_pre_finite (hBiasGradReferenceIdeal := hBiasGradReferenceIdeal) (hPre_finite := hPre_finite)
    ∧ preserves_Kernel_KernelIdeal
    ∧ algebraic_KernelIdeal_ReferenceIdeal_on_real (hKernelIdeal := hKernelIdeal) (hReferenceIdeal := hReferenceIdeal) (hOn_real := hOn_real)
    ∧ preserves_QuantW_QuantWIdeal
    ∧ algebraic_QuantWIdeal_QuantWReferenceIdeal_on_real_shift (hQuantWIdeal := hQuantWIdeal) (hQuantWReferenceIdeal := hQuantWReferenceIdeal) (hOn_real_shift := hOn_real_shift)
    ∧ preserves_BiasGrad_BiasGradIdeal
    ∧ algebraic_BiasGradIdeal_BiasGradReferenceIdeal_pre_finite (hBiasGradIdeal := hBiasGradIdeal) (hBiasGradReferenceIdeal := hBiasGradReferenceIdeal) (hPre_finite := hPre_finite)
-- ==== On_real.lean ====
abbrev S18432x2560 : Shape := ⟨2, ![18432, 2560]⟩
abbrev S6912x2560 : Shape := ⟨2, ![6912, 2560]⟩
abbrev S18432x6912 : Shape := ⟨2, ![18432, 6912]⟩
abbrev S1x6912 : Shape := ⟨2, ![1, 6912]⟩
abbrev S1x2560 : Shape := ⟨2, ![1, 2560]⟩
abbrev S_ : Shape := ⟨0, ![]⟩
abbrev S24x1x768 : Shape := ⟨3, ![24, 1, 768]⟩
abbrev S8x6912 : Shape := ⟨2, ![8, 6912]⟩

class Facts : Prop where
  bcast_S_S1x6912 : S_.BroadcastsInDim S1x6912 (![] : Fin 0 → Fin S1x6912.rank)
  reducesTo_S1x6912_S_d0_1 : S1x6912.ReducesTo [0, 1] S_
  h_S_ : 0 < S_.numel
  bitsLt_bf16_f32 : FTy.bits .bf16 < FTy.bits .f32
  bcast_S_S6912x2560 : S_.BroadcastsInDim S6912x2560 (![] : Fin 0 → Fin S6912x2560.rank)
  reducesTo_S6912x2560_S_d0_1 : S6912x2560.ReducesTo [0, 1] S_
  bcast_S_S18432x6912 : S_.BroadcastsInDim S18432x6912 (![] : Fin 0 → Fin S18432x6912.rank)
  reducesTo_S18432x6912_S_d0_1 : S18432x6912.ReducesTo [0, 1] S_
  bcast_S_S18432x2560 : S_.BroadcastsInDim S18432x2560 (![] : Fin 0 → Fin S18432x2560.rank)
  bcast_S_S24x1x768 : S_.BroadcastsInDim S24x1x768 (![] : Fin 0 → Fin S24x1x768.rank)
  bcast_S_S1x2560 : S_.BroadcastsInDim S1x2560 (![] : Fin 0 → Fin S1x2560.rank)
  bcast_S_S8x6912 : S_.BroadcastsInDim S8x6912 (![] : Fin 0 → Fin S8x6912.rank)

variable [Facts]

def fn_part1 {F : FTy → Type} [FloatOps F] (main_v15 : IVec S_ 1) (main_v17 : FVec F S18432x6912 .f32) : IVec S18432x6912 1 × IVec S18432x2560 1 × IVec S24x1x768 1 × IVec S24x1x768 1 × IVec S1x2560 1 × IVec S1x2560 1 × IVec S1x2560 1 × IVec S8x6912 1 :=
  let main_cst_4 : FVec F S_ .f32 := constant S_ .f32 0x7F800000#32
  let main_v18 : FVec F S18432x6912 .f32 := broadcastInDim S18432x6912 ![] bcast_S_S18432x6912 main_cst_4
  let main_v19 : IVec S18432x6912 1 := cmpf .olt main_v17 main_v18
  let main_c_5 : IVec S_ 1 := constantI S_ 1 1#1
  let main_v20 : IVec S_ 1 := (fun x v => Host.reduce IntOp.andi x v reducesTo_S18432x6912_S_d0_1 h_S_) main_v19 main_c_5
  let main_v21 : IVec S_ 1 := andi main_v15 main_v20
  let main_c_6 : IVec S_ 1 := constantI S_ 1 1#1
  let main_v22 : IVec S18432x6912 1 := broadcastInDim S18432x6912 ![] bcast_S_S18432x6912 main_c_6
  let main_c_7 : IVec S_ 1 := constantI S_ 1 1#1
  let main_v23 : IVec S18432x2560 1 := broadcastInDim S18432x2560 ![] bcast_S_S18432x2560 main_c_7
  let main_c_8 : IVec S_ 1 := constantI S_ 1 1#1
  let main_v24 : IVec S24x1x768 1 := broadcastInDim S24x1x768 ![] bcast_S_S24x1x768 main_c_8
  let main_c_9 : IVec S_ 1 := constantI S_ 1 1#1
  let main_v25 : IVec S24x1x768 1 := broadcastInDim S24x1x768 ![] bcast_S_S24x1x768 main_c_9
  let main_v26 : IVec S1x2560 1 := broadcastInDim S1x2560 ![] bcast_S_S1x2560 main_v21
  let main_c_10 : IVec S_ 1 := constantI S_ 1 1#1
  let main_v27 : IVec S1x2560 1 := broadcastInDim S1x2560 ![] bcast_S_S1x2560 main_c_10
  let main_v28 : IVec S1x2560 1 := broadcastInDim S1x2560 ![] bcast_S_S1x2560 main_v21
  let main_c_11 : IVec S_ 1 := constantI S_ 1 1#1
  let main_v29 : IVec S8x6912 1 := broadcastInDim S8x6912 ![] bcast_S_S8x6912 main_c_11
  (main_v22, main_v23, main_v24, main_v25, main_v26, main_v27, main_v28, main_v29)

def fn {F : FTy → Type} [FloatOps F] (main_arg0 : FVec F S18432x2560 .bf16) (main_arg1 : FVec F S6912x2560 .bf16) (main_arg2 : FVec F S6912x2560 .bf16) (main_arg3 : FVec F S18432x6912 .bf16) (main_arg4 : FVec F S1x6912 .f32) (main_arg5 : FVec F S1x2560 .f32) (main_arg6 : FVec F S1x2560 .f32) : IVec S18432x6912 1 × IVec S18432x2560 1 × IVec S24x1x768 1 × IVec S24x1x768 1 × IVec S1x2560 1 × IVec S1x2560 1 × IVec S1x2560 1 × IVec S8x6912 1 :=
  let main_v0 : FVec F S1x6912 .f32 := Host.absf main_arg4
  let main_cst : FVec F S_ .f32 := constant S_ .f32 0x7F800000#32
  let main_v1 : FVec F S1x6912 .f32 := broadcastInDim S1x6912 ![] bcast_S_S1x6912 main_cst
  let main_v2 : IVec S1x6912 1 := cmpf .olt main_v0 main_v1
  let main_c : IVec S_ 1 := constantI S_ 1 1#1
  let main_v3 : IVec S_ 1 := (fun x v => Host.reduce IntOp.andi x v reducesTo_S1x6912_S_d0_1 h_S_) main_v2 main_c
  let main_v4 : FVec F S6912x2560 .f32 := (extf .f32 · bitsLt_bf16_f32) main_arg1
  let main_v5 : FVec F S6912x2560 .f32 := Host.absf main_v4
  let main_cst_0 : FVec F S_ .f32 := constant S_ .f32 0x7F800000#32
  let main_v6 : FVec F S6912x2560 .f32 := broadcastInDim S6912x2560 ![] bcast_S_S6912x2560 main_cst_0
  let main_v7 : IVec S6912x2560 1 := cmpf .olt main_v5 main_v6
  let main_c_1 : IVec S_ 1 := constantI S_ 1 1#1
  let main_v8 : IVec S_ 1 := (fun x v => Host.reduce IntOp.andi x v reducesTo_S6912x2560_S_d0_1 h_S_) main_v7 main_c_1
  let main_v9 : IVec S_ 1 := andi main_v3 main_v8
  let main_v10 : FVec F S6912x2560 .f32 := (extf .f32 · bitsLt_bf16_f32) main_arg2
  let main_v11 : FVec F S6912x2560 .f32 := Host.absf main_v10
  let main_cst_2 : FVec F S_ .f32 := constant S_ .f32 0x7F800000#32
  let main_v12 : FVec F S6912x2560 .f32 := broadcastInDim S6912x2560 ![] bcast_S_S6912x2560 main_cst_2
  let main_v13 : IVec S6912x2560 1 := cmpf .olt main_v11 main_v12
  let main_c_3 : IVec S_ 1 := constantI S_ 1 1#1
  let main_v14 : IVec S_ 1 := (fun x v => Host.reduce IntOp.andi x v reducesTo_S6912x2560_S_d0_1 h_S_) main_v13 main_c_3
  let main_v15 : IVec S_ 1 := andi main_v9 main_v14
  let main_v16 : FVec F S18432x6912 .f32 := (extf .f32 · bitsLt_bf16_f32) main_arg3
  let main_v17 : FVec F S18432x6912 .f32 := Host.absf main_v16
  fn_part1 (F := F) main_v15 main_v17
-- ==== On_real_shift.lean ====
abbrev S6912x2560 : Shape := ⟨2, ![6912, 2560]⟩
abbrev S1x2560 : Shape := ⟨2, ![1, 2560]⟩
abbrev S1x6912 : Shape := ⟨2, ![1, 6912]⟩
abbrev S_ : Shape := ⟨0, ![]⟩
abbrev S6912x20 : Shape := ⟨2, ![6912, 20]⟩

class Facts : Prop where
  bcast_S_S1x2560 : S_.BroadcastsInDim S1x2560 (![] : Fin 0 → Fin S1x2560.rank)
  reducesTo_S1x2560_S_d0_1 : S1x2560.ReducesTo [0, 1] S_
  h_S_ : 0 < S_.numel
  bcast_S_S6912x2560 : S_.BroadcastsInDim S6912x2560 (![] : Fin 0 → Fin S6912x2560.rank)
  bcast_S_S6912x20 : S_.BroadcastsInDim S6912x20 (![] : Fin 0 → Fin S6912x20.rank)
  bcast_S_S1x6912 : S_.BroadcastsInDim S1x6912 (![] : Fin 0 → Fin S1x6912.rank)

variable [Facts]

def fn {F : FTy → Type} [FloatOps F] (main_arg0 : FVec F S6912x2560 .bf16) (main_arg1 : FVec F S1x2560 .f32) (main_arg2 : FVec F S1x2560 .f32) (main_arg3 : FVec F S1x6912 .f32) : IVec S6912x2560 1 × IVec S6912x20 1 × IVec S6912x20 1 × IVec S6912x2560 1 × IVec S6912x2560 1 × IVec S1x6912 1 :=
  let main_v0 : FVec F S1x2560 .f32 := Host.absf main_arg2
  let main_cst : FVec F S_ .f32 := constant S_ .f32 0x7F800000#32
  let main_v1 : FVec F S1x2560 .f32 := broadcastInDim S1x2560 ![] bcast_S_S1x2560 main_cst
  let main_v2 : IVec S1x2560 1 := cmpf .olt main_v0 main_v1
  let main_c : IVec S_ 1 := constantI S_ 1 1#1
  let main_v3 : IVec S_ 1 := (fun x v => Host.reduce IntOp.andi x v reducesTo_S1x2560_S_d0_1 h_S_) main_v2 main_c
  let main_c_0 : IVec S_ 1 := constantI S_ 1 1#1
  let main_v4 : IVec S6912x2560 1 := broadcastInDim S6912x2560 ![] bcast_S_S6912x2560 main_c_0
  let main_c_1 : IVec S_ 1 := constantI S_ 1 1#1
  let main_v5 : IVec S6912x20 1 := broadcastInDim S6912x20 ![] bcast_S_S6912x20 main_c_1
  let main_c_2 : IVec S_ 1 := constantI S_ 1 1#1
  let main_v6 : IVec S6912x20 1 := broadcastInDim S6912x20 ![] bcast_S_S6912x20 main_c_2
  let main_c_3 : IVec S_ 1 := constantI S_ 1 1#1
  let main_v7 : IVec S6912x2560 1 := broadcastInDim S6912x2560 ![] bcast_S_S6912x2560 main_c_3
  let main_c_4 : IVec S_ 1 := constantI S_ 1 1#1
  let main_v8 : IVec S6912x2560 1 := broadcastInDim S6912x2560 ![] bcast_S_S6912x2560 main_c_4
  let main_v9 : IVec S1x6912 1 := broadcastInDim S1x6912 ![] bcast_S_S1x6912 main_v3
  (main_v4, main_v5, main_v6, main_v7, main_v8, main_v9)
-- ==== Pre_finite.lean ====
abbrev S8x6912 : Shape := ⟨2, ![8, 6912]⟩
abbrev S6912x2560 : Shape := ⟨2, ![6912, 2560]⟩
abbrev S1x2560 : Shape := ⟨2, ![1, 2560]⟩
abbrev S_ : Shape := ⟨0, ![]⟩

class Facts : Prop where
  bcast_S_S8x6912 : S_.BroadcastsInDim S8x6912 (![] : Fin 0 → Fin S8x6912.rank)
  reducesTo_S8x6912_S_d0_1 : S8x6912.ReducesTo [0, 1] S_
  h_S_ : 0 < S_.numel

variable [Facts]

def fn {F : FTy → Type} [FloatOps F] (main_arg0 : FVec F S8x6912 .f32) (main_arg1 : FVec F S6912x2560 .bf16) (main_arg2 : FVec F S1x2560 .f32) : IVec S_ 1 :=
  let main_v0 : FVec F S8x6912 .f32 := Host.absf main_arg0
  let main_cst : FVec F S_ .f32 := constant S_ .f32 0x7F800000#32
  let main_v1 : FVec F S8x6912 .f32 := broadcastInDim S8x6912 ![] bcast_S_S8x6912 main_cst
  let main_v2 : IVec S8x6912 1 := cmpf .olt main_v0 main_v1
  let main_c : IVec S_ 1 := constantI S_ 1 1#1
  let main_v3 : IVec S_ 1 := (fun x v => Host.reduce IntOp.andi x v reducesTo_S8x6912_S_d0_1 h_S_) main_v2 main_c
  main_v3
-- ==== Kernel.lean ====
abbrev S18432x2560 : Shape := ⟨2, ![18432, 2560]⟩
abbrev S6912x2560 : Shape := ⟨2, ![6912, 2560]⟩
abbrev S18432x6912 : Shape := ⟨2, ![18432, 6912]⟩
abbrev S1x6912 : Shape := ⟨2, ![1, 6912]⟩
abbrev S1x2560 : Shape := ⟨2, ![1, 2560]⟩
abbrev S24x1x768 : Shape := ⟨3, ![24, 1, 768]⟩
abbrev S8x6912 : Shape := ⟨2, ![8, 6912]⟩
abbrev S768x2560 : Shape := ⟨2, ![768, 2560]⟩
abbrev S6912x256 : Shape := ⟨2, ![6912, 256]⟩
abbrev S768x768 : Shape := ⟨2, ![768, 768]⟩
abbrev S768x6912 : Shape := ⟨2, ![768, 6912]⟩
abbrev S768x256 : Shape := ⟨2, ![768, 256]⟩
abbrev S768x128 : Shape := ⟨2, ![768, 128]⟩
abbrev S8x2560 : Shape := ⟨2, ![8, 2560]⟩
abbrev S32x2560 : Shape := ⟨2, ![32, 2560]⟩
abbrev S32 : Shape := ⟨1, ![32]⟩
abbrev S32x1 : Shape := ⟨2, ![32, 1]⟩
abbrev S32x256 : Shape := ⟨2, ![32, 256]⟩
abbrev S128x128 : Shape := ⟨2, ![128, 128]⟩
abbrev S1x128 : Shape := ⟨2, ![1, 128]⟩
abbrev S1x1x128 : Shape := ⟨3, ![1, 1, 128]⟩
abbrev S256x2560 : Shape := ⟨2, ![256, 2560]⟩
abbrev S1x256 : Shape := ⟨2, ![1, 256]⟩
abbrev S8x256 : Shape := ⟨2, ![8, 256]⟩
abbrev S96x8x256 : Shape := ⟨3, ![96, 8, 256]⟩
abbrev S128 : Shape := ⟨1, ![128]⟩
abbrev S2560 : Shape := ⟨1, ![2560]⟩

abbrev nBuf : Space → Nat
  | .hbm => 15
  | .vmem => 31
  | .smem => 0
  | _ => 0

abbrev bufTy : (tb : Table) → Fin (tcTables nBuf tb) → BufTy
  | .hbm, ⟨0, _⟩ => ⟨S18432x2560, .bf16⟩
  | .hbm, ⟨1, _⟩ => ⟨S6912x2560, .bf16⟩
  | .hbm, ⟨2, _⟩ => ⟨S6912x2560, .bf16⟩
  | .hbm, ⟨3, _⟩ => ⟨S18432x6912, .bf16⟩
  | .hbm, ⟨4, _⟩ => ⟨S1x6912, .f32⟩
  | .hbm, ⟨5, _⟩ => ⟨S1x2560, .f32⟩
  | .hbm, ⟨6, _⟩ => ⟨S1x2560, .f32⟩
  | .hbm, ⟨7, _⟩ => ⟨S18432x6912, .bf16⟩
  | .hbm, ⟨8, _⟩ => ⟨S18432x2560, .i8⟩
  | .hbm, ⟨9, _⟩ => ⟨S24x1x768, .f32⟩
  | .hbm, ⟨10, _⟩ => ⟨S24x1x768, .f32⟩
  | .hbm, ⟨11, _⟩ => ⟨S1x2560, .f32⟩
  | .hbm, ⟨12, _⟩ => ⟨S1x2560, .f32⟩
  | .hbm, ⟨13, _⟩ => ⟨S1x2560, .f32⟩
  | .hbm, ⟨14, _⟩ => ⟨S8x6912, .f32⟩
  | .local _ .vmem, ⟨0, _⟩ => ⟨S768x2560, .bf16⟩
  | .local _ .vmem, ⟨1, _⟩ => ⟨S768x2560, .bf16⟩
  | .local _ .vmem, ⟨2, _⟩ => ⟨S768x2560, .bf16⟩
  | .local _ .vmem, ⟨3, _⟩ => ⟨S768x2560, .bf16⟩
  | .local _ .vmem, ⟨4, _⟩ => ⟨S6912x256, .bf16⟩
  | .local _ .vmem, ⟨5, _⟩ => ⟨S6912x256, .bf16⟩
  | .local _ .vmem, ⟨6, _⟩ => ⟨S6912x256, .bf16⟩
  | .local _ .vmem, ⟨7, _⟩ => ⟨S6912x256, .bf16⟩
  | .local _ .vmem, ⟨8, _⟩ => ⟨S768x768, .bf16⟩
  | .local _ .vmem, ⟨9, _⟩ => ⟨S768x768, .bf16⟩
  | .local _ .vmem, ⟨10, _⟩ => ⟨S1x6912, .f32⟩
  | .local _ .vmem, ⟨11, _⟩ => ⟨S1x2560, .f32⟩
  | .local _ .vmem, ⟨12, _⟩ => ⟨S1x2560, .f32⟩
  | .local _ .vmem, ⟨13, _⟩ => ⟨S768x768, .bf16⟩
  | .local _ .vmem, ⟨14, _⟩ => ⟨S768x768, .bf16⟩
  | .local _ .vmem, ⟨15, _⟩ => ⟨S768x2560, .i8⟩
  | .local _ .vmem, ⟨16, _⟩ => ⟨S768x2560, .i8⟩
  | .local _ .vmem, ⟨17, _⟩ => ⟨S24x1x768, .f32⟩
  | .local _ .vmem, ⟨18, _⟩ => ⟨S24x1x768, .f32⟩
  | .local _ .vmem, ⟨19, _⟩ => ⟨S1x2560, .f32⟩
  | .local _ .vmem, ⟨20, _⟩ => ⟨S1x2560, .f32⟩
  | .local _ .vmem, ⟨21, _⟩ => ⟨S1x2560, .f32⟩
  | .local _ .vmem, ⟨22, _⟩ => ⟨S8x6912, .f32⟩
  | .local _ .vmem, ⟨23, _⟩ => ⟨S768x2560, .bf16⟩
  | .local _ .vmem, ⟨24, _⟩ => ⟨S768x6912, .bf16⟩
  | .local _ .vmem, ⟨25, _⟩ => ⟨S768x6912, .bf16⟩
  | .local _ .vmem, ⟨26, _⟩ => ⟨S768x256, .f32⟩
  | .local _ .vmem, ⟨27, _⟩ => ⟨S768x128, .f32⟩
  | .local _ .vmem, ⟨28, _⟩ => ⟨S8x2560, .f32⟩
  | .local _ .vmem, ⟨29, _⟩ => ⟨S8x2560, .f32⟩
  | .local _ .vmem, ⟨30, _⟩ => ⟨S8x2560, .f32⟩
  | _, _ => ⟨S18432x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22

abbrev nD : Nat := 1
abbrev τ : Topo := Topo.v7x

variable {F : FTy → Type} [FloatOps F]

abbrev grid0 : Pipeline.Grid := ⟨2, ![24, 19], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

@[reducible] def k0_t1_loop : Scf.Loop 32 :=
  let c0_i32_11 : BitVec 32 := 0#32
  let c24_i32 : BitVec 32 := 24#32
  let v26 : BitVec 32 := Scalar.addi c0_i32_11 c24_i32
  let c1_i32 : BitVec 32 := 1#32
  ⟨c0_i32_11, v26, c1_i32⟩
def k0_mult1 (k0_t1 : Fin k0_t1_loop.trips) : BitVec 32 :=
  let c0_i32_11 : BitVec 32 := 0#32
  let c1_i32 : BitVec 32 := 1#32
  let arg26 : BitVec 32 := Scf.iv c0_i32_11 c1_i32 k0_t1
  let c32_i32 : BitVec 32 := 32#32
  let v69 : BitVec 32 := Scalar.muli arg26 c32_i32
  v69
def k0_off1 (k0_t1 : Fin k0_t1_loop.trips) : Fin 2 → Nat :=
  let c0_i32_11 : BitVec 32 := 0#32
  let c1_i32 : BitVec 32 := 1#32
  let arg26 : BitVec 32 := Scf.iv c0_i32_11 c1_i32 k0_t1
  let c32_i32 : BitVec 32 := 32#32
  let v69 : BitVec 32 := Scalar.muli arg26 c32_i32
  let v70 : BitVec 32 := v69
  let v71 : Index := Scalar.indexCast v70
  let c0_32 : Index := 0#32
  ![v71.toNat, 0]
def k0_off2 (k0_t1 : Fin k0_t1_loop.trips) : Fin 2 → Nat :=
  let c0_i32_11 : BitVec 32 := 0#32
  let c1_i32 : BitVec 32 := 1#32
  let arg26 : BitVec 32 := Scf.iv c0_i32_11 c1_i32 k0_t1
  let c32_i32 : BitVec 32 := 32#32
  let v69 : BitVec 32 := Scalar.muli arg26 c32_i32
  let v70 : BitVec 32 := v69
  let v108 : Index := Scalar.indexCast v70
  let c0_46 : Index := 0#32
  ![v108.toNat, 0]
def k0_off3 (i : grid0.Coords) : Fin 3 → Nat :=
  let arg0 : BitVec 32 := BitVec.ofNat 32 (i 0).val
  let v30 : Index := Scalar.indexCast arg0
  let c0_15 : Index := 0#32
  let c0_16 : Index := 0#32
  ![v30.toNat, 0, 0]
def k0_off4 (i : grid0.Coords) : Fin 3 → Nat :=
  let arg0 : BitVec 32 := BitVec.ofNat 32 (i 0).val
  let v37 : Index := Scalar.indexCast arg0
  let c0_18 : Index := 0#32
  let c128_19 : Index := 128#32
  ![v37.toNat, 0, 128]
def k0_off5 (i : grid0.Coords) : Fin 3 → Nat :=
  let arg0 : BitVec 32 := BitVec.ofNat 32 (i 0).val
  let v44 : Index := Scalar.indexCast arg0
  let c0_21 : Index := 0#32
  let c256_22 : Index := 256#32
  ![v44.toNat, 0, 256]
def k0_off6 (i : grid0.Coords) : Fin 3 → Nat :=
  let arg0 : BitVec 32 := BitVec.ofNat 32 (i 0).val
  let v51 : Index := Scalar.indexCast arg0
  let c0_24 : Index := 0#32
  let c384_25 : Index := 384#32
  ![v51.toNat, 0, 384]
def k0_off7 (i : grid0.Coords) : Fin 3 → Nat :=
  let arg0 : BitVec 32 := BitVec.ofNat 32 (i 0).val
  let v58 : Index := Scalar.indexCast arg0
  let c0_27 : Index := 0#32
  let c512_28 : Index := 512#32
  ![v58.toNat, 0, 512]
def k0_off8 (i : grid0.Coords) : Fin 3 → Nat :=
  let arg0 : BitVec 32 := BitVec.ofNat 32 (i 0).val
  let v65 : Index := Scalar.indexCast arg0
  let c0_30 : Index := 0#32
  let c640_31 : Index := 640#32
  ![v65.toNat, 0, 640]
def k0_cond3 (i : grid0.Coords) : BitVec 1 :=
  let arg1 : BitVec 32 := BitVec.ofNat 32 (i 1).val
  let c9_i32 : BitVec 32 := 9#32
  let v8 : BitVec 1 := Scalar.cmpi .slt arg1 c9_i32
  let v9 : BitVec 32 := Scalar.extui v8
  let c0_i32_4 : BitVec 32 := 0#32
  let v10 : BitVec 1 := Scalar.cmpi .ne v9 c0_i32_4
  v10

def k0_mult2 (i : grid0.Coords) : BitVec 32 :=
  let arg1 : BitVec 32 := BitVec.ofNat 32 (i 1).val
  let c768_i32 : BitVec 32 := 768#32
  let v26 : BitVec 32 := Scalar.muli arg1 c768_i32
  let c0_i32_15 : BitVec 32 := 0#32
  let v27 : BitVec 32 := Scalar.addi v26 c0_i32_15
  v27
def k0_off9 (i : grid0.Coords) (c0_i32_15 : BitVec 32) : Fin 2 → Nat :=
  let c0_16 : Index := 0#32
  let arg1 : BitVec 32 := BitVec.ofNat 32 (i 1).val
  let c768_i32 : BitVec 32 := 768#32
  let v26 : BitVec 32 := Scalar.muli arg1 c768_i32
  let v27 : BitVec 32 := Scalar.addi v26 c0_i32_15
  let v28 : BitVec 32 := v27
  let v30 : Index := Scalar.indexCast v28
  ![0, v30.toNat]
def k0_off10 (i : grid0.Coords) (c0_i32_15 : BitVec 32) : Fin 2 → Nat :=
  let c0_26 : Index := 0#32
  let arg1 : BitVec 32 := BitVec.ofNat 32 (i 1).val
  let c768_i32 : BitVec 32 := 768#32
  let v26 : BitVec 32 := Scalar.muli arg1 c768_i32
  let v27 : BitVec 32 := Scalar.addi v26 c0_i32_15
  let v28 : BitVec 32 := v27
  let v51 : Index := Scalar.indexCast v28
  ![0, v51.toNat]
def k0_off11 (i : grid0.Coords) (c0_i32_15 : BitVec 32) : Fin 2 → Nat :=
  let c0_28 : Index := 0#32
  let arg1 : BitVec 32 := BitVec.ofNat 32 (i 1).val
  let c768_i32 : BitVec 32 := 768#32
  let v26 : BitVec 32 := Scalar.muli arg1 c768_i32
  let v27 : BitVec 32 := Scalar.addi v26 c0_i32_15
  let v28 : BitVec 32 := v27
  let v61 : Index := Scalar.indexCast v28
  ![0, v61.toNat]
def k0_mult3 (i : grid0.Coords) : BitVec 32 :=
  let arg1 : BitVec 32 := BitVec.ofNat 32 (i 1).val
  let c768_i32_37 : BitVec 32 := 768#32
  let v74 : BitVec 32 := Scalar.muli arg1 c768_i32_37
  let c256_i32 : BitVec 32 := 256#32
  let v75 : BitVec 32 := Scalar.addi v74 c256_i32
  v75
def k0_mult4 (i : grid0.Coords) : BitVec 32 :=
  let arg1 : BitVec 32 := BitVec.ofNat 32 (i 1).val
  let c768_i32_59 : BitVec 32 := 768#32
  let v122 : BitVec 32 := Scalar.muli arg1 c768_i32_59
  let c512_i32 : BitVec 32 := 512#32
  let v123 : BitVec 32 := Scalar.addi v122 c512_i32
  v123
def k0_cond4 (i : grid0.Coords) : BitVec 1 :=
  let arg1 : BitVec 32 := BitVec.ofNat 32 (i 1).val
  let c9_i32_5 : BitVec 32 := 9#32
  let v11 : BitVec 1 := Scalar.cmpi .eq arg1 c9_i32_5
  let v12 : BitVec 32 := Scalar.extui v11
  let c0_i32_6 : BitVec 32 := 0#32
  let v13 : BitVec 1 := Scalar.cmpi .ne v12 c0_i32_6
  v13

def k0_off12 (i : grid0.Coords) : Fin 3 → Nat :=
  let arg0 : BitVec 32 := BitVec.ofNat 32 (i 0).val
  let v28 : Index := Scalar.indexCast arg0
  let c0_12 : Index := 0#32
  let c0_13 : Index := 0#32
  ![v28.toNat, 0, 0]
def k0_off13 (i : grid0.Coords) : Fin 3 → Nat :=
  let arg0 : BitVec 32 := BitVec.ofNat 32 (i 0).val
  let v38 : Index := Scalar.indexCast arg0
  let c0_17 : Index := 0#32
  let c128_18 : Index := 128#32
  ![v38.toNat, 0, 128]
def k0_off14 (i : grid0.Coords) : Fin 3 → Nat :=
  let arg0 : BitVec 32 := BitVec.ofNat 32 (i 0).val
  let v48 : Index := Scalar.indexCast arg0
  let c0_22 : Index := 0#32
  let c256_23 : Index := 256#32
  ![v48.toNat, 0, 256]
def k0_off15 (i : grid0.Coords) : Fin 3 → Nat :=
  let arg0 : BitVec 32 := BitVec.ofNat 32 (i 0).val
  let v58 : Index := Scalar.indexCast arg0
  let c0_27 : Index := 0#32
  let c384_28 : Index := 384#32
  ![v58.toNat, 0, 384]
def k0_off16 (i : grid0.Coords) : Fin 3 → Nat :=
  let arg0 : BitVec 32 := BitVec.ofNat 32 (i 0).val
  let v68 : Index := Scalar.indexCast arg0
  let c0_32 : Index := 0#32
  let c512_33 : Index := 512#32
  ![v68.toNat, 0, 512]
def k0_off17 (i : grid0.Coords) : Fin 3 → Nat :=
  let arg0 : BitVec 32 := BitVec.ofNat 32 (i 0).val
  let v78 : Index := Scalar.indexCast arg0
  let c0_37 : Index := 0#32
  let c640_38 : Index := 640#32
  ![v78.toNat, 0, 640]
def k0_cond5 (i : grid0.Coords) : BitVec 1 :=
  let arg1 : BitVec 32 := BitVec.ofNat 32 (i 1).val
  let c9_i32_7 : BitVec 32 := 9#32
  let v14 : BitVec 1 := Scalar.cmpi .sge arg1 c9_i32_7
  let v15 : BitVec 32 := Scalar.extui v14
  let c0_i32_8 : BitVec 32 := 0#32
  let v16 : BitVec 1 := Scalar.cmpi .ne v15 c0_i32_8
  v16

def k0_mult5 (i : grid0.Coords) : BitVec 32 :=
  let arg1 : BitVec 32 := BitVec.ofNat 32 (i 1).val
  let c9_i32_10 : BitVec 32 := 9#32
  let v22 : BitVec 32 := Scalar.subi arg1 c9_i32_10
  let c256_i32 : BitVec 32 := 256#32
  let v23 : BitVec 32 := Scalar.muli v22 c256_i32
  v23
def k0_off18 (i : grid0.Coords) : Fin 2 → Nat :=
  let c0_14 : Index := 0#32
  let arg1 : BitVec 32 := BitVec.ofNat 32 (i 1).val
  let c9_i32_10 : BitVec 32 := 9#32
  let v22 : BitVec 32 := Scalar.subi arg1 c9_i32_10
  let c256_i32 : BitVec 32 := 256#32
  let v23 : BitVec 32 := Scalar.muli v22 c256_i32
  let v24 : BitVec 32 := v23
  let v28 : Index := Scalar.indexCast v24
  ![0, v28.toNat]
def k0_off19 (i : grid0.Coords) : Fin 2 → Nat :=
  let c0_15 : Index := 0#32
  let arg1 : BitVec 32 := BitVec.ofNat 32 (i 1).val
  let c9_i32_10 : BitVec 32 := 9#32
  let v22 : BitVec 32 := Scalar.subi arg1 c9_i32_10
  let c256_i32 : BitVec 32 := 256#32
  let v23 : BitVec 32 := Scalar.muli v22 c256_i32
  let v24 : BitVec 32 := v23
  let v31 : Index := Scalar.indexCast v24
  ![0, v31.toNat]
def k0_off20 (i : grid0.Coords) : Fin 2 → Nat :=
  let c0_21 : Index := 0#32
  let arg1 : BitVec 32 := BitVec.ofNat 32 (i 1).val
  let c9_i32_10 : BitVec 32 := 9#32
  let v22 : BitVec 32 := Scalar.subi arg1 c9_i32_10
  let c256_i32 : BitVec 32 := 256#32
  let v23 : BitVec 32 := Scalar.muli v22 c256_i32
  let v24 : BitVec 32 := v23
  let v46 : Index := Scalar.indexCast v24
  ![0, v46.toNat]
def k0_cond6 (i : grid0.Coords) : BitVec 1 :=
  let arg0 : BitVec 32 := BitVec.ofNat 32 (i 0).val
  let c23_i32 : BitVec 32 := 23#32
  let v17 : BitVec 1 := Scalar.cmpi .eq arg0 c23_i32
  let arg1 : BitVec 32 := BitVec.ofNat 32 (i 1).val
  let c18_i32 : BitVec 32 := 18#32
  let v18 : BitVec 1 := Scalar.cmpi .eq arg1 c18_i32
  let v19 : BitVec 1 := Scalar.andi v17 v18
  let v20 : BitVec 32 := Scalar.extui v19
  let c0_i32_9 : BitVec 32 := 0#32
  let v21 : BitVec 1 := Scalar.cmpi .ne v20 c0_i32_9
  v21

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.minsi arg1 c8_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.minsi arg1 c8_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.minsi arg1 c8_i32
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S6912x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S6912x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x6912 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S768x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S768x2560 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S24x1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S24x1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2560 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2560 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x2560 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S8x6912 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== ReferenceIdeal.lean ====
abbrev S18432x2560 : Shape := ⟨2, ![18432, 2560]⟩
abbrev S6912x2560 : Shape := ⟨2, ![6912, 2560]⟩
abbrev S18432x6912 : Shape := ⟨2, ![18432, 6912]⟩
abbrev S1x6912 : Shape := ⟨2, ![1, 6912]⟩
abbrev S1x2560 : Shape := ⟨2, ![1, 2560]⟩
abbrev S_ : Shape := ⟨0, ![]⟩
abbrev S18432 : Shape := ⟨1, ![18432]⟩
abbrev S18432x1 : Shape := ⟨2, ![18432, 1]⟩
abbrev S2560 : Shape := ⟨1, ![2560]⟩
abbrev S2304x8x6912 : Shape := ⟨3, ![2304, 8, 6912]⟩
abbrev S8x6912 : Shape := ⟨2, ![8, 6912]⟩
abbrev S24x1x768 : Shape := ⟨3, ![24, 1, 768]⟩

abbrev nBuf : Space → Nat
  | .hbm => 101
  | .vmem => 0
  | .smem => 0
  | _ => 0

abbrev bufTy : (tb : Table) → Fin (tcTables nBuf tb) → BufTy
  | .hbm, ⟨0, _⟩ => ⟨S18432x2560, .bf16⟩
  | .hbm, ⟨1, _⟩ => ⟨S6912x2560, .bf16⟩
  | .hbm, ⟨2, _⟩ => ⟨S6912x2560, .bf16⟩
  | .hbm, ⟨3, _⟩ => ⟨S18432x6912, .bf16⟩
  | .hbm, ⟨4, _⟩ => ⟨S1x6912, .f32⟩
  | .hbm, ⟨5, _⟩ => ⟨S1x2560, .f32⟩
  | .hbm, ⟨6, _⟩ => ⟨S1x2560, .f32⟩
  | .hbm, ⟨7, _⟩ => ⟨S18432x2560, .f32⟩
  | .hbm, ⟨8, _⟩ => ⟨S18432x2560, .f32⟩
  | .hbm, ⟨9, _⟩ => ⟨S18432x2560, .f32⟩
  | .hbm, ⟨10, _⟩ => ⟨S18432x2560, .f32⟩
  | .hbm, ⟨11, _⟩ => ⟨S18432x2560, .f32⟩
  | .hbm, ⟨12, _⟩ => ⟨S18432x2560, .f32⟩
  | .hbm, ⟨13, _⟩ => ⟨S_, .f32⟩
  | .hbm, ⟨14, _⟩ => ⟨S18432, .f32⟩
  | .hbm, ⟨15, _⟩ => ⟨S_, .f32⟩
  | .hbm, ⟨16, _⟩ => ⟨S18432, .f32⟩
  | .hbm, ⟨17, _⟩ => ⟨S18432, .i1⟩
  | .hbm, ⟨18, _⟩ => ⟨S_, .f32⟩
  | .hbm, ⟨19, _⟩ => ⟨S18432, .f32⟩
  | .hbm, ⟨20, _⟩ => ⟨S18432, .f32⟩
  | .hbm, ⟨21, _⟩ => ⟨S_, .f32⟩
  | .hbm, ⟨22, _⟩ => ⟨S18432, .f32⟩
  | .hbm, ⟨23, _⟩ => ⟨S18432, .f32⟩
  | .hbm, ⟨24, _⟩ => ⟨S_, .f32⟩
  | .hbm, ⟨25, _⟩ => ⟨S_, .f32⟩
  | .hbm, ⟨26, _⟩ => ⟨S18432, .f32⟩
  | .hbm, ⟨27, _⟩ => ⟨S18432, .f32⟩
  | .hbm, ⟨28, _⟩ => ⟨S18432x1, .f32⟩
  | .hbm, ⟨29, _⟩ => ⟨S18432x2560, .f32⟩
  | .hbm, ⟨30, _⟩ => ⟨S18432x2560, .f32⟩
  | .hbm, ⟨31, _⟩ => ⟨S18432x2560, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S18432x2560, .f32⟩
  | .hbm, ⟨36, _⟩ => ⟨S18432x2560, .f32⟩
  | .hbm, ⟨37, _⟩ => ⟨S_, .f32⟩
  | .hbm, ⟨38, _⟩ => ⟨S18432x2560, .f32⟩
  | .hbm, ⟨39, _⟩ => ⟨S18432x2560, .f32⟩
  | .hbm, ⟨40, _⟩ => ⟨S18432x2560, .i32⟩
  | .hbm, ⟨41, _⟩ => ⟨S18432x2560, .i8⟩
  | .hbm, ⟨42, _⟩ => ⟨S18432x2560, .bf16⟩
  | .hbm, ⟨43, _⟩ => ⟨S18432x1, .f32⟩
  | .hbm, ⟨44, _⟩ => ⟨S18432x6912, .f32⟩
  | .hbm, ⟨45, _⟩ => ⟨S18432x6912, .f32⟩
  | .hbm, ⟨46, _⟩ => ⟨S18432x6912, .f32⟩
  | .hbm, ⟨47, _⟩ => ⟨S18432x6912, .f32⟩
  | .hbm, ⟨48, _⟩ => ⟨S18432x6912, .f32⟩
  | .hbm, ⟨49, _⟩ => ⟨S18432x6912, .f32⟩
  | .hbm, ⟨50, _⟩ => ⟨S18432x6912, .f32⟩
  | .hbm, ⟨51, _⟩ => ⟨S18432x6912, .f32⟩
  | .hbm, ⟨52, _⟩ => ⟨S_, .f32⟩
  | .hbm, ⟨53, _⟩ => ⟨S18432, .f32⟩
  | .hbm, ⟨54, _⟩ => ⟨S_, .f32⟩
  | .hbm, ⟨55, _⟩ => ⟨S18432, .f32⟩
  | .hbm, ⟨56, _⟩ => ⟨S18432, .f32⟩
  | .hbm, ⟨57, _⟩ => ⟨S_, .f32⟩
  | .hbm, ⟨58, _⟩ => ⟨S18432x6912, .f32⟩
  | .hbm, ⟨59, _⟩ => ⟨S18432x6912, .f32⟩
  | .hbm, ⟨60, _⟩ => ⟨S18432x6912, .bf16⟩
  | .hbm, ⟨61, _⟩ => ⟨S18432x2560, .f32⟩
  | .hbm, ⟨62, _⟩ => ⟨S18432x2560, .f32⟩
  | .hbm, ⟨63, _⟩ => ⟨S_, .f32⟩
  | .hbm, ⟨64, _⟩ => ⟨S18432x2560, .f32⟩
  | .hbm, ⟨65, _⟩ => ⟨S18432x2560, .i1⟩
  | .hbm, ⟨66, _⟩ => ⟨S_, .f32⟩
  | .hbm, ⟨67, _⟩ => ⟨S_, .f32⟩
  | .hbm, ⟨68, _⟩ => ⟨S18432x2560, .f32⟩
  | .hbm, ⟨69, _⟩ => ⟨S18432x2560, .f32⟩
  | .hbm, ⟨70, _⟩ => ⟨S18432x2560, .f32⟩
  | .hbm, ⟨71, _⟩ => ⟨S_, .f32⟩
  | .hbm, ⟨72, _⟩ => ⟨S2560, .f32⟩
  | .hbm, ⟨73, _⟩ => ⟨S2560, .f32⟩
  | .hbm, ⟨74, _⟩ => ⟨S2560, .f32⟩
  | .hbm, ⟨75, _⟩ => ⟨S2560, .f32⟩
  | .hbm, ⟨76, _⟩ => ⟨S_, .f32⟩
  | .hbm, ⟨77, _⟩ => ⟨S2560, .f32⟩
  | .hbm, ⟨78, _⟩ => ⟨S2560, .f32⟩
  | .hbm, ⟨79, _⟩ => ⟨S2560, .f32⟩
  | .hbm, ⟨80, _⟩ => ⟨S2560, .f32⟩
  | .hbm, ⟨81, _⟩ => ⟨S18432x1, .f32⟩
  | .hbm, ⟨82, _⟩ => ⟨S18432x6912, .f32⟩
  | .hbm, ⟨83, _⟩ => ⟨S18432x6912, .f32⟩
  | .hbm, ⟨84, _⟩ => ⟨S18432x6912, .bf16⟩
  | .hbm, ⟨85, _⟩ => ⟨S6912x2560, .f32⟩
  | .hbm, ⟨86, _⟩ => ⟨S6912x2560, .f32⟩
  | .hbm, ⟨87, _⟩ => ⟨S6912x2560, .f32⟩
  | .hbm, ⟨88, _⟩ => ⟨S_, .f32⟩
  | .hbm, ⟨89, _⟩ => ⟨S2560, .f32⟩
  | .hbm, ⟨90, _⟩ => ⟨S18432x6912, .f32⟩
  | .hbm, ⟨91, _⟩ => ⟨S2304x8x6912, .f32⟩
  | .hbm, ⟨92, _⟩ => ⟨S_, .f32⟩
  | .hbm, ⟨93, _⟩ => ⟨S8x6912, .f32⟩
  | .hbm, ⟨94, _⟩ => ⟨S18432x6912, .bf16⟩
  | .hbm, ⟨95, _⟩ => ⟨S24x1x768, .f32⟩
  | .hbm, ⟨96, _⟩ => ⟨S24x1x768, .f32⟩
  | .hbm, ⟨97, _⟩ => ⟨S2560, .f32⟩
  | .hbm, ⟨98, _⟩ => ⟨S1x2560, .f32⟩
  | .hbm, ⟨99, _⟩ => ⟨S1x2560, .f32⟩
  | .hbm, ⟨100, _⟩ => ⟨S1x2560, .f32⟩
  | _, _ => ⟨S18432x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_cst_5 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_cst_10 : Ref sig .tc := ⟨.hbm, 66, rfl⟩
abbrev main_call3_v0 : Ref sig .tc := ⟨.hbm, 67, rfl⟩
abbrev main_call3_v1 : Ref sig .tc := ⟨.hbm, 68, rfl⟩
abbrev main_v41 : Ref sig .tc := ⟨.hbm, 69, rfl⟩
abbrev main_v42 : Ref sig .tc := ⟨.hbm, 70, rfl⟩
abbrev main_cst_11 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_12 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_13 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_14 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]
-- ==== QuantW.lean ====
abbrev S6912x2560 : Shape := ⟨2, ![6912, 2560]⟩
abbrev S1x2560 : Shape := ⟨2, ![1, 2560]⟩
abbrev S1x6912 : Shape := ⟨2, ![1, 6912]⟩
abbrev S6912x20 : Shape := ⟨2, ![6912, 20]⟩
abbrev S256x2560 : Shape := ⟨2, ![256, 2560]⟩
abbrev S1x256 : Shape := ⟨2, ![1, 256]⟩
abbrev S256x20 : Shape := ⟨2, ![256, 20]⟩
abbrev S256x128 : Shape := ⟨2, ![256, 128]⟩
abbrev S1x128 : Shape := ⟨2, ![1, 128]⟩
abbrev S256 : Shape := ⟨1, ![256]⟩
abbrev S256x1 : Shape := ⟨2, ![256, 1]⟩
abbrev S8x2560 : Shape := ⟨2, ![8, 2560]⟩
abbrev S8x256 : Shape := ⟨2, ![8, 256]⟩

abbrev nBuf : Space → Nat
  | .hbm => 10
  | .vmem => 18
  | .smem => 0
  | _ => 0

abbrev bufTy : (tb : Table) → Fin (tcTables nBuf tb) → BufTy
  | .hbm, ⟨0, _⟩ => ⟨S6912x2560, .bf16⟩
  | .hbm, ⟨1, _⟩ => ⟨S1x2560, .f32⟩
  | .hbm, ⟨2, _⟩ => ⟨S1x2560, .f32⟩
  | .hbm, ⟨3, _⟩ => ⟨S1x6912, .f32⟩
  | .hbm, ⟨4, _⟩ => ⟨S6912x2560, .i8⟩
  | .hbm, ⟨5, _⟩ => ⟨S6912x20, .f32⟩
  | .hbm, ⟨6, _⟩ => ⟨S6912x20, .f32⟩
  | .hbm, ⟨7, _⟩ => ⟨S6912x2560, .bf16⟩
  | .hbm, ⟨8, _⟩ => ⟨S6912x2560, .bf16⟩
  | .hbm, ⟨9, _⟩ => ⟨S1x6912, .f32⟩
  | .local _ .vmem, ⟨0, _⟩ => ⟨S256x2560, .bf16⟩
  | .local _ .vmem, ⟨1, _⟩ => ⟨S256x2560, .bf16⟩
  | .local _ .vmem, ⟨2, _⟩ => ⟨S1x2560, .f32⟩
  | .local _ .vmem, ⟨3, _⟩ => ⟨S1x2560, .f32⟩
  | .local _ .vmem, ⟨4, _⟩ => ⟨S1x256, .f32⟩
  | .local _ .vmem, ⟨5, _⟩ => ⟨S1x256, .f32⟩
  | .local _ .vmem, ⟨6, _⟩ => ⟨S256x2560, .i8⟩
  | .local _ .vmem, ⟨7, _⟩ => ⟨S256x2560, .i8⟩
  | .local _ .vmem, ⟨8, _⟩ => ⟨S256x20, .f32⟩
  | .local _ .vmem, ⟨9, _⟩ => ⟨S256x20, .f32⟩
  | .local _ .vmem, ⟨10, _⟩ => ⟨S256x20, .f32⟩
  | .local _ .vmem, ⟨11, _⟩ => ⟨S256x20, .f32⟩
  | .local _ .vmem, ⟨12, _⟩ => ⟨S256x2560, .bf16⟩
  | .local _ .vmem, ⟨13, _⟩ => ⟨S256x2560, .bf16⟩
  | .local _ .vmem, ⟨14, _⟩ => ⟨S256x2560, .bf16⟩
  | .local _ .vmem, ⟨15, _⟩ => ⟨S256x2560, .bf16⟩
  | .local _ .vmem, ⟨16, _⟩ => ⟨S1x256, .f32⟩
  | .local _ .vmem, ⟨17, _⟩ => ⟨S1x256, .f32⟩
  | _, _ => ⟨S6912x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![27], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2560 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x20 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x20 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2560 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2560 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QuantWReferenceIdeal.lean ====
abbrev S6912x2560 : Shape := ⟨2, ![6912, 2560]⟩
abbrev S1x2560 : Shape := ⟨2, ![1, 2560]⟩
abbrev S1x6912 : Shape := ⟨2, ![1, 6912]⟩
abbrev S6912x20x128 : Shape := ⟨3, ![6912, 20, 128]⟩
abbrev S_ : Shape := ⟨0, ![]⟩
abbrev S6912x20 : Shape := ⟨2, ![6912, 20]⟩
abbrev S6912x20x1 : Shape := ⟨3, ![6912, 20, 1]⟩
abbrev S2560 : Shape := ⟨1, ![2560]⟩
abbrev S6912 : Shape := ⟨1, ![6912]⟩

abbrev nBuf : Space → Nat
  | .hbm => 75
  | .vmem => 0
  | .smem => 0
  | _ => 0

abbrev bufTy : (tb : Table) → Fin (tcTables nBuf tb) → BufTy
  | .hbm, ⟨0, _⟩ => ⟨S6912x2560, .bf16⟩
  | .hbm, ⟨1, _⟩ => ⟨S1x2560, .f32⟩
  | .hbm, ⟨2, _⟩ => ⟨S1x2560, .f32⟩
  | .hbm, ⟨3, _⟩ => ⟨S1x6912, .f32⟩
  | .hbm, ⟨4, _⟩ => ⟨S6912x2560, .f32⟩
  | .hbm, ⟨5, _⟩ => ⟨S6912x2560, .f32⟩
  | .hbm, ⟨6, _⟩ => ⟨S6912x2560, .f32⟩
  | .hbm, ⟨7, _⟩ => ⟨S6912x20x128, .f32⟩
  | .hbm, ⟨8, _⟩ => ⟨S_, .f32⟩
  | .hbm, ⟨9, _⟩ => ⟨S6912x20, .f32⟩
  | .hbm, ⟨10, _⟩ => ⟨S_, .f32⟩
  | .hbm, ⟨11, _⟩ => ⟨S6912x20, .f32⟩
  | .hbm, ⟨12, _⟩ => ⟨S6912x20, .f32⟩
  | .hbm, ⟨13, _⟩ => ⟨S_, .f32⟩
  | .hbm, ⟨14, _⟩ => ⟨S6912x20, .f32⟩
  | .hbm, ⟨15, _⟩ => ⟨S_, .f32⟩
  | .hbm, ⟨16, _⟩ => ⟨S6912x20, .f32⟩
  | .hbm, ⟨17, _⟩ => ⟨S6912x20, .f32⟩
  | .hbm, ⟨18, _⟩ => ⟨S6912x20, .i1⟩
  | .hbm, ⟨19, _⟩ => ⟨S6912x20, .f32⟩
  | .hbm, ⟨20, _⟩ => ⟨S_, .f32⟩
  | .hbm, ⟨21, _⟩ => ⟨S6912x20, .f32⟩
  | .hbm, ⟨22, _⟩ => ⟨S6912x20, .f32⟩
  | .hbm, ⟨23, _⟩ => ⟨S_, .f32⟩
  | .hbm, ⟨24, _⟩ => ⟨S_, .f32⟩
  | .hbm, ⟨25, _⟩ => ⟨S6912x20, .f32⟩
  | .hbm, ⟨26, _⟩ => ⟨S6912x20, .f32⟩
  | .hbm, ⟨27, _⟩ => ⟨S6912x20, .f32⟩
  | .hbm, ⟨28, _⟩ => ⟨S6912x20, .f32⟩
  | .hbm, ⟨29, _⟩ => ⟨S6912x20, .f32⟩
  | .hbm, ⟨30, _⟩ => ⟨S6912x20x1, .f32⟩
  | .hbm, ⟨31, _⟩ => ⟨S6912x20x128, .f32⟩
  | .hbm, ⟨32, _⟩ => ⟨S6912x20x128, .f32⟩
  | .hbm, ⟨33, _⟩ => ⟨S6912x20x1, .f32⟩
  | .hbm, ⟨34, _⟩ => ⟨S6912x20x128, .f32⟩
  | .hbm, ⟨35, _⟩ => ⟨S6912x20x128, .f32⟩
  | .hbm, ⟨36, _⟩ => ⟨S6912x20x128, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S6912x20x128, .f32⟩
  | .hbm, ⟨41, _⟩ => ⟨S6912x20x128, .f32⟩
  | .hbm, ⟨42, _⟩ => ⟨S_, .f32⟩
  | .hbm, ⟨43, _⟩ => ⟨S6912x20x128, .f32⟩
  | .hbm, ⟨44, _⟩ => ⟨S6912x20x128, .f32⟩
  | .hbm, ⟨45, _⟩ => ⟨S6912x20x128, .i32⟩
  | .hbm, ⟨46, _⟩ => ⟨S6912x20x128, .i8⟩
  | .hbm, ⟨47, _⟩ => ⟨S6912x20x128, .bf16⟩
  | .hbm, ⟨48, _⟩ => ⟨S6912x20, .bf16⟩
  | .hbm, ⟨49, _⟩ => ⟨S6912x20x1, .bf16⟩
  | .hbm, ⟨50, _⟩ => ⟨S6912x20x128, .bf16⟩
  | .hbm, ⟨51, _⟩ => ⟨S6912x20x128, .bf16⟩
  | .hbm, ⟨52, _⟩ => ⟨S6912x20, .bf16⟩
  | .hbm, ⟨53, _⟩ => ⟨S6912x20x1, .bf16⟩
  | .hbm, ⟨54, _⟩ => ⟨S6912x20x128, .bf16⟩
  | .hbm, ⟨55, _⟩ => ⟨S6912x20x128, .bf16⟩
  | .hbm, ⟨56, _⟩ => ⟨S_, .f32⟩
  | .hbm, ⟨57, _⟩ => ⟨S6912x20x128, .f32⟩
  | .hbm, ⟨58, _⟩ => ⟨S6912x20x128, .i1⟩
  | .hbm, ⟨59, _⟩ => ⟨S_, .f32⟩
  | .hbm, ⟨60, _⟩ => ⟨S6912x20x128, .f32⟩
  | .hbm, ⟨61, _⟩ => ⟨S6912x20x128, .i1⟩
  | .hbm, ⟨62, _⟩ => ⟨S6912x20x128, .i1⟩
  | .hbm, ⟨63, _⟩ => ⟨S6912x2560, .i1⟩
  | .hbm, ⟨64, _⟩ => ⟨S_, .f32⟩
  | .hbm, ⟨65, _⟩ => ⟨S_, .f32⟩
  | .hbm, ⟨66, _⟩ => ⟨S6912x2560, .f32⟩
  | .hbm, ⟨67, _⟩ => ⟨S6912x2560, .f32⟩
  | .hbm, ⟨68, _⟩ => ⟨S6912x2560, .bf16⟩
  | .hbm, ⟨69, _⟩ => ⟨S2560, .f32⟩
  | .hbm, ⟨70, _⟩ => ⟨S6912, .f32⟩
  | .hbm, ⟨71, _⟩ => ⟨S1x6912, .f32⟩
  | .hbm, ⟨72, _⟩ => ⟨S1x6912, .f32⟩
  | .hbm, ⟨73, _⟩ => ⟨S6912x2560, .i8⟩
  | .hbm, ⟨74, _⟩ => ⟨S6912x2560, .bf16⟩
  | _, _ => ⟨S6912x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_cst_6 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_call4_v0 : Ref sig .tc := ⟨.hbm, 65, rfl⟩
abbrev main_call4_v1 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩

abbrev nD : Nat := 1
abbrev τ : Topo := Topo.v7x

variable {F : FTy → Type} [FloatOps F]
-- ==== BiasGrad.lean ====
abbrev S8x6912 : Shape := ⟨2, ![8, 6912]⟩
abbrev S6912x2560 : Shape := ⟨2, ![6912, 2560]⟩
abbrev S1x2560 : Shape := ⟨2, ![1, 2560]⟩
abbrev S8x768 : Shape := ⟨2, ![8, 768]⟩
abbrev S768x2560 : Shape := ⟨2, ![768, 2560]⟩
abbrev S8x2560 : Shape := ⟨2, ![8, 2560]⟩
abbrev S768 : Shape := ⟨1, ![768]⟩
abbrev S1x768 : Shape := ⟨2, ![1, 768]⟩
abbrev S2560 : Shape := ⟨1, ![2560]⟩

abbrev nBuf : Space → Nat
  | .hbm => 5
  | .vmem => 8
  | .smem => 0
  | _ => 0

abbrev bufTy : (tb : Table) → Fin (tcTables nBuf tb) → BufTy
  | .hbm, ⟨0, _⟩ => ⟨S8x6912, .f32⟩
  | .hbm, ⟨1, _⟩ => ⟨S6912x2560, .bf16⟩
  | .hbm, ⟨2, _⟩ => ⟨S1x2560, .f32⟩
  | .hbm, ⟨3, _⟩ => ⟨S1x2560, .f32⟩
  | .hbm, ⟨4, _⟩ => ⟨S1x2560, .f32⟩
  | .local _ .vmem, ⟨0, _⟩ => ⟨S8x768, .f32⟩
  | .local _ .vmem, ⟨1, _⟩ => ⟨S8x768, .f32⟩
  | .local _ .vmem, ⟨2, _⟩ => ⟨S768x2560, .bf16⟩
  | .local _ .vmem, ⟨3, _⟩ => ⟨S768x2560, .bf16⟩
  | .local _ .vmem, ⟨4, _⟩ => ⟨S1x2560, .f32⟩
  | .local _ .vmem, ⟨5, _⟩ => ⟨S1x2560, .f32⟩
  | .local _ .vmem, ⟨6, _⟩ => ⟨S1x2560, .f32⟩
  | .local _ .vmem, ⟨7, _⟩ => ⟨S8x2560, .f32⟩
  | _, _ => ⟨S8x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c8_i32 : BitVec 32 := 8#32
  let v38 : BitVec 1 := Scalar.cmpi .eq arg0 c8_i32
  let v39 : BitVec 32 := Scalar.extui v38
  let c0_i32_11 : BitVec 32 := 0#32
  let v40 : BitVec 1 := Scalar.cmpi .ne v39 c0_i32_11
  v40

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== BiasGradReferenceIdeal.lean ====
abbrev S8x6912 : Shape := ⟨2, ![8, 6912]⟩
abbrev S6912x2560 : Shape := ⟨2, ![6912, 2560]⟩
abbrev S1x2560 : Shape := ⟨2, ![1, 2560]⟩
abbrev S_ : Shape := ⟨0, ![]⟩
abbrev S6912 : Shape := ⟨1, ![6912]⟩
abbrev S2560 : Shape := ⟨1, ![2560]⟩

abbrev nBuf : Space → Nat
  | .hbm => 9
  | .vmem => 0
  | .smem => 0
  | _ => 0

abbrev bufTy : (tb : Table) → Fin (tcTables nBuf tb) → BufTy
  | .hbm, ⟨0, _⟩ => ⟨S8x6912, .f32⟩
  | .hbm, ⟨1, _⟩ => ⟨S6912x2560, .bf16⟩
  | .hbm, ⟨2, _⟩ => ⟨S1x2560, .f32⟩
  | .hbm, ⟨3, _⟩ => ⟨S_, .f32⟩
  | .hbm, ⟨4, _⟩ => ⟨S6912, .f32⟩
  | .hbm, ⟨5, _⟩ => ⟨S6912x2560, .f32⟩
  | .hbm, ⟨6, _⟩ => ⟨S2560, .f32⟩
  | .hbm, ⟨7, _⟩ => ⟨S1x2560, .f32⟩
  | .hbm, ⟨8, _⟩ => ⟨S1x2560, .f32⟩
  | _, _ => ⟨S8x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.K.Base.lean ====
/- What the proofs about the kernel body share: its branch conditions in closed form, its staging and scratch buffers, and the
   contents of all its buffers at a point as one record. -/
module

public import proofs.«01_k».proof.Proof.Gen.Kernel.Frame
public import proofs.«01_k».proof.Proof.Gen.Kernel.Loops
public import proofs.«01_k».proof.Proof.Gen.Kernel.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The column offset `k0_off18` as a function of the point, wrapped at 32 bits. -/
theorem k0_off18_eq : ∀ i : grid0.Coords, k0_off18 i = ![0, (256 * (i 1).val + 4294964992) % 4294967296] := by decide +kernel
instance closedOff_k0_off18 (i : grid0.Coords) : ClosedOff (k0_off18 i) := ⟨![0, (256 * (i 1).val + 4294964992) % 4294967296], k0_off18_eq i⟩
/-- The column offset `k0_off19` as a function of the point, wrapped at 32 bits. -/
theorem k0_off19_eq : ∀ i : grid0.Coords, k0_off19 i = ![0, (256 * (i 1).val + 4294964992) % 4294967296] := by decide +kernel
instance closedOff_k0_off19 (i : grid0.Coords) : ClosedOff (k0_off19 i) := ⟨![0, (256 * (i 1).val + 4294964992) % 4294967296], k0_off19_eq i⟩
/-- The column offset `k0_off20` as a function of the point, wrapped at 32 bits. -/
theorem k0_off20_eq : ∀ i : grid0.Coords, k0_off20 i = ![0, (256 * (i 1).val + 4294964992) % 4294967296] := by decide +kernel
instance closedOff_k0_off20 (i : grid0.Coords) : ClosedOff (k0_off20 i) := ⟨![0, (256 * (i 1).val + 4294964992) % 4294967296], k0_off20_eq i⟩
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 456 = 0 :=
  (fun t => by
    have ht : t.val < 456 := Nat.lt_of_lt_of_eq t.isLt N_0
    have e0 : (grid0.coords t 0).val = t.val / 19 % 24 := Pipeline.Grid.coords_val t 0 (by decide) rfl
    have e1 : (grid0.coords t 1).val = t.val / 1 % 19 := Pipeline.Grid.coords_val t 1 (by decide) rfl
    simp only [cond0_0, k0_cond1, e0, e1]
    word_cmp
   : ∀ t : Fin grid0.N, cond0_0 (grid0.coords t) ↔ t.val % 456 = 0)

/-- The condition of the body's `scf.if` 1 (`k0_h2`), from the grid coordinates (the skeleton's scalar
    chain substituted). -/
abbrev cond0_1 (i : grid0.Coords) : Prop := k0_cond2 i = 1#1
/-- It holds at the points ≡ 0 (mod 19) — by arithmetic of the point. -/
theorem hcond0_1 : ∀ t : Fin cfg0.N, cond0_1 (grid0.coords t) ↔ t.val % 19 = 0 :=
  (fun t => by
    have ht : t.val < 456 := Nat.lt_of_lt_of_eq t.isLt N_0
    have e0 : (grid0.coords t 0).val = t.val / 19 % 24 := Pipeline.Grid.coords_val t 0 (by decide) rfl
    have e1 : (grid0.coords t 1).val = t.val / 1 % 19 := Pipeline.Grid.coords_val t 1 (by decide) rfl
    simp only [cond0_1, k0_cond2, e0, e1]
    word_cmp
   : ∀ t : Fin grid0.N, cond0_1 (grid0.coords t) ↔ t.val % 19 = 0)

/-- The condition of the body's `scf.if` 2 (`k0_h3`), from the grid coordinates (the skeleton's scalar
    chain substituted). -/
abbrev cond0_2 (i : grid0.Coords) : Prop := k0_cond3 i = 1#1
/-- It holds at the points whose coordinates have i1 ≤ 8 — decided over the grid. -/
theorem hcond0_2 : ∀ t : Fin cfg0.N, cond0_2 (grid0.coords t) ↔ t.val % 19 ≤ 8 :=
  (by decide +kernel : ∀ t : Fin grid0.N, cond0_2 (grid0.coords t) ↔ t.val % 19 ≤ 8)

/-- The condition of the body's `scf.if` 3 (`k0_h4`), from the grid coordinates (the skeleton's scalar
    chain substituted). -/
abbrev cond0_3 (i : grid0.Coords) : Prop := k0_cond4 i = 1#1
/-- It holds at the points ≡ 9 (mod 19) — by arithmetic of the point. -/
theorem hcond0_3 : ∀ t : Fin cfg0.N, cond0_3 (grid0.coords t) ↔ t.val % 19 = 9 :=
  (fun t => by
    have ht : t.val < 456 := Nat.lt_of_lt_of_eq t.isLt N_0
    have e0 : (grid0.coords t 0).val = t.val / 19 % 24 := Pipeline.Grid.coords_val t 0 (by decide) rfl
    have e1 : (grid0.coords t 1).val = t.val / 1 % 19 := Pipeline.Grid.coords_val t 1 (by decide) rfl
    simp only [cond0_3, k0_cond4, e0, e1]
    word_cmp
   : ∀ t : Fin grid0.N, cond0_3 (grid0.coords t) ↔ t.val % 19 = 9)

/-- The condition of the body's `scf.if` 4 (`k0_h5`), from the grid coordinates (the skeleton's scalar
    chain substituted). -/
abbrev cond0_4 (i : grid0.Coords) : Prop := k0_cond5 i = 1#1
/-- It holds at the points whose coordinates have 9 ≤ i1 — decided over the grid. -/
theorem hcond0_4 : ∀ t : Fin cfg0.N, cond0_4 (grid0.coords t) ↔ 9 ≤ t.val % 19 :=
  (by decide +kernel : ∀ t : Fin grid0.N, cond0_4 (grid0.coords t) ↔ 9 ≤ t.val % 19)

/-- The condition of the body's `scf.if` 5 (`k0_h6`), from the grid coordinates (the skeleton's scalar
    chain substituted). -/
abbrev cond0_5 (i : grid0.Coords) : Prop := k0_cond6 i = 1#1
/-- It holds at the last point only — by arithmetic of the point. -/
theorem hcond0_5 : ∀ t : Fin cfg0.N, cond0_5 (grid0.coords t) ↔ t.val % 456 = 455 :=
  (fun t => by
    have ht : t.val < 456 := Nat.lt_of_lt_of_eq t.isLt N_0
    have e0 : (grid0.coords t 0).val = t.val / 19 % 24 := Pipeline.Grid.coords_val t 0 (by decide) rfl
    have e1 : (grid0.coords t 1).val = t.val / 1 % 19 := Pipeline.Grid.coords_val t 1 (by decide) rfl
    simp only [cond0_5, k0_cond6, e0, e1]
    word_cmp
   : ∀ t : Fin grid0.N, cond0_5 (grid0.coords t) ↔ t.val % 456 = 455)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S768x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x2560 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6912x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6912x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x768 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x6912 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2560 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2560 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S768x768 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S768x2560 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S24x1x768 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S24x1x768 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2560 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x2560 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x2560 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S8x6912 .f32 := win0_15.stage (cfg0.slots t 15)
abbrev hs0_15 (t : Fin cfg0.N) : (ms0_15 t).IsWhole := hstage0_15 ((cfg0.slots t 15).cast nbuf0_15)
/-- The scratch operands: whole scoped buffers of the kernel's own, passed beside the windows. -/
abbrev scM0_0 : Memref sig .tc .vmem S768x2560 .bf16 := Memref.whole cc0_scratch0
abbrev scM0_1 : Memref sig .tc .vmem S768x6912 .bf16 := Memref.whole cc0_scratch1
abbrev scM0_2 : Memref sig .tc .vmem S768x6912 .bf16 := Memref.whole cc0_scratch2
abbrev scM0_3 : Memref sig .tc .vmem S768x256 .f32 := Memref.whole cc0_scratch3
abbrev scM0_4 : Memref sig .tc .vmem S768x128 .f32 := Memref.whole cc0_scratch4
abbrev scM0_5 : Memref sig .tc .vmem S8x2560 .f32 := Memref.whole cc0_scratch5
abbrev scM0_6 : Memref sig .tc .vmem S8x2560 .f32 := Memref.whole cc0_scratch6
abbrev scM0_7 : Memref sig .tc .vmem S8x2560 .f32 := Memref.whole cc0_scratch7
/-- The scratch `arg18` the kernel carries between points, as a view: what it holds is stated through it. -/
abbrev VS0_0 : View sig .tc .vmem S768x2560 .bf16 := scM0_0.view
/-- The scratch `arg19` the kernel carries between points, as a view: what it holds is stated through it. -/
abbrev VS0_1 : View sig .tc .vmem S768x6912 .bf16 := scM0_1.view
/-- The scratch `arg20` the kernel carries between points, as a view: what it holds is stated through it. -/
abbrev VS0_2 : View sig .tc .vmem S768x6912 .bf16 := scM0_2.view
/-- The scratch `arg21` the kernel carries between points, as a view: what it holds is stated through it. -/
abbrev VS0_3 : View sig .tc .vmem S768x256 .f32 := scM0_3.view
/-- The scratch `arg22` the kernel carries between points, as a view: what it holds is stated through it. -/
abbrev VS0_4 : View sig .tc .vmem S768x128 .f32 := scM0_4.view
/-- The scratch `arg23` the kernel carries between points, as a view: what it holds is stated through it. -/
abbrev VS0_5 : View sig .tc .vmem S8x2560 .f32 := scM0_5.view
/-- The scratch `arg24` the kernel carries between points, as a view: what it holds is stated through it. -/
abbrev VS0_6 : View sig .tc .vmem S8x2560 .f32 := scM0_6.view
/-- The scratch `arg25` the kernel carries between points, as a view: what it holds is stated through it. -/
abbrev VS0_7 : View sig .tc .vmem S8x2560 .f32 := scM0_7.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

/-! ## All the buffers of one point -/

/-- The blocks of the eight inputs the body finds at a point. -/
structure In (F : FTy → Type) where
  x : Vec F S768x2560 .bf16
  wa : Vec F S768x2560 .bf16
  wb : Vec F S6912x256 .bf16
  wm : Vec F S6912x256 .bf16
  yt : Vec F S768x768 .bf16
  bt : Vec F S1x6912 .f32
  s : Vec F S1x2560 .f32
  delta : Vec F S1x2560 .f32

/-- The contents of the eight outputs' buffers and of the eight scratch buffers. -/
structure St (F : FTy → Type) where
  /-- output y -/
  y : Vec F S768x768 .bf16
  /-- output codes -/
  codes : Vec F S768x2560 .i8
  /-- output scales -/
  scales : Vec F S24x1x768 .f32
  /-- output losses -/
  loss : Vec F S24x1x768 .f32
  /-- output gradient of s -/
  ds : Vec F S1x2560 .f32
  /-- output gradient of delta -/
  dd : Vec F S1x2560 .f32
  /-- output: the weights' part of the gradient of s -/
  dsw : Vec F S1x2560 .f32
  /-- output: column sums of the gradient -/
  gb : Vec F S8x6912 .f32
  /-- scratch: the quantised token block -/
  xq : Vec F S768x2560 .bf16
  /-- scratch: the gradient -/
  g : Vec F S768x6912 .bf16
  /-- scratch: the scaled gradient -/
  gx : Vec F S768x6912 .bf16
  /-- scratch: the row scales, repeated along the lanes -/
  sc : Vec F S768x256 .f32
  /-- scratch: partial sums of squares -/
  sq : Vec F S768x128 .f32
  /-- scratch: partial sums -/
  s1 : Vec F S8x2560 .f32
  /-- scratch: partial sums -/
  s2 : Vec F S8x2560 .f32
  /-- scratch: partial sums -/
  s3 : Vec F S8x2560 .f32

/-- The memrefs the body is passed, every one whole. -/
structure Args where
  arg2 : Memref sig .tc .vmem S768x2560 .bf16
  harg2 : arg2.IsWhole
  arg3 : Memref sig .tc .vmem S768x2560 .bf16
  harg3 : arg3.IsWhole
  arg4 : Memref sig .tc .vmem S6912x256 .bf16
  harg4 : arg4.IsWhole
  arg5 : Memref sig .tc .vmem S6912x256 .bf16
  harg5 : arg5.IsWhole
  arg6 : Memref sig .tc .vmem S768x768 .bf16
  harg6 : arg6.IsWhole
  arg7 : Memref sig .tc .vmem S1x6912 .f32
  harg7 : arg7.IsWhole
  arg8 : Memref sig .tc .vmem S1x2560 .f32
  harg8 : arg8.IsWhole
  arg9 : Memref sig .tc .vmem S1x2560 .f32
  harg9 : arg9.IsWhole
  arg10 : Memref sig .tc .vmem S768x768 .bf16
  harg10 : arg10.IsWhole
  arg11 : Memref sig .tc .vmem S768x2560 .i8
  harg11 : arg11.IsWhole
  arg12 : Memref sig .tc .vmem S24x1x768 .f32
  harg12 : arg12.IsWhole
  arg13 : Memref sig .tc .vmem S24x1x768 .f32
  harg13 : arg13.IsWhole
  arg14 : Memref sig .tc .vmem S1x2560 .f32
  harg14 : arg14.IsWhole
  arg15 : Memref sig .tc .vmem S1x2560 .f32
  harg15 : arg15.IsWhole
  arg16 : Memref sig .tc .vmem S1x2560 .f32
  harg16 : arg16.IsWhole
  arg17 : Memref sig .tc .vmem S8x6912 .f32
  harg17 : arg17.IsWhole
  arg18 : Memref sig .tc .vmem S768x2560 .bf16
  harg18 : arg18.IsWhole
  arg19 : Memref sig .tc .vmem S768x6912 .bf16
  harg19 : arg19.IsWhole
  arg20 : Memref sig .tc .vmem S768x6912 .bf16
  harg20 : arg20.IsWhole
  arg21 : Memref sig .tc .vmem S768x256 .f32
  harg21 : arg21.IsWhole
  arg22 : Memref sig .tc .vmem S768x128 .f32
  harg22 : arg22.IsWhole
  arg23 : Memref sig .tc .vmem S8x2560 .f32
  harg23 : arg23.IsWhole
  arg24 : Memref sig .tc .vmem S8x2560 .f32
  harg24 : arg24.IsWhole
  arg25 : Memref sig .tc .vmem S8x2560 .f32
  harg25 : arg25.IsWhole

/-- The body's buffers held: the inputs' at `a`, the outputs' and the scratches at `b`. -/
def Held (c : Dev nD) (A : Args) (a : In F) (b : St F) : sProp 𝕄 :=
  iprop(owns (c : Thread nD τ) A.arg2 fullShare a.x ∗ owns (c : Thread nD τ) A.arg3 fullShare a.wa ∗ owns (c : Thread nD τ) A.arg4 fullShare a.wb ∗ owns (c : Thread nD τ) A.arg5 fullShare a.wm ∗ owns (c : Thread nD τ) A.arg6 fullShare a.yt ∗ owns (c : Thread nD τ) A.arg7 fullShare a.bt ∗ owns (c : Thread nD τ) A.arg8 fullShare a.s ∗ owns (c : Thread nD τ) A.arg9 fullShare a.delta ∗ owns (c : Thread nD τ) A.arg10 fullShare b.y ∗ owns (c : Thread nD τ) A.arg11 fullShare b.codes ∗ owns (c : Thread nD τ) A.arg12 fullShare b.scales ∗ owns (c : Thread nD τ) A.arg13 fullShare b.loss ∗ owns (c : Thread nD τ) A.arg14 fullShare b.ds ∗ owns (c : Thread nD τ) A.arg15 fullShare b.dd ∗ owns (c : Thread nD τ) A.arg16 fullShare b.dsw ∗ owns (c : Thread nD τ) A.arg17 fullShare b.gb ∗ owns (c : Thread nD τ) A.arg18 fullShare b.xq ∗ owns (c : Thread nD τ) A.arg19 fullShare b.g ∗ owns (c : Thread nD τ) A.arg20 fullShare b.gx ∗ owns (c : Thread nD τ) A.arg21 fullShare b.sc ∗ owns (c : Thread nD τ) A.arg22 fullShare b.sq ∗ owns (c : Thread nD τ) A.arg23 fullShare b.s1 ∗ owns (c : Thread nD τ) A.arg24 fullShare b.s2 ∗ owns (c : Thread nD τ) A.arg25 fullShare b.s3)

end Cert.Kernel.Gen

end
-- ==== Proof.K.Parts.lean ====
/- The kernel body cut into its six conditional parts, in continuation style. -/
module

public import proofs.«01_k».proof.Proof.K.Base

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The part of the body at the first point: four accumulators are filled with zeros. Then `k`. -/
def reg1 (A : Args) (i : grid0.Coords) (k0_h1 : k0_cond1 i = 1#1) (k : PUnit → Prog (TpuEff nD τ sig (Elt F) Λ₀ .tc) PUnit) : Prog (TpuEff nD τ sig (Elt F) Λ₀ .tc) PUnit := do
    let v23 : Vec F S8x6912 .f32 ← Prog.lift (.load A.arg17 (Rect.unit (s := S8x6912) ![0, 0] S8x6912.size inb_S8x6912_S8x6912_0_0).toLoadRect (View.loadsAt_vmem h_S8x6912))
    Prog.lift (.store A.arg17 (Rect.unit (s := S8x6912) ![0, 0] S8x6912.size inb_S8x6912_S8x6912_0_0) (k0_pay1 (F := F)) Finset.univ (View.stores_vmem_bits_univ h_S8x6912 rfl) (.inl rfl))
    let v25 : Vec F S8x2560 .f32 ← Prog.lift (.load A.arg23 (Rect.unit (s := S8x2560) ![0, 0] S8x2560.size inb_S8x2560_S8x2560_0_0).toLoadRect (View.loadsAt_vmem h_S8x2560))
    Prog.lift (.store A.arg23 (Rect.unit (s := S8x2560) ![0, 0] S8x2560.size inb_S8x2560_S8x2560_0_0) (k0_pay2 (F := F)) Finset.univ (View.stores_vmem_bits_univ h_S8x2560 rfl) (.inl rfl))
    let v29 : Vec F S8x2560 .f32 ← Prog.lift (.load A.arg24 (Rect.unit (s := S8x2560) ![0, 0] S8x2560.size inb_S8x2560_S8x2560_0_0).toLoadRect (View.loadsAt_vmem h_S8x2560))
    Prog.lift (.store A.arg24 (Rect.unit (s := S8x2560) ![0, 0] S8x2560.size inb_S8x2560_S8x2560_0_0) (k0_pay3 (F := F)) Finset.univ (View.stores_vmem_bits_univ h_S8x2560 rfl) (.inl rfl))
    let v33 : Vec F S8x2560 .f32 ← Prog.lift (.load A.arg25 (Rect.unit (s := S8x2560) ![0, 0] S8x2560.size inb_S8x2560_S8x2560_0_0).toLoadRect (View.loadsAt_vmem h_S8x2560))
    Prog.lift (.store A.arg25 (Rect.unit (s := S8x2560) ![0, 0] S8x2560.size inb_S8x2560_S8x2560_0_0) (k0_pay4 (F := F)) Finset.univ (View.stores_vmem_bits_univ h_S8x2560 rfl) (.inl rfl))
    k ⟨⟩

/-- The part of the body at the first point of a token block, first half: the block is quantised, 32 tokens a trip. Then `k`. -/
def reg2a (A : Args) (i : grid0.Coords) (k0_h2 : k0_cond2 i = 1#1) (k : PUnit → Prog (TpuEff nD τ sig (Elt F) Λ₀ .tc) PUnit) : Prog (TpuEff nD τ sig (Elt F) Λ₀ .tc) PUnit :=
  let arg0 : BitVec 32 := BitVec.ofNat 32 (i 0).val
  do
    let v23 : Vec F S768x128 .f32 ← Prog.lift (.load A.arg22 (Rect.unit (s := S768x128) ![0, 0] S768x128.size inb_S768x128_S768x128_0_0).toLoadRect (View.loadsAt_vmem h_S768x128))
    Prog.lift (.store A.arg22 (Rect.unit (s := S768x128) ![0, 0] S768x128.size inb_S768x128_S768x128_0_0) (k0_pay29 (F := F)) Finset.univ (View.stores_vmem_bits_univ h_S768x128 rfl) (.inl rfl))
    Scf.Loop.for k0_t1_loop (k0_t1_ok i k0_h2) ⟨⟩ (k0_t1_body i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 arg0 k0_h2)
    k ⟨⟩

/-- Its second half: the scales are written as a row, 128 at a time. Then `k`. -/
def reg2b (A : Args) (i : grid0.Coords) (k0_h2 : k0_cond2 i = 1#1) (k : PUnit → Prog (TpuEff nD τ sig (Elt F) Λ₀ .tc) PUnit) : Prog (TpuEff nD τ sig (Elt F) Λ₀ .tc) PUnit := do
    let v27 : Vec F S128x128 .f32 ← Prog.lift (.load A.arg21 (Rect.unit (s := S768x256) ![0, 0] S128x128.size inb_S768x256_S128x128_0_0).toLoadRect (View.loadsAt_vmem h_S128x128))
    let v31 : Vec F S1x1x128 .f32 ← Prog.lift (.load A.arg12 (Rect.unit (s := S24x1x768) (k0_off3 i) S1x1x128.size (k0_off3_inb i k0_h2)).toLoadRect (View.loadsAt_vmem h_S1x1x128))
    Prog.lift (.store A.arg12 (Rect.unit (s := S24x1x768) (k0_off3 i) S1x1x128.size (k0_off3_inb i k0_h2)) (k0_pay31 v27) Finset.univ (View.stores_vmem_bits_univ h_S1x1x128 rfl) (.inl rfl))
    let v34 : Vec F S128x128 .f32 ← Prog.lift (.load A.arg21 (Rect.unit (s := S768x256) ![128, 0] S128x128.size inb_S768x256_S128x128_128_0).toLoadRect (View.loadsAt_vmem h_S128x128))
    let v38 : Vec F S1x1x128 .f32 ← Prog.lift (.load A.arg12 (Rect.unit (s := S24x1x768) (k0_off4 i) S1x1x128.size (k0_off4_inb i k0_h2)).toLoadRect (View.loadsAt_vmem h_S1x1x128))
    Prog.lift (.store A.arg12 (Rect.unit (s := S24x1x768) (k0_off4 i) S1x1x128.size (k0_off4_inb i k0_h2)) (k0_pay32 v34) Finset.univ (View.stores_vmem_bits_univ h_S1x1x128 rfl) (.inl rfl))
    let v41 : Vec F S128x128 .f32 ← Prog.lift (.load A.arg21 (Rect.unit (s := S768x256) ![256, 0] S128x128.size inb_S768x256_S128x128_256_0).toLoadRect (View.loadsAt_vmem h_S128x128))
    let v45 : Vec F S1x1x128 .f32 ← Prog.lift (.load A.arg12 (Rect.unit (s := S24x1x768) (k0_off5 i) S1x1x128.size (k0_off5_inb i k0_h2)).toLoadRect (View.loadsAt_vmem h_S1x1x128))
    Prog.lift (.store A.arg12 (Rect.unit (s := S24x1x768) (k0_off5 i) S1x1x128.size (k0_off5_inb i k0_h2)) (k0_pay33 v41) Finset.univ (View.stores_vmem_bits_univ h_S1x1x128 rfl) (.inl rfl))
    let v48 : Vec F S128x128 .f32 ← Prog.lift (.load A.arg21 (Rect.unit (s := S768x256) ![384, 0] S128x128.size inb_S768x256_S128x128_384_0).toLoadRect (View.loadsAt_vmem h_S128x128))
    let v52 : Vec F S1x1x128 .f32 ← Prog.lift (.load A.arg12 (Rect.unit (s := S24x1x768) (k0_off6 i) S1x1x128.size (k0_off6_inb i k0_h2)).toLoadRect (View.loadsAt_vmem h_S1x1x128))
    Prog.lift (.store A.arg12 (Rect.unit (s := S24x1x768) (k0_off6 i) S1x1x128.size (k0_off6_inb i k0_h2)) (k0_pay5 (k0_pay34 v48)) Finset.univ (View.stores_vmem_bits_univ h_S1x1x128 rfl) (.inl rfl))
    let v55 : Vec F S128x128 .f32 ← Prog.lift (.load A.arg21 (Rect.unit (s := S768x256) ![512, 0] S128x128.size inb_S768x256_S128x128_512_0).toLoadRect (View.loadsAt_vmem h_S128x128))
    let v59 : Vec F S1x1x128 .f32 ← Prog.lift (.load A.arg12 (Rect.unit (s := S24x1x768) (k0_off7 i) S1x1x128.size (k0_off7_inb i k0_h2)).toLoadRect (View.loadsAt_vmem h_S1x1x128))
    Prog.lift (.store A.arg12 (Rect.unit (s := S24x1x768) (k0_off7 i) S1x1x128.size (k0_off7_inb i k0_h2)) (k0_pay6 v55) Finset.univ (View.stores_vmem_bits_univ h_S1x1x128 rfl) (.inl rfl))
    let v62 : Vec F S128x128 .f32 ← Prog.lift (.load A.arg21 (Rect.unit (s := S768x256) ![640, 0] S128x128.size inb_S768x256_S128x128_640_0).toLoadRect (View.loadsAt_vmem h_S128x128))
    let v66 : Vec F S1x1x128 .f32 ← Prog.lift (.load A.arg12 (Rect.unit (s := S24x1x768) (k0_off8 i) S1x1x128.size (k0_off8_inb i k0_h2)).toLoadRect (View.loadsAt_vmem h_S1x1x128))
    Prog.lift (.store A.arg12 (Rect.unit (s := S24x1x768) (k0_off8 i) S1x1x128.size (k0_off8_inb i k0_h2)) (k0_pay7 v62) Finset.univ (View.stores_vmem_bits_univ h_S1x1x128 rfl) (.inl rfl))
    k ⟨⟩

/-- The part of the body at the forward pass: three tiles of 256 outputs. Then `k`. -/
def reg3 (A : Args) (i : grid0.Coords) (k0_h3 : k0_cond3 i = 1#1) (k : PUnit → Prog (TpuEff nD τ sig (Elt F) Λ₀ .tc) PUnit) : Prog (TpuEff nD τ sig (Elt F) Λ₀ .tc) PUnit :=
  let arg0 : BitVec 32 := BitVec.ofNat 32 (i 0).val
  let arg1 : BitVec 32 := BitVec.ofNat 32 (i 1).val
  do
    let ⟨v28, v50, v56⟩ : Σ' (v28 : BitVec 32) (v50 : FVec F S768x256 .bf16), FVec F S768x256 .bf16 ← k0_part3 i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 arg1 k0_h3
    let ⟨v73, v76, v86, v92, v93⟩ : Σ' (v73 : Vec F S768x256 .f32) (v76 : BitVec 32) (v86 : FVec F S768x256 .f32) (v92 : FVec F S768x128 .f32), Vec F S768x128 .f32 ← k0_part4 i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 arg1 k0_h3 v28 v50 v56
    let ⟨v121, v124, v129, v130⟩ : Σ' (v121 : Vec F S768x256 .f32) (v124 : BitVec 32) (v129 : FVec F S768x256 .f32), FVec F S768x256 .bf16 ← k0_part5 i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 arg1 k0_h3 v73 v76 v86 v92 v93
    Prog.lift (.store A.arg10 (Rect.unit (s := S768x768) ![0, 512] S768x256.size inb_S768x768_S768x256_0_512) v130 Finset.univ (View.stores_vmem h_S768x256 (A.harg10.storeExact_slice rfl _ packedbf16_S768x768_S768x256_0_512) (fun _ => rfl)) (.inl rfl))
    let v132 : Vec F S768x256 .bf16 ← Prog.lift (.load A.arg6 (Rect.unit (s := S768x768) ![0, 512] S768x256.size inb_S768x768_S768x256_0_512).toLoadRect (View.loadsAt_vmem h_S768x256))
    let v136 : Vec F S768x128 .f32 ← Prog.lift (.load A.arg22 (Rect.unit (s := S768x128) ![0, 0] S768x128.size inb_S768x128_S768x128_0_0).toLoadRect (View.loadsAt_vmem h_S768x128))
    let v141 : Vec F S768x128 .f32 ← Prog.lift (.load A.arg22 (Rect.unit (s := S768x128) ![0, 0] S768x128.size inb_S768x128_S768x128_0_0).toLoadRect (View.loadsAt_vmem h_S768x128))
    Prog.lift (.store A.arg22 (Rect.unit (s := S768x128) ![0, 0] S768x128.size inb_S768x128_S768x128_0_0) (k0_pay9 v129 v132 v136) Finset.univ (View.stores_vmem_bits_univ h_S768x128 rfl) (.inl rfl))
    let v148 : Vec F S768x256 .bf16 ← Prog.lift (.load A.arg19 (Rect.unit (s := S768x6912) (k0_off10 i 512#32) S768x256.size (k0_off10_inb i k0_h3 2)).toLoadRect (View.loadsAt_vmem h_S768x256))
    Prog.lift (.store A.arg19 (Rect.unit (s := S768x6912) (k0_off10 i 512#32) S768x256.size (k0_off10_inb i k0_h3 2)) (k0_pay12 v129 v132) Finset.univ (View.stores_vmem h_S768x256 (A.harg19.storeExact_slice rfl _ (k0_off10_packedbf16 i k0_h3 2)) (fun _ => rfl)) (.inl rfl))
    let v154 : Vec F S768x256 .bf16 ← Prog.lift (.load A.arg20 (Rect.unit (s := S768x6912) (k0_off10 i 512#32) S768x256.size (k0_off10_inb i k0_h3 2)).toLoadRect (View.loadsAt_vmem h_S768x256))
    Prog.lift (.store A.arg20 (Rect.unit (s := S768x6912) (k0_off10 i 512#32) S768x256.size (k0_off10_inb i k0_h3 2)) (k0_pay13 v121 v129 v132) Finset.univ (View.stores_vmem h_S768x256 (A.harg20.storeExact_slice rfl _ (k0_off10_packedbf16 i k0_h3 2)) (fun _ => rfl)) (.inl rfl))
    let v158 : Vec F S8x256 .f32 ← Prog.lift (.load A.arg17 (Rect.unit (s := S8x6912) (k0_off11 i 512#32) S8x256.size (k0_off11_inb i k0_h3 2)).toLoadRect (View.loadsAt_vmem h_S8x256))
    let v165 : Vec F S8x256 .f32 ← Prog.lift (.load A.arg17 (Rect.unit (s := S8x6912) (k0_off11 i 512#32) S8x256.size (k0_off11_inb i k0_h3 2)).toLoadRect (View.loadsAt_vmem h_S8x256))
    Prog.lift (.store A.arg17 (Rect.unit (s := S8x6912) (k0_off11 i 512#32) S8x256.size (k0_off11_inb i k0_h3 2)) (k0_pay14 v129 v132 v158) Finset.univ (View.stores_vmem_bits_univ h_S8x256 rfl) (.inl rfl))
    k ⟨⟩

/-- The part of the body at the losses of the token block. Then `k`. -/
def reg4 (A : Args) (i : grid0.Coords) (k0_h4 : k0_cond4 i = 1#1) (k : PUnit → Prog (TpuEff nD τ sig (Elt F) Λ₀ .tc) PUnit) : Prog (TpuEff nD τ sig (Elt F) Λ₀ .tc) PUnit :=
  let arg0 : BitVec 32 := BitVec.ofNat 32 (i 0).val
  let arg1 : BitVec 32 := BitVec.ofNat 32 (i 1).val
  do
    let ⟨v55, v56⟩ : Σ' (v55 : FVec F S1x128 .f32), FVec F S1x128 .f32 ← k0_part6 i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 arg0 k0_h4
    let v59 : Vec F S1x1x128 .f32 ← Prog.lift (.load A.arg13 (Rect.unit (s := S24x1x768) (k0_off15 i) S1x1x128.size (k0_off15_inb i k0_h4)).toLoadRect (View.loadsAt_vmem h_S1x1x128))
    Prog.lift (.store A.arg13 (Rect.unit (s := S24x1x768) (k0_off15 i) S1x1x128.size (k0_off15_inb i k0_h4)) (k0_pay15 v55 v56) Finset.univ (View.stores_vmem_bits_univ h_S1x1x128 rfl) (.inl rfl))
    let v62 : Vec F S128x128 .f32 ← Prog.lift (.load A.arg22 (Rect.unit (s := S768x128) ![512, 0] S128x128.size inb_S768x128_S128x128_512_0).toLoadRect (View.loadsAt_vmem h_S128x128))
    let v69 : Vec F S1x1x128 .f32 ← Prog.lift (.load A.arg13 (Rect.unit (s := S24x1x768) (k0_off16 i) S1x1x128.size (k0_off16_inb i k0_h4)).toLoadRect (View.loadsAt_vmem h_S1x1x128))
    Prog.lift (.store A.arg13 (Rect.unit (s := S24x1x768) (k0_off16 i) S1x1x128.size (k0_off16_inb i k0_h4)) (k0_pay16 v62) Finset.univ (View.stores_vmem_bits_univ h_S1x1x128 rfl) (.inl rfl))
    let v72 : Vec F S128x128 .f32 ← Prog.lift (.load A.arg22 (Rect.unit (s := S768x128) ![640, 0] S128x128.size inb_S768x128_S128x128_640_0).toLoadRect (View.loadsAt_vmem h_S128x128))
    let v79 : Vec F S1x1x128 .f32 ← Prog.lift (.load A.arg13 (Rect.unit (s := S24x1x768) (k0_off17 i) S1x1x128.size (k0_off17_inb i k0_h4)).toLoadRect (View.loadsAt_vmem h_S1x1x128))
    Prog.lift (.store A.arg13 (Rect.unit (s := S24x1x768) (k0_off17 i) S1x1x128.size (k0_off17_inb i k0_h4)) (k0_pay17 v72) Finset.univ (View.stores_vmem_bits_univ h_S1x1x128 rfl) (.inl rfl))
    k ⟨⟩

/-- The part of the body at the backward pass: one tile of 256 inputs. Then `k`. -/
def reg5 (A : Args) (i : grid0.Coords) (k0_h5 : k0_cond5 i = 1#1) (k : PUnit → Prog (TpuEff nD τ sig (Elt F) Λ₀ .tc) PUnit) : Prog (TpuEff nD τ sig (Elt F) Λ₀ .tc) PUnit :=
  let arg0 : BitVec 32 := BitVec.ofNat 32 (i 0).val
  let arg1 : BitVec 32 := BitVec.ofNat 32 (i 1).val
  do
    let ⟨v24, v60⟩ : Σ' (v24 : BitVec 32), FVec F S8x256 .f32 ← k0_part7 i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 arg1 k0_h5
    let v62 : Vec F S8x256 .f32 ← Prog.lift (.load A.arg24 (Rect.unit (s := S8x2560) (k0_off20 i) S8x256.size (k0_off20_inb i k0_h5)).toLoadRect (View.loadsAt_vmem h_S8x256))
    Prog.lift (.store A.arg24 (Rect.unit (s := S8x2560) (k0_off20 i) S8x256.size (k0_off20_inb i k0_h5)) (k0_pay18 v60) Finset.univ (View.stores_vmem_bits_univ h_S8x256 rfl) (.inl rfl))
    let v65 : Vec F S768x6912 .bf16 ← Prog.lift (.load A.arg20 (Rect.unit (s := S768x6912) ![0, 0] S768x6912.size inb_S768x6912_S768x6912_0_0).toLoadRect (View.loadsAt_vmem h_S768x6912))
    let v66 : Vec F S6912x256 .bf16 ← Prog.lift (.load A.arg5 (Rect.unit (s := S6912x256) ![0, 0] S6912x256.size inb_S6912x256_S6912x256_0_0).toLoadRect (View.loadsAt_vmem h_S6912x256))
    let v69 : Vec F S8x256 .f32 ← Prog.lift (.load A.arg25 (Rect.unit (s := S8x2560) (k0_off20 i) S8x256.size (k0_off20_inb i k0_h5)).toLoadRect (View.loadsAt_vmem h_S8x256))
    let v71 : Vec F S768x256 .bf16 ← Prog.lift (.load A.arg18 (Rect.unit (s := S768x2560) (k0_off18 i) S768x256.size (k0_off18_inb i k0_h5)).toLoadRect (View.loadsAt_vmem h_S768x256))
    let v78 : Vec F S8x256 .f32 ← Prog.lift (.load A.arg25 (Rect.unit (s := S8x2560) (k0_off20 i) S8x256.size (k0_off20_inb i k0_h5)).toLoadRect (View.loadsAt_vmem h_S8x256))
    Prog.lift (.store A.arg25 (Rect.unit (s := S8x2560) (k0_off20 i) S8x256.size (k0_off20_inb i k0_h5)) (k0_pay19 v65 v66 v69 v71) Finset.univ (View.stores_vmem_bits_univ h_S8x256 rfl) (.inl rfl))
    k ⟨⟩

/-- The part of the body at the last point: the three finished gradients. Then `k`. -/
def reg6 (A : Args) (i : grid0.Coords) (k0_h6 : k0_cond6 i = 1#1) (k : PUnit → Prog (TpuEff nD τ sig (Elt F) Λ₀ .tc) PUnit) : Prog (TpuEff nD τ sig (Elt F) Λ₀ .tc) PUnit := do
    let v22 : Vec F S8x2560 .f32 ← Prog.lift (.load A.arg25 (Rect.unit (s := S8x2560) ![0, 0] S8x2560.size inb_S8x2560_S8x2560_0_0).toLoadRect (View.loadsAt_vmem h_S8x2560))
    let v25 : Vec F S8x2560 .f32 ← Prog.lift (.load A.arg23 (Rect.unit (s := S8x2560) ![0, 0] S8x2560.size inb_S8x2560_S8x2560_0_0).toLoadRect (View.loadsAt_vmem h_S8x2560))
    let v30 : Vec F S1x2560 .f32 ← Prog.lift (.load A.arg8 (Rect.unit (s := S1x2560) ![0, 0] S1x2560.size inb_S1x2560_S1x2560_0_0).toLoadRect (View.loadsAt_vmem h_S1x2560))
    let v33 : Vec F S1x2560 .f32 ← Prog.lift (.load A.arg14 (Rect.unit (s := S1x2560) ![0, 0] S1x2560.size inb_S1x2560_S1x2560_0_0).toLoadRect (View.loadsAt_vmem h_S1x2560))
    Prog.lift (.store A.arg14 (Rect.unit (s := S1x2560) ![0, 0] S1x2560.size inb_S1x2560_S1x2560_0_0) (k0_pay21 v22 v25 v30) Finset.univ (View.stores_vmem_bits_univ h_S1x2560 rfl) (.inl rfl))
    let v34 : Vec F S8x2560 .f32 ← Prog.lift (.load A.arg24 (Rect.unit (s := S8x2560) ![0, 0] S8x2560.size inb_S8x2560_S8x2560_0_0).toLoadRect (View.loadsAt_vmem h_S8x2560))
    let v39 : Vec F S1x2560 .f32 ← Prog.lift (.load A.arg8 (Rect.unit (s := S1x2560) ![0, 0] S1x2560.size inb_S1x2560_S1x2560_0_0).toLoadRect (View.loadsAt_vmem h_S1x2560))
    let v41 : Vec F S1x2560 .f32 ← Prog.lift (.load A.arg15 (Rect.unit (s := S1x2560) ![0, 0] S1x2560.size inb_S1x2560_S1x2560_0_0).toLoadRect (View.loadsAt_vmem h_S1x2560))
    Prog.lift (.store A.arg15 (Rect.unit (s := S1x2560) ![0, 0] S1x2560.size inb_S1x2560_S1x2560_0_0) (k0_pay22 v34 v39) Finset.univ (View.stores_vmem_bits_univ h_S1x2560 rfl) (.inl rfl))
    let v42 : Vec F S1x2560 .f32 ← Prog.lift (.load A.arg16 (Rect.unit (s := S1x2560) ![0, 0] S1x2560.size inb_S1x2560_S1x2560_0_0).toLoadRect (View.loadsAt_vmem h_S1x2560))
    Prog.lift (.store A.arg16 (Rect.unit (s := S1x2560) ![0, 0] S1x2560.size inb_S1x2560_S1x2560_0_0) (k0_pay20 v22) Finset.univ (View.stores_vmem_bits_univ h_S1x2560 rfl) (.inl rfl))
    k ⟨⟩

/-- The body from its part 6 on. -/
def tail6 (A : Args) (i : grid0.Coords) : Prog (TpuEff nD τ sig (Elt F) Λ₀ .tc) PUnit :=
  if h : k0_cond6 i = 1#1 then reg6 A i h pure else pure ⟨⟩

/-- The body from its part 5 on. -/
def tail5 (A : Args) (i : grid0.Coords) : Prog (TpuEff nD τ sig (Elt F) Λ₀ .tc) PUnit :=
  if h : k0_cond5 i = 1#1 then reg5 A i h (fun _ : PUnit.{1} => tail6 A i) else tail6 A i

/-- The body from its part 4 on. -/
def tail4 (A : Args) (i : grid0.Coords) : Prog (TpuEff nD τ sig (Elt F) Λ₀ .tc) PUnit :=
  if h : k0_cond4 i = 1#1 then reg4 A i h (fun _ : PUnit.{1} => tail5 A i) else tail5 A i

/-- The body from its part 3 on. -/
def tail3 (A : Args) (i : grid0.Coords) : Prog (TpuEff nD τ sig (Elt F) Λ₀ .tc) PUnit :=
  if h : k0_cond3 i = 1#1 then reg3 A i h (fun _ : PUnit.{1} => tail4 A i) else tail4 A i

/-- The body from its part 2 on. -/
def tail2 (A : Args) (i : grid0.Coords) : Prog (TpuEff nD τ sig (Elt F) Λ₀ .tc) PUnit :=
  if h : k0_cond2 i = 1#1 then reg2a A i h fun _ : PUnit.{1} => reg2b A i h (fun _ : PUnit.{1} => tail3 A i) else tail3 A i

/-- The body from its part 1 on. -/
def tail1 (A : Args) (i : grid0.Coords) : Prog (TpuEff nD τ sig (Elt F) Λ₀ .tc) PUnit :=
  if h : k0_cond1 i = 1#1 then reg1 A i h (fun _ : PUnit.{1} => tail2 A i) else tail2 A i

/-- The second part, as the body states it (its loop inside a function of its own), is its two halves. -/
theorem reg2_eq (A : Args) (i : grid0.Coords) (k0_h2 : k0_cond2 i = 1#1) (k : PUnit → Prog (TpuEff nD τ sig (Elt F) Λ₀ .tc) PUnit) :
    (do
    let v50 : FVec F S1x128 .f32 ← k0_part2 i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 (BitVec.ofNat 32 (i 0).val) k0_h2
    Prog.lift (.store A.arg12 (Rect.unit (s := S24x1x768) (k0_off6 i) S1x1x128.size (k0_off6_inb i k0_h2)) (k0_pay5 v50) Finset.univ (View.stores_vmem_bits_univ h_S1x1x128 rfl) (.inl rfl))
    let v55 : Vec F S128x128 .f32 ← Prog.lift (.load A.arg21 (Rect.unit (s := S768x256) ![512, 0] S128x128.size inb_S768x256_S128x128_512_0).toLoadRect (View.loadsAt_vmem h_S128x128))
    let v59 : Vec F S1x1x128 .f32 ← Prog.lift (.load A.arg12 (Rect.unit (s := S24x1x768) (k0_off7 i) S1x1x128.size (k0_off7_inb i k0_h2)).toLoadRect (View.loadsAt_vmem h_S1x1x128))
    Prog.lift (.store A.arg12 (Rect.unit (s := S24x1x768) (k0_off7 i) S1x1x128.size (k0_off7_inb i k0_h2)) (k0_pay6 v55) Finset.univ (View.stores_vmem_bits_univ h_S1x1x128 rfl) (.inl rfl))
    let v62 : Vec F S128x128 .f32 ← Prog.lift (.load A.arg21 (Rect.unit (s := S768x256) ![640, 0] S128x128.size inb_S768x256_S128x128_640_0).toLoadRect (View.loadsAt_vmem h_S128x128))
    let v66 : Vec F S1x1x128 .f32 ← Prog.lift (.load A.arg12 (Rect.unit (s := S24x1x768) (k0_off8 i) S1x1x128.size (k0_off8_inb i k0_h2)).toLoadRect (View.loadsAt_vmem h_S1x1x128))
    Prog.lift (.store A.arg12 (Rect.unit (s := S24x1x768) (k0_off8 i) S1x1x128.size (k0_off8_inb i k0_h2)) (k0_pay7 v62) Finset.univ (View.stores_vmem_bits_univ h_S1x1x128 rfl) (.inl rfl))
    k ⟨⟩) = reg2a A i k0_h2 fun _ : PUnit.{1} => reg2b A i k0_h2 k := by
  rw [k0_part2_eq_skeleton]
  unfold k0_part2_skel reg2a reg2b
  simp only [bind_assoc, pure_bind]

/-- The body is its six parts one after the other. -/
theorem cc0_eq_tail1 (A : Args) (i : grid0.Coords) :
    cc0_forward_backward (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 = tail1 A i := by
  rw [cc0_forward_backward_eq_skeleton]; unfold cc0_forward_backward_skel tail1 tail2
  simp only [← reg2_eq]
  rfl

end Cert.Kernel.Gen

end
-- ==== Proof.K.Run1.lean ====
/- The part of the body at the first point, run. -/
module

public import proofs.«01_k».proof.Proof.K.Parts
public import Idealize.ShloMosaic.Lib.Tactic.RunNames

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- Four accumulators filled with zeros. -/
def f1 (i : grid0.Coords) (a : In F) (b : St F) : St F :=
  { b with gb := k0_pay1, s1 := k0_pay2, s2 := k0_pay3, s3 := k0_pay4 }

/-- The first point: from all buffers at `b` to all buffers at `f1 i a b`. -/
theorem run1 (c : Dev nD) (A : Args) (i : grid0.Coords) (hc : k0_cond1 i = 1#1) (a : In F) (b : St F)
    (E : Set ℕ) (k : PUnit → Prog (TpuEff nD τ sig (Elt F) Λ₀ .tc) PUnit) (K : PUnit → sProp 𝕄) :
    iprop(Held c A a b ∗ (Held c A a (f1 i a b) -∗ wp frame (wpE (defs₀ (F := F)) Variants.none c none) E (k ⟨⟩) K))
      ⊢ wp frame (wpE (defs₀ (F := F)) Variants.none c none) E (reg1 A i hc k) K := by
  obtain ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25⟩ := A
  unfold Held reg1
  try dsimp only
  unfold owns
  iintro ⟨⟨H2, H3, H4, H5, H6, H7, H8, H9, H10, H11, H12, H13, H14, H15, H16, ⟨%f17, %h17, H17⟩, H18, H19, H20, H21, H22, ⟨%f23, %h23, H23⟩, ⟨%f24, %h24, H24⟩, ⟨%f25, %h25, H25⟩⟩, Hk⟩
  sl_exec (disch := first | sl_exact hc)
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · iexists _; isplitr; swap; · iexact H17
    ipureintro; sl_unfold_run_names; rw [View.read_writes_full]; first | rfl | (simp only [View.readAt_eq_ld, h17, h23, h24, h25]; rfl)
  isplitl [H18]; · iexact H18
  isplitl [H19]; · iexact H19
  isplitl [H20]; · iexact H20
  isplitl [H21]; · iexact H21
  isplitl [H22]; · iexact H22
  isplitl [H23]
  · iexists _; isplitr; swap; · iexact H23
    ipureintro; sl_unfold_run_names; rw [View.read_writes_full]; first | rfl | (simp only [View.readAt_eq_ld, h17, h23, h24, h25]; rfl)
  isplitl [H24]
  · iexists _; isplitr; swap; · iexact H24
    ipureintro; sl_unfold_run_names; rw [View.read_writes_full]; first | rfl | (simp only [View.readAt_eq_ld, h17, h23, h24, h25]; rfl)
  iexists _; isplitr; swap; · iexact H25
  ipureintro; sl_unfold_run_names; rw [View.read_writes_full]; first | rfl | (simp only [View.readAt_eq_ld, h17, h23, h24, h25]; rfl)

end Cert.Kernel.Gen

end
-- ==== Proof.K.Run2a.lean ====
/- The part of the body that quantises a token block, run. -/
module

public import proofs.«01_k».proof.Proof.K.Parts
public import Idealize.ShloMosaic.Lib.Tactic.RunNames
public import Idealize.ShloMosaic.Lib.Pipeline.ReadBack

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The trip of the quantising loop that treats row `r`. -/
def tripOf (r : Fin 768) : Fin k0_t1_loop.trips :=
  ⟨r.val / 32, by have h : k0_t1_loop.trips = 24 := by decide +kernel
                  rw [h]; have := r.isLt; omega⟩

theorem trips_eq : Scf.trips k0_t1_loop.lb k0_t1_loop.ub k0_t1_loop.st = 24 := by decide +kernel
theorem trips_eq' : k0_t1_loop.trips = 24 := by decide +kernel

theorem off1_inb (k : Fin k0_t1_loop.trips) : ∀ a, (k0_off1 k) a + S32x2560.size a ≤ S768x2560.size a := by
  have hk : k.val < 24 := trips_eq' ▸ k.isLt
  rw [k0_off1_eq]; intro a
  match a with
  | ⟨0, _⟩ => show 32 * k.val + 32 ≤ 768; omega
  | ⟨1, _⟩ => show 0 + 2560 ≤ 2560; omega

theorem off2_inb (k : Fin k0_t1_loop.trips) : ∀ a, (k0_off2 k) a + S32x256.size a ≤ S768x256.size a := by
  have hk : k.val < 24 := trips_eq' ▸ k.isLt
  rw [k0_off2_eq]; intro a
  match a with
  | ⟨0, _⟩ => show 32 * k.val + 32 ≤ 768; omega
  | ⟨1, _⟩ => show 0 + 256 ≤ 256; omega

theorem off1_mem (y : S768x2560.Idx) : ∀ a, (k0_off1 (tripOf (y 0))) a ≤ (y a).val ∧ (y a).val < (k0_off1 (tripOf (y 0))) a + S32x2560.size a := by
  rw [k0_off1_eq]; intro a
  match a with
  | ⟨0, _⟩ => show 32 * ((y 0).val / 32) ≤ (y 0).val ∧ (y 0).val < 32 * ((y 0).val / 32) + 32; omega
  | ⟨1, _⟩ => show 0 ≤ (y 1).val ∧ (y 1).val < 0 + 2560; have : (y 1).val < 2560 := (y 1).isLt; omega

theorem off2_mem (y : S768x256.Idx) : ∀ a, (k0_off2 (tripOf (y 0))) a ≤ (y a).val ∧ (y a).val < (k0_off2 (tripOf (y 0))) a + S32x256.size a := by
  rw [k0_off2_eq]; intro a
  match a with
  | ⟨0, _⟩ => show 32 * ((y 0).val / 32) ≤ (y 0).val ∧ (y 0).val < 32 * ((y 0).val / 32) + 32; omega
  | ⟨1, _⟩ => show 0 ≤ (y 1).val ∧ (y 1).val < 0 + 256; have : (y 1).val < 256 := (y 1).isLt; omega

/-- A block of 768 rows made of 24 blocks of 32 rows, `G k` the `k`-th. -/
def rows1 {α : Type} (G : Fin k0_t1_loop.trips → S32x2560.Idx → α) : S768x2560.Idx → α :=
  fun y => G (tripOf (y 0)) (Rect.unitLocal (s := S768x2560) (off := k0_off1 (tripOf (y 0))) (size := S32x2560.size) y (off1_mem y))

/-- The same at 256 columns. -/
def rows2 {α : Type} (G : Fin k0_t1_loop.trips → S32x256.Idx → α) : S768x256.Idx → α :=
  fun y => G (tripOf (y 0)) (Rect.unitLocal (s := S768x256) (off := k0_off2 (tripOf (y 0))) (size := S32x256.size) y (off2_mem y))

theorem rows1_emb {α : Type} (G : Fin k0_t1_loop.trips → S32x2560.Idx → α) (k : Fin k0_t1_loop.trips)
    (inb : ∀ a, (k0_off1 k) a + S32x2560.size a ≤ S768x2560.size a)
    (x : (Rect.unit (s := S768x2560) (k0_off1 k) S32x2560.size inb).shape.Idx) :
    G k x = rows1 G ((Rect.unit (s := S768x2560) (k0_off1 k) S32x2560.size inb).emb x) := by
  have key : ∀ (k' : Fin k0_t1_loop.trips) (h : k' = k) (y : S768x2560.Idx) (hy : y = (Rect.unit (s := S768x2560) (k0_off1 k) S32x2560.size inb).emb x)
      (hm : ∀ a, (k0_off1 k') a ≤ (y a).val ∧ (y a).val < (k0_off1 k') a + S32x2560.size a),
      G k x = G k' (Rect.unitLocal (s := S768x2560) (off := k0_off1 k') (size := S32x2560.size) y hm) := by
    intro k' h y hy hm; subst h; subst hy
    refine congrArg (G k') (funext fun a => Fin.ext ?_)
    show (x a).val = (k0_off1 k') a + 1 * (x a).val - (k0_off1 k') a
    omega
  refine key _ (Fin.ext ?_) _ rfl _
  show ((k0_off1 k) 0 + 1 * (x 0).val) / 32 = k.val
  have h0 : (k0_off1 k) 0 = 32 * k.val := congrFun (k0_off1_eq k) 0
  rw [h0]
  have : (x 0).val < 32 := (x 0).isLt
  omega

theorem rows2_emb {α : Type} (G : Fin k0_t1_loop.trips → S32x256.Idx → α) (k : Fin k0_t1_loop.trips)
    (inb : ∀ a, (k0_off2 k) a + S32x256.size a ≤ S768x256.size a)
    (x : (Rect.unit (s := S768x256) (k0_off2 k) S32x256.size inb).shape.Idx) :
    G k x = rows2 G ((Rect.unit (s := S768x256) (k0_off2 k) S32x256.size inb).emb x) := by
  have key : ∀ (k' : Fin k0_t1_loop.trips) (h : k' = k) (y : S768x256.Idx) (hy : y = (Rect.unit (s := S768x256) (k0_off2 k) S32x256.size inb).emb x)
      (hm : ∀ a, (k0_off2 k') a ≤ (y a).val ∧ (y a).val < (k0_off2 k') a + S32x256.size a),
      G k x = G k' (Rect.unitLocal (s := S768x256) (off := k0_off2 k') (size := S32x256.size) y hm) := by
    intro k' h y hy hm; subst h; subst hy
    refine congrArg (G k') (funext fun a => Fin.ext ?_)
    show (x a).val = (k0_off2 k') a + 1 * (x a).val - (k0_off2 k') a
    omega
  refine key _ (Fin.ext ?_) _ rfl _
  show ((k0_off2 k) 0 + 1 * (x 0).val) / 32 = k.val
  have h0 : (k0_off2 k) 0 = 32 * k.val := congrFun (k0_off2_eq k) 0
  rw [h0]
  have : (x 0).val < 32 := (x 0).isLt
  omega

/-- The 32 tokens of trip `k`. -/
abbrev xRows (x : Vec F S768x2560 .bf16) (k : Fin k0_t1_loop.trips) : Vec F S32x2560 .bf16 :=
  View.ld x (Rect.unit (s := S768x2560) (k0_off1 k) S32x2560.size (off1_inb k))
/-- A row vector, whole. -/
abbrev vRow (v : Vec F S1x2560 .f32) : Vec F S1x2560 .f32 :=
  View.ld v (Rect.unit (s := S1x2560) ![0, 0] S1x2560.size inb_S1x2560_S1x2560_0_0)

/-- The quantised block: as floats, -/
def qXq (a : In F) : Vec F S768x2560 .bf16 := rows1 fun k => k0_pay26 (xRows a.x k) (vRow a.delta) (vRow a.s)
/-- as integers, -/
def qCodes (a : In F) : Vec F S768x2560 .i8 := rows1 fun k => k0_pay27 (xRows a.x k) (vRow a.delta) (vRow a.s)
/-- and its scales, each along its row. -/
def qSc (a : In F) : Vec F S768x256 .f32 := rows2 fun k => k0_pay30 (k0_pay28 (xRows a.x k) (vRow a.delta) (vRow a.s))

/-- The token block quantised, the partial sums of squares at zero. -/
def f2a (i : grid0.Coords) (a : In F) (b : St F) : St F :=
  { b with xq := qXq a, codes := qCodes a, sc := qSc a, sq := k0_pay29 }

/-- The pieces the loop's trips before `k` wrote are blocks of the three whole results. -/
theorem pb_pieces (𝒱 : Variants) (c : Dev nD) (bd : Option 𝒱.V) (A : Args) (i : grid0.Coords) (arg0 : BitVec 32) (k0_h2 : k0_cond2 i = 1#1) (a : In F)
    (X2 : BufTy.Contents (Elt F) A.arg2.view.ty) (X8 : BufTy.Contents (Elt F) A.arg8.view.ty) (X9 : BufTy.Contents (Elt F) A.arg9.view.ty)
    (h2 : A.arg2.view.read (Elt F) X2 = a.x) (h8 : A.arg8.view.read (Elt F) X8 = a.s) (h9 : A.arg9.view.read (Elt F) X9 = a.delta) :
    ∀ k : ℕ, k ≤ k0_t1_loop.trips →
      View.PiecesOf (qCodes a) (pb_k0_t1 (F := F) 𝒱 c bd i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 arg0 k0_h2 X2 X8 X9 k).1
      ∧ View.PiecesOf (qXq a) (pb_k0_t1 (F := F) 𝒱 c bd i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 arg0 k0_h2 X2 X8 X9 k).2.1
      ∧ View.PiecesOf (qSc a) (pb_k0_t1 (F := F) 𝒱 c bd i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 arg0 k0_h2 X2 X8 X9 k).2.2
  | 0, _ => ⟨trivial, trivial, trivial⟩
  | k + 1, hk => by
    have ih := pb_pieces 𝒱 c bd A i arg0 k0_h2 a X2 X8 X9 h2 h8 h9 k (Nat.le_of_succ_le hk)
    rw [show k + 1 = (⟨k, hk⟩ : Fin k0_t1_loop.trips).val + 1 from rfl, pb_k0_t1_succ]
    unfold tripL_k0_t1 trip_k0_t1
    refine ⟨⟨fun x => ?_, ih.1⟩, ⟨fun x => ?_, ih.2.1⟩, ⟨fun x => ?_, ih.2.2⟩⟩
    · sl_unfold_run_names
      simp only [View.readAt_eq_ld, h2, h8, h9]
      exact rows1_emb (fun k => k0_pay27 (xRows a.x k) (vRow a.delta) (vRow a.s)) ⟨k, hk⟩ _ x
    · sl_unfold_run_names
      simp only [View.readAt_eq_ld, h2, h8, h9]
      exact rows1_emb (fun k => k0_pay26 (xRows a.x k) (vRow a.delta) (vRow a.s)) ⟨k, hk⟩ _ x
    · sl_unfold_run_names
      simp only [View.readAt_eq_ld, h2, h8, h9]
      exact rows2_emb (fun k => k0_pay30 (k0_pay28 (xRows a.x k) (vRow a.delta) (vRow a.s))) ⟨k, hk⟩ _ x

/-- Pieces that are blocks of `G` and cover the shape leave `G`. -/
theorem read_pieces {sig : RefSig} {κ : Kind} {sp : Space} {s : Shape} {e : EltTy} {Val : EltTy → Type} [∀ e, Nonempty (Val e)] (v : View sig κ sp s e)
    (f : v.ty.Contents Val) (G : s.Idx → Val e) (L : List (View.Piece Val s e)) (hp : View.PiecesOf G L) (hc : ∀ y, ∃ p ∈ L, y ∈ p.1.set) :
    v.read Val (v.writes Val f L) = G := by
  rw [View.read_writes_eq_canon v f L hc]
  funext y
  exact View.canon_apply_of_pieces G L hp.mem y (hc y)

/-- The quantising of a token block: from all buffers at `b` to all buffers at `f2a i a b`. -/
theorem run2a (c : Dev nD) (A : Args) (i : grid0.Coords) (hc : k0_cond2 i = 1#1) (a : In F) (b : St F)
    (E : Set ℕ) (k : PUnit → Prog (TpuEff nD τ sig (Elt F) Λ₀ .tc) PUnit) (K : PUnit → sProp 𝕄) :
    iprop(Held c A a b ∗ (Held c A a (f2a i a b) -∗ wp frame (wpE (defs₀ (F := F)) Variants.none c none) E (k ⟨⟩) K))
      ⊢ wp frame (wpE (defs₀ (F := F)) Variants.none c none) E (reg2a A i hc k) K := by
  obtain ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25⟩ := A
  unfold Held reg2a
  try dsimp only
  unfold owns
  iintro ⟨⟨⟨%f2, %h2, H2⟩, H3, H4, H5, H6, H7, ⟨%f8, %h8, H8⟩, ⟨%f9, %h9, H9⟩, H10, ⟨%f11, %h11, H11⟩, H12, H13, H14, H15, H16, H17, ⟨%f18, %h18, H18⟩, H19, H20, ⟨%f21, %h21, H21⟩, ⟨%f22, %h22, H22⟩, H23, H24, H25⟩, Hk⟩
  sl_exec (disch := first | sl_exact hc)
  iapply Hk
  isplitl [H2]
  · iexists _; isplitr; swap; · iexact H2
    ipureintro; exact h2
  isplitl [H3]; · iexact H3
  isplitl [H4]; · iexact H4
  isplitl [H5]; · iexact H5
  isplitl [H6]; · iexact H6
  isplitl [H7]; · iexact H7
  isplitl [H8]
  · iexists _; isplitr; swap; · iexact H8
    ipureintro; exact h8
  isplitl [H9]
  · iexists _; isplitr; swap; · iexact H9
    ipureintro; exact h9
  isplitl [H10]; · iexact H10
  isplitl [H11]
  · iexists _; isplitr; swap; · iexact H11
    ipureintro; rw [read_pieces (arg11.view) f11 (qCodes a) _ (by first | exact (pb_pieces _ c _ ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25⟩ i _ hc a f2 f8 f9 h2 h8 h9 _ le_rfl).1)
        (View.cover_of_tiledL _ S32x2560.size (by sl_kernel_rfl))]; rfl
  isplitl [H12]; · iexact H12
  isplitl [H13]; · iexact H13
  isplitl [H14]; · iexact H14
  isplitl [H15]; · iexact H15
  isplitl [H16]; · iexact H16
  isplitl [H17]; · iexact H17
  isplitl [H18]
  · iexists _; isplitr; swap; · iexact H18
    ipureintro; rw [read_pieces (arg18.view) f18 (qXq a) _ (by first | exact (pb_pieces _ c _ ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25⟩ i _ hc a f2 f8 f9 h2 h8 h9 _ le_rfl).2.1)
        (View.cover_of_tiledL _ S32x2560.size (by sl_kernel_rfl))]; rfl
  isplitl [H19]; · iexact H19
  isplitl [H20]; · iexact H20
  isplitl [H21]
  · iexists _; isplitr; swap; · iexact H21
    ipureintro; rw [read_pieces (arg21.view) f21 (qSc a) _ (by first | exact (pb_pieces _ c _ ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25⟩ i _ hc a f2 f8 f9 h2 h8 h9 _ le_rfl).2.2)
        (View.cover_of_tiledL _ S32x256.size (by sl_kernel_rfl))]; rfl
  isplitl [H22]
  · iexists _; isplitr; swap; · iexact H22
    ipureintro; sl_unfold_run_names; rw [View.read_writes_full]; rfl
  isplitl [H23]; · iexact H23
  isplitl [H24]; · iexact H24
  iexact H25

end Cert.Kernel.Gen

end
-- ==== Proof.K.Run2b.lean ====
/- The part of the body that writes the scales as a row, run. -/
module

public import proofs.«01_k».proof.Proof.K.Parts
public import Idealize.ShloMosaic.Lib.Tactic.RunNames

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The scales of the token block written: each segment of 128 tokens from its rows of the repeated scales. -/
def f2b (i : grid0.Coords) (a : In F) (b : St F) : St F :=
  { b with
    scales := VecWindow.put (VecWindow.put (VecWindow.put (VecWindow.put (VecWindow.put (VecWindow.put (b.scales)
      (k0_off3 i) S1x1x128.size (k0_pay31 (View.ld b.sc (Rect.unit (s := S768x256) ![0, 0] S128x128.size inb_S768x256_S128x128_0_0))))
      (k0_off4 i) S1x1x128.size (k0_pay32 (View.ld b.sc (Rect.unit (s := S768x256) ![128, 0] S128x128.size inb_S768x256_S128x128_128_0))))
      (k0_off5 i) S1x1x128.size (k0_pay33 (View.ld b.sc (Rect.unit (s := S768x256) ![256, 0] S128x128.size inb_S768x256_S128x128_256_0))))
      (k0_off6 i) S1x1x128.size (k0_pay5 (k0_pay34 (View.ld b.sc (Rect.unit (s := S768x256) ![384, 0] S128x128.size inb_S768x256_S128x128_384_0)))))
      (k0_off7 i) S1x1x128.size (k0_pay6 (View.ld b.sc (Rect.unit (s := S768x256) ![512, 0] S128x128.size inb_S768x256_S128x128_512_0))))
      (k0_off8 i) S1x1x128.size (k0_pay7 (View.ld b.sc (Rect.unit (s := S768x256) ![640, 0] S128x128.size inb_S768x256_S128x128_640_0))) }

/-- The scales of a token block: from all buffers at `b` to all buffers at `f2b i a b`. -/
theorem run2b (c : Dev nD) (A : Args) (i : grid0.Coords) (hc : k0_cond2 i = 1#1) (a : In F) (b : St F)
    (E : Set ℕ) (k : PUnit → Prog (TpuEff nD τ sig (Elt F) Λ₀ .tc) PUnit) (K : PUnit → sProp 𝕄) :
    iprop(Held c A a b ∗ (Held c A a (f2b i a b) -∗ wp frame (wpE (defs₀ (F := F)) Variants.none c none) E (k ⟨⟩) K))
      ⊢ wp frame (wpE (defs₀ (F := F)) Variants.none c none) E (reg2b A i hc k) K := by
  obtain ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25⟩ := A
  unfold Held reg2b
  try dsimp only
  unfold owns
  iintro ⟨⟨H2, H3, H4, H5, H6, H7, H8, H9, H10, H11, ⟨%f12, %h12, H12⟩, H13, H14, H15, H16, H17, H18, H19, H20, ⟨%f21, %h21, H21⟩, H22, H23, H24, H25⟩, Hk⟩
  sl_exec (disch := first | sl_exact hc)
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists _; isplitr; swap; · iexact H12
    ipureintro; sl_unfold_run_names; rw [View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.writes_nil, h12]; try simp only [View.readAt_eq_ld, h21, h12]; rfl
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]
  · iexists _; isplitr; swap; · iexact H21
    ipureintro; exact h21
  isplitl [H22]; · iexact H22
  isplitl [H23]; · iexact H23
  isplitl [H24]; · iexact H24
  iexact H25

end Cert.Kernel.Gen

end
-- ==== Proof.K.Run3.lean ====
/- The part of the body of the forward pass, run. -/
module

public import proofs.«01_k».proof.Proof.K.Parts
public import Idealize.ShloMosaic.Lib.Tactic.RunNames

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- A load of a whole buffer after a store of the whole buffer reads what was stored. -/
theorem readCov_whole {sig : RefSig} {κ : Kind} {sp : Space} {s : Shape} {e : EltTy} {Val : EltTy → Type} [∀ e, Nonempty (Val e)] (v : View sig κ sp s e)
    {off off' size : Fin s.rank → ℕ} (inb : ∀ a, off a + size a ≤ s.size a) (inb' : ∀ a, off' a + size a ≤ s.size a)
    (w : (Rect.unit off' size inb').shape.Idx → Val e) (L : List (View.Piece Val s e)) (hs : size = s.size) :
    v.readCov (⟨Rect.unit off' size inb', w⟩ :: L) (Rect.unit off size inb).toLoadRect = w := by
  subst hs; exact View.readCov_full v inb inb' w L

/-- The partial sums of squares after the first tile of the forward pass. -/
def sqA (i : grid0.Coords) (hc : k0_cond3 i = 1#1) (a : In F) (b : St F) : Vec F S768x128 .f32 :=
  k0_pay38 (View.ld b.xq (Rect.unit (s := S768x2560) ![0, 0] S768x2560.size inb_S768x2560_S768x2560_0_0)) (View.ld a.wa (Rect.unit (s := S768x2560) ![0, 0] S256x2560.size inb_S768x2560_S256x2560_0_0)) (View.ld b.sc (Rect.unit (s := S768x256) ![0, 0] S768x256.size inb_S768x256_S768x256_0_0)) (View.ld a.bt (Rect.unit (s := S1x6912) (k0_off9 i 0#32) S1x256.size (k0_off9_inb i hc 0))) (View.ld a.yt (Rect.unit (s := S768x768) ![0, 0] S768x256.size inb_S768x768_S768x256_0_0)) (View.ld b.sq (Rect.unit (s := S768x128) ![0, 0] S768x128.size inb_S768x128_S768x128_0_0))

/-- The partial sums of squares after the second tile of the forward pass. -/
def sqB (i : grid0.Coords) (hc : k0_cond3 i = 1#1) (a : In F) (b : St F) : Vec F S768x128 .f32 :=
  k0_pay49 (k0_pay48 (View.ld b.xq (Rect.unit (s := S768x2560) ![0, 0] S768x2560.size inb_S768x2560_S768x2560_0_0)) (View.ld a.wa (Rect.unit (s := S768x2560) ![256, 0] S256x2560.size inb_S768x2560_S256x2560_256_0)) (View.ld b.sc (Rect.unit (s := S768x256) ![0, 0] S768x256.size inb_S768x256_S768x256_0_0)) (View.ld a.bt (Rect.unit (s := S1x6912) (k0_off9 i 256#32) S1x256.size (k0_off9_inb i hc 1))) (View.ld a.yt (Rect.unit (s := S768x768) ![0, 256] S768x256.size inb_S768x768_S768x256_0_256)) (sqA i hc a b))

/-- The forward pass of one point: three tiles of 256 outputs. -/
def f3 (i : grid0.Coords) (hc : k0_cond3 i = 1#1) (a : In F) (b : St F) : St F :=
  { b with
    y := VecWindow.put (VecWindow.put (VecWindow.put (b.y)
      (![0, 0]) S768x256.size (k0_pay36 (View.ld b.xq (Rect.unit (s := S768x2560) ![0, 0] S768x2560.size inb_S768x2560_S768x2560_0_0)) (View.ld a.wa (Rect.unit (s := S768x2560) ![0, 0] S256x2560.size inb_S768x2560_S256x2560_0_0)) (View.ld b.sc (Rect.unit (s := S768x256) ![0, 0] S768x256.size inb_S768x256_S768x256_0_0)) (View.ld a.bt (Rect.unit (s := S1x6912) (k0_off9 i 0#32) S1x256.size (k0_off9_inb i hc 0)))))
      (![0, 256]) S768x256.size (k0_pay46 (View.ld b.xq (Rect.unit (s := S768x2560) ![0, 0] S768x2560.size inb_S768x2560_S768x2560_0_0)) (View.ld a.wa (Rect.unit (s := S768x2560) ![256, 0] S256x2560.size inb_S768x2560_S256x2560_256_0)) (View.ld b.sc (Rect.unit (s := S768x256) ![0, 0] S768x256.size inb_S768x256_S768x256_0_0)) (View.ld a.bt (Rect.unit (s := S1x6912) (k0_off9 i 256#32) S1x256.size (k0_off9_inb i hc 1)))))
      (![0, 512]) S768x256.size (k0_pay56 (View.ld b.xq (Rect.unit (s := S768x2560) ![0, 0] S768x2560.size inb_S768x2560_S768x2560_0_0)) (View.ld a.wa (Rect.unit (s := S768x2560) ![512, 0] S256x2560.size inb_S768x2560_S256x2560_512_0)) (View.ld b.sc (Rect.unit (s := S768x256) ![0, 0] S768x256.size inb_S768x256_S768x256_0_0)) (View.ld a.bt (Rect.unit (s := S1x6912) (k0_off9 i 512#32) S1x256.size (k0_off9_inb i hc 2))))
    sq := k0_pay9 (k0_pay55 (View.ld b.xq (Rect.unit (s := S768x2560) ![0, 0] S768x2560.size inb_S768x2560_S768x2560_0_0)) (View.ld a.wa (Rect.unit (s := S768x2560) ![512, 0] S256x2560.size inb_S768x2560_S256x2560_512_0)) (View.ld b.sc (Rect.unit (s := S768x256) ![0, 0] S768x256.size inb_S768x256_S768x256_0_0)) (View.ld a.bt (Rect.unit (s := S1x6912) (k0_off9 i 512#32) S1x256.size (k0_off9_inb i hc 2)))) (View.ld a.yt (Rect.unit (s := S768x768) ![0, 512] S768x256.size inb_S768x768_S768x256_0_512)) (sqB i hc a b)
    g := VecWindow.put (VecWindow.put (VecWindow.put (b.g)
      (k0_off10 i 0#32) S768x256.size (k0_pay41 (View.ld b.xq (Rect.unit (s := S768x2560) ![0, 0] S768x2560.size inb_S768x2560_S768x2560_0_0)) (View.ld a.wa (Rect.unit (s := S768x2560) ![0, 0] S256x2560.size inb_S768x2560_S256x2560_0_0)) (View.ld b.sc (Rect.unit (s := S768x256) ![0, 0] S768x256.size inb_S768x256_S768x256_0_0)) (View.ld a.bt (Rect.unit (s := S1x6912) (k0_off9 i 0#32) S1x256.size (k0_off9_inb i hc 0))) (View.ld a.yt (Rect.unit (s := S768x768) ![0, 0] S768x256.size inb_S768x768_S768x256_0_0))))
      (k0_off10 i 256#32) S768x256.size (k0_pay52 (k0_pay47 (View.ld b.xq (Rect.unit (s := S768x2560) ![0, 0] S768x2560.size inb_S768x2560_S768x2560_0_0)) (View.ld a.wa (Rect.unit (s := S768x2560) ![256, 0] S256x2560.size inb_S768x2560_S256x2560_256_0)) (View.ld b.sc (Rect.unit (s := S768x256) ![0, 0] S768x256.size inb_S768x256_S768x256_0_0)) (View.ld a.bt (Rect.unit (s := S1x6912) (k0_off9 i 256#32) S1x256.size (k0_off9_inb i hc 1))) (View.ld a.yt (Rect.unit (s := S768x768) ![0, 256] S768x256.size inb_S768x768_S768x256_0_256)))))
      (k0_off10 i 512#32) S768x256.size (k0_pay12 (k0_pay55 (View.ld b.xq (Rect.unit (s := S768x2560) ![0, 0] S768x2560.size inb_S768x2560_S768x2560_0_0)) (View.ld a.wa (Rect.unit (s := S768x2560) ![512, 0] S256x2560.size inb_S768x2560_S256x2560_512_0)) (View.ld b.sc (Rect.unit (s := S768x256) ![0, 0] S768x256.size inb_S768x256_S768x256_0_0)) (View.ld a.bt (Rect.unit (s := S1x6912) (k0_off9 i 512#32) S1x256.size (k0_off9_inb i hc 2)))) (View.ld a.yt (Rect.unit (s := S768x768) ![0, 512] S768x256.size inb_S768x768_S768x256_0_512)))
    gx := VecWindow.put (VecWindow.put (VecWindow.put (b.gx)
      (k0_off10 i 0#32) S768x256.size (k0_pay43 (k0_pay42 (View.ld b.xq (Rect.unit (s := S768x2560) ![0, 0] S768x2560.size inb_S768x2560_S768x2560_0_0)) (View.ld a.wa (Rect.unit (s := S768x2560) ![0, 0] S256x2560.size inb_S768x2560_S256x2560_0_0)) (View.ld b.sc (Rect.unit (s := S768x256) ![0, 0] S768x256.size inb_S768x256_S768x256_0_0)) (View.ld a.bt (Rect.unit (s := S1x6912) (k0_off9 i 0#32) S1x256.size (k0_off9_inb i hc 0))) (View.ld a.yt (Rect.unit (s := S768x768) ![0, 0] S768x256.size inb_S768x768_S768x256_0_0)))))
      (k0_off10 i 256#32) S768x256.size (k0_pay53 (View.ld b.sc (Rect.unit (s := S768x256) ![0, 0] S768x256.size inb_S768x256_S768x256_0_0)) (k0_pay47 (View.ld b.xq (Rect.unit (s := S768x2560) ![0, 0] S768x2560.size inb_S768x2560_S768x2560_0_0)) (View.ld a.wa (Rect.unit (s := S768x2560) ![256, 0] S256x2560.size inb_S768x2560_S256x2560_256_0)) (View.ld b.sc (Rect.unit (s := S768x256) ![0, 0] S768x256.size inb_S768x256_S768x256_0_0)) (View.ld a.bt (Rect.unit (s := S1x6912) (k0_off9 i 256#32) S1x256.size (k0_off9_inb i hc 1))) (View.ld a.yt (Rect.unit (s := S768x768) ![0, 256] S768x256.size inb_S768x768_S768x256_0_256)))))
      (k0_off10 i 512#32) S768x256.size (k0_pay13 (View.ld b.sc (Rect.unit (s := S768x256) ![0, 0] S768x256.size inb_S768x256_S768x256_0_0)) (k0_pay55 (View.ld b.xq (Rect.unit (s := S768x2560) ![0, 0] S768x2560.size inb_S768x2560_S768x2560_0_0)) (View.ld a.wa (Rect.unit (s := S768x2560) ![512, 0] S256x2560.size inb_S768x2560_S256x2560_512_0)) (View.ld b.sc (Rect.unit (s := S768x256) ![0, 0] S768x256.size inb_S768x256_S768x256_0_0)) (View.ld a.bt (Rect.unit (s := S1x6912) (k0_off9 i 512#32) S1x256.size (k0_off9_inb i hc 2)))) (View.ld a.yt (Rect.unit (s := S768x768) ![0, 512] S768x256.size inb_S768x768_S768x256_0_512)))
    gb := VecWindow.put (VecWindow.put (VecWindow.put (b.gb)
      (k0_off11 i 0#32) S8x256.size (k0_pay44 (k0_pay40 (View.ld b.xq (Rect.unit (s := S768x2560) ![0, 0] S768x2560.size inb_S768x2560_S768x2560_0_0)) (View.ld a.wa (Rect.unit (s := S768x2560) ![0, 0] S256x2560.size inb_S768x2560_S256x2560_0_0)) (View.ld b.sc (Rect.unit (s := S768x256) ![0, 0] S768x256.size inb_S768x256_S768x256_0_0)) (View.ld a.bt (Rect.unit (s := S1x6912) (k0_off9 i 0#32) S1x256.size (k0_off9_inb i hc 0))) (View.ld a.yt (Rect.unit (s := S768x768) ![0, 0] S768x256.size inb_S768x768_S768x256_0_0))) (View.ld b.gb (Rect.unit (s := S8x6912) (k0_off11 i 0#32) S8x256.size (k0_off11_inb i hc 0)))))
      (k0_off11 i 256#32) S8x256.size (k0_pay54 (k0_pay47 (View.ld b.xq (Rect.unit (s := S768x2560) ![0, 0] S768x2560.size inb_S768x2560_S768x2560_0_0)) (View.ld a.wa (Rect.unit (s := S768x2560) ![256, 0] S256x2560.size inb_S768x2560_S256x2560_256_0)) (View.ld b.sc (Rect.unit (s := S768x256) ![0, 0] S768x256.size inb_S768x256_S768x256_0_0)) (View.ld a.bt (Rect.unit (s := S1x6912) (k0_off9 i 256#32) S1x256.size (k0_off9_inb i hc 1))) (View.ld a.yt (Rect.unit (s := S768x768) ![0, 256] S768x256.size inb_S768x768_S768x256_0_256))) (View.ld b.gb (Rect.unit (s := S8x6912) (k0_off11 i 256#32) S8x256.size (k0_off11_inb i hc 1)))))
      (k0_off11 i 512#32) S8x256.size (k0_pay14 (k0_pay55 (View.ld b.xq (Rect.unit (s := S768x2560) ![0, 0] S768x2560.size inb_S768x2560_S768x2560_0_0)) (View.ld a.wa (Rect.unit (s := S768x2560) ![512, 0] S256x2560.size inb_S768x2560_S256x2560_512_0)) (View.ld b.sc (Rect.unit (s := S768x256) ![0, 0] S768x256.size inb_S768x256_S768x256_0_0)) (View.ld a.bt (Rect.unit (s := S1x6912) (k0_off9 i 512#32) S1x256.size (k0_off9_inb i hc 2)))) (View.ld a.yt (Rect.unit (s := S768x768) ![0, 512] S768x256.size inb_S768x768_S768x256_0_512)) (View.ld b.gb (Rect.unit (s := S8x6912) (k0_off11 i 512#32) S8x256.size (k0_off11_inb i hc 2)))) }

/-- The forward pass: from all buffers at `b` to all buffers at `f3 i hc a b`. -/
theorem run3 (c : Dev nD) (A : Args) (i : grid0.Coords) (hc : k0_cond3 i = 1#1) (a : In F) (b : St F)
    (E : Set ℕ) (k : PUnit → Prog (TpuEff nD τ sig (Elt F) Λ₀ .tc) PUnit) (K : PUnit → sProp 𝕄) :
    iprop(Held c A a b ∗ (Held c A a (f3 i hc a b) -∗ wp frame (wpE (defs₀ (F := F)) Variants.none c none) E (k ⟨⟩) K))
      ⊢ wp frame (wpE (defs₀ (F := F)) Variants.none c none) E (reg3 A i hc k) K := by
  obtain ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25⟩ := A
  unfold Held reg3
  simp only [k0_part3_eq_skeleton, k0_part4_eq_skeleton, k0_part5_eq_skeleton]
  try dsimp only
  unfold owns
  iintro ⟨⟨H2, ⟨%f3, %h3, H3⟩, H4, H5, ⟨%f6, %h6, H6⟩, ⟨%f7, %h7, H7⟩, H8, H9, ⟨%f10, %h10, H10⟩, H11, H12, H13, H14, H15, H16, ⟨%f17, %h17, H17⟩, ⟨%f18, %h18, H18⟩, ⟨%f19, %h19, H19⟩, ⟨%f20, %h20, H20⟩, ⟨%f21, %h21, H21⟩, ⟨%f22, %h22, H22⟩, H23, H24, H25⟩, Hk⟩
  sl_exec (disch := first | sl_exact hc)
  iapply Hk
  isplitl [H2]; · iexact H2
  isplitl [H3]
  · iexists _; isplitr; swap; · iexact H3
    ipureintro; exact h3
  isplitl [H4]; · iexact H4
  isplitl [H5]; · iexact H5
  isplitl [H6]
  · iexists _; isplitr; swap; · iexact H6
    ipureintro; exact h6
  isplitl [H7]
  · iexists _; isplitr; swap; · iexact H7
    ipureintro; exact h7
  isplitl [H8]; · iexact H8
  isplitl [H9]; · iexact H9
  isplitl [H10]
  · iexists _; isplitr; swap; · iexact H10
    ipureintro; sl_unfold_run_names; rw [View.read_writes_cons_put _ _ _ _ _ rfl, View.read_writes_cons_put _ _ _ _ _ rfl, View.read_writes_cons_put _ _ _ _ _ rfl, View.writes_nil, h10]; try simp only [View.readAt_eq_ld, h3, h6, h7, h10, h17, h18, h19, h20, h21, h22]; rfl
  isplitl [H11]; · iexact H11
  isplitl [H12]; · iexact H12
  isplitl [H13]; · iexact H13
  isplitl [H14]; · iexact H14
  isplitl [H15]; · iexact H15
  isplitl [H16]; · iexact H16
  isplitl [H17]
  · iexists _; isplitr; swap; · iexact H17
    ipureintro; sl_unfold_run_names; rw [View.read_writes_cons_put _ _ _ _ _ rfl, View.read_writes_cons_put _ _ _ _ _ rfl, View.read_writes_cons_put _ _ _ _ _ rfl, View.writes_nil, h17]; try simp only [View.readAt_eq_ld, h3, h6, h7, h10, h17, h18, h19, h20, h21, h22]; rfl
  isplitl [H18]
  · iexists _; isplitr; swap; · iexact H18
    ipureintro; exact h18
  isplitl [H19]
  · iexists _; isplitr; swap; · iexact H19
    ipureintro; sl_unfold_run_names; rw [View.read_writes_cons_put _ _ _ _ _ rfl, View.read_writes_cons_put _ _ _ _ _ rfl, View.read_writes_cons_put _ _ _ _ _ rfl, View.writes_nil, h19]; try simp only [View.readAt_eq_ld, h3, h6, h7, h10, h17, h18, h19, h20, h21, h22]; rfl
  isplitl [H20]
  · iexists _; isplitr; swap; · iexact H20
    ipureintro; sl_unfold_run_names; rw [View.read_writes_cons_put _ _ _ _ _ rfl, View.read_writes_cons_put _ _ _ _ _ rfl, View.read_writes_cons_put _ _ _ _ _ rfl, View.writes_nil, h20]; try simp only [View.readAt_eq_ld, h3, h6, h7, h10, h17, h18, h19, h20, h21, h22]; rfl
  isplitl [H21]
  · iexists _; isplitr; swap; · iexact H21
    ipureintro; exact h21
  isplitl [H22]
  · iexists _; isplitr; swap; · iexact H22
    ipureintro; sl_unfold_run_names; rw [View.read_writes_full, readCov_whole, readCov_whole]; · simp only [View.readAt_eq_ld, h3, h6, h7, h10, h17, h18, h19, h20, h21, h22]; rfl
    all_goals rfl
  isplitl [H23]; · iexact H23
  isplitl [H24]; · iexact H24
  iexact H25

end Cert.Kernel.Gen

end
-- ==== Proof.K.Run4.lean ====
/- The part of the body that writes the losses, run. -/
module

public import proofs.«01_k».proof.Proof.K.Parts
public import Idealize.ShloMosaic.Lib.Tactic.RunNames

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The losses of the token block written: each segment of 128 tokens from its rows of the partial sums of squares. -/
def f4 (i : grid0.Coords) (a : In F) (b : St F) : St F :=
  { b with
    loss := VecWindow.put (VecWindow.put (VecWindow.put (VecWindow.put (VecWindow.put (VecWindow.put (b.loss)
      (k0_off12 i) S1x1x128.size (k0_pay57 (View.ld b.sq (Rect.unit (s := S768x128) ![0, 0] S128x128.size inb_S768x128_S128x128_0_0))))
      (k0_off13 i) S1x1x128.size (k0_pay58 (View.ld b.sq (Rect.unit (s := S768x128) ![128, 0] S128x128.size inb_S768x128_S128x128_128_0))))
      (k0_off14 i) S1x1x128.size (k0_pay59 (View.ld b.sq (Rect.unit (s := S768x128) ![256, 0] S128x128.size inb_S768x128_S128x128_256_0))))
      (k0_off15 i) S1x1x128.size (k0_pay15 (k0_pay60 (View.ld b.sq (Rect.unit (s := S768x128) ![384, 0] S128x128.size inb_S768x128_S128x128_384_0))) k0_pay61))
      (k0_off16 i) S1x1x128.size (k0_pay16 (View.ld b.sq (Rect.unit (s := S768x128) ![512, 0] S128x128.size inb_S768x128_S128x128_512_0))))
      (k0_off17 i) S1x1x128.size (k0_pay17 (View.ld b.sq (Rect.unit (s := S768x128) ![640, 0] S128x128.size inb_S768x128_S128x128_640_0))) }

/-- The losses of a token block: from all buffers at `b` to all buffers at `f4 i a b`. -/
theorem run4 (c : Dev nD) (A : Args) (i : grid0.Coords) (hc : k0_cond4 i = 1#1) (a : In F) (b : St F)
    (E : Set ℕ) (k : PUnit → Prog (TpuEff nD τ sig (Elt F) Λ₀ .tc) PUnit) (K : PUnit → sProp 𝕄) :
    iprop(Held c A a b ∗ (Held c A a (f4 i a b) -∗ wp frame (wpE (defs₀ (F := F)) Variants.none c none) E (k ⟨⟩) K))
      ⊢ wp frame (wpE (defs₀ (F := F)) Variants.none c none) E (reg4 A i hc k) K := by
  obtain ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25⟩ := A
  unfold Held reg4
  simp only [k0_part6_eq_skeleton]
  try dsimp only
  unfold owns
  iintro ⟨⟨H2, H3, H4, H5, H6, H7, H8, H9, H10, H11, H12, ⟨%f13, %h13, H13⟩, H14, H15, H16, H17, H18, H19, H20, H21, ⟨%f22, %h22, H22⟩, H23, H24, H25⟩, Hk⟩
  sl_exec (disch := first | sl_exact hc)
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists _; isplitr; swap; · iexact H13
    ipureintro; sl_unfold_run_names; rw [View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.writes_nil, h13]; try simp only [View.readAt_eq_ld, h13, h22]; rfl
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]
  · iexists _; isplitr; swap; · iexact H22
    ipureintro; exact h22
  isplitl [H23]; · iexact H23
  isplitl [H24]; · iexact H24
  iexact H25

end Cert.Kernel.Gen

end
-- ==== Proof.K.Run5.lean ====
/- The part of the body of the backward pass, run. -/
module

public import proofs.«01_k».proof.Proof.K.Parts
public import Idealize.ShloMosaic.Lib.Tactic.RunNames

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- One tile of 256 inputs of the backward pass added to the three accumulators. -/
def f5 (i : grid0.Coords) (hc : k0_cond5 i = 1#1) (a : In F) (b : St F) : St F :=
  { b with
    s1 := VecWindow.put b.s1 (k0_off20 i) S8x256.size
      (k0_pay64 (View.ld b.g (Rect.unit (s := S768x6912) ![0, 0] S768x6912.size inb_S768x6912_S768x6912_0_0)) (View.ld a.wb (Rect.unit (s := S6912x256) ![0, 0] S6912x256.size inb_S6912x256_S6912x256_0_0)) (View.ld a.x (Rect.unit (s := S768x2560) (k0_off18 i) S768x256.size (k0_off18_inb i hc))) (View.ld a.delta (Rect.unit (s := S1x2560) (k0_off19 i) S1x256.size (k0_off19_inb i hc))) (View.ld a.s (Rect.unit (s := S1x2560) (k0_off19 i) S1x256.size (k0_off19_inb i hc))) (View.ld b.sc (Rect.unit (s := S768x256) ![0, 0] S768x256.size inb_S768x256_S768x256_0_0)) (View.ld b.s1 (Rect.unit (s := S8x2560) (k0_off20 i) S8x256.size (k0_off20_inb i hc))))
    s2 := VecWindow.put b.s2 (k0_off20 i) S8x256.size
      (k0_pay18 (k0_pay65 (View.ld b.g (Rect.unit (s := S768x6912) ![0, 0] S768x6912.size inb_S768x6912_S768x6912_0_0)) (View.ld a.wb (Rect.unit (s := S6912x256) ![0, 0] S6912x256.size inb_S6912x256_S6912x256_0_0)) (View.ld a.x (Rect.unit (s := S768x2560) (k0_off18 i) S768x256.size (k0_off18_inb i hc))) (View.ld a.delta (Rect.unit (s := S1x2560) (k0_off19 i) S1x256.size (k0_off19_inb i hc))) (View.ld a.s (Rect.unit (s := S1x2560) (k0_off19 i) S1x256.size (k0_off19_inb i hc))) (View.ld b.sc (Rect.unit (s := S768x256) ![0, 0] S768x256.size inb_S768x256_S768x256_0_0)) (View.ld b.s2 (Rect.unit (s := S8x2560) (k0_off20 i) S8x256.size (k0_off20_inb i hc)))))
    s3 := VecWindow.put b.s3 (k0_off20 i) S8x256.size (k0_pay19 (View.ld b.gx (Rect.unit (s := S768x6912) ![0, 0] S768x6912.size inb_S768x6912_S768x6912_0_0)) (View.ld a.wm (Rect.unit (s := S6912x256) ![0, 0] S6912x256.size inb_S6912x256_S6912x256_0_0)) (View.ld b.s3 (Rect.unit (s := S8x2560) (k0_off20 i) S8x256.size (k0_off20_inb i hc))) (View.ld b.xq (Rect.unit (s := S768x2560) (k0_off18 i) S768x256.size (k0_off18_inb i hc)))) }

/-- The backward pass: from all buffers at `b` to all buffers at `f5 i hc a b`. -/
theorem run5 (c : Dev nD) (A : Args) (i : grid0.Coords) (hc : k0_cond5 i = 1#1) (a : In F) (b : St F)
    (E : Set ℕ) (k : PUnit → Prog (TpuEff nD τ sig (Elt F) Λ₀ .tc) PUnit) (K : PUnit → sProp 𝕄) :
    iprop(Held c A a b ∗ (Held c A a (f5 i hc a b) -∗ wp frame (wpE (defs₀ (F := F)) Variants.none c none) E (k ⟨⟩) K))
      ⊢ wp frame (wpE (defs₀ (F := F)) Variants.none c none) E (reg5 A i hc k) K := by
  obtain ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25⟩ := A
  unfold Held reg5
  simp only [k0_part7_eq_skeleton]
  try dsimp only
  unfold owns
  iintro ⟨⟨⟨%f2, %h2, H2⟩, H3, ⟨%f4, %h4, H4⟩, ⟨%f5, %h5, H5⟩, H6, H7, ⟨%f8, %h8, H8⟩, ⟨%f9, %h9, H9⟩, H10, H11, H12, H13, H14, H15, H16, H17, ⟨%f18, %h18, H18⟩, ⟨%f19, %h19, H19⟩, ⟨%f20, %h20, H20⟩, ⟨%f21, %h21, H21⟩, H22, ⟨%f23, %h23, H23⟩, ⟨%f24, %h24, H24⟩, ⟨%f25, %h25, H25⟩⟩, Hk⟩
  sl_exec (disch := first | sl_exact hc)
  iapply Hk
  isplitl [H2]
  · iexists _; isplitr; swap; · iexact H2
    ipureintro; exact h2
  isplitl [H3]; · iexact H3
  isplitl [H4]
  · iexists _; isplitr; swap; · iexact H4
    ipureintro; exact h4
  isplitl [H5]
  · iexists _; isplitr; swap; · iexact H5
    ipureintro; exact h5
  isplitl [H6]; · iexact H6
  isplitl [H7]; · iexact H7
  isplitl [H8]
  · iexists _; isplitr; swap; · iexact H8
    ipureintro; exact h8
  isplitl [H9]
  · iexists _; isplitr; swap; · iexact H9
    ipureintro; exact h9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · iexists _; isplitr; swap; · iexact H18
    ipureintro; exact h18
  isplitl [H19]
  · iexists _; isplitr; swap; · iexact H19
    ipureintro; exact h19
  isplitl [H20]
  · iexists _; isplitr; swap; · iexact H20
    ipureintro; exact h20
  isplitl [H21]
  · iexists _; isplitr; swap; · iexact H21
    ipureintro; exact h21
  isplitl [H22]; · iexact H22
  isplitl [H23]
  · iexists _; isplitr; swap; · iexact H23
    ipureintro; sl_unfold_run_names; rw [View.read_writes_cons_put _ _ _ _ _ rfl, View.writes_nil, h23]; try simp only [View.readAt_eq_ld, h2, h4, h5, h8, h9, h18, h19, h20, h21, h23, h24, h25]; rfl
  isplitl [H24]
  · iexists _; isplitr; swap; · iexact H24
    ipureintro; sl_unfold_run_names; rw [View.read_writes_cons_put _ _ _ _ _ rfl, View.writes_nil, h24]; try simp only [View.readAt_eq_ld, h2, h4, h5, h8, h9, h18, h19, h20, h21, h23, h24, h25]; rfl
  iexists _; isplitr; swap; · iexact H25
  ipureintro; sl_unfold_run_names; rw [View.read_writes_cons_put _ _ _ _ _ rfl, View.writes_nil, h25]; try simp only [View.readAt_eq_ld, h2, h4, h5, h8, h9, h18, h19, h20, h21, h23, h24, h25]; rfl

end Cert.Kernel.Gen

end
-- ==== Proof.K.Run6.lean ====
/- The part of the body at the last point, run. -/
module

public import proofs.«01_k».proof.Proof.K.Parts
public import Idealize.ShloMosaic.Lib.Tactic.RunNames

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The three finished gradients written. -/
def f6 (i : grid0.Coords) (a : In F) (b : St F) : St F :=
  { b with ds := k0_pay21 (View.ld b.s3 (Rect.unit (s := S8x2560) ![0, 0] S8x2560.size inb_S8x2560_S8x2560_0_0)) (View.ld b.s1 (Rect.unit (s := S8x2560) ![0, 0] S8x2560.size inb_S8x2560_S8x2560_0_0)) (View.ld a.s (Rect.unit (s := S1x2560) ![0, 0] S1x2560.size inb_S1x2560_S1x2560_0_0)), dd := k0_pay22 (View.ld b.s2 (Rect.unit (s := S8x2560) ![0, 0] S8x2560.size inb_S8x2560_S8x2560_0_0)) (View.ld a.s (Rect.unit (s := S1x2560) ![0, 0] S1x2560.size inb_S1x2560_S1x2560_0_0)), dsw := k0_pay20 (View.ld b.s3 (Rect.unit (s := S8x2560) ![0, 0] S8x2560.size inb_S8x2560_S8x2560_0_0)) }

/-- The last point: from all buffers at `b` to all buffers at `f6 i a b`. -/
theorem run6 (c : Dev nD) (A : Args) (i : grid0.Coords) (hc : k0_cond6 i = 1#1) (a : In F) (b : St F)
    (E : Set ℕ) (k : PUnit → Prog (TpuEff nD τ sig (Elt F) Λ₀ .tc) PUnit) (K : PUnit → sProp 𝕄) :
    iprop(Held c A a b ∗ (Held c A a (f6 i a b) -∗ wp frame (wpE (defs₀ (F := F)) Variants.none c none) E (k ⟨⟩) K))
      ⊢ wp frame (wpE (defs₀ (F := F)) Variants.none c none) E (reg6 A i hc k) K := by
  obtain ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25⟩ := A
  unfold Held reg6
  try dsimp only
  unfold owns
  iintro ⟨⟨H2, H3, H4, H5, H6, H7, ⟨%f8, %h8, H8⟩, H9, H10, H11, H12, H13, ⟨%f14, %h14, H14⟩, ⟨%f15, %h15, H15⟩, ⟨%f16, %h16, H16⟩, H17, H18, H19, H20, H21, H22, ⟨%f23, %h23, H23⟩, ⟨%f24, %h24, H24⟩, ⟨%f25, %h25, H25⟩⟩, Hk⟩
  sl_exec (disch := first | sl_exact hc)
  iapply Hk
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; · iexact H8
    ipureintro; exact h8
  isplitl [H9]; · iexact H9
  isplitl [H10]; · iexact H10
  isplitl [H11]; · iexact H11
  isplitl [H12]; · iexact H12
  isplitl [H13]; · iexact H13
  isplitl [H14]
  · iexists _; isplitr; swap; · iexact H14
    ipureintro; sl_unfold_run_names; rw [View.read_writes_full]; first | rfl | (simp only [View.readAt_eq_ld, h25, h23, h24, h8, h14, h15, h16]; rfl)
  isplitl [H15]
  · iexists _; isplitr; swap; · iexact H15
    ipureintro; sl_unfold_run_names; rw [View.read_writes_full]; first | rfl | (simp only [View.readAt_eq_ld, h25, h23, h24, h8, h14, h15, h16]; rfl)
  isplitl [H16]
  · iexists _; isplitr; swap; · iexact H16
    ipureintro; sl_unfold_run_names; rw [View.read_writes_full]; first | rfl | (simp only [View.readAt_eq_ld, h25, h23, h24, h8, h14, h15, h16]; rfl)
  isplitl [H17]; · iexact H17
  isplitl [H18]; · iexact H18
  isplitl [H19]; · iexact H19
  isplitl [H20]; · iexact H20
  isplitl [H21]; · iexact H21
  isplitl [H22]; · iexact H22
  isplitl [H23]
  · iexists _; isplitr; swap; · iexact H23
    ipureintro; exact h23
  isplitl [H24]
  · iexists _; isplitr; swap; · iexact H24
    ipureintro; exact h24
  iexists _; isplitr; swap; · iexact H25
  ipureintro; exact h25

end Cert.Kernel.Gen

end
-- ==== Proof.K.Step.lean ====
/- The body as one step on the contents of its buffers. -/
module

public import proofs.«01_k».proof.Proof.K.Run1
public import proofs.«01_k».proof.Proof.K.Run2a
public import proofs.«01_k».proof.Proof.K.Run2b
public import proofs.«01_k».proof.Proof.K.Run3
public import proofs.«01_k».proof.Proof.K.Run4
public import proofs.«01_k».proof.Proof.K.Run5
public import proofs.«01_k».proof.Proof.K.Run6

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## What each part of the body leaves -/

/-- The parts of the body that run only under a condition, as functions of the contents: the part where its condition holds,
    nothing otherwise. -/
def e1 (i : grid0.Coords) (a : In F) (b : St F) : St F := if k0_cond1 i = 1#1 then f1 i a b else b
def e2 (i : grid0.Coords) (a : In F) (b : St F) : St F := if k0_cond2 i = 1#1 then f2b i a (f2a i a b) else b
def e3 (i : grid0.Coords) (a : In F) (b : St F) : St F := if h : k0_cond3 i = 1#1 then f3 i h a b else b
def e4 (i : grid0.Coords) (a : In F) (b : St F) : St F := if k0_cond4 i = 1#1 then f4 i a b else b
def e5 (i : grid0.Coords) (a : In F) (b : St F) : St F := if h : k0_cond5 i = 1#1 then f5 i h a b else b
def e6 (i : grid0.Coords) (a : In F) (b : St F) : St F := if k0_cond6 i = 1#1 then f6 i a b else b

/-- What the body leaves in the buffers it found at `a`, `b`. -/
def step (i : grid0.Coords) (a : In F) (b : St F) : St F := e6 i a (e5 i a (e4 i a (e3 i a (e2 i a (e1 i a b)))))

/-- The last part, if it runs. -/
theorem tail6_run (c : Dev nD) (A : Args) (i : grid0.Coords) (a : In F) (b : St F) (E : Set ℕ) (K : PUnit → sProp 𝕄) :
    iprop(Held c A a b ∗ (Held c A a (e6 i a b) -∗ K ⟨⟩))
      ⊢ wp frame (wpE (defs₀ (F := F)) Variants.none c none) E (tail6 A i) K := by
  unfold tail6 e6
  by_cases h : k0_cond6 i = 1#1
  · rw [dif_pos h, if_pos h]
    refine .trans ?_ (run6 c A i h a b E pure K)
    iintro ⟨H, Hk⟩
    isplitl [H]
    · iexact H
    iintro H
    ihave H := Hk $$ H
    iapply (le_wp_ret frame (wpE (defs₀ (F := F)) Variants.none (c : Thread nD τ) none) E (⟨⟩ : PUnit) K) $$ H
  · rw [dif_neg h, if_neg h]
    iintro ⟨H, Hk⟩
    ihave H := Hk $$ H
    iapply (le_wp_ret frame (wpE (defs₀ (F := F)) Variants.none (c : Thread nD τ) none) E (⟨⟩ : PUnit) K) $$ H

/-- The body from its part 5 on. -/
theorem tail5_run (c : Dev nD) (A : Args) (i : grid0.Coords) (a : In F) (b : St F) (E : Set ℕ) (K : PUnit → sProp 𝕄) :
    iprop(Held c A a b ∗ (Held c A a (e6 i a (e5 i a b)) -∗ K ⟨⟩))
      ⊢ wp frame (wpE (defs₀ (F := F)) Variants.none c none) E (tail5 A i) K := by
  unfold tail5 e5
  by_cases h : k0_cond5 i = 1#1
  · rw [dif_pos h, dif_pos h]
    refine .trans (sep_mono .rfl ?_) (run5 c A i h a b E _ K)
    refine .trans ?_ (wand_mono_right (tail6_run c A i a (f5 i h a b) E K))
    iintro Hk H
    isplitl [H]
    · iexact H
    iexact Hk
  · rw [dif_neg h, dif_neg h]; exact tail6_run c A i a b E K

/-- The body from its part 4 on. -/
theorem tail4_run (c : Dev nD) (A : Args) (i : grid0.Coords) (a : In F) (b : St F) (E : Set ℕ) (K : PUnit → sProp 𝕄) :
    iprop(Held c A a b ∗ (Held c A a (e6 i a (e5 i a (e4 i a b))) -∗ K ⟨⟩))
      ⊢ wp frame (wpE (defs₀ (F := F)) Variants.none c none) E (tail4 A i) K := by
  unfold tail4 e4
  by_cases h : k0_cond4 i = 1#1
  · rw [dif_pos h, if_pos h]
    refine .trans (sep_mono .rfl ?_) (run4 c A i h a b E _ K)
    refine .trans ?_ (wand_mono_right (tail5_run c A i a (f4 i a b) E K))
    iintro Hk H
    isplitl [H]
    · iexact H
    iexact Hk
  · rw [dif_neg h, if_neg h]; exact tail5_run c A i a b E K

/-- The body from its part 3 on. -/
theorem tail3_run (c : Dev nD) (A : Args) (i : grid0.Coords) (a : In F) (b : St F) (E : Set ℕ) (K : PUnit → sProp 𝕄) :
    iprop(Held c A a b ∗ (Held c A a (e6 i a (e5 i a (e4 i a (e3 i a b)))) -∗ K ⟨⟩))
      ⊢ wp frame (wpE (defs₀ (F := F)) Variants.none c none) E (tail3 A i) K := by
  unfold tail3 e3
  by_cases h : k0_cond3 i = 1#1
  · rw [dif_pos h, dif_pos h]
    refine .trans (sep_mono .rfl ?_) (run3 c A i h a b E _ K)
    refine .trans ?_ (wand_mono_right (tail4_run c A i a (f3 i h a b) E K))
    iintro Hk H
    isplitl [H]
    · iexact H
    iexact Hk
  · rw [dif_neg h, dif_neg h]; exact tail4_run c A i a b E K

/-- The body from its part 2 on. -/
theorem tail2_run (c : Dev nD) (A : Args) (i : grid0.Coords) (a : In F) (b : St F) (E : Set ℕ) (K : PUnit → sProp 𝕄) :
    iprop(Held c A a b ∗ (Held c A a (e6 i a (e5 i a (e4 i a (e3 i a (e2 i a b))))) -∗ K ⟨⟩))
      ⊢ wp frame (wpE (defs₀ (F := F)) Variants.none c none) E (tail2 A i) K := by
  unfold tail2 e2
  by_cases h : k0_cond2 i = 1#1
  · rw [dif_pos h, if_pos h]
    refine .trans (sep_mono .rfl ?_) (run2a c A i h a b E _ K)
    refine .trans ?_ (wand_mono_right (run2b c A i h a (f2a i a b) E _ K))
    refine .trans ?_ (wand_mono_right (sep_mono .rfl (wand_mono_right (tail3_run c A i a (f2b i a (f2a i a b)) E K))))
    iintro Hk H
    isplitl [H]
    · iexact H
    iintro H
    isplitl [H]
    · iexact H
    iexact Hk
  · rw [dif_neg h, if_neg h]; exact tail3_run c A i a b E K

/-- The body from its part 1 on. -/
theorem tail1_run (c : Dev nD) (A : Args) (i : grid0.Coords) (a : In F) (b : St F) (E : Set ℕ) (K : PUnit → sProp 𝕄) :
    iprop(Held c A a b ∗ (Held c A a (e6 i a (e5 i a (e4 i a (e3 i a (e2 i a (e1 i a b)))))) -∗ K ⟨⟩))
      ⊢ wp frame (wpE (defs₀ (F := F)) Variants.none c none) E (tail1 A i) K := by
  unfold tail1 e1
  by_cases h : k0_cond1 i = 1#1
  · rw [dif_pos h, if_pos h]
    refine .trans (sep_mono .rfl ?_) (run1 c A i h a b E _ K)
    refine .trans ?_ (wand_mono_right (tail2_run c A i a (f1 i a b) E K))
    iintro Hk H
    isplitl [H]
    · iexact H
    iexact Hk
  · rw [dif_neg h, if_neg h]; exact tail2_run c A i a b E K

/-- The body on any whole buffers: from contents `a`, `b` to `a`, `step i a b`. -/
theorem body_run (c : Dev nD) (A : Args) (i : grid0.Coords) (a : In F) (b : St F) (E : Set ℕ) (K : PUnit → sProp 𝕄) :
    iprop(Held c A a b ∗ (Held c A a (step i a b) -∗ K ⟨⟩))
      ⊢ wp frame (wpE (defs₀ (F := F)) Variants.none c none) E (cc0_forward_backward (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25) K := by
  rw [cc0_eq_tail1]; exact tail1_run c A i a b E K

end Cert.Kernel.Gen

end
-- ==== Proof.K.Track.lean ====
/- What the buffers may hold between points, the body obligation, and the run of the whole program. -/
module

public import proofs.«01_k».proof.Proof.K.Step
public import Idealize.ShloMosaic.Lib.Pipeline.DatRel
public import Idealize.ShloMosaic.Lib.Pipeline.ArrRel

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The inputs' blocks at point `t`. -/
def ins (c : Dev nD) (t : Fin cfg0.N) : In F where
  x := iblk m c 0 t
  wa := iblk m c 1 t
  wb := iblk m c 2 t
  wm := iblk m c 3 t
  yt := iblk m c 4 t
  bt := iblk m c 5 t
  s := iblk m c 6 t
  delta := iblk m c 7 t

/-! ## What is known of the buffers between points

After a point each buffer holds what the body's step left there from SOME contents that were possible before the point. Buffers are
followed one at a time: the contents that two buffers come from need not be the same. -/

/-- Buffer `φ` may hold `v` after point `t`, if the contents possible before it are `K`. -/
def Fld (c : Dev nD) (K : St F → Prop) (t : Fin cfg0.N) {α : Type} (φ : St F → α) (v : α) : Prop :=
  ∃ b, K b ∧ v = φ (step (grid0.coords t) (ins m c t) b)

/-- The scratch buffers after point `t`. -/
structure KScr (c : Dev nD) (K : St F → Prop) (t : Fin cfg0.N) (b : St F) : Prop where
  xq : Fld m c K t St.xq b.xq
  g : Fld m c K t St.g b.g
  gx : Fld m c K t St.gx b.gx
  sc : Fld m c K t St.sc b.sc
  sq : Fld m c K t St.sq b.sq
  s1 : Fld m c K t St.s1 b.s1
  s2 : Fld m c K t St.s2 b.s2
  s3 : Fld m c K t St.s3 b.s3

/-- The outputs' buffers after point `t`, if they were not written back there. -/
structure KOut (c : Dev nD) (K : St F → Prop) (t : Fin cfg0.N) (b : St F) : Prop where
  y : (cfg0.win 8).flush t = false → Fld m c K t St.y b.y
  codes : (cfg0.win 9).flush t = false → Fld m c K t St.codes b.codes
  scales : (cfg0.win 10).flush t = false → Fld m c K t St.scales b.scales
  loss : (cfg0.win 11).flush t = false → Fld m c K t St.loss b.loss
  ds : (cfg0.win 12).flush t = false → Fld m c K t St.ds b.ds
  dd : (cfg0.win 13).flush t = false → Fld m c K t St.dd b.dd
  dsw : (cfg0.win 14).flush t = false → Fld m c K t St.dsw b.dsw
  gb : (cfg0.win 15).flush t = false → Fld m c K t St.gb b.gb

/-- The contents possible after `n` points. -/
def Known (c : Dev nD) : ℕ → St F → Prop
  | 0, _ => True
  | n + 1, b => ∀ t : Fin cfg0.N, t.val = n → KScr m c (Known c n) t b ∧ KOut m c (Known c n) t b

/-- What an output's buffer may hold after point `t`. -/
def Rl (c : Dev nD) (w : Fin cfg0.W) (t : Fin cfg0.N) (X : (cfg0.win w).block.Idx → Elt F (cfg0.win w).elt) : Prop :=
  match w with
  | ⟨0, _⟩ | ⟨1, _⟩ | ⟨2, _⟩ | ⟨3, _⟩ | ⟨4, _⟩ | ⟨5, _⟩ | ⟨6, _⟩ | ⟨7, _⟩ => True
  | ⟨8, _⟩ => Fld m c (Known m c t.val) t St.y X
  | ⟨9, _⟩ => Fld m c (Known m c t.val) t St.codes X
  | ⟨10, _⟩ => Fld m c (Known m c t.val) t St.scales X
  | ⟨11, _⟩ => Fld m c (Known m c t.val) t St.loss X
  | ⟨12, _⟩ => Fld m c (Known m c t.val) t St.ds X
  | ⟨13, _⟩ => Fld m c (Known m c t.val) t St.dd X
  | ⟨14, _⟩ => Fld m c (Known m c t.val) t St.dsw X
  | ⟨15, _⟩ => Fld m c (Known m c t.val) t St.gb X
  | ⟨_ + 16, h⟩ => absurd h (Nat.not_lt.2 (Nat.le_add_left _ _))

/-- The windows held to a relation: the outputs. -/
def rel0 (w : Fin cfg0.W) : Bool :=
  match w with
  | ⟨0, _⟩ | ⟨1, _⟩ | ⟨2, _⟩ | ⟨3, _⟩ | ⟨4, _⟩ | ⟨5, _⟩ | ⟨6, _⟩ | ⟨7, _⟩ => false
  | ⟨8, _⟩ | ⟨9, _⟩ | ⟨10, _⟩ | ⟨11, _⟩ | ⟨12, _⟩ | ⟨13, _⟩ | ⟨14, _⟩ | ⟨15, _⟩ => true
  | ⟨_ + 16, h⟩ => absurd h (Nat.not_lt.2 (Nat.le_add_left _ _))

/-- The invariant after `n` points: the scratch buffers at contents possible then. -/
def PhiS (c : Dev nD) (n : ℕ) (_h : n ≤ cfg0.N) : sProp 𝕄 :=
  iprop(∃ b : St F, ⌜∀ t : Fin cfg0.N, t.val + 1 = n → KScr m c (Known m c t.val) t b⌝
    ∗ (owns (c : Thread nD τ) scM0_0 fullShare b.xq ∗ owns (c : Thread nD τ) scM0_1 fullShare b.g ∗ owns (c : Thread nD τ) scM0_2 fullShare b.gx ∗ owns (c : Thread nD τ) scM0_3 fullShare b.sc ∗ owns (c : Thread nD τ) scM0_4 fullShare b.sq ∗ owns (c : Thread nD τ) scM0_5 fullShare b.s1 ∗ owns (c : Thread nD τ) scM0_6 fullShare b.s2 ∗ owns (c : Thread nD τ) scM0_7 fullShare b.s3) ∗ (∃ r, prngReg c r))

/-- The proof data: the inputs' buffers hold their blocks; the outputs' are named nothing here (`Rl` is what is said of them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ t := PhiS m c t.val (Nat.le_of_lt_succ t.isLt)
  q w := Pipeline.shareOf spec0 w
  owed _ := 0

/-- The same, the outputs held to `Rl`. -/
def rdat (c : Dev nD) : RDat τ (Elt F) Unit ℕ (UR sig nD τ) ℕ cfg0 c := (dats m 0 c).toRRel rel0 (Rl m c)

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d

/-- An output's buffer not written back at the point before holds what the body may have left there. -/
theorem finds_prev (c : Dev nD) (w : Fin cfg0.W) (hr : rel0 w = true) (ho : (cfg0.win w).isOut = true) {t t' : Fin cfg0.N} (h : t'.val + 1 = t.val)
    (hf : (cfg0.win w).flush t' = false) {X : (cfg0.win w).block.Idx → Elt F (cfg0.win w).elt}
    (hX : ((dats m 0 c).toRRel rel0 (Rl m c)).Finds w t X) : Rl m c w t' X := by
  have e : (⟨t.val - 1, Nat.lt_of_le_of_lt (Nat.sub_le _ _) t.isLt⟩ : Fin cfg0.N) = t' := Fin.ext (by show t.val - 1 = t'.val; omega)
  rcases (((dats m 0 c).toRRel rel0 (Rl m c)).finds_of_pos (Pipeline.Window.fetch_out _ ho t) (by omega) X).mp hX with h1 | h1
  · rw [e, hf] at h1; exact absurd h1 Bool.false_ne_true
  · rw [e] at h1; exact (dats m 0 c).toRRel_leaves hr h1

/-- The buffers at point `t`. -/
abbrev argsAt (t : Fin cfg0.N) : Args :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t, scM0_0, Memref.isWhole_whole _, scM0_1, Memref.isWhole_whole _, scM0_2, Memref.isWhole_whole _, scM0_3, Memref.isWhole_whole _, scM0_4, Memref.isWhole_whole _, scM0_5, Memref.isWhole_whole _, scM0_6, Memref.isWhole_whole _, scM0_7, Memref.isWhole_whole _⟩

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ Y, ⌜((dats m 0 c).toRRel rel0 (Rl m c)).Finds 8 t Y⌝ ∗ owns (c : Thread nD τ) (ms0_8 t) fullShare Y)
    ∗ (∃ Y, ⌜((dats m 0 c).toRRel rel0 (Rl m c)).Finds 9 t Y⌝ ∗ owns (c : Thread nD τ) (ms0_9 t) fullShare Y)
    ∗ (∃ Y, ⌜((dats m 0 c).toRRel rel0 (Rl m c)).Finds 10 t Y⌝ ∗ owns (c : Thread nD τ) (ms0_10 t) fullShare Y)
    ∗ (∃ Y, ⌜((dats m 0 c).toRRel rel0 (Rl m c)).Finds 11 t Y⌝ ∗ owns (c : Thread nD τ) (ms0_11 t) fullShare Y)
    ∗ (∃ Y, ⌜((dats m 0 c).toRRel rel0 (Rl m c)).Finds 12 t Y⌝ ∗ owns (c : Thread nD τ) (ms0_12 t) fullShare Y)
    ∗ (∃ Y, ⌜((dats m 0 c).toRRel rel0 (Rl m c)).Finds 13 t Y⌝ ∗ owns (c : Thread nD τ) (ms0_13 t) fullShare Y)
    ∗ (∃ Y, ⌜((dats m 0 c).toRRel rel0 (Rl m c)).Finds 14 t Y⌝ ∗ owns (c : Thread nD τ) (ms0_14 t) fullShare Y)
    ∗ (∃ Y, ⌜((dats m 0 c).toRRel rel0 (Rl m c)).Finds 15 t Y⌝ ∗ owns (c : Thread nD τ) (ms0_15 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ X, ⌜Rl m c 8 t X⌝ ∗ owns (c : Thread nD τ) (ms0_8 t) fullShare X)
    ∗ (∃ X, ⌜Rl m c 9 t X⌝ ∗ owns (c : Thread nD τ) (ms0_9 t) fullShare X)
    ∗ (∃ X, ⌜Rl m c 10 t X⌝ ∗ owns (c : Thread nD τ) (ms0_10 t) fullShare X)
    ∗ (∃ X, ⌜Rl m c 11 t X⌝ ∗ owns (c : Thread nD τ) (ms0_11 t) fullShare X)
    ∗ (∃ X, ⌜Rl m c 12 t X⌝ ∗ owns (c : Thread nD τ) (ms0_12 t) fullShare X)
    ∗ (∃ X, ⌜Rl m c 13 t X⌝ ∗ owns (c : Thread nD τ) (ms0_13 t) fullShare X)
    ∗ (∃ X, ⌜Rl m c 14 t X⌝ ∗ owns (c : Thread nD τ) (ms0_14 t) fullShare X)
    ∗ (∃ X, ⌜Rl m c 15 t X⌝ ∗ owns (c : Thread nD τ) (ms0_15 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, after0_0, before0_1, after0_1, before0_2, after0_2, before0_3, after0_3, before0_4, after0_4, before0_5, after0_5, before0_6, after0_6, before0_7, after0_7]
  rw [show (dats m 0 c).owesAt () t.succ = (dats m 0 c).owesAt () t.castSucc from rfl]
  rw [show (dats m 0 c).Φ t.succ = PhiS m c (t.val + 1) t.isLt from rfl, PhiS_castSucc m c t]
  unfold PhiS
  iintro ⟨⟨%b, %hb, ⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %h8, H8⟩, ⟨%Y9, %h9, H9⟩, ⟨%Y10, %h10, H10⟩, ⟨%Y11, %h11, H11⟩, ⟨%Y12, %h12, H12⟩, ⟨%Y13, %h13, H13⟩, ⟨%Y14, %h14, H14⟩, ⟨%Y15, %h15, H15⟩⟩
  have hK : Known m c t.val ⟨Y8, Y9, Y10, Y11, Y12, Y13, Y14, Y15, b.xq, b.g, b.gx, b.sc, b.sq, b.s1, b.s2, b.s3⟩ := by
    rcases Nat.eq_zero_or_pos t.val with h0 | h0
    · rw [h0]; trivial
    · obtain ⟨n, hn⟩ : ∃ n, t.val = n + 1 := ⟨t.val - 1, by omega⟩
      rw [hn]
      intro t' ht'
      have e : t'.val + 1 = t.val := by omega
      have hs := hb t' e
      subst ht'
      exact ⟨⟨hs.xq, hs.g, hs.gx, hs.sc, hs.sq, hs.s1, hs.s2, hs.s3⟩,
        fun hf => finds_prev m c 8 rfl rfl e hf h8, fun hf => finds_prev m c 9 rfl rfl e hf h9, fun hf => finds_prev m c 10 rfl rfl e hf h10, fun hf => finds_prev m c 11 rfl rfl e hf h11, fun hf => finds_prev m c 12 rfl rfl e hf h12, fun hf => finds_prev m c 13 rfl rfl e hf h13, fun hf => finds_prev m c 14 rfl rfl e hf h14, fun hf => finds_prev m c 15 rfl rfl e hf h15⟩
  iapply (body_run c (argsAt t) (grid0.coords t) (ins m c t) ⟨Y8, Y9, Y10, Y11, Y12, Y13, Y14, Y15, b.xq, b.g, b.gx, b.sc, b.sq, b.s1, b.s2, b.s3⟩ Set.univ _)
  isplitl [H0 H1 H2 H3 H4 H5 H6 H7 H8 H9 H10 H11 H12 H13 H14 H15 HS0 HS1 HS2 HS3 HS4 HS5 HS6 HS7]
  · unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  unfold Held
  iintro ⟨H0, H1, H2, H3, H4, H5, H6, H7, H8, H9, H10, H11, H12, H13, H14, H15, HS0, HS1, HS2, HS3, HS4, HS5, HS6, HS7⟩
  isplitl [HS0 HS1 HS2 HS3 HS4 HS5 HS6 HS7 Hg]
  · iexists (step (grid0.coords t) (ins m c t) ⟨Y8, Y9, Y10, Y11, Y12, Y13, Y14, Y15, b.xq, b.g, b.gx, b.sc, b.sq, b.s1, b.s2, b.s3⟩)
    isplitr
    · ipureintro
      intro t' ht'
      have e : t' = t := Fin.ext (by omega)
      subst e
      exact ⟨⟨_, hK, rfl⟩, ⟨_, hK, rfl⟩, ⟨_, hK, rfl⟩, ⟨_, hK, rfl⟩, ⟨_, hK, rfl⟩, ⟨_, hK, rfl⟩, ⟨_, hK, rfl⟩, ⟨_, hK, rfl⟩⟩
    isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr
    swap; · iexact H8
    ipureintro; exact ⟨_, hK, rfl⟩
  isplitl [H9]
  · iexists _; isplitr
    swap; · iexact H9
    ipureintro; exact ⟨_, hK, rfl⟩
  isplitl [H10]
  · iexists _; isplitr
    swap; · iexact H10
    ipureintro; exact ⟨_, hK, rfl⟩
  isplitl [H11]
  · iexists _; isplitr
    swap; · iexact H11
    ipureintro; exact ⟨_, hK, rfl⟩
  isplitl [H12]
  · iexists _; isplitr
    swap; · iexact H12
    ipureintro; exact ⟨_, hK, rfl⟩
  isplitl [H13]
  · iexists _; isplitr
    swap; · iexact H13
    ipureintro; exact ⟨_, hK, rfl⟩
  isplitl [H14]
  · iexists _; isplitr
    swap; · iexact H14
    ipureintro; exact ⟨_, hK, rfl⟩
  iexists _; isplitr
  swap; · iexact H15
  ipureintro; exact ⟨_, hK, rfl⟩

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : Pipeline.BodyObligationRel (dats (F := F) m 0 c) (defs₀ (F := F)) Variants.none () Set.univ rel0 (Rl m c) := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%d0, H0⟩, ⟨%d1, H1⟩, ⟨%d2, H2⟩, ⟨%d3, H3⟩, ⟨%d4, H4⟩, ⟨%d5, H5⟩, ⟨%d6, H6⟩, ⟨%d7, H7⟩⟩, Hg⟩
  have hne : ∀ e, Nonempty (Elt F e) := inferInstance
  iexists (⟨fun _ => Classical.choice (hne _), fun _ => Classical.choice (hne _), fun _ => Classical.choice (hne _), fun _ => Classical.choice (hne _), fun _ => Classical.choice (hne _), fun _ => Classical.choice (hne _), fun _ => Classical.choice (hne _), fun _ => Classical.choice (hne _), d0, d1, d2, d3, d4, d5, d6, d7⟩ : St F)
  isplitr
  · ipureintro; intro t ht; exact absurd ht (Nat.succ_ne_zero _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hg

/-- After any point the invariant gives back what the launch handed over. -/
theorem Phi_out (c : Dev nD) (t : Fin (cfg0.N + 1)) : (dats m 0 c).Φ t ⊢ Pipeline.ΦA spec0 c := by
  rw [show (dats m 0 c).Φ t = PhiS m c t.val (Nat.le_of_lt_succ t.isLt) from rfl, PhiA0_eq]
  unfold PhiS
  iintro ⟨%b, -, ⟨H0, H1, H2, H3, H4, H5, H6, H7⟩, Hg⟩
  isplitl [H0 H1 H2 H3 H4 H5 H6 H7]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexists _; iexact H7
  iexact Hg

-- the launch theorem's implicit arguments are found by unifying its conclusion with this one, which takes unfolding plain
-- definitions in a metavariable's type
set_option backward.isDefEq.respectTransparency.types false in
/-- THE LAUNCH: every execution ends with every array at contents the proof data allow and every semaphore counter at zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame_track_shared (Q' := _) cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m) (hin := hin m) (hout := fun c => Phi_out m c _)
    (hQ' := fun _ h => h)

/-- The arguments after a run. -/
theorem frame_args {r : PUnit × MemSt nD τ sig (Elt F)} (h : Pipeline.RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(Pipeline.RDat.FramePost.arr_in h c 0 rfl).trans ((A_eq m c 0).trans (V_main_arg0 m c)),
    (Pipeline.RDat.FramePost.arr_in h c 2 rfl).trans ((A_eq m c 2).trans (V_main_arg1 m c)),
    (Pipeline.RDat.FramePost.arr_in h c 3 rfl).trans ((A_eq m c 3).trans (V_main_arg2 m c)),
    (Pipeline.RDat.FramePost.arr_in h c 4 rfl).trans ((A_eq m c 4).trans (V_main_arg3 m c)),
    (Pipeline.RDat.FramePost.arr_in h c 5 rfl).trans ((A_eq m c 5).trans (V_main_arg4 m c)),
    (Pipeline.RDat.FramePost.arr_in h c 6 rfl).trans ((A_eq m c 6).trans (V_main_arg5 m c)),
    (Pipeline.RDat.FramePost.arr_in h c 7 rfl).trans ((A_eq m c 7).trans (V_main_arg6 m c))⟩

/-- THE FRAME: the argument arrays end unchanged and every semaphore counter at zero, at any float interpretation. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨frame_args m h.1, h.2⟩) (run_main_quiescent m ρ)

end Cert.Kernel.Gen

end
-- ==== Proof.KI.Base.lean ====
/- What the proofs about the kernel body share: its branch conditions in closed form, its staging and scratch buffers, and the
   contents of all its buffers at a point as one record. -/
module

public import proofs.«01_k».proof.Proof.Gen.KernelIdeal.Frame
public import proofs.«01_k».proof.Proof.Gen.KernelIdeal.Loops
public import proofs.«01_k».proof.Proof.Gen.KernelIdeal.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The column offset `k0_off18` as a function of the point, wrapped at 32 bits. -/
theorem k0_off18_eq : ∀ i : grid0.Coords, k0_off18 i = ![0, (256 * (i 1).val + 4294964992) % 4294967296] := by decide +kernel
instance closedOff_k0_off18 (i : grid0.Coords) : ClosedOff (k0_off18 i) := ⟨![0, (256 * (i 1).val + 4294964992) % 4294967296], k0_off18_eq i⟩
/-- The column offset `k0_off19` as a function of the point, wrapped at 32 bits. -/
theorem k0_off19_eq : ∀ i : grid0.Coords, k0_off19 i = ![0, (256 * (i 1).val + 4294964992) % 4294967296] := by decide +kernel
instance closedOff_k0_off19 (i : grid0.Coords) : ClosedOff (k0_off19 i) := ⟨![0, (256 * (i 1).val + 4294964992) % 4294967296], k0_off19_eq i⟩
/-- The column offset `k0_off20` as a function of the point, wrapped at 32 bits. -/
theorem k0_off20_eq : ∀ i : grid0.Coords, k0_off20 i = ![0, (256 * (i 1).val + 4294964992) % 4294967296] := by decide +kernel
instance closedOff_k0_off20 (i : grid0.Coords) : ClosedOff (k0_off20 i) := ⟨![0, (256 * (i 1).val + 4294964992) % 4294967296], k0_off20_eq i⟩
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 456 = 0 :=
  (fun t => by
    have ht : t.val < 456 := Nat.lt_of_lt_of_eq t.isLt N_0
    have e0 : (grid0.coords t 0).val = t.val / 19 % 24 := Pipeline.Grid.coords_val t 0 (by decide) rfl
    have e1 : (grid0.coords t 1).val = t.val / 1 % 19 := Pipeline.Grid.coords_val t 1 (by decide) rfl
    simp only [cond0_0, k0_cond1, e0, e1]
    word_cmp
   : ∀ t : Fin grid0.N, cond0_0 (grid0.coords t) ↔ t.val % 456 = 0)

/-- The condition of the body's `scf.if` 1 (`k0_h2`), from the grid coordinates (the skeleton's scalar
    chain substituted). -/
abbrev cond0_1 (i : grid0.Coords) : Prop := k0_cond2 i = 1#1
/-- It holds at the points ≡ 0 (mod 19) — by arithmetic of the point. -/
theorem hcond0_1 : ∀ t : Fin cfg0.N, cond0_1 (grid0.coords t) ↔ t.val % 19 = 0 :=
  (fun t => by
    have ht : t.val < 456 := Nat.lt_of_lt_of_eq t.isLt N_0
    have e0 : (grid0.coords t 0).val = t.val / 19 % 24 := Pipeline.Grid.coords_val t 0 (by decide) rfl
    have e1 : (grid0.coords t 1).val = t.val / 1 % 19 := Pipeline.Grid.coords_val t 1 (by decide) rfl
    simp only [cond0_1, k0_cond2, e0, e1]
    word_cmp
   : ∀ t : Fin grid0.N, cond0_1 (grid0.coords t) ↔ t.val % 19 = 0)

/-- The condition of the body's `scf.if` 2 (`k0_h3`), from the grid coordinates (the skeleton's scalar
    chain substituted). -/
abbrev cond0_2 (i : grid0.Coords) : Prop := k0_cond3 i = 1#1
/-- It holds at the points whose coordinates have i1 ≤ 8 — decided over the grid. -/
theorem hcond0_2 : ∀ t : Fin cfg0.N, cond0_2 (grid0.coords t) ↔ t.val % 19 ≤ 8 :=
  (by decide +kernel : ∀ t : Fin grid0.N, cond0_2 (grid0.coords t) ↔ t.val % 19 ≤ 8)

/-- The condition of the body's `scf.if` 3 (`k0_h4`), from the grid coordinates (the skeleton's scalar
    chain substituted). -/
abbrev cond0_3 (i : grid0.Coords) : Prop := k0_cond4 i = 1#1
/-- It holds at the points ≡ 9 (mod 19) — by arithmetic of the point. -/
theorem hcond0_3 : ∀ t : Fin cfg0.N, cond0_3 (grid0.coords t) ↔ t.val % 19 = 9 :=
  (fun t => by
    have ht : t.val < 456 := Nat.lt_of_lt_of_eq t.isLt N_0
    have e0 : (grid0.coords t 0).val = t.val / 19 % 24 := Pipeline.Grid.coords_val t 0 (by decide) rfl
    have e1 : (grid0.coords t 1).val = t.val / 1 % 19 := Pipeline.Grid.coords_val t 1 (by decide) rfl
    simp only [cond0_3, k0_cond4, e0, e1]
    word_cmp
   : ∀ t : Fin grid0.N, cond0_3 (grid0.coords t) ↔ t.val % 19 = 9)

/-- The condition of the body's `scf.if` 4 (`k0_h5`), from the grid coordinates (the skeleton's scalar
    chain substituted). -/
abbrev cond0_4 (i : grid0.Coords) : Prop := k0_cond5 i = 1#1
/-- It holds at the points whose coordinates have 9 ≤ i1 — decided over the grid. -/
theorem hcond0_4 : ∀ t : Fin cfg0.N, cond0_4 (grid0.coords t) ↔ 9 ≤ t.val % 19 :=
  (by decide +kernel : ∀ t : Fin grid0.N, cond0_4 (grid0.coords t) ↔ 9 ≤ t.val % 19)

/-- The condition of the body's `scf.if` 5 (`k0_h6`), from the grid coordinates (the skeleton's scalar
    chain substituted). -/
abbrev cond0_5 (i : grid0.Coords) : Prop := k0_cond6 i = 1#1
/-- It holds at the last point only — by arithmetic of the point. -/
theorem hcond0_5 : ∀ t : Fin cfg0.N, cond0_5 (grid0.coords t) ↔ t.val % 456 = 455 :=
  (fun t => by
    have ht : t.val < 456 := Nat.lt_of_lt_of_eq t.isLt N_0
    have e0 : (grid0.coords t 0).val = t.val / 19 % 24 := Pipeline.Grid.coords_val t 0 (by decide) rfl
    have e1 : (grid0.coords t 1).val = t.val / 1 % 19 := Pipeline.Grid.coords_val t 1 (by decide) rfl
    simp only [cond0_5, k0_cond6, e0, e1]
    word_cmp
   : ∀ t : Fin grid0.N, cond0_5 (grid0.coords t) ↔ t.val % 456 = 455)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S768x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x2560 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6912x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6912x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x768 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x6912 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2560 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2560 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S768x768 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S768x2560 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S24x1x768 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S24x1x768 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2560 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x2560 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x2560 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S8x6912 .f32 := win0_15.stage (cfg0.slots t 15)
abbrev hs0_15 (t : Fin cfg0.N) : (ms0_15 t).IsWhole := hstage0_15 ((cfg0.slots t 15).cast nbuf0_15)
/-- The scratch operands: whole scoped buffers of the kernel's own, passed beside the windows. -/
abbrev scM0_0 : Memref sig .tc .vmem S768x2560 .bf16 := Memref.whole cc0_scratch0
abbrev scM0_1 : Memref sig .tc .vmem S768x6912 .bf16 := Memref.whole cc0_scratch1
abbrev scM0_2 : Memref sig .tc .vmem S768x6912 .bf16 := Memref.whole cc0_scratch2
abbrev scM0_3 : Memref sig .tc .vmem S768x256 .f32 := Memref.whole cc0_scratch3
abbrev scM0_4 : Memref sig .tc .vmem S768x128 .f32 := Memref.whole cc0_scratch4
abbrev scM0_5 : Memref sig .tc .vmem S8x2560 .f32 := Memref.whole cc0_scratch5
abbrev scM0_6 : Memref sig .tc .vmem S8x2560 .f32 := Memref.whole cc0_scratch6
abbrev scM0_7 : Memref sig .tc .vmem S8x2560 .f32 := Memref.whole cc0_scratch7
/-- The scratch `arg18` the kernel carries between points, as a view: what it holds is stated through it. -/
abbrev VS0_0 : View sig .tc .vmem S768x2560 .bf16 := scM0_0.view
/-- The scratch `arg19` the kernel carries between points, as a view: what it holds is stated through it. -/
abbrev VS0_1 : View sig .tc .vmem S768x6912 .bf16 := scM0_1.view
/-- The scratch `arg20` the kernel carries between points, as a view: what it holds is stated through it. -/
abbrev VS0_2 : View sig .tc .vmem S768x6912 .bf16 := scM0_2.view
/-- The scratch `arg21` the kernel carries between points, as a view: what it holds is stated through it. -/
abbrev VS0_3 : View sig .tc .vmem S768x256 .f32 := scM0_3.view
/-- The scratch `arg22` the kernel carries between points, as a view: what it holds is stated through it. -/
abbrev VS0_4 : View sig .tc .vmem S768x128 .f32 := scM0_4.view
/-- The scratch `arg23` the kernel carries between points, as a view: what it holds is stated through it. -/
abbrev VS0_5 : View sig .tc .vmem S8x2560 .f32 := scM0_5.view
/-- The scratch `arg24` the kernel carries between points, as a view: what it holds is stated through it. -/
abbrev VS0_6 : View sig .tc .vmem S8x2560 .f32 := scM0_6.view
/-- The scratch `arg25` the kernel carries between points, as a view: what it holds is stated through it. -/
abbrev VS0_7 : View sig .tc .vmem S8x2560 .f32 := scM0_7.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

/-! ## All the buffers of one point -/

/-- The blocks of the eight inputs the body finds at a point. -/
structure In (F : FTy → Type) where
  x : Vec F S768x2560 .bf16
  wa : Vec F S768x2560 .bf16
  wb : Vec F S6912x256 .bf16
  wm : Vec F S6912x256 .bf16
  yt : Vec F S768x768 .bf16
  bt : Vec F S1x6912 .f32
  s : Vec F S1x2560 .f32
  delta : Vec F S1x2560 .f32

/-- The contents of the eight outputs' buffers and of the eight scratch buffers. -/
structure St (F : FTy → Type) where
  /-- output y -/
  y : Vec F S768x768 .bf16
  /-- output codes -/
  codes : Vec F S768x2560 .i8
  /-- output scales -/
  scales : Vec F S24x1x768 .f32
  /-- output losses -/
  loss : Vec F S24x1x768 .f32
  /-- output gradient of s -/
  ds : Vec F S1x2560 .f32
  /-- output gradient of delta -/
  dd : Vec F S1x2560 .f32
  /-- output: the weights' part of the gradient of s -/
  dsw : Vec F S1x2560 .f32
  /-- output: column sums of the gradient -/
  gb : Vec F S8x6912 .f32
  /-- scratch: the quantised token block -/
  xq : Vec F S768x2560 .bf16
  /-- scratch: the gradient -/
  g : Vec F S768x6912 .bf16
  /-- scratch: the scaled gradient -/
  gx : Vec F S768x6912 .bf16
  /-- scratch: the row scales, repeated along the lanes -/
  sc : Vec F S768x256 .f32
  /-- scratch: partial sums of squares -/
  sq : Vec F S768x128 .f32
  /-- scratch: partial sums -/
  s1 : Vec F S8x2560 .f32
  /-- scratch: partial sums -/
  s2 : Vec F S8x2560 .f32
  /-- scratch: partial sums -/
  s3 : Vec F S8x2560 .f32

/-- The memrefs the body is passed, every one whole. -/
structure Args where
  arg2 : Memref sig .tc .vmem S768x2560 .bf16
  harg2 : arg2.IsWhole
  arg3 : Memref sig .tc .vmem S768x2560 .bf16
  harg3 : arg3.IsWhole
  arg4 : Memref sig .tc .vmem S6912x256 .bf16
  harg4 : arg4.IsWhole
  arg5 : Memref sig .tc .vmem S6912x256 .bf16
  harg5 : arg5.IsWhole
  arg6 : Memref sig .tc .vmem S768x768 .bf16
  harg6 : arg6.IsWhole
  arg7 : Memref sig .tc .vmem S1x6912 .f32
  harg7 : arg7.IsWhole
  arg8 : Memref sig .tc .vmem S1x2560 .f32
  harg8 : arg8.IsWhole
  arg9 : Memref sig .tc .vmem S1x2560 .f32
  harg9 : arg9.IsWhole
  arg10 : Memref sig .tc .vmem S768x768 .bf16
  harg10 : arg10.IsWhole
  arg11 : Memref sig .tc .vmem S768x2560 .i8
  harg11 : arg11.IsWhole
  arg12 : Memref sig .tc .vmem S24x1x768 .f32
  harg12 : arg12.IsWhole
  arg13 : Memref sig .tc .vmem S24x1x768 .f32
  harg13 : arg13.IsWhole
  arg14 : Memref sig .tc .vmem S1x2560 .f32
  harg14 : arg14.IsWhole
  arg15 : Memref sig .tc .vmem S1x2560 .f32
  harg15 : arg15.IsWhole
  arg16 : Memref sig .tc .vmem S1x2560 .f32
  harg16 : arg16.IsWhole
  arg17 : Memref sig .tc .vmem S8x6912 .f32
  harg17 : arg17.IsWhole
  arg18 : Memref sig .tc .vmem S768x2560 .bf16
  harg18 : arg18.IsWhole
  arg19 : Memref sig .tc .vmem S768x6912 .bf16
  harg19 : arg19.IsWhole
  arg20 : Memref sig .tc .vmem S768x6912 .bf16
  harg20 : arg20.IsWhole
  arg21 : Memref sig .tc .vmem S768x256 .f32
  harg21 : arg21.IsWhole
  arg22 : Memref sig .tc .vmem S768x128 .f32
  harg22 : arg22.IsWhole
  arg23 : Memref sig .tc .vmem S8x2560 .f32
  harg23 : arg23.IsWhole
  arg24 : Memref sig .tc .vmem S8x2560 .f32
  harg24 : arg24.IsWhole
  arg25 : Memref sig .tc .vmem S8x2560 .f32
  harg25 : arg25.IsWhole

/-- The body's buffers held: the inputs' at `a`, the outputs' and the scratches at `b`. -/
def Held (c : Dev nD) (A : Args) (a : In F) (b : St F) : sProp 𝕄 :=
  iprop(owns (c : Thread nD τ) A.arg2 fullShare a.x ∗ owns (c : Thread nD τ) A.arg3 fullShare a.wa ∗ owns (c : Thread nD τ) A.arg4 fullShare a.wb ∗ owns (c : Thread nD τ) A.arg5 fullShare a.wm ∗ owns (c : Thread nD τ) A.arg6 fullShare a.yt ∗ owns (c : Thread nD τ) A.arg7 fullShare a.bt ∗ owns (c : Thread nD τ) A.arg8 fullShare a.s ∗ owns (c : Thread nD τ) A.arg9 fullShare a.delta ∗ owns (c : Thread nD τ) A.arg10 fullShare b.y ∗ owns (c : Thread nD τ) A.arg11 fullShare b.codes ∗ owns (c : Thread nD τ) A.arg12 fullShare b.scales ∗ owns (c : Thread nD τ) A.arg13 fullShare b.loss ∗ owns (c : Thread nD τ) A.arg14 fullShare b.ds ∗ owns (c : Thread nD τ) A.arg15 fullShare b.dd ∗ owns (c : Thread nD τ) A.arg16 fullShare b.dsw ∗ owns (c : Thread nD τ) A.arg17 fullShare b.gb ∗ owns (c : Thread nD τ) A.arg18 fullShare b.xq ∗ owns (c : Thread nD τ) A.arg19 fullShare b.g ∗ owns (c : Thread nD τ) A.arg20 fullShare b.gx ∗ owns (c : Thread nD τ) A.arg21 fullShare b.sc ∗ owns (c : Thread nD τ) A.arg22 fullShare b.sq ∗ owns (c : Thread nD τ) A.arg23 fullShare b.s1 ∗ owns (c : Thread nD τ) A.arg24 fullShare b.s2 ∗ owns (c : Thread nD τ) A.arg25 fullShare b.s3)

end Cert.KernelIdeal.Gen

end
-- ==== Proof.KI.Parts.lean ====
/- The kernel body cut into its six conditional parts, in continuation style. -/
module

public import proofs.«01_k».proof.Proof.KI.Base

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The part of the body at the first point: four accumulators are filled with zeros. Then `k`. -/
def reg1 (A : Args) (i : grid0.Coords) (k0_h1 : k0_cond1 i = 1#1) (k : PUnit → Prog (TpuEff nD τ sig (Elt F) Λ₀ .tc) PUnit) : Prog (TpuEff nD τ sig (Elt F) Λ₀ .tc) PUnit := do
    let v23 : Vec F S8x6912 .f32 ← Prog.lift (.load A.arg17 (Rect.unit (s := S8x6912) ![0, 0] S8x6912.size inb_S8x6912_S8x6912_0_0).toLoadRect (View.loadsAt_vmem h_S8x6912))
    Prog.lift (.store A.arg17 (Rect.unit (s := S8x6912) ![0, 0] S8x6912.size inb_S8x6912_S8x6912_0_0) (k0_pay1 (F := F)) Finset.univ (View.stores_vmem_bits_univ h_S8x6912 rfl) (.inl rfl))
    let v25 : Vec F S8x2560 .f32 ← Prog.lift (.load A.arg23 (Rect.unit (s := S8x2560) ![0, 0] S8x2560.size inb_S8x2560_S8x2560_0_0).toLoadRect (View.loadsAt_vmem h_S8x2560))
    Prog.lift (.store A.arg23 (Rect.unit (s := S8x2560) ![0, 0] S8x2560.size inb_S8x2560_S8x2560_0_0) (k0_pay2 (F := F)) Finset.univ (View.stores_vmem_bits_univ h_S8x2560 rfl) (.inl rfl))
    let v29 : Vec F S8x2560 .f32 ← Prog.lift (.load A.arg24 (Rect.unit (s := S8x2560) ![0, 0] S8x2560.size inb_S8x2560_S8x2560_0_0).toLoadRect (View.loadsAt_vmem h_S8x2560))
    Prog.lift (.store A.arg24 (Rect.unit (s := S8x2560) ![0, 0] S8x2560.size inb_S8x2560_S8x2560_0_0) (k0_pay3 (F := F)) Finset.univ (View.stores_vmem_bits_univ h_S8x2560 rfl) (.inl rfl))
    let v33 : Vec F S8x2560 .f32 ← Prog.lift (.load A.arg25 (Rect.unit (s := S8x2560) ![0, 0] S8x2560.size inb_S8x2560_S8x2560_0_0).toLoadRect (View.loadsAt_vmem h_S8x2560))
    Prog.lift (.store A.arg25 (Rect.unit (s := S8x2560) ![0, 0] S8x2560.size inb_S8x2560_S8x2560_0_0) (k0_pay4 (F := F)) Finset.univ (View.stores_vmem_bits_univ h_S8x2560 rfl) (.inl rfl))
    k ⟨⟩

/-- The part of the body at the first point of a token block, first half: the block is quantised, 32 tokens a trip. Then `k`. -/
def reg2a (A : Args) (i : grid0.Coords) (k0_h2 : k0_cond2 i = 1#1) (k : PUnit → Prog (TpuEff nD τ sig (Elt F) Λ₀ .tc) PUnit) : Prog (TpuEff nD τ sig (Elt F) Λ₀ .tc) PUnit :=
  let arg0 : BitVec 32 := BitVec.ofNat 32 (i 0).val
  do
    let v23 : Vec F S768x128 .f32 ← Prog.lift (.load A.arg22 (Rect.unit (s := S768x128) ![0, 0] S768x128.size inb_S768x128_S768x128_0_0).toLoadRect (View.loadsAt_vmem h_S768x128))
    Prog.lift (.store A.arg22 (Rect.unit (s := S768x128) ![0, 0] S768x128.size inb_S768x128_S768x128_0_0) (k0_pay29 (F := F)) Finset.univ (View.stores_vmem_bits_univ h_S768x128 rfl) (.inl rfl))
    Scf.Loop.for k0_t1_loop (k0_t1_ok i k0_h2) ⟨⟩ (k0_t1_body i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 arg0 k0_h2)
    k ⟨⟩

/-- Its second half: the scales are written as a row, 128 at a time. Then `k`. -/
def reg2b (A : Args) (i : grid0.Coords) (k0_h2 : k0_cond2 i = 1#1) (k : PUnit → Prog (TpuEff nD τ sig (Elt F) Λ₀ .tc) PUnit) : Prog (TpuEff nD τ sig (Elt F) Λ₀ .tc) PUnit := do
    let v27 : Vec F S128x128 .f32 ← Prog.lift (.load A.arg21 (Rect.unit (s := S768x256) ![0, 0] S128x128.size inb_S768x256_S128x128_0_0).toLoadRect (View.loadsAt_vmem h_S128x128))
    let v31 : Vec F S1x1x128 .f32 ← Prog.lift (.load A.arg12 (Rect.unit (s := S24x1x768) (k0_off3 i) S1x1x128.size (k0_off3_inb i k0_h2)).toLoadRect (View.loadsAt_vmem h_S1x1x128))
    Prog.lift (.store A.arg12 (Rect.unit (s := S24x1x768) (k0_off3 i) S1x1x128.size (k0_off3_inb i k0_h2)) (k0_pay31 v27) Finset.univ (View.stores_vmem_bits_univ h_S1x1x128 rfl) (.inl rfl))
    let v34 : Vec F S128x128 .f32 ← Prog.lift (.load A.arg21 (Rect.unit (s := S768x256) ![128, 0] S128x128.size inb_S768x256_S128x128_128_0).toLoadRect (View.loadsAt_vmem h_S128x128))
    let v38 : Vec F S1x1x128 .f32 ← Prog.lift (.load A.arg12 (Rect.unit (s := S24x1x768) (k0_off4 i) S1x1x128.size (k0_off4_inb i k0_h2)).toLoadRect (View.loadsAt_vmem h_S1x1x128))
    Prog.lift (.store A.arg12 (Rect.unit (s := S24x1x768) (k0_off4 i) S1x1x128.size (k0_off4_inb i k0_h2)) (k0_pay32 v34) Finset.univ (View.stores_vmem_bits_univ h_S1x1x128 rfl) (.inl rfl))
    let v41 : Vec F S128x128 .f32 ← Prog.lift (.load A.arg21 (Rect.unit (s := S768x256) ![256, 0] S128x128.size inb_S768x256_S128x128_256_0).toLoadRect (View.loadsAt_vmem h_S128x128))
    let v45 : Vec F S1x1x128 .f32 ← Prog.lift (.load A.arg12 (Rect.unit (s := S24x1x768) (k0_off5 i) S1x1x128.size (k0_off5_inb i k0_h2)).toLoadRect (View.loadsAt_vmem h_S1x1x128))
    Prog.lift (.store A.arg12 (Rect.unit (s := S24x1x768) (k0_off5 i) S1x1x128.size (k0_off5_inb i k0_h2)) (k0_pay33 v41) Finset.univ (View.stores_vmem_bits_univ h_S1x1x128 rfl) (.inl rfl))
    let v48 : Vec F S128x128 .f32 ← Prog.lift (.load A.arg21 (Rect.unit (s := S768x256) ![384, 0] S128x128.size inb_S768x256_S128x128_384_0).toLoadRect (View.loadsAt_vmem h_S128x128))
    let v52 : Vec F S1x1x128 .f32 ← Prog.lift (.load A.arg12 (Rect.unit (s := S24x1x768) (k0_off6 i) S1x1x128.size (k0_off6_inb i k0_h2)).toLoadRect (View.loadsAt_vmem h_S1x1x128))
    Prog.lift (.store A.arg12 (Rect.unit (s := S24x1x768) (k0_off6 i) S1x1x128.size (k0_off6_inb i k0_h2)) (k0_pay5 (k0_pay34 v48)) Finset.univ (View.stores_vmem_bits_univ h_S1x1x128 rfl) (.inl rfl))
    let v55 : Vec F S128x128 .f32 ← Prog.lift (.load A.arg21 (Rect.unit (s := S768x256) ![512, 0] S128x128.size inb_S768x256_S128x128_512_0).toLoadRect (View.loadsAt_vmem h_S128x128))
    let v59 : Vec F S1x1x128 .f32 ← Prog.lift (.load A.arg12 (Rect.unit (s := S24x1x768) (k0_off7 i) S1x1x128.size (k0_off7_inb i k0_h2)).toLoadRect (View.loadsAt_vmem h_S1x1x128))
    Prog.lift (.store A.arg12 (Rect.unit (s := S24x1x768) (k0_off7 i) S1x1x128.size (k0_off7_inb i k0_h2)) (k0_pay6 v55) Finset.univ (View.stores_vmem_bits_univ h_S1x1x128 rfl) (.inl rfl))
    let v62 : Vec F S128x128 .f32 ← Prog.lift (.load A.arg21 (Rect.unit (s := S768x256) ![640, 0] S128x128.size inb_S768x256_S128x128_640_0).toLoadRect (View.loadsAt_vmem h_S128x128))
    let v66 : Vec F S1x1x128 .f32 ← Prog.lift (.load A.arg12 (Rect.unit (s := S24x1x768) (k0_off8 i) S1x1x128.size (k0_off8_inb i k0_h2)).toLoadRect (View.loadsAt_vmem h_S1x1x128))
    Prog.lift (.store A.arg12 (Rect.unit (s := S24x1x768) (k0_off8 i) S1x1x128.size (k0_off8_inb i k0_h2)) (k0_pay7 v62) Finset.univ (View.stores_vmem_bits_univ h_S1x1x128 rfl) (.inl rfl))
    k ⟨⟩

/-- The part of the body at the forward pass: three tiles of 256 outputs. Then `k`. -/
def reg3 (A : Args) (i : grid0.Coords) (k0_h3 : k0_cond3 i = 1#1) (k : PUnit → Prog (TpuEff nD τ sig (Elt F) Λ₀ .tc) PUnit) : Prog (TpuEff nD τ sig (Elt F) Λ₀ .tc) PUnit :=
  let arg0 : BitVec 32 := BitVec.ofNat 32 (i 0).val
  let arg1 : BitVec 32 := BitVec.ofNat 32 (i 1).val
  do
    let ⟨v28, v50, v56⟩ : Σ' (v28 : BitVec 32) (v50 : FVec F S768x256 .bf16), FVec F S768x256 .bf16 ← k0_part3 i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 arg1 k0_h3
    let ⟨v73, v76, v86, v92, v93⟩ : Σ' (v73 : Vec F S768x256 .f32) (v76 : BitVec 32) (v86 : FVec F S768x256 .f32) (v92 : FVec F S768x128 .f32), Vec F S768x128 .f32 ← k0_part4 i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 arg1 k0_h3 v28 v50 v56
    let ⟨v121, v124, v129, v130⟩ : Σ' (v121 : Vec F S768x256 .f32) (v124 : BitVec 32) (v129 : FVec F S768x256 .f32), FVec F S768x256 .bf16 ← k0_part5 i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 arg1 k0_h3 v73 v76 v86 v92 v93
    Prog.lift (.store A.arg10 (Rect.unit (s := S768x768) ![0, 512] S768x256.size inb_S768x768_S768x256_0_512) v130 Finset.univ (View.stores_vmem h_S768x256 (A.harg10.storeExact_slice rfl _ packedbf16_S768x768_S768x256_0_512) (fun _ => rfl)) (.inl rfl))
    let v132 : Vec F S768x256 .bf16 ← Prog.lift (.load A.arg6 (Rect.unit (s := S768x768) ![0, 512] S768x256.size inb_S768x768_S768x256_0_512).toLoadRect (View.loadsAt_vmem h_S768x256))
    let v136 : Vec F S768x128 .f32 ← Prog.lift (.load A.arg22 (Rect.unit (s := S768x128) ![0, 0] S768x128.size inb_S768x128_S768x128_0_0).toLoadRect (View.loadsAt_vmem h_S768x128))
    let v141 : Vec F S768x128 .f32 ← Prog.lift (.load A.arg22 (Rect.unit (s := S768x128) ![0, 0] S768x128.size inb_S768x128_S768x128_0_0).toLoadRect (View.loadsAt_vmem h_S768x128))
    Prog.lift (.store A.arg22 (Rect.unit (s := S768x128) ![0, 0] S768x128.size inb_S768x128_S768x128_0_0) (k0_pay9 v129 v132 v136) Finset.univ (View.stores_vmem_bits_univ h_S768x128 rfl) (.inl rfl))
    let v148 : Vec F S768x256 .bf16 ← Prog.lift (.load A.arg19 (Rect.unit (s := S768x6912) (k0_off10 i 512#32) S768x256.size (k0_off10_inb i k0_h3 2)).toLoadRect (View.loadsAt_vmem h_S768x256))
    Prog.lift (.store A.arg19 (Rect.unit (s := S768x6912) (k0_off10 i 512#32) S768x256.size (k0_off10_inb i k0_h3 2)) (k0_pay12 v129 v132) Finset.univ (View.stores_vmem h_S768x256 (A.harg19.storeExact_slice rfl _ (k0_off10_packedbf16 i k0_h3 2)) (fun _ => rfl)) (.inl rfl))
    let v154 : Vec F S768x256 .bf16 ← Prog.lift (.load A.arg20 (Rect.unit (s := S768x6912) (k0_off10 i 512#32) S768x256.size (k0_off10_inb i k0_h3 2)).toLoadRect (View.loadsAt_vmem h_S768x256))
    Prog.lift (.store A.arg20 (Rect.unit (s := S768x6912) (k0_off10 i 512#32) S768x256.size (k0_off10_inb i k0_h3 2)) (k0_pay13 v121 v129 v132) Finset.univ (View.stores_vmem h_S768x256 (A.harg20.storeExact_slice rfl _ (k0_off10_packedbf16 i k0_h3 2)) (fun _ => rfl)) (.inl rfl))
    let v158 : Vec F S8x256 .f32 ← Prog.lift (.load A.arg17 (Rect.unit (s := S8x6912) (k0_off11 i 512#32) S8x256.size (k0_off11_inb i k0_h3 2)).toLoadRect (View.loadsAt_vmem h_S8x256))
    let v165 : Vec F S8x256 .f32 ← Prog.lift (.load A.arg17 (Rect.unit (s := S8x6912) (k0_off11 i 512#32) S8x256.size (k0_off11_inb i k0_h3 2)).toLoadRect (View.loadsAt_vmem h_S8x256))
    Prog.lift (.store A.arg17 (Rect.unit (s := S8x6912) (k0_off11 i 512#32) S8x256.size (k0_off11_inb i k0_h3 2)) (k0_pay14 v129 v132 v158) Finset.univ (View.stores_vmem_bits_univ h_S8x256 rfl) (.inl rfl))
    k ⟨⟩

/-- The part of the body at the losses of the token block. Then `k`. -/
def reg4 (A : Args) (i : grid0.Coords) (k0_h4 : k0_cond4 i = 1#1) (k : PUnit → Prog (TpuEff nD τ sig (Elt F) Λ₀ .tc) PUnit) : Prog (TpuEff nD τ sig (Elt F) Λ₀ .tc) PUnit :=
  let arg0 : BitVec 32 := BitVec.ofNat 32 (i 0).val
  let arg1 : BitVec 32 := BitVec.ofNat 32 (i 1).val
  do
    let ⟨v55, v56⟩ : Σ' (v55 : FVec F S1x128 .f32), FVec F S1x128 .f32 ← k0_part6 i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 arg0 k0_h4
    let v59 : Vec F S1x1x128 .f32 ← Prog.lift (.load A.arg13 (Rect.unit (s := S24x1x768) (k0_off15 i) S1x1x128.size (k0_off15_inb i k0_h4)).toLoadRect (View.loadsAt_vmem h_S1x1x128))
    Prog.lift (.store A.arg13 (Rect.unit (s := S24x1x768) (k0_off15 i) S1x1x128.size (k0_off15_inb i k0_h4)) (k0_pay15 v55 v56) Finset.univ (View.stores_vmem_bits_univ h_S1x1x128 rfl) (.inl rfl))
    let v62 : Vec F S128x128 .f32 ← Prog.lift (.load A.arg22 (Rect.unit (s := S768x128) ![512, 0] S128x128.size inb_S768x128_S128x128_512_0).toLoadRect (View.loadsAt_vmem h_S128x128))
    let v69 : Vec F S1x1x128 .f32 ← Prog.lift (.load A.arg13 (Rect.unit (s := S24x1x768) (k0_off16 i) S1x1x128.size (k0_off16_inb i k0_h4)).toLoadRect (View.loadsAt_vmem h_S1x1x128))
    Prog.lift (.store A.arg13 (Rect.unit (s := S24x1x768) (k0_off16 i) S1x1x128.size (k0_off16_inb i k0_h4)) (k0_pay16 v62) Finset.univ (View.stores_vmem_bits_univ h_S1x1x128 rfl) (.inl rfl))
    let v72 : Vec F S128x128 .f32 ← Prog.lift (.load A.arg22 (Rect.unit (s := S768x128) ![640, 0] S128x128.size inb_S768x128_S128x128_640_0).toLoadRect (View.loadsAt_vmem h_S128x128))
    let v79 : Vec F S1x1x128 .f32 ← Prog.lift (.load A.arg13 (Rect.unit (s := S24x1x768) (k0_off17 i) S1x1x128.size (k0_off17_inb i k0_h4)).toLoadRect (View.loadsAt_vmem h_S1x1x128))
    Prog.lift (.store A.arg13 (Rect.unit (s := S24x1x768) (k0_off17 i) S1x1x128.size (k0_off17_inb i k0_h4)) (k0_pay17 v72) Finset.univ (View.stores_vmem_bits_univ h_S1x1x128 rfl) (.inl rfl))
    k ⟨⟩

/-- The part of the body at the backward pass: one tile of 256 inputs. Then `k`. -/
def reg5 (A : Args) (i : grid0.Coords) (k0_h5 : k0_cond5 i = 1#1) (k : PUnit → Prog (TpuEff nD τ sig (Elt F) Λ₀ .tc) PUnit) : Prog (TpuEff nD τ sig (Elt F) Λ₀ .tc) PUnit :=
  let arg0 : BitVec 32 := BitVec.ofNat 32 (i 0).val
  let arg1 : BitVec 32 := BitVec.ofNat 32 (i 1).val
  do
    let ⟨v24, v60⟩ : Σ' (v24 : BitVec 32), FVec F S8x256 .f32 ← k0_part7 i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 arg1 k0_h5
    let v62 : Vec F S8x256 .f32 ← Prog.lift (.load A.arg24 (Rect.unit (s := S8x2560) (k0_off20 i) S8x256.size (k0_off20_inb i k0_h5)).toLoadRect (View.loadsAt_vmem h_S8x256))
    Prog.lift (.store A.arg24 (Rect.unit (s := S8x2560) (k0_off20 i) S8x256.size (k0_off20_inb i k0_h5)) (k0_pay18 v60) Finset.univ (View.stores_vmem_bits_univ h_S8x256 rfl) (.inl rfl))
    let v65 : Vec F S768x6912 .bf16 ← Prog.lift (.load A.arg20 (Rect.unit (s := S768x6912) ![0, 0] S768x6912.size inb_S768x6912_S768x6912_0_0).toLoadRect (View.loadsAt_vmem h_S768x6912))
    let v66 : Vec F S6912x256 .bf16 ← Prog.lift (.load A.arg5 (Rect.unit (s := S6912x256) ![0, 0] S6912x256.size inb_S6912x256_S6912x256_0_0).toLoadRect (View.loadsAt_vmem h_S6912x256))
    let v69 : Vec F S8x256 .f32 ← Prog.lift (.load A.arg25 (Rect.unit (s := S8x2560) (k0_off20 i) S8x256.size (k0_off20_inb i k0_h5)).toLoadRect (View.loadsAt_vmem h_S8x256))
    let v71 : Vec F S768x256 .bf16 ← Prog.lift (.load A.arg18 (Rect.unit (s := S768x2560) (k0_off18 i) S768x256.size (k0_off18_inb i k0_h5)).toLoadRect (View.loadsAt_vmem h_S768x256))
    let v78 : Vec F S8x256 .f32 ← Prog.lift (.load A.arg25 (Rect.unit (s := S8x2560) (k0_off20 i) S8x256.size (k0_off20_inb i k0_h5)).toLoadRect (View.loadsAt_vmem h_S8x256))
    Prog.lift (.store A.arg25 (Rect.unit (s := S8x2560) (k0_off20 i) S8x256.size (k0_off20_inb i k0_h5)) (k0_pay19 v65 v66 v69 v71) Finset.univ (View.stores_vmem_bits_univ h_S8x256 rfl) (.inl rfl))
    k ⟨⟩

/-- The part of the body at the last point: the three finished gradients. Then `k`. -/
def reg6 (A : Args) (i : grid0.Coords) (k0_h6 : k0_cond6 i = 1#1) (k : PUnit → Prog (TpuEff nD τ sig (Elt F) Λ₀ .tc) PUnit) : Prog (TpuEff nD τ sig (Elt F) Λ₀ .tc) PUnit := do
    let v22 : Vec F S8x2560 .f32 ← Prog.lift (.load A.arg25 (Rect.unit (s := S8x2560) ![0, 0] S8x2560.size inb_S8x2560_S8x2560_0_0).toLoadRect (View.loadsAt_vmem h_S8x2560))
    let v25 : Vec F S8x2560 .f32 ← Prog.lift (.load A.arg23 (Rect.unit (s := S8x2560) ![0, 0] S8x2560.size inb_S8x2560_S8x2560_0_0).toLoadRect (View.loadsAt_vmem h_S8x2560))
    let v30 : Vec F S1x2560 .f32 ← Prog.lift (.load A.arg8 (Rect.unit (s := S1x2560) ![0, 0] S1x2560.size inb_S1x2560_S1x2560_0_0).toLoadRect (View.loadsAt_vmem h_S1x2560))
    let v33 : Vec F S1x2560 .f32 ← Prog.lift (.load A.arg14 (Rect.unit (s := S1x2560) ![0, 0] S1x2560.size inb_S1x2560_S1x2560_0_0).toLoadRect (View.loadsAt_vmem h_S1x2560))
    Prog.lift (.store A.arg14 (Rect.unit (s := S1x2560) ![0, 0] S1x2560.size inb_S1x2560_S1x2560_0_0) (k0_pay21 v22 v25 v30) Finset.univ (View.stores_vmem_bits_univ h_S1x2560 rfl) (.inl rfl))
    let v34 : Vec F S8x2560 .f32 ← Prog.lift (.load A.arg24 (Rect.unit (s := S8x2560) ![0, 0] S8x2560.size inb_S8x2560_S8x2560_0_0).toLoadRect (View.loadsAt_vmem h_S8x2560))
    let v39 : Vec F S1x2560 .f32 ← Prog.lift (.load A.arg8 (Rect.unit (s := S1x2560) ![0, 0] S1x2560.size inb_S1x2560_S1x2560_0_0).toLoadRect (View.loadsAt_vmem h_S1x2560))
    let v41 : Vec F S1x2560 .f32 ← Prog.lift (.load A.arg15 (Rect.unit (s := S1x2560) ![0, 0] S1x2560.size inb_S1x2560_S1x2560_0_0).toLoadRect (View.loadsAt_vmem h_S1x2560))
    Prog.lift (.store A.arg15 (Rect.unit (s := S1x2560) ![0, 0] S1x2560.size inb_S1x2560_S1x2560_0_0) (k0_pay22 v34 v39) Finset.univ (View.stores_vmem_bits_univ h_S1x2560 rfl) (.inl rfl))
    let v42 : Vec F S1x2560 .f32 ← Prog.lift (.load A.arg16 (Rect.unit (s := S1x2560) ![0, 0] S1x2560.size inb_S1x2560_S1x2560_0_0).toLoadRect (View.loadsAt_vmem h_S1x2560))
    Prog.lift (.store A.arg16 (Rect.unit (s := S1x2560) ![0, 0] S1x2560.size inb_S1x2560_S1x2560_0_0) (k0_pay20 v22) Finset.univ (View.stores_vmem_bits_univ h_S1x2560 rfl) (.inl rfl))
    k ⟨⟩

/-- The body from its part 6 on. -/
def tail6 (A : Args) (i : grid0.Coords) : Prog (TpuEff nD τ sig (Elt F) Λ₀ .tc) PUnit :=
  if h : k0_cond6 i = 1#1 then reg6 A i h pure else pure ⟨⟩

/-- The body from its part 5 on. -/
def tail5 (A : Args) (i : grid0.Coords) : Prog (TpuEff nD τ sig (Elt F) Λ₀ .tc) PUnit :=
  if h : k0_cond5 i = 1#1 then reg5 A i h (fun _ : PUnit.{1} => tail6 A i) else tail6 A i

/-- The body from its part 4 on. -/
def tail4 (A : Args) (i : grid0.Coords) : Prog (TpuEff nD τ sig (Elt F) Λ₀ .tc) PUnit :=
  if h : k0_cond4 i = 1#1 then reg4 A i h (fun _ : PUnit.{1} => tail5 A i) else tail5 A i

/-- The body from its part 3 on. -/
def tail3 (A : Args) (i : grid0.Coords) : Prog (TpuEff nD τ sig (Elt F) Λ₀ .tc) PUnit :=
  if h : k0_cond3 i = 1#1 then reg3 A i h (fun _ : PUnit.{1} => tail4 A i) else tail4 A i

/-- The body from its part 2 on. -/
def tail2 (A : Args) (i : grid0.Coords) : Prog (TpuEff nD τ sig (Elt F) Λ₀ .tc) PUnit :=
  if h : k0_cond2 i = 1#1 then reg2a A i h fun _ : PUnit.{1} => reg2b A i h (fun _ : PUnit.{1} => tail3 A i) else tail3 A i

/-- The body from its part 1 on. -/
def tail1 (A : Args) (i : grid0.Coords) : Prog (TpuEff nD τ sig (Elt F) Λ₀ .tc) PUnit :=
  if h : k0_cond1 i = 1#1 then reg1 A i h (fun _ : PUnit.{1} => tail2 A i) else tail2 A i

/-- The second part, as the body states it (its loop inside a function of its own), is its two halves. -/
theorem reg2_eq (A : Args) (i : grid0.Coords) (k0_h2 : k0_cond2 i = 1#1) (k : PUnit → Prog (TpuEff nD τ sig (Elt F) Λ₀ .tc) PUnit) :
    (do
    let v50 : FVec F S1x128 .f32 ← k0_part2 i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 (BitVec.ofNat 32 (i 0).val) k0_h2
    Prog.lift (.store A.arg12 (Rect.unit (s := S24x1x768) (k0_off6 i) S1x1x128.size (k0_off6_inb i k0_h2)) (k0_pay5 v50) Finset.univ (View.stores_vmem_bits_univ h_S1x1x128 rfl) (.inl rfl))
    let v55 : Vec F S128x128 .f32 ← Prog.lift (.load A.arg21 (Rect.unit (s := S768x256) ![512, 0] S128x128.size inb_S768x256_S128x128_512_0).toLoadRect (View.loadsAt_vmem h_S128x128))
    let v59 : Vec F S1x1x128 .f32 ← Prog.lift (.load A.arg12 (Rect.unit (s := S24x1x768) (k0_off7 i) S1x1x128.size (k0_off7_inb i k0_h2)).toLoadRect (View.loadsAt_vmem h_S1x1x128))
    Prog.lift (.store A.arg12 (Rect.unit (s := S24x1x768) (k0_off7 i) S1x1x128.size (k0_off7_inb i k0_h2)) (k0_pay6 v55) Finset.univ (View.stores_vmem_bits_univ h_S1x1x128 rfl) (.inl rfl))
    let v62 : Vec F S128x128 .f32 ← Prog.lift (.load A.arg21 (Rect.unit (s := S768x256) ![640, 0] S128x128.size inb_S768x256_S128x128_640_0).toLoadRect (View.loadsAt_vmem h_S128x128))
    let v66 : Vec F S1x1x128 .f32 ← Prog.lift (.load A.arg12 (Rect.unit (s := S24x1x768) (k0_off8 i) S1x1x128.size (k0_off8_inb i k0_h2)).toLoadRect (View.loadsAt_vmem h_S1x1x128))
    Prog.lift (.store A.arg12 (Rect.unit (s := S24x1x768) (k0_off8 i) S1x1x128.size (k0_off8_inb i k0_h2)) (k0_pay7 v62) Finset.univ (View.stores_vmem_bits_univ h_S1x1x128 rfl) (.inl rfl))
    k ⟨⟩) = reg2a A i k0_h2 fun _ : PUnit.{1} => reg2b A i k0_h2 k := by
  rw [k0_part2_eq_skeleton]
  unfold k0_part2_skel reg2a reg2b
  simp only [bind_assoc, pure_bind]

/-- The body is its six parts one after the other. -/
theorem cc0_eq_tail1 (A : Args) (i : grid0.Coords) :
    cc0_forward_backward (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 = tail1 A i := by
  rw [cc0_forward_backward_eq_skeleton]; unfold cc0_forward_backward_skel tail1 tail2
  simp only [← reg2_eq]
  rfl

end Cert.KernelIdeal.Gen

end
-- ==== Proof.KI.Run1.lean ====
/- The part of the body at the first point, run. -/
module

public import proofs.«01_k».proof.Proof.KI.Parts
public import Idealize.ShloMosaic.Lib.Tactic.RunNames

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- Four accumulators filled with zeros. -/
def f1 (i : grid0.Coords) (a : In F) (b : St F) : St F :=
  { b with gb := k0_pay1, s1 := k0_pay2, s2 := k0_pay3, s3 := k0_pay4 }

/-- The first point: from all buffers at `b` to all buffers at `f1 i a b`. -/
theorem run1 (c : Dev nD) (A : Args) (i : grid0.Coords) (hc : k0_cond1 i = 1#1) (a : In F) (b : St F)
    (E : Set ℕ) (k : PUnit → Prog (TpuEff nD τ sig (Elt F) Λ₀ .tc) PUnit) (K : PUnit → sProp 𝕄) :
    iprop(Held c A a b ∗ (Held c A a (f1 i a b) -∗ wp frame (wpE (defs₀ (F := F)) Variants.none c none) E (k ⟨⟩) K))
      ⊢ wp frame (wpE (defs₀ (F := F)) Variants.none c none) E (reg1 A i hc k) K := by
  obtain ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25⟩ := A
  unfold Held reg1
  try dsimp only
  unfold owns
  iintro ⟨⟨H2, H3, H4, H5, H6, H7, H8, H9, H10, H11, H12, H13, H14, H15, H16, ⟨%f17, %h17, H17⟩, H18, H19, H20, H21, H22, ⟨%f23, %h23, H23⟩, ⟨%f24, %h24, H24⟩, ⟨%f25, %h25, H25⟩⟩, Hk⟩
  sl_exec (disch := first | sl_exact hc)
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · iexists _; isplitr; swap; · iexact H17
    ipureintro; sl_unfold_run_names; rw [View.read_writes_full]; first | rfl | (simp only [View.readAt_eq_ld, h17, h23, h24, h25]; rfl)
  isplitl [H18]; · iexact H18
  isplitl [H19]; · iexact H19
  isplitl [H20]; · iexact H20
  isplitl [H21]; · iexact H21
  isplitl [H22]; · iexact H22
  isplitl [H23]
  · iexists _; isplitr; swap; · iexact H23
    ipureintro; sl_unfold_run_names; rw [View.read_writes_full]; first | rfl | (simp only [View.readAt_eq_ld, h17, h23, h24, h25]; rfl)
  isplitl [H24]
  · iexists _; isplitr; swap; · iexact H24
    ipureintro; sl_unfold_run_names; rw [View.read_writes_full]; first | rfl | (simp only [View.readAt_eq_ld, h17, h23, h24, h25]; rfl)
  iexists _; isplitr; swap; · iexact H25
  ipureintro; sl_unfold_run_names; rw [View.read_writes_full]; first | rfl | (simp only [View.readAt_eq_ld, h17, h23, h24, h25]; rfl)

end Cert.KernelIdeal.Gen

end
-- ==== Proof.KI.Run2a.lean ====
/- The part of the body that quantises a token block, run. -/
module

public import proofs.«01_k».proof.Proof.KI.Parts
public import Idealize.ShloMosaic.Lib.Tactic.RunNames
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The trip of the quantising loop that treats row `r`. -/
def tripOf (r : Fin 768) : Fin k0_t1_loop.trips :=
  ⟨r.val / 32, by have h : k0_t1_loop.trips = 24 := by decide +kernel
                  rw [h]; have := r.isLt; omega⟩

theorem trips_eq : Scf.trips k0_t1_loop.lb k0_t1_loop.ub k0_t1_loop.st = 24 := by decide +kernel
theorem trips_eq' : k0_t1_loop.trips = 24 := by decide +kernel

theorem off1_inb (k : Fin k0_t1_loop.trips) : ∀ a, (k0_off1 k) a + S32x2560.size a ≤ S768x2560.size a := by
  have hk : k.val < 24 := trips_eq' ▸ k.isLt
  rw [k0_off1_eq]; intro a
  match a with
  | ⟨0, _⟩ => show 32 * k.val + 32 ≤ 768; omega
  | ⟨1, _⟩ => show 0 + 2560 ≤ 2560; omega

theorem off2_inb (k : Fin k0_t1_loop.trips) : ∀ a, (k0_off2 k) a + S32x256.size a ≤ S768x256.size a := by
  have hk : k.val < 24 := trips_eq' ▸ k.isLt
  rw [k0_off2_eq]; intro a
  match a with
  | ⟨0, _⟩ => show 32 * k.val + 32 ≤ 768; omega
  | ⟨1, _⟩ => show 0 + 256 ≤ 256; omega

theorem off1_mem (y : S768x2560.Idx) : ∀ a, (k0_off1 (tripOf (y 0))) a ≤ (y a).val ∧ (y a).val < (k0_off1 (tripOf (y 0))) a + S32x2560.size a := by
  rw [k0_off1_eq]; intro a
  match a with
  | ⟨0, _⟩ => show 32 * ((y 0).val / 32) ≤ (y 0).val ∧ (y 0).val < 32 * ((y 0).val / 32) + 32; omega
  | ⟨1, _⟩ => show 0 ≤ (y 1).val ∧ (y 1).val < 0 + 2560; have : (y 1).val < 2560 := (y 1).isLt; omega

theorem off2_mem (y : S768x256.Idx) : ∀ a, (k0_off2 (tripOf (y 0))) a ≤ (y a).val ∧ (y a).val < (k0_off2 (tripOf (y 0))) a + S32x256.size a := by
  rw [k0_off2_eq]; intro a
  match a with
  | ⟨0, _⟩ => show 32 * ((y 0).val / 32) ≤ (y 0).val ∧ (y 0).val < 32 * ((y 0).val / 32) + 32; omega
  | ⟨1, _⟩ => show 0 ≤ (y 1).val ∧ (y 1).val < 0 + 256; have : (y 1).val < 256 := (y 1).isLt; omega

/-- A block of 768 rows made of 24 blocks of 32 rows, `G k` the `k`-th. -/
def rows1 {α : Type} (G : Fin k0_t1_loop.trips → S32x2560.Idx → α) : S768x2560.Idx → α :=
  fun y => G (tripOf (y 0)) (Rect.unitLocal (s := S768x2560) (off := k0_off1 (tripOf (y 0))) (size := S32x2560.size) y (off1_mem y))

/-- The same at 256 columns. -/
def rows2 {α : Type} (G : Fin k0_t1_loop.trips → S32x256.Idx → α) : S768x256.Idx → α :=
  fun y => G (tripOf (y 0)) (Rect.unitLocal (s := S768x256) (off := k0_off2 (tripOf (y 0))) (size := S32x256.size) y (off2_mem y))

theorem rows1_emb {α : Type} (G : Fin k0_t1_loop.trips → S32x2560.Idx → α) (k : Fin k0_t1_loop.trips)
    (inb : ∀ a, (k0_off1 k) a + S32x2560.size a ≤ S768x2560.size a)
    (x : (Rect.unit (s := S768x2560) (k0_off1 k) S32x2560.size inb).shape.Idx) :
    G k x = rows1 G ((Rect.unit (s := S768x2560) (k0_off1 k) S32x2560.size inb).emb x) := by
  have key : ∀ (k' : Fin k0_t1_loop.trips) (h : k' = k) (y : S768x2560.Idx) (hy : y = (Rect.unit (s := S768x2560) (k0_off1 k) S32x2560.size inb).emb x)
      (hm : ∀ a, (k0_off1 k') a ≤ (y a).val ∧ (y a).val < (k0_off1 k') a + S32x2560.size a),
      G k x = G k' (Rect.unitLocal (s := S768x2560) (off := k0_off1 k') (size := S32x2560.size) y hm) := by
    intro k' h y hy hm; subst h; subst hy
    refine congrArg (G k') (funext fun a => Fin.ext ?_)
    show (x a).val = (k0_off1 k') a + 1 * (x a).val - (k0_off1 k') a
    omega
  refine key _ (Fin.ext ?_) _ rfl _
  show ((k0_off1 k) 0 + 1 * (x 0).val) / 32 = k.val
  have h0 : (k0_off1 k) 0 = 32 * k.val := congrFun (k0_off1_eq k) 0
  rw [h0]
  have : (x 0).val < 32 := (x 0).isLt
  omega

theorem rows2_emb {α : Type} (G : Fin k0_t1_loop.trips → S32x256.Idx → α) (k : Fin k0_t1_loop.trips)
    (inb : ∀ a, (k0_off2 k) a + S32x256.size a ≤ S768x256.size a)
    (x : (Rect.unit (s := S768x256) (k0_off2 k) S32x256.size inb).shape.Idx) :
    G k x = rows2 G ((Rect.unit (s := S768x256) (k0_off2 k) S32x256.size inb).emb x) := by
  have key : ∀ (k' : Fin k0_t1_loop.trips) (h : k' = k) (y : S768x256.Idx) (hy : y = (Rect.unit (s := S768x256) (k0_off2 k) S32x256.size inb).emb x)
      (hm : ∀ a, (k0_off2 k') a ≤ (y a).val ∧ (y a).val < (k0_off2 k') a + S32x256.size a),
      G k x = G k' (Rect.unitLocal (s := S768x256) (off := k0_off2 k') (size := S32x256.size) y hm) := by
    intro k' h y hy hm; subst h; subst hy
    refine congrArg (G k') (funext fun a => Fin.ext ?_)
    show (x a).val = (k0_off2 k') a + 1 * (x a).val - (k0_off2 k') a
    omega
  refine key _ (Fin.ext ?_) _ rfl _
  show ((k0_off2 k) 0 + 1 * (x 0).val) / 32 = k.val
  have h0 : (k0_off2 k) 0 = 32 * k.val := congrFun (k0_off2_eq k) 0
  rw [h0]
  have : (x 0).val < 32 := (x 0).isLt
  omega

/-- The 32 tokens of trip `k`. -/
abbrev xRows (x : Vec F S768x2560 .bf16) (k : Fin k0_t1_loop.trips) : Vec F S32x2560 .bf16 :=
  View.ld x (Rect.unit (s := S768x2560) (k0_off1 k) S32x2560.size (off1_inb k))
/-- A row vector, whole. -/
abbrev vRow (v : Vec F S1x2560 .f32) : Vec F S1x2560 .f32 :=
  View.ld v (Rect.unit (s := S1x2560) ![0, 0] S1x2560.size inb_S1x2560_S1x2560_0_0)

/-- The quantised block: as floats, -/
def qXq (a : In F) : Vec F S768x2560 .bf16 := rows1 fun k => k0_pay26 (xRows a.x k) (vRow a.delta) (vRow a.s)
/-- as integers, -/
def qCodes (a : In F) : Vec F S768x2560 .i8 := rows1 fun k => k0_pay27 (xRows a.x k) (vRow a.delta) (vRow a.s)
/-- and its scales, each along its row. -/
def qSc (a : In F) : Vec F S768x256 .f32 := rows2 fun k => k0_pay30 (k0_pay28 (xRows a.x k) (vRow a.delta) (vRow a.s))

/-- The token block quantised, the partial sums of squares at zero. -/
def f2a (i : grid0.Coords) (a : In F) (b : St F) : St F :=
  { b with xq := qXq a, codes := qCodes a, sc := qSc a, sq := k0_pay29 }

/-- The pieces the loop's trips before `k` wrote are blocks of the three whole results. -/
theorem pb_pieces (𝒱 : Variants) (c : Dev nD) (bd : Option 𝒱.V) (A : Args) (i : grid0.Coords) (arg0 : BitVec 32) (k0_h2 : k0_cond2 i = 1#1) (a : In F)
    (X2 : BufTy.Contents (Elt F) A.arg2.view.ty) (X8 : BufTy.Contents (Elt F) A.arg8.view.ty) (X9 : BufTy.Contents (Elt F) A.arg9.view.ty)
    (h2 : A.arg2.view.read (Elt F) X2 = a.x) (h8 : A.arg8.view.read (Elt F) X8 = a.s) (h9 : A.arg9.view.read (Elt F) X9 = a.delta) :
    ∀ k : ℕ, k ≤ k0_t1_loop.trips →
      View.PiecesOf (qCodes a) (pb_k0_t1 (F := F) 𝒱 c bd i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 arg0 k0_h2 X2 X8 X9 k).1
      ∧ View.PiecesOf (qXq a) (pb_k0_t1 (F := F) 𝒱 c bd i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 arg0 k0_h2 X2 X8 X9 k).2.1
      ∧ View.PiecesOf (qSc a) (pb_k0_t1 (F := F) 𝒱 c bd i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 arg0 k0_h2 X2 X8 X9 k).2.2
  | 0, _ => ⟨trivial, trivial, trivial⟩
  | k + 1, hk => by
    have ih := pb_pieces 𝒱 c bd A i arg0 k0_h2 a X2 X8 X9 h2 h8 h9 k (Nat.le_of_succ_le hk)
    rw [show k + 1 = (⟨k, hk⟩ : Fin k0_t1_loop.trips).val + 1 from rfl, pb_k0_t1_succ]
    unfold tripL_k0_t1 trip_k0_t1
    refine ⟨⟨fun x => ?_, ih.1⟩, ⟨fun x => ?_, ih.2.1⟩, ⟨fun x => ?_, ih.2.2⟩⟩
    · sl_unfold_run_names
      simp only [View.readAt_eq_ld, h2, h8, h9]
      exact rows1_emb (fun k => k0_pay27 (xRows a.x k) (vRow a.delta) (vRow a.s)) ⟨k, hk⟩ _ x
    · sl_unfold_run_names
      simp only [View.readAt_eq_ld, h2, h8, h9]
      exact rows1_emb (fun k => k0_pay26 (xRows a.x k) (vRow a.delta) (vRow a.s)) ⟨k, hk⟩ _ x
    · sl_unfold_run_names
      simp only [View.readAt_eq_ld, h2, h8, h9]
      exact rows2_emb (fun k => k0_pay30 (k0_pay28 (xRows a.x k) (vRow a.delta) (vRow a.s))) ⟨k, hk⟩ _ x

/-- Pieces that are blocks of `G` and cover the shape leave `G`. -/
theorem read_pieces {sig : RefSig} {κ : Kind} {sp : Space} {s : Shape} {e : EltTy} {Val : EltTy → Type} [∀ e, Nonempty (Val e)] (v : View sig κ sp s e)
    (f : v.ty.Contents Val) (G : s.Idx → Val e) (L : List (View.Piece Val s e)) (hp : View.PiecesOf G L) (hc : ∀ y, ∃ p ∈ L, y ∈ p.1.set) :
    v.read Val (v.writes Val f L) = G := by
  rw [View.read_writes_eq_canon v f L hc]
  funext y
  exact View.canon_apply_of_pieces G L hp.mem y (hc y)

/-- The quantising of a token block: from all buffers at `b` to all buffers at `f2a i a b`. -/
theorem run2a (c : Dev nD) (A : Args) (i : grid0.Coords) (hc : k0_cond2 i = 1#1) (a : In F) (b : St F)
    (E : Set ℕ) (k : PUnit → Prog (TpuEff nD τ sig (Elt F) Λ₀ .tc) PUnit) (K : PUnit → sProp 𝕄) :
    iprop(Held c A a b ∗ (Held c A a (f2a i a b) -∗ wp frame (wpE (defs₀ (F := F)) Variants.none c none) E (k ⟨⟩) K))
      ⊢ wp frame (wpE (defs₀ (F := F)) Variants.none c none) E (reg2a A i hc k) K := by
  obtain ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25⟩ := A
  unfold Held reg2a
  try dsimp only
  unfold owns
  iintro ⟨⟨⟨%f2, %h2, H2⟩, H3, H4, H5, H6, H7, ⟨%f8, %h8, H8⟩, ⟨%f9, %h9, H9⟩, H10, ⟨%f11, %h11, H11⟩, H12, H13, H14, H15, H16, H17, ⟨%f18, %h18, H18⟩, H19, H20, ⟨%f21, %h21, H21⟩, ⟨%f22, %h22, H22⟩, H23, H24, H25⟩, Hk⟩
  sl_exec (disch := first | sl_exact hc)
  iapply Hk
  isplitl [H2]
  · iexists _; isplitr; swap; · iexact H2
    ipureintro; exact h2
  isplitl [H3]; · iexact H3
  isplitl [H4]; · iexact H4
  isplitl [H5]; · iexact H5
  isplitl [H6]; · iexact H6
  isplitl [H7]; · iexact H7
  isplitl [H8]
  · iexists _; isplitr; swap; · iexact H8
    ipureintro; exact h8
  isplitl [H9]
  · iexists _; isplitr; swap; · iexact H9
    ipureintro; exact h9
  isplitl [H10]; · iexact H10
  isplitl [H11]
  · iexists _; isplitr; swap; · iexact H11
    ipureintro; rw [read_pieces (arg11.view) f11 (qCodes a) _ (by first | exact (pb_pieces _ c _ ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25⟩ i _ hc a f2 f8 f9 h2 h8 h9 _ le_rfl).1)
        (View.cover_of_tiledL _ S32x2560.size (by sl_kernel_rfl))]; rfl
  isplitl [H12]; · iexact H12
  isplitl [H13]; · iexact H13
  isplitl [H14]; · iexact H14
  isplitl [H15]; · iexact H15
  isplitl [H16]; · iexact H16
  isplitl [H17]; · iexact H17
  isplitl [H18]
  · iexists _; isplitr; swap; · iexact H18
    ipureintro; rw [read_pieces (arg18.view) f18 (qXq a) _ (by first | exact (pb_pieces _ c _ ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25⟩ i _ hc a f2 f8 f9 h2 h8 h9 _ le_rfl).2.1)
        (View.cover_of_tiledL _ S32x2560.size (by sl_kernel_rfl))]; rfl
  isplitl [H19]; · iexact H19
  isplitl [H20]; · iexact H20
  isplitl [H21]
  · iexists _; isplitr; swap; · iexact H21
    ipureintro; rw [read_pieces (arg21.view) f21 (qSc a) _ (by first | exact (pb_pieces _ c _ ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25⟩ i _ hc a f2 f8 f9 h2 h8 h9 _ le_rfl).2.2)
        (View.cover_of_tiledL _ S32x256.size (by sl_kernel_rfl))]; rfl
  isplitl [H22]
  · iexists _; isplitr; swap; · iexact H22
    ipureintro; sl_unfold_run_names; rw [View.read_writes_full]; rfl
  isplitl [H23]; · iexact H23
  isplitl [H24]; · iexact H24
  iexact H25

end Cert.KernelIdeal.Gen

end
-- ==== Proof.KI.Run2b.lean ====
/- The part of the body that writes the scales as a row, run. -/
module

public import proofs.«01_k».proof.Proof.KI.Parts
public import Idealize.ShloMosaic.Lib.Tactic.RunNames

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The scales of the token block written: each segment of 128 tokens from its rows of the repeated scales. -/
def f2b (i : grid0.Coords) (a : In F) (b : St F) : St F :=
  { b with
    scales := VecWindow.put (VecWindow.put (VecWindow.put (VecWindow.put (VecWindow.put (VecWindow.put (b.scales)
      (k0_off3 i) S1x1x128.size (k0_pay31 (View.ld b.sc (Rect.unit (s := S768x256) ![0, 0] S128x128.size inb_S768x256_S128x128_0_0))))
      (k0_off4 i) S1x1x128.size (k0_pay32 (View.ld b.sc (Rect.unit (s := S768x256) ![128, 0] S128x128.size inb_S768x256_S128x128_128_0))))
      (k0_off5 i) S1x1x128.size (k0_pay33 (View.ld b.sc (Rect.unit (s := S768x256) ![256, 0] S128x128.size inb_S768x256_S128x128_256_0))))
      (k0_off6 i) S1x1x128.size (k0_pay5 (k0_pay34 (View.ld b.sc (Rect.unit (s := S768x256) ![384, 0] S128x128.size inb_S768x256_S128x128_384_0)))))
      (k0_off7 i) S1x1x128.size (k0_pay6 (View.ld b.sc (Rect.unit (s := S768x256) ![512, 0] S128x128.size inb_S768x256_S128x128_512_0))))
      (k0_off8 i) S1x1x128.size (k0_pay7 (View.ld b.sc (Rect.unit (s := S768x256) ![640, 0] S128x128.size inb_S768x256_S128x128_640_0))) }

/-- The scales of a token block: from all buffers at `b` to all buffers at `f2b i a b`. -/
theorem run2b (c : Dev nD) (A : Args) (i : grid0.Coords) (hc : k0_cond2 i = 1#1) (a : In F) (b : St F)
    (E : Set ℕ) (k : PUnit → Prog (TpuEff nD τ sig (Elt F) Λ₀ .tc) PUnit) (K : PUnit → sProp 𝕄) :
    iprop(Held c A a b ∗ (Held c A a (f2b i a b) -∗ wp frame (wpE (defs₀ (F := F)) Variants.none c none) E (k ⟨⟩) K))
      ⊢ wp frame (wpE (defs₀ (F := F)) Variants.none c none) E (reg2b A i hc k) K := by
  obtain ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25⟩ := A
  unfold Held reg2b
  try dsimp only
  unfold owns
  iintro ⟨⟨H2, H3, H4, H5, H6, H7, H8, H9, H10, H11, ⟨%f12, %h12, H12⟩, H13, H14, H15, H16, H17, H18, H19, H20, ⟨%f21, %h21, H21⟩, H22, H23, H24, H25⟩, Hk⟩
  sl_exec (disch := first | sl_exact hc)
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists _; isplitr; swap; · iexact H12
    ipureintro; sl_unfold_run_names; rw [View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.writes_nil, h12]; try simp only [View.readAt_eq_ld, h21, h12]; rfl
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]
  · iexists _; isplitr; swap; · iexact H21
    ipureintro; exact h21
  isplitl [H22]; · iexact H22
  isplitl [H23]; · iexact H23
  isplitl [H24]; · iexact H24
  iexact H25

end Cert.KernelIdeal.Gen

end
-- ==== Proof.KI.Run3.lean ====
/- The part of the body of the forward pass, run. -/
module

public import proofs.«01_k».proof.Proof.KI.Parts
public import Idealize.ShloMosaic.Lib.Tactic.RunNames

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- A load of a whole buffer after a store of the whole buffer reads what was stored. -/
theorem readCov_whole {sig : RefSig} {κ : Kind} {sp : Space} {s : Shape} {e : EltTy} {Val : EltTy → Type} [∀ e, Nonempty (Val e)] (v : View sig κ sp s e)
    {off off' size : Fin s.rank → ℕ} (inb : ∀ a, off a + size a ≤ s.size a) (inb' : ∀ a, off' a + size a ≤ s.size a)
    (w : (Rect.unit off' size inb').shape.Idx → Val e) (L : List (View.Piece Val s e)) (hs : size = s.size) :
    v.readCov (⟨Rect.unit off' size inb', w⟩ :: L) (Rect.unit off size inb).toLoadRect = w := by
  subst hs; exact View.readCov_full v inb inb' w L

/-- The partial sums of squares after the first tile of the forward pass. -/
def sqA (i : grid0.Coords) (hc : k0_cond3 i = 1#1) (a : In F) (b : St F) : Vec F S768x128 .f32 :=
  k0_pay38 (View.ld b.xq (Rect.unit (s := S768x2560) ![0, 0] S768x2560.size inb_S768x2560_S768x2560_0_0)) (View.ld a.wa (Rect.unit (s := S768x2560) ![0, 0] S256x2560.size inb_S768x2560_S256x2560_0_0)) (View.ld b.sc (Rect.unit (s := S768x256) ![0, 0] S768x256.size inb_S768x256_S768x256_0_0)) (View.ld a.bt (Rect.unit (s := S1x6912) (k0_off9 i 0#32) S1x256.size (k0_off9_inb i hc 0))) (View.ld a.yt (Rect.unit (s := S768x768) ![0, 0] S768x256.size inb_S768x768_S768x256_0_0)) (View.ld b.sq (Rect.unit (s := S768x128) ![0, 0] S768x128.size inb_S768x128_S768x128_0_0))

/-- The partial sums of squares after the second tile of the forward pass. -/
def sqB (i : grid0.Coords) (hc : k0_cond3 i = 1#1) (a : In F) (b : St F) : Vec F S768x128 .f32 :=
  k0_pay49 (k0_pay48 (View.ld b.xq (Rect.unit (s := S768x2560) ![0, 0] S768x2560.size inb_S768x2560_S768x2560_0_0)) (View.ld a.wa (Rect.unit (s := S768x2560) ![256, 0] S256x2560.size inb_S768x2560_S256x2560_256_0)) (View.ld b.sc (Rect.unit (s := S768x256) ![0, 0] S768x256.size inb_S768x256_S768x256_0_0)) (View.ld a.bt (Rect.unit (s := S1x6912) (k0_off9 i 256#32) S1x256.size (k0_off9_inb i hc 1))) (View.ld a.yt (Rect.unit (s := S768x768) ![0, 256] S768x256.size inb_S768x768_S768x256_0_256)) (sqA i hc a b))

/-- The forward pass of one point: three tiles of 256 outputs. -/
def f3 (i : grid0.Coords) (hc : k0_cond3 i = 1#1) (a : In F) (b : St F) : St F :=
  { b with
    y := VecWindow.put (VecWindow.put (VecWindow.put (b.y)
      (![0, 0]) S768x256.size (k0_pay36 (View.ld b.xq (Rect.unit (s := S768x2560) ![0, 0] S768x2560.size inb_S768x2560_S768x2560_0_0)) (View.ld a.wa (Rect.unit (s := S768x2560) ![0, 0] S256x2560.size inb_S768x2560_S256x2560_0_0)) (View.ld b.sc (Rect.unit (s := S768x256) ![0, 0] S768x256.size inb_S768x256_S768x256_0_0)) (View.ld a.bt (Rect.unit (s := S1x6912) (k0_off9 i 0#32) S1x256.size (k0_off9_inb i hc 0)))))
      (![0, 256]) S768x256.size (k0_pay46 (View.ld b.xq (Rect.unit (s := S768x2560) ![0, 0] S768x2560.size inb_S768x2560_S768x2560_0_0)) (View.ld a.wa (Rect.unit (s := S768x2560) ![256, 0] S256x2560.size inb_S768x2560_S256x2560_256_0)) (View.ld b.sc (Rect.unit (s := S768x256) ![0, 0] S768x256.size inb_S768x256_S768x256_0_0)) (View.ld a.bt (Rect.unit (s := S1x6912) (k0_off9 i 256#32) S1x256.size (k0_off9_inb i hc 1)))))
      (![0, 512]) S768x256.size (k0_pay56 (View.ld b.xq (Rect.unit (s := S768x2560) ![0, 0] S768x2560.size inb_S768x2560_S768x2560_0_0)) (View.ld a.wa (Rect.unit (s := S768x2560) ![512, 0] S256x2560.size inb_S768x2560_S256x2560_512_0)) (View.ld b.sc (Rect.unit (s := S768x256) ![0, 0] S768x256.size inb_S768x256_S768x256_0_0)) (View.ld a.bt (Rect.unit (s := S1x6912) (k0_off9 i 512#32) S1x256.size (k0_off9_inb i hc 2))))
    sq := k0_pay9 (k0_pay55 (View.ld b.xq (Rect.unit (s := S768x2560) ![0, 0] S768x2560.size inb_S768x2560_S768x2560_0_0)) (View.ld a.wa (Rect.unit (s := S768x2560) ![512, 0] S256x2560.size inb_S768x2560_S256x2560_512_0)) (View.ld b.sc (Rect.unit (s := S768x256) ![0, 0] S768x256.size inb_S768x256_S768x256_0_0)) (View.ld a.bt (Rect.unit (s := S1x6912) (k0_off9 i 512#32) S1x256.size (k0_off9_inb i hc 2)))) (View.ld a.yt (Rect.unit (s := S768x768) ![0, 512] S768x256.size inb_S768x768_S768x256_0_512)) (sqB i hc a b)
    g := VecWindow.put (VecWindow.put (VecWindow.put (b.g)
      (k0_off10 i 0#32) S768x256.size (k0_pay41 (View.ld b.xq (Rect.unit (s := S768x2560) ![0, 0] S768x2560.size inb_S768x2560_S768x2560_0_0)) (View.ld a.wa (Rect.unit (s := S768x2560) ![0, 0] S256x2560.size inb_S768x2560_S256x2560_0_0)) (View.ld b.sc (Rect.unit (s := S768x256) ![0, 0] S768x256.size inb_S768x256_S768x256_0_0)) (View.ld a.bt (Rect.unit (s := S1x6912) (k0_off9 i 0#32) S1x256.size (k0_off9_inb i hc 0))) (View.ld a.yt (Rect.unit (s := S768x768) ![0, 0] S768x256.size inb_S768x768_S768x256_0_0))))
      (k0_off10 i 256#32) S768x256.size (k0_pay52 (k0_pay47 (View.ld b.xq (Rect.unit (s := S768x2560) ![0, 0] S768x2560.size inb_S768x2560_S768x2560_0_0)) (View.ld a.wa (Rect.unit (s := S768x2560) ![256, 0] S256x2560.size inb_S768x2560_S256x2560_256_0)) (View.ld b.sc (Rect.unit (s := S768x256) ![0, 0] S768x256.size inb_S768x256_S768x256_0_0)) (View.ld a.bt (Rect.unit (s := S1x6912) (k0_off9 i 256#32) S1x256.size (k0_off9_inb i hc 1))) (View.ld a.yt (Rect.unit (s := S768x768) ![0, 256] S768x256.size inb_S768x768_S768x256_0_256)))))
      (k0_off10 i 512#32) S768x256.size (k0_pay12 (k0_pay55 (View.ld b.xq (Rect.unit (s := S768x2560) ![0, 0] S768x2560.size inb_S768x2560_S768x2560_0_0)) (View.ld a.wa (Rect.unit (s := S768x2560) ![512, 0] S256x2560.size inb_S768x2560_S256x2560_512_0)) (View.ld b.sc (Rect.unit (s := S768x256) ![0, 0] S768x256.size inb_S768x256_S768x256_0_0)) (View.ld a.bt (Rect.unit (s := S1x6912) (k0_off9 i 512#32) S1x256.size (k0_off9_inb i hc 2)))) (View.ld a.yt (Rect.unit (s := S768x768) ![0, 512] S768x256.size inb_S768x768_S768x256_0_512)))
    gx := VecWindow.put (VecWindow.put (VecWindow.put (b.gx)
      (k0_off10 i 0#32) S768x256.size (k0_pay43 (k0_pay42 (View.ld b.xq (Rect.unit (s := S768x2560) ![0, 0] S768x2560.size inb_S768x2560_S768x2560_0_0)) (View.ld a.wa (Rect.unit (s := S768x2560) ![0, 0] S256x2560.size inb_S768x2560_S256x2560_0_0)) (View.ld b.sc (Rect.unit (s := S768x256) ![0, 0] S768x256.size inb_S768x256_S768x256_0_0)) (View.ld a.bt (Rect.unit (s := S1x6912) (k0_off9 i 0#32) S1x256.size (k0_off9_inb i hc 0))) (View.ld a.yt (Rect.unit (s := S768x768) ![0, 0] S768x256.size inb_S768x768_S768x256_0_0)))))
      (k0_off10 i 256#32) S768x256.size (k0_pay53 (View.ld b.sc (Rect.unit (s := S768x256) ![0, 0] S768x256.size inb_S768x256_S768x256_0_0)) (k0_pay47 (View.ld b.xq (Rect.unit (s := S768x2560) ![0, 0] S768x2560.size inb_S768x2560_S768x2560_0_0)) (View.ld a.wa (Rect.unit (s := S768x2560) ![256, 0] S256x2560.size inb_S768x2560_S256x2560_256_0)) (View.ld b.sc (Rect.unit (s := S768x256) ![0, 0] S768x256.size inb_S768x256_S768x256_0_0)) (View.ld a.bt (Rect.unit (s := S1x6912) (k0_off9 i 256#32) S1x256.size (k0_off9_inb i hc 1))) (View.ld a.yt (Rect.unit (s := S768x768) ![0, 256] S768x256.size inb_S768x768_S768x256_0_256)))))
      (k0_off10 i 512#32) S768x256.size (k0_pay13 (View.ld b.sc (Rect.unit (s := S768x256) ![0, 0] S768x256.size inb_S768x256_S768x256_0_0)) (k0_pay55 (View.ld b.xq (Rect.unit (s := S768x2560) ![0, 0] S768x2560.size inb_S768x2560_S768x2560_0_0)) (View.ld a.wa (Rect.unit (s := S768x2560) ![512, 0] S256x2560.size inb_S768x2560_S256x2560_512_0)) (View.ld b.sc (Rect.unit (s := S768x256) ![0, 0] S768x256.size inb_S768x256_S768x256_0_0)) (View.ld a.bt (Rect.unit (s := S1x6912) (k0_off9 i 512#32) S1x256.size (k0_off9_inb i hc 2)))) (View.ld a.yt (Rect.unit (s := S768x768) ![0, 512] S768x256.size inb_S768x768_S768x256_0_512)))
    gb := VecWindow.put (VecWindow.put (VecWindow.put (b.gb)
      (k0_off11 i 0#32) S8x256.size (k0_pay44 (k0_pay40 (View.ld b.xq (Rect.unit (s := S768x2560) ![0, 0] S768x2560.size inb_S768x2560_S768x2560_0_0)) (View.ld a.wa (Rect.unit (s := S768x2560) ![0, 0] S256x2560.size inb_S768x2560_S256x2560_0_0)) (View.ld b.sc (Rect.unit (s := S768x256) ![0, 0] S768x256.size inb_S768x256_S768x256_0_0)) (View.ld a.bt (Rect.unit (s := S1x6912) (k0_off9 i 0#32) S1x256.size (k0_off9_inb i hc 0))) (View.ld a.yt (Rect.unit (s := S768x768) ![0, 0] S768x256.size inb_S768x768_S768x256_0_0))) (View.ld b.gb (Rect.unit (s := S8x6912) (k0_off11 i 0#32) S8x256.size (k0_off11_inb i hc 0)))))
      (k0_off11 i 256#32) S8x256.size (k0_pay54 (k0_pay47 (View.ld b.xq (Rect.unit (s := S768x2560) ![0, 0] S768x2560.size inb_S768x2560_S768x2560_0_0)) (View.ld a.wa (Rect.unit (s := S768x2560) ![256, 0] S256x2560.size inb_S768x2560_S256x2560_256_0)) (View.ld b.sc (Rect.unit (s := S768x256) ![0, 0] S768x256.size inb_S768x256_S768x256_0_0)) (View.ld a.bt (Rect.unit (s := S1x6912) (k0_off9 i 256#32) S1x256.size (k0_off9_inb i hc 1))) (View.ld a.yt (Rect.unit (s := S768x768) ![0, 256] S768x256.size inb_S768x768_S768x256_0_256))) (View.ld b.gb (Rect.unit (s := S8x6912) (k0_off11 i 256#32) S8x256.size (k0_off11_inb i hc 1)))))
      (k0_off11 i 512#32) S8x256.size (k0_pay14 (k0_pay55 (View.ld b.xq (Rect.unit (s := S768x2560) ![0, 0] S768x2560.size inb_S768x2560_S768x2560_0_0)) (View.ld a.wa (Rect.unit (s := S768x2560) ![512, 0] S256x2560.size inb_S768x2560_S256x2560_512_0)) (View.ld b.sc (Rect.unit (s := S768x256) ![0, 0] S768x256.size inb_S768x256_S768x256_0_0)) (View.ld a.bt (Rect.unit (s := S1x6912) (k0_off9 i 512#32) S1x256.size (k0_off9_inb i hc 2)))) (View.ld a.yt (Rect.unit (s := S768x768) ![0, 512] S768x256.size inb_S768x768_S768x256_0_512)) (View.ld b.gb (Rect.unit (s := S8x6912) (k0_off11 i 512#32) S8x256.size (k0_off11_inb i hc 2)))) }

/-- The forward pass: from all buffers at `b` to all buffers at `f3 i hc a b`. -/
theorem run3 (c : Dev nD) (A : Args) (i : grid0.Coords) (hc : k0_cond3 i = 1#1) (a : In F) (b : St F)
    (E : Set ℕ) (k : PUnit → Prog (TpuEff nD τ sig (Elt F) Λ₀ .tc) PUnit) (K : PUnit → sProp 𝕄) :
    iprop(Held c A a b ∗ (Held c A a (f3 i hc a b) -∗ wp frame (wpE (defs₀ (F := F)) Variants.none c none) E (k ⟨⟩) K))
      ⊢ wp frame (wpE (defs₀ (F := F)) Variants.none c none) E (reg3 A i hc k) K := by
  obtain ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25⟩ := A
  unfold Held reg3
  simp only [k0_part3_eq_skeleton, k0_part4_eq_skeleton, k0_part5_eq_skeleton]
  try dsimp only
  unfold owns
  iintro ⟨⟨H2, ⟨%f3, %h3, H3⟩, H4, H5, ⟨%f6, %h6, H6⟩, ⟨%f7, %h7, H7⟩, H8, H9, ⟨%f10, %h10, H10⟩, H11, H12, H13, H14, H15, H16, ⟨%f17, %h17, H17⟩, ⟨%f18, %h18, H18⟩, ⟨%f19, %h19, H19⟩, ⟨%f20, %h20, H20⟩, ⟨%f21, %h21, H21⟩, ⟨%f22, %h22, H22⟩, H23, H24, H25⟩, Hk⟩
  sl_exec (disch := first | sl_exact hc)
  iapply Hk
  isplitl [H2]; · iexact H2
  isplitl [H3]
  · iexists _; isplitr; swap; · iexact H3
    ipureintro; exact h3
  isplitl [H4]; · iexact H4
  isplitl [H5]; · iexact H5
  isplitl [H6]
  · iexists _; isplitr; swap; · iexact H6
    ipureintro; exact h6
  isplitl [H7]
  · iexists _; isplitr; swap; · iexact H7
    ipureintro; exact h7
  isplitl [H8]; · iexact H8
  isplitl [H9]; · iexact H9
  isplitl [H10]
  · iexists _; isplitr; swap; · iexact H10
    ipureintro; sl_unfold_run_names; rw [View.read_writes_cons_put _ _ _ _ _ rfl, View.read_writes_cons_put _ _ _ _ _ rfl, View.read_writes_cons_put _ _ _ _ _ rfl, View.writes_nil, h10]; try simp only [View.readAt_eq_ld, h3, h6, h7, h10, h17, h18, h19, h20, h21, h22]; rfl
  isplitl [H11]; · iexact H11
  isplitl [H12]; · iexact H12
  isplitl [H13]; · iexact H13
  isplitl [H14]; · iexact H14
  isplitl [H15]; · iexact H15
  isplitl [H16]; · iexact H16
  isplitl [H17]
  · iexists _; isplitr; swap; · iexact H17
    ipureintro; sl_unfold_run_names; rw [View.read_writes_cons_put _ _ _ _ _ rfl, View.read_writes_cons_put _ _ _ _ _ rfl, View.read_writes_cons_put _ _ _ _ _ rfl, View.writes_nil, h17]; try simp only [View.readAt_eq_ld, h3, h6, h7, h10, h17, h18, h19, h20, h21, h22]; rfl
  isplitl [H18]
  · iexists _; isplitr; swap; · iexact H18
    ipureintro; exact h18
  isplitl [H19]
  · iexists _; isplitr; swap; · iexact H19
    ipureintro; sl_unfold_run_names; rw [View.read_writes_cons_put _ _ _ _ _ rfl, View.read_writes_cons_put _ _ _ _ _ rfl, View.read_writes_cons_put _ _ _ _ _ rfl, View.writes_nil, h19]; try simp only [View.readAt_eq_ld, h3, h6, h7, h10, h17, h18, h19, h20, h21, h22]; rfl
  isplitl [H20]
  · iexists _; isplitr; swap; · iexact H20
    ipureintro; sl_unfold_run_names; rw [View.read_writes_cons_put _ _ _ _ _ rfl, View.read_writes_cons_put _ _ _ _ _ rfl, View.read_writes_cons_put _ _ _ _ _ rfl, View.writes_nil, h20]; try simp only [View.readAt_eq_ld, h3, h6, h7, h10, h17, h18, h19, h20, h21, h22]; rfl
  isplitl [H21]
  · iexists _; isplitr; swap; · iexact H21
    ipureintro; exact h21
  isplitl [H22]
  · iexists _; isplitr; swap; · iexact H22
    ipureintro; sl_unfold_run_names; rw [View.read_writes_full, readCov_whole, readCov_whole]; · simp only [View.readAt_eq_ld, h3, h6, h7, h10, h17, h18, h19, h20, h21, h22]; rfl
    all_goals rfl
  isplitl [H23]; · iexact H23
  isplitl [H24]; · iexact H24
  iexact H25

end Cert.KernelIdeal.Gen

end
-- ==== Proof.KI.Run4.lean ====
/- The part of the body that writes the losses, run. -/
module

public import proofs.«01_k».proof.Proof.KI.Parts
public import Idealize.ShloMosaic.Lib.Tactic.RunNames

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The losses of the token block written: each segment of 128 tokens from its rows of the partial sums of squares. -/
def f4 (i : grid0.Coords) (a : In F) (b : St F) : St F :=
  { b with
    loss := VecWindow.put (VecWindow.put (VecWindow.put (VecWindow.put (VecWindow.put (VecWindow.put (b.loss)
      (k0_off12 i) S1x1x128.size (k0_pay57 (View.ld b.sq (Rect.unit (s := S768x128) ![0, 0] S128x128.size inb_S768x128_S128x128_0_0))))
      (k0_off13 i) S1x1x128.size (k0_pay58 (View.ld b.sq (Rect.unit (s := S768x128) ![128, 0] S128x128.size inb_S768x128_S128x128_128_0))))
      (k0_off14 i) S1x1x128.size (k0_pay59 (View.ld b.sq (Rect.unit (s := S768x128) ![256, 0] S128x128.size inb_S768x128_S128x128_256_0))))
      (k0_off15 i) S1x1x128.size (k0_pay15 (k0_pay60 (View.ld b.sq (Rect.unit (s := S768x128) ![384, 0] S128x128.size inb_S768x128_S128x128_384_0))) k0_pay61))
      (k0_off16 i) S1x1x128.size (k0_pay16 (View.ld b.sq (Rect.unit (s := S768x128) ![512, 0] S128x128.size inb_S768x128_S128x128_512_0))))
      (k0_off17 i) S1x1x128.size (k0_pay17 (View.ld b.sq (Rect.unit (s := S768x128) ![640, 0] S128x128.size inb_S768x128_S128x128_640_0))) }

/-- The losses of a token block: from all buffers at `b` to all buffers at `f4 i a b`. -/
theorem run4 (c : Dev nD) (A : Args) (i : grid0.Coords) (hc : k0_cond4 i = 1#1) (a : In F) (b : St F)
    (E : Set ℕ) (k : PUnit → Prog (TpuEff nD τ sig (Elt F) Λ₀ .tc) PUnit) (K : PUnit → sProp 𝕄) :
    iprop(Held c A a b ∗ (Held c A a (f4 i a b) -∗ wp frame (wpE (defs₀ (F := F)) Variants.none c none) E (k ⟨⟩) K))
      ⊢ wp frame (wpE (defs₀ (F := F)) Variants.none c none) E (reg4 A i hc k) K := by
  obtain ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25⟩ := A
  unfold Held reg4
  simp only [k0_part6_eq_skeleton]
  try dsimp only
  unfold owns
  iintro ⟨⟨H2, H3, H4, H5, H6, H7, H8, H9, H10, H11, H12, ⟨%f13, %h13, H13⟩, H14, H15, H16, H17, H18, H19, H20, H21, ⟨%f22, %h22, H22⟩, H23, H24, H25⟩, Hk⟩
  sl_exec (disch := first | sl_exact hc)
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists _; isplitr; swap; · iexact H13
    ipureintro; sl_unfold_run_names; rw [View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.writes_nil, h13]; try simp only [View.readAt_eq_ld, h13, h22]; rfl
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]
  · iexists _; isplitr; swap; · iexact H22
    ipureintro; exact h22
  isplitl [H23]; · iexact H23
  isplitl [H24]; · iexact H24
  iexact H25

end Cert.KernelIdeal.Gen

end
-- ==== Proof.KI.Run5.lean ====
/- The part of the body of the backward pass, run. -/
module

public import proofs.«01_k».proof.Proof.KI.Parts
public import Idealize.ShloMosaic.Lib.Tactic.RunNames

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- One tile of 256 inputs of the backward pass added to the three accumulators. -/
def f5 (i : grid0.Coords) (hc : k0_cond5 i = 1#1) (a : In F) (b : St F) : St F :=
  { b with
    s1 := VecWindow.put b.s1 (k0_off20 i) S8x256.size
      (k0_pay64 (View.ld b.g (Rect.unit (s := S768x6912) ![0, 0] S768x6912.size inb_S768x6912_S768x6912_0_0)) (View.ld a.wb (Rect.unit (s := S6912x256) ![0, 0] S6912x256.size inb_S6912x256_S6912x256_0_0)) (View.ld a.x (Rect.unit (s := S768x2560) (k0_off18 i) S768x256.size (k0_off18_inb i hc))) (View.ld a.delta (Rect.unit (s := S1x2560) (k0_off19 i) S1x256.size (k0_off19_inb i hc))) (View.ld a.s (Rect.unit (s := S1x2560) (k0_off19 i) S1x256.size (k0_off19_inb i hc))) (View.ld b.sc (Rect.unit (s := S768x256) ![0, 0] S768x256.size inb_S768x256_S768x256_0_0)) (View.ld b.s1 (Rect.unit (s := S8x2560) (k0_off20 i) S8x256.size (k0_off20_inb i hc))))
    s2 := VecWindow.put b.s2 (k0_off20 i) S8x256.size
      (k0_pay18 (k0_pay65 (View.ld b.g (Rect.unit (s := S768x6912) ![0, 0] S768x6912.size inb_S768x6912_S768x6912_0_0)) (View.ld a.wb (Rect.unit (s := S6912x256) ![0, 0] S6912x256.size inb_S6912x256_S6912x256_0_0)) (View.ld a.x (Rect.unit (s := S768x2560) (k0_off18 i) S768x256.size (k0_off18_inb i hc))) (View.ld a.delta (Rect.unit (s := S1x2560) (k0_off19 i) S1x256.size (k0_off19_inb i hc))) (View.ld a.s (Rect.unit (s := S1x2560) (k0_off19 i) S1x256.size (k0_off19_inb i hc))) (View.ld b.sc (Rect.unit (s := S768x256) ![0, 0] S768x256.size inb_S768x256_S768x256_0_0)) (View.ld b.s2 (Rect.unit (s := S8x2560) (k0_off20 i) S8x256.size (k0_off20_inb i hc)))))
    s3 := VecWindow.put b.s3 (k0_off20 i) S8x256.size (k0_pay19 (View.ld b.gx (Rect.unit (s := S768x6912) ![0, 0] S768x6912.size inb_S768x6912_S768x6912_0_0)) (View.ld a.wm (Rect.unit (s := S6912x256) ![0, 0] S6912x256.size inb_S6912x256_S6912x256_0_0)) (View.ld b.s3 (Rect.unit (s := S8x2560) (k0_off20 i) S8x256.size (k0_off20_inb i hc))) (View.ld b.xq (Rect.unit (s := S768x2560) (k0_off18 i) S768x256.size (k0_off18_inb i hc)))) }

/-- The backward pass: from all buffers at `b` to all buffers at `f5 i hc a b`. -/
theorem run5 (c : Dev nD) (A : Args) (i : grid0.Coords) (hc : k0_cond5 i = 1#1) (a : In F) (b : St F)
    (E : Set ℕ) (k : PUnit → Prog (TpuEff nD τ sig (Elt F) Λ₀ .tc) PUnit) (K : PUnit → sProp 𝕄) :
    iprop(Held c A a b ∗ (Held c A a (f5 i hc a b) -∗ wp frame (wpE (defs₀ (F := F)) Variants.none c none) E (k ⟨⟩) K))
      ⊢ wp frame (wpE (defs₀ (F := F)) Variants.none c none) E (reg5 A i hc k) K := by
  obtain ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25⟩ := A
  unfold Held reg5
  simp only [k0_part7_eq_skeleton]
  try dsimp only
  unfold owns
  iintro ⟨⟨⟨%f2, %h2, H2⟩, H3, ⟨%f4, %h4, H4⟩, ⟨%f5, %h5, H5⟩, H6, H7, ⟨%f8, %h8, H8⟩, ⟨%f9, %h9, H9⟩, H10, H11, H12, H13, H14, H15, H16, H17, ⟨%f18, %h18, H18⟩, ⟨%f19, %h19, H19⟩, ⟨%f20, %h20, H20⟩, ⟨%f21, %h21, H21⟩, H22, ⟨%f23, %h23, H23⟩, ⟨%f24, %h24, H24⟩, ⟨%f25, %h25, H25⟩⟩, Hk⟩
  sl_exec (disch := first | sl_exact hc)
  iapply Hk
  isplitl [H2]
  · iexists _; isplitr; swap; · iexact H2
    ipureintro; exact h2
  isplitl [H3]; · iexact H3
  isplitl [H4]
  · iexists _; isplitr; swap; · iexact H4
    ipureintro; exact h4
  isplitl [H5]
  · iexists _; isplitr; swap; · iexact H5
    ipureintro; exact h5
  isplitl [H6]; · iexact H6
  isplitl [H7]; · iexact H7
  isplitl [H8]
  · iexists _; isplitr; swap; · iexact H8
    ipureintro; exact h8
  isplitl [H9]
  · iexists _; isplitr; swap; · iexact H9
    ipureintro; exact h9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · iexists _; isplitr; swap; · iexact H18
    ipureintro; exact h18
  isplitl [H19]
  · iexists _; isplitr; swap; · iexact H19
    ipureintro; exact h19
  isplitl [H20]
  · iexists _; isplitr; swap; · iexact H20
    ipureintro; exact h20
  isplitl [H21]
  · iexists _; isplitr; swap; · iexact H21
    ipureintro; exact h21
  isplitl [H22]; · iexact H22
  isplitl [H23]
  · iexists _; isplitr; swap; · iexact H23
    ipureintro; sl_unfold_run_names; rw [View.read_writes_cons_put _ _ _ _ _ rfl, View.writes_nil, h23]; try simp only [View.readAt_eq_ld, h2, h4, h5, h8, h9, h18, h19, h20, h21, h23, h24, h25]; rfl
  isplitl [H24]
  · iexists _; isplitr; swap; · iexact H24
    ipureintro; sl_unfold_run_names; rw [View.read_writes_cons_put _ _ _ _ _ rfl, View.writes_nil, h24]; try simp only [View.readAt_eq_ld, h2, h4, h5, h8, h9, h18, h19, h20, h21, h23, h24, h25]; rfl
  iexists _; isplitr; swap; · iexact H25
  ipureintro; sl_unfold_run_names; rw [View.read_writes_cons_put _ _ _ _ _ rfl, View.writes_nil, h25]; try simp only [View.readAt_eq_ld, h2, h4, h5, h8, h9, h18, h19, h20, h21, h23, h24, h25]; rfl

end Cert.KernelIdeal.Gen

end
-- ==== Proof.KI.Run6.lean ====
/- The part of the body at the last point, run. -/
module

public import proofs.«01_k».proof.Proof.KI.Parts
public import Idealize.ShloMosaic.Lib.Tactic.RunNames

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The three finished gradients written. -/
def f6 (i : grid0.Coords) (a : In F) (b : St F) : St F :=
  { b with ds := k0_pay21 (View.ld b.s3 (Rect.unit (s := S8x2560) ![0, 0] S8x2560.size inb_S8x2560_S8x2560_0_0)) (View.ld b.s1 (Rect.unit (s := S8x2560) ![0, 0] S8x2560.size inb_S8x2560_S8x2560_0_0)) (View.ld a.s (Rect.unit (s := S1x2560) ![0, 0] S1x2560.size inb_S1x2560_S1x2560_0_0)), dd := k0_pay22 (View.ld b.s2 (Rect.unit (s := S8x2560) ![0, 0] S8x2560.size inb_S8x2560_S8x2560_0_0)) (View.ld a.s (Rect.unit (s := S1x2560) ![0, 0] S1x2560.size inb_S1x2560_S1x2560_0_0)), dsw := k0_pay20 (View.ld b.s3 (Rect.unit (s := S8x2560) ![0, 0] S8x2560.size inb_S8x2560_S8x2560_0_0)) }

/-- The last point: from all buffers at `b` to all buffers at `f6 i a b`. -/
theorem run6 (c : Dev nD) (A : Args) (i : grid0.Coords) (hc : k0_cond6 i = 1#1) (a : In F) (b : St F)
    (E : Set ℕ) (k : PUnit → Prog (TpuEff nD τ sig (Elt F) Λ₀ .tc) PUnit) (K : PUnit → sProp 𝕄) :
    iprop(Held c A a b ∗ (Held c A a (f6 i a b) -∗ wp frame (wpE (defs₀ (F := F)) Variants.none c none) E (k ⟨⟩) K))
      ⊢ wp frame (wpE (defs₀ (F := F)) Variants.none c none) E (reg6 A i hc k) K := by
  obtain ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25⟩ := A
  unfold Held reg6
  try dsimp only
  unfold owns
  iintro ⟨⟨H2, H3, H4, H5, H6, H7, ⟨%f8, %h8, H8⟩, H9, H10, H11, H12, H13, ⟨%f14, %h14, H14⟩, ⟨%f15, %h15, H15⟩, ⟨%f16, %h16, H16⟩, H17, H18, H19, H20, H21, H22, ⟨%f23, %h23, H23⟩, ⟨%f24, %h24, H24⟩, ⟨%f25, %h25, H25⟩⟩, Hk⟩
  sl_exec (disch := first | sl_exact hc)
  iapply Hk
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; · iexact H8
    ipureintro; exact h8
  isplitl [H9]; · iexact H9
  isplitl [H10]; · iexact H10
  isplitl [H11]; · iexact H11
  isplitl [H12]; · iexact H12
  isplitl [H13]; · iexact H13
  isplitl [H14]
  · iexists _; isplitr; swap; · iexact H14
    ipureintro; sl_unfold_run_names; rw [View.read_writes_full]; first | rfl | (simp only [View.readAt_eq_ld, h25, h23, h24, h8, h14, h15, h16]; rfl)
  isplitl [H15]
  · iexists _; isplitr; swap; · iexact H15
    ipureintro; sl_unfold_run_names; rw [View.read_writes_full]; first | rfl | (simp only [View.readAt_eq_ld, h25, h23, h24, h8, h14, h15, h16]; rfl)
  isplitl [H16]
  · iexists _; isplitr; swap; · iexact H16
    ipureintro; sl_unfold_run_names; rw [View.read_writes_full]; first | rfl | (simp only [View.readAt_eq_ld, h25, h23, h24, h8, h14, h15, h16]; rfl)
  isplitl [H17]; · iexact H17
  isplitl [H18]; · iexact H18
  isplitl [H19]; · iexact H19
  isplitl [H20]; · iexact H20
  isplitl [H21]; · iexact H21
  isplitl [H22]; · iexact H22
  isplitl [H23]
  · iexists _; isplitr; swap; · iexact H23
    ipureintro; exact h23
  isplitl [H24]
  · iexists _; isplitr; swap; · iexact H24
    ipureintro; exact h24
  iexists _; isplitr; swap; · iexact H25
  ipureintro; exact h25

end Cert.KernelIdeal.Gen

end
-- ==== Proof.KI.Step.lean ====
/- The body as one step on the contents of its buffers. -/
module

public import proofs.«01_k».proof.Proof.KI.Run1
public import proofs.«01_k».proof.Proof.KI.Run2a
public import proofs.«01_k».proof.Proof.KI.Run2b
public import proofs.«01_k».proof.Proof.KI.Run3
public import proofs.«01_k».proof.Proof.KI.Run4
public import proofs.«01_k».proof.Proof.KI.Run5
public import proofs.«01_k».proof.Proof.KI.Run6

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## What each part of the body leaves -/

/-- The parts of the body that run only under a condition, as functions of the contents: the part where its condition holds,
    nothing otherwise. -/
def e1 (i : grid0.Coords) (a : In F) (b : St F) : St F := if k0_cond1 i = 1#1 then f1 i a b else b
def e2 (i : grid0.Coords) (a : In F) (b : St F) : St F := if k0_cond2 i = 1#1 then f2b i a (f2a i a b) else b
def e3 (i : grid0.Coords) (a : In F) (b : St F) : St F := if h : k0_cond3 i = 1#1 then f3 i h a b else b
def e4 (i : grid0.Coords) (a : In F) (b : St F) : St F := if k0_cond4 i = 1#1 then f4 i a b else b
def e5 (i : grid0.Coords) (a : In F) (b : St F) : St F := if h : k0_cond5 i = 1#1 then f5 i h a b else b
def e6 (i : grid0.Coords) (a : In F) (b : St F) : St F := if k0_cond6 i = 1#1 then f6 i a b else b

/-- What the body leaves in the buffers it found at `a`, `b`. -/
def step (i : grid0.Coords) (a : In F) (b : St F) : St F := e6 i a (e5 i a (e4 i a (e3 i a (e2 i a (e1 i a b)))))

/-- The last part, if it runs. -/
theorem tail6_run (c : Dev nD) (A : Args) (i : grid0.Coords) (a : In F) (b : St F) (E : Set ℕ) (K : PUnit → sProp 𝕄) :
    iprop(Held c A a b ∗ (Held c A a (e6 i a b) -∗ K ⟨⟩))
      ⊢ wp frame (wpE (defs₀ (F := F)) Variants.none c none) E (tail6 A i) K := by
  unfold tail6 e6
  by_cases h : k0_cond6 i = 1#1
  · rw [dif_pos h, if_pos h]
    refine .trans ?_ (run6 c A i h a b E pure K)
    iintro ⟨H, Hk⟩
    isplitl [H]
    · iexact H
    iintro H
    ihave H := Hk $$ H
    iapply (le_wp_ret frame (wpE (defs₀ (F := F)) Variants.none (c : Thread nD τ) none) E (⟨⟩ : PUnit) K) $$ H
  · rw [dif_neg h, if_neg h]
    iintro ⟨H, Hk⟩
    ihave H := Hk $$ H
    iapply (le_wp_ret frame (wpE (defs₀ (F := F)) Variants.none (c : Thread nD τ) none) E (⟨⟩ : PUnit) K) $$ H

/-- The body from its part 5 on. -/
theorem tail5_run (c : Dev nD) (A : Args) (i : grid0.Coords) (a : In F) (b : St F) (E : Set ℕ) (K : PUnit → sProp 𝕄) :
    iprop(Held c A a b ∗ (Held c A a (e6 i a (e5 i a b)) -∗ K ⟨⟩))
      ⊢ wp frame (wpE (defs₀ (F := F)) Variants.none c none) E (tail5 A i) K := by
  unfold tail5 e5
  by_cases h : k0_cond5 i = 1#1
  · rw [dif_pos h, dif_pos h]
    refine .trans (sep_mono .rfl ?_) (run5 c A i h a b E _ K)
    refine .trans ?_ (wand_mono_right (tail6_run c A i a (f5 i h a b) E K))
    iintro Hk H
    isplitl [H]
    · iexact H
    iexact Hk
  · rw [dif_neg h, dif_neg h]; exact tail6_run c A i a b E K

/-- The body from its part 4 on. -/
theorem tail4_run (c : Dev nD) (A : Args) (i : grid0.Coords) (a : In F) (b : St F) (E : Set ℕ) (K : PUnit → sProp 𝕄) :
    iprop(Held c A a b ∗ (Held c A a (e6 i a (e5 i a (e4 i a b))) -∗ K ⟨⟩))
      ⊢ wp frame (wpE (defs₀ (F := F)) Variants.none c none) E (tail4 A i) K := by
  unfold tail4 e4
  by_cases h : k0_cond4 i = 1#1
  · rw [dif_pos h, if_pos h]
    refine .trans (sep_mono .rfl ?_) (run4 c A i h a b E _ K)
    refine .trans ?_ (wand_mono_right (tail5_run c A i a (f4 i a b) E K))
    iintro Hk H
    isplitl [H]
    · iexact H
    iexact Hk
  · rw [dif_neg h, if_neg h]; exact tail5_run c A i a b E K

/-- The body from its part 3 on. -/
theorem tail3_run (c : Dev nD) (A : Args) (i : grid0.Coords) (a : In F) (b : St F) (E : Set ℕ) (K : PUnit → sProp 𝕄) :
    iprop(Held c A a b ∗ (Held c A a (e6 i a (e5 i a (e4 i a (e3 i a b)))) -∗ K ⟨⟩))
      ⊢ wp frame (wpE (defs₀ (F := F)) Variants.none c none) E (tail3 A i) K := by
  unfold tail3 e3
  by_cases h : k0_cond3 i = 1#1
  · rw [dif_pos h, dif_pos h]
    refine .trans (sep_mono .rfl ?_) (run3 c A i h a b E _ K)
    refine .trans ?_ (wand_mono_right (tail4_run c A i a (f3 i h a b) E K))
    iintro Hk H
    isplitl [H]
    · iexact H
    iexact Hk
  · rw [dif_neg h, dif_neg h]; exact tail4_run c A i a b E K

/-- The body from its part 2 on. -/
theorem tail2_run (c : Dev nD) (A : Args) (i : grid0.Coords) (a : In F) (b : St F) (E : Set ℕ) (K : PUnit → sProp 𝕄) :
    iprop(Held c A a b ∗ (Held c A a (e6 i a (e5 i a (e4 i a (e3 i a (e2 i a b))))) -∗ K ⟨⟩))
      ⊢ wp frame (wpE (defs₀ (F := F)) Variants.none c none) E (tail2 A i) K := by
  unfold tail2 e2
  by_cases h : k0_cond2 i = 1#1
  · rw [dif_pos h, if_pos h]
    refine .trans (sep_mono .rfl ?_) (run2a c A i h a b E _ K)
    refine .trans ?_ (wand_mono_right (run2b c A i h a (f2a i a b) E _ K))
    refine .trans ?_ (wand_mono_right (sep_mono .rfl (wand_mono_right (tail3_run c A i a (f2b i a (f2a i a b)) E K))))
    iintro Hk H
    isplitl [H]
    · iexact H
    iintro H
    isplitl [H]
    · iexact H
    iexact Hk
  · rw [dif_neg h, if_neg h]; exact tail3_run c A i a b E K

/-- The body from its part 1 on. -/
theorem tail1_run (c : Dev nD) (A : Args) (i : grid0.Coords) (a : In F) (b : St F) (E : Set ℕ) (K : PUnit → sProp 𝕄) :
    iprop(Held c A a b ∗ (Held c A a (e6 i a (e5 i a (e4 i a (e3 i a (e2 i a (e1 i a b)))))) -∗ K ⟨⟩))
      ⊢ wp frame (wpE (defs₀ (F := F)) Variants.none c none) E (tail1 A i) K := by
  unfold tail1 e1
  by_cases h : k0_cond1 i = 1#1
  · rw [dif_pos h, if_pos h]
    refine .trans (sep_mono .rfl ?_) (run1 c A i h a b E _ K)
    refine .trans ?_ (wand_mono_right (tail2_run c A i a (f1 i a b) E K))
    iintro Hk H
    isplitl [H]
    · iexact H
    iexact Hk
  · rw [dif_neg h, if_neg h]; exact tail2_run c A i a b E K

/-- The body on any whole buffers: from contents `a`, `b` to `a`, `step i a b`. -/
theorem body_run (c : Dev nD) (A : Args) (i : grid0.Coords) (a : In F) (b : St F) (E : Set ℕ) (K : PUnit → sProp 𝕄) :
    iprop(Held c A a b ∗ (Held c A a (step i a b) -∗ K ⟨⟩))
      ⊢ wp frame (wpE (defs₀ (F := F)) Variants.none c none) E (cc0_forward_backward (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25) K := by
  rw [cc0_eq_tail1]; exact tail1_run c A i a b E K

end Cert.KernelIdeal.Gen

end
-- ==== Proof.KI.Track.lean ====
/- What the buffers may hold between points, the body obligation, and the run of the whole program. -/
module

public import proofs.«01_k».proof.Proof.KI.Step
public import Idealize.ShloMosaic.Lib.Pipeline.DatRel
public import Idealize.ShloMosaic.Lib.Pipeline.ArrRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The inputs' blocks at point `t`. -/
def ins (c : Dev nD) (t : Fin cfg0.N) : In F where
  x := iblk m c 0 t
  wa := iblk m c 1 t
  wb := iblk m c 2 t
  wm := iblk m c 3 t
  yt := iblk m c 4 t
  bt := iblk m c 5 t
  s := iblk m c 6 t
  delta := iblk m c 7 t

/-! ## What is known of the buffers between points

After a point each buffer holds what the body's step left there from SOME contents that were possible before the point. Buffers are
followed one at a time: the contents that two buffers come from need not be the same. -/

/-- Buffer `φ` may hold `v` after point `t`, if the contents possible before it are `K`. -/
def Fld (c : Dev nD) (K : St F → Prop) (t : Fin cfg0.N) {α : Type} (φ : St F → α) (v : α) : Prop :=
  ∃ b, K b ∧ v = φ (step (grid0.coords t) (ins m c t) b)

/-- The scratch buffers after point `t`. -/
structure KScr (c : Dev nD) (K : St F → Prop) (t : Fin cfg0.N) (b : St F) : Prop where
  xq : Fld m c K t St.xq b.xq
  g : Fld m c K t St.g b.g
  gx : Fld m c K t St.gx b.gx
  sc : Fld m c K t St.sc b.sc
  sq : Fld m c K t St.sq b.sq
  s1 : Fld m c K t St.s1 b.s1
  s2 : Fld m c K t St.s2 b.s2
  s3 : Fld m c K t St.s3 b.s3

/-- The outputs' buffers after point `t`, if they were not written back there. -/
structure KOut (c : Dev nD) (K : St F → Prop) (t : Fin cfg0.N) (b : St F) : Prop where
  y : (cfg0.win 8).flush t = false → Fld m c K t St.y b.y
  codes : (cfg0.win 9).flush t = false → Fld m c K t St.codes b.codes
  scales : (cfg0.win 10).flush t = false → Fld m c K t St.scales b.scales
  loss : (cfg0.win 11).flush t = false → Fld m c K t St.loss b.loss
  ds : (cfg0.win 12).flush t = false → Fld m c K t St.ds b.ds
  dd : (cfg0.win 13).flush t = false → Fld m c K t St.dd b.dd
  dsw : (cfg0.win 14).flush t = false → Fld m c K t St.dsw b.dsw
  gb : (cfg0.win 15).flush t = false → Fld m c K t St.gb b.gb

/-- The contents possible after `n` points. -/
def Known (c : Dev nD) : ℕ → St F → Prop
  | 0, _ => True
  | n + 1, b => ∀ t : Fin cfg0.N, t.val = n → KScr m c (Known c n) t b ∧ KOut m c (Known c n) t b

/-- What an output's buffer may hold after point `t`. -/
def Rl (c : Dev nD) (w : Fin cfg0.W) (t : Fin cfg0.N) (X : (cfg0.win w).block.Idx → Elt F (cfg0.win w).elt) : Prop :=
  match w with
  | ⟨0, _⟩ | ⟨1, _⟩ | ⟨2, _⟩ | ⟨3, _⟩ | ⟨4, _⟩ | ⟨5, _⟩ | ⟨6, _⟩ | ⟨7, _⟩ => True
  | ⟨8, _⟩ => Fld m c (Known m c t.val) t St.y X
  | ⟨9, _⟩ => Fld m c (Known m c t.val) t St.codes X
  | ⟨10, _⟩ => Fld m c (Known m c t.val) t St.scales X
  | ⟨11, _⟩ => Fld m c (Known m c t.val) t St.loss X
  | ⟨12, _⟩ => Fld m c (Known m c t.val) t St.ds X
  | ⟨13, _⟩ => Fld m c (Known m c t.val) t St.dd X
  | ⟨14, _⟩ => Fld m c (Known m c t.val) t St.dsw X
  | ⟨15, _⟩ => Fld m c (Known m c t.val) t St.gb X
  | ⟨_ + 16, h⟩ => absurd h (Nat.not_lt.2 (Nat.le_add_left _ _))

/-- The windows held to a relation: the outputs. -/
def rel0 (w : Fin cfg0.W) : Bool :=
  match w with
  | ⟨0, _⟩ | ⟨1, _⟩ | ⟨2, _⟩ | ⟨3, _⟩ | ⟨4, _⟩ | ⟨5, _⟩ | ⟨6, _⟩ | ⟨7, _⟩ => false
  | ⟨8, _⟩ | ⟨9, _⟩ | ⟨10, _⟩ | ⟨11, _⟩ | ⟨12, _⟩ | ⟨13, _⟩ | ⟨14, _⟩ | ⟨15, _⟩ => true
  | ⟨_ + 16, h⟩ => absurd h (Nat.not_lt.2 (Nat.le_add_left _ _))

/-- The invariant after `n` points: the scratch buffers at contents possible then. -/
def PhiS (c : Dev nD) (n : ℕ) (_h : n ≤ cfg0.N) : sProp 𝕄 :=
  iprop(∃ b : St F, ⌜∀ t : Fin cfg0.N, t.val + 1 = n → KScr m c (Known m c t.val) t b⌝
    ∗ (owns (c : Thread nD τ) scM0_0 fullShare b.xq ∗ owns (c : Thread nD τ) scM0_1 fullShare b.g ∗ owns (c : Thread nD τ) scM0_2 fullShare b.gx ∗ owns (c : Thread nD τ) scM0_3 fullShare b.sc ∗ owns (c : Thread nD τ) scM0_4 fullShare b.sq ∗ owns (c : Thread nD τ) scM0_5 fullShare b.s1 ∗ owns (c : Thread nD τ) scM0_6 fullShare b.s2 ∗ owns (c : Thread nD τ) scM0_7 fullShare b.s3) ∗ (∃ r, prngReg c r))

/-- The proof data: the inputs' buffers hold their blocks; the outputs' are named nothing here (`Rl` is what is said of them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ t := PhiS m c t.val (Nat.le_of_lt_succ t.isLt)
  q w := Pipeline.shareOf spec0 w
  owed _ := 0

/-- The same, the outputs held to `Rl`. -/
def rdat (c : Dev nD) : RDat τ (Elt F) Unit ℕ (UR sig nD τ) ℕ cfg0 c := (dats m 0 c).toRRel rel0 (Rl m c)

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d

/-- An output's buffer not written back at the point before holds what the body may have left there. -/
theorem finds_prev (c : Dev nD) (w : Fin cfg0.W) (hr : rel0 w = true) (ho : (cfg0.win w).isOut = true) {t t' : Fin cfg0.N} (h : t'.val + 1 = t.val)
    (hf : (cfg0.win w).flush t' = false) {X : (cfg0.win w).block.Idx → Elt F (cfg0.win w).elt}
    (hX : ((dats m 0 c).toRRel rel0 (Rl m c)).Finds w t X) : Rl m c w t' X := by
  have e : (⟨t.val - 1, Nat.lt_of_le_of_lt (Nat.sub_le _ _) t.isLt⟩ : Fin cfg0.N) = t' := Fin.ext (by show t.val - 1 = t'.val; omega)
  rcases (((dats m 0 c).toRRel rel0 (Rl m c)).finds_of_pos (Pipeline.Window.fetch_out _ ho t) (by omega) X).mp hX with h1 | h1
  · rw [e, hf] at h1; exact absurd h1 Bool.false_ne_true
  · rw [e] at h1; exact (dats m 0 c).toRRel_leaves hr h1

/-- The buffers at point `t`. -/
abbrev argsAt (t : Fin cfg0.N) : Args :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t, scM0_0, Memref.isWhole_whole _, scM0_1, Memref.isWhole_whole _, scM0_2, Memref.isWhole_whole _, scM0_3, Memref.isWhole_whole _, scM0_4, Memref.isWhole_whole _, scM0_5, Memref.isWhole_whole _, scM0_6, Memref.isWhole_whole _, scM0_7, Memref.isWhole_whole _⟩

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ Y, ⌜((dats m 0 c).toRRel rel0 (Rl m c)).Finds 8 t Y⌝ ∗ owns (c : Thread nD τ) (ms0_8 t) fullShare Y)
    ∗ (∃ Y, ⌜((dats m 0 c).toRRel rel0 (Rl m c)).Finds 9 t Y⌝ ∗ owns (c : Thread nD τ) (ms0_9 t) fullShare Y)
    ∗ (∃ Y, ⌜((dats m 0 c).toRRel rel0 (Rl m c)).Finds 10 t Y⌝ ∗ owns (c : Thread nD τ) (ms0_10 t) fullShare Y)
    ∗ (∃ Y, ⌜((dats m 0 c).toRRel rel0 (Rl m c)).Finds 11 t Y⌝ ∗ owns (c : Thread nD τ) (ms0_11 t) fullShare Y)
    ∗ (∃ Y, ⌜((dats m 0 c).toRRel rel0 (Rl m c)).Finds 12 t Y⌝ ∗ owns (c : Thread nD τ) (ms0_12 t) fullShare Y)
    ∗ (∃ Y, ⌜((dats m 0 c).toRRel rel0 (Rl m c)).Finds 13 t Y⌝ ∗ owns (c : Thread nD τ) (ms0_13 t) fullShare Y)
    ∗ (∃ Y, ⌜((dats m 0 c).toRRel rel0 (Rl m c)).Finds 14 t Y⌝ ∗ owns (c : Thread nD τ) (ms0_14 t) fullShare Y)
    ∗ (∃ Y, ⌜((dats m 0 c).toRRel rel0 (Rl m c)).Finds 15 t Y⌝ ∗ owns (c : Thread nD τ) (ms0_15 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ X, ⌜Rl m c 8 t X⌝ ∗ owns (c : Thread nD τ) (ms0_8 t) fullShare X)
    ∗ (∃ X, ⌜Rl m c 9 t X⌝ ∗ owns (c : Thread nD τ) (ms0_9 t) fullShare X)
    ∗ (∃ X, ⌜Rl m c 10 t X⌝ ∗ owns (c : Thread nD τ) (ms0_10 t) fullShare X)
    ∗ (∃ X, ⌜Rl m c 11 t X⌝ ∗ owns (c : Thread nD τ) (ms0_11 t) fullShare X)
    ∗ (∃ X, ⌜Rl m c 12 t X⌝ ∗ owns (c : Thread nD τ) (ms0_12 t) fullShare X)
    ∗ (∃ X, ⌜Rl m c 13 t X⌝ ∗ owns (c : Thread nD τ) (ms0_13 t) fullShare X)
    ∗ (∃ X, ⌜Rl m c 14 t X⌝ ∗ owns (c : Thread nD τ) (ms0_14 t) fullShare X)
    ∗ (∃ X, ⌜Rl m c 15 t X⌝ ∗ owns (c : Thread nD τ) (ms0_15 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, after0_0, before0_1, after0_1, before0_2, after0_2, before0_3, after0_3, before0_4, after0_4, before0_5, after0_5, before0_6, after0_6, before0_7, after0_7]
  rw [show (dats m 0 c).owesAt () t.succ = (dats m 0 c).owesAt () t.castSucc from rfl]
  rw [show (dats m 0 c).Φ t.succ = PhiS m c (t.val + 1) t.isLt from rfl, PhiS_castSucc m c t]
  unfold PhiS
  iintro ⟨⟨%b, %hb, ⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %h8, H8⟩, ⟨%Y9, %h9, H9⟩, ⟨%Y10, %h10, H10⟩, ⟨%Y11, %h11, H11⟩, ⟨%Y12, %h12, H12⟩, ⟨%Y13, %h13, H13⟩, ⟨%Y14, %h14, H14⟩, ⟨%Y15, %h15, H15⟩⟩
  have hK : Known m c t.val ⟨Y8, Y9, Y10, Y11, Y12, Y13, Y14, Y15, b.xq, b.g, b.gx, b.sc, b.sq, b.s1, b.s2, b.s3⟩ := by
    rcases Nat.eq_zero_or_pos t.val with h0 | h0
    · rw [h0]; trivial
    · obtain ⟨n, hn⟩ : ∃ n, t.val = n + 1 := ⟨t.val - 1, by omega⟩
      rw [hn]
      intro t' ht'
      have e : t'.val + 1 = t.val := by omega
      have hs := hb t' e
      subst ht'
      exact ⟨⟨hs.xq, hs.g, hs.gx, hs.sc, hs.sq, hs.s1, hs.s2, hs.s3⟩,
        fun hf => finds_prev m c 8 rfl rfl e hf h8, fun hf => finds_prev m c 9 rfl rfl e hf h9, fun hf => finds_prev m c 10 rfl rfl e hf h10, fun hf => finds_prev m c 11 rfl rfl e hf h11, fun hf => finds_prev m c 12 rfl rfl e hf h12, fun hf => finds_prev m c 13 rfl rfl e hf h13, fun hf => finds_prev m c 14 rfl rfl e hf h14, fun hf => finds_prev m c 15 rfl rfl e hf h15⟩
  iapply (body_run c (argsAt t) (grid0.coords t) (ins m c t) ⟨Y8, Y9, Y10, Y11, Y12, Y13, Y14, Y15, b.xq, b.g, b.gx, b.sc, b.sq, b.s1, b.s2, b.s3⟩ Set.univ _)
  isplitl [H0 H1 H2 H3 H4 H5 H6 H7 H8 H9 H10 H11 H12 H13 H14 H15 HS0 HS1 HS2 HS3 HS4 HS5 HS6 HS7]
  · unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  unfold Held
  iintro ⟨H0, H1, H2, H3, H4, H5, H6, H7, H8, H9, H10, H11, H12, H13, H14, H15, HS0, HS1, HS2, HS3, HS4, HS5, HS6, HS7⟩
  isplitl [HS0 HS1 HS2 HS3 HS4 HS5 HS6 HS7 Hg]
  · iexists (step (grid0.coords t) (ins m c t) ⟨Y8, Y9, Y10, Y11, Y12, Y13, Y14, Y15, b.xq, b.g, b.gx, b.sc, b.sq, b.s1, b.s2, b.s3⟩)
    isplitr
    · ipureintro
      intro t' ht'
      have e : t' = t := Fin.ext (by omega)
      subst e
      exact ⟨⟨_, hK, rfl⟩, ⟨_, hK, rfl⟩, ⟨_, hK, rfl⟩, ⟨_, hK, rfl⟩, ⟨_, hK, rfl⟩, ⟨_, hK, rfl⟩, ⟨_, hK, rfl⟩, ⟨_, hK, rfl⟩⟩
    isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr
    swap; · iexact H8
    ipureintro; exact ⟨_, hK, rfl⟩
  isplitl [H9]
  · iexists _; isplitr
    swap; · iexact H9
    ipureintro; exact ⟨_, hK, rfl⟩
  isplitl [H10]
  · iexists _; isplitr
    swap; · iexact H10
    ipureintro; exact ⟨_, hK, rfl⟩
  isplitl [H11]
  · iexists _; isplitr
    swap; · iexact H11
    ipureintro; exact ⟨_, hK, rfl⟩
  isplitl [H12]
  · iexists _; isplitr
    swap; · iexact H12
    ipureintro; exact ⟨_, hK, rfl⟩
  isplitl [H13]
  · iexists _; isplitr
    swap; · iexact H13
    ipureintro; exact ⟨_, hK, rfl⟩
  isplitl [H14]
  · iexists _; isplitr
    swap; · iexact H14
    ipureintro; exact ⟨_, hK, rfl⟩
  iexists _; isplitr
  swap; · iexact H15
  ipureintro; exact ⟨_, hK, rfl⟩

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : Pipeline.BodyObligationRel (dats (F := F) m 0 c) (defs₀ (F := F)) Variants.none () Set.univ rel0 (Rl m c) := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%d0, H0⟩, ⟨%d1, H1⟩, ⟨%d2, H2⟩, ⟨%d3, H3⟩, ⟨%d4, H4⟩, ⟨%d5, H5⟩, ⟨%d6, H6⟩, ⟨%d7, H7⟩⟩, Hg⟩
  have hne : ∀ e, Nonempty (Elt F e) := inferInstance
  iexists (⟨fun _ => Classical.choice (hne _), fun _ => Classical.choice (hne _), fun _ => Classical.choice (hne _), fun _ => Classical.choice (hne _), fun _ => Classical.choice (hne _), fun _ => Classical.choice (hne _), fun _ => Classical.choice (hne _), fun _ => Classical.choice (hne _), d0, d1, d2, d3, d4, d5, d6, d7⟩ : St F)
  isplitr
  · ipureintro; intro t ht; exact absurd ht (Nat.succ_ne_zero _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hg

/-- After any point the invariant gives back what the launch handed over. -/
theorem Phi_out (c : Dev nD) (t : Fin (cfg0.N + 1)) : (dats m 0 c).Φ t ⊢ Pipeline.ΦA spec0 c := by
  rw [show (dats m 0 c).Φ t = PhiS m c t.val (Nat.le_of_lt_succ t.isLt) from rfl, PhiA0_eq]
  unfold PhiS
  iintro ⟨%b, -, ⟨H0, H1, H2, H3, H4, H5, H6, H7⟩, Hg⟩
  isplitl [H0 H1 H2 H3 H4 H5 H6 H7]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexists _; iexact H7
  iexact Hg

-- the launch theorem's implicit arguments are found by unifying its conclusion with this one, which takes unfolding plain
-- definitions in a metavariable's type
set_option backward.isDefEq.respectTransparency.types false in
/-- THE LAUNCH: every execution ends with every array at contents the proof data allow and every semaphore counter at zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame_track_shared (Q' := _) cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m) (hin := hin m) (hout := fun c => Phi_out m c _)
    (hQ' := fun _ h => h)

/-- The arguments after a run. -/
theorem frame_args {r : PUnit × MemSt nD τ sig (Elt F)} (h : Pipeline.RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(Pipeline.RDat.FramePost.arr_in h c 0 rfl).trans ((A_eq m c 0).trans (V_main_arg0 m c)),
    (Pipeline.RDat.FramePost.arr_in h c 2 rfl).trans ((A_eq m c 2).trans (V_main_arg1 m c)),
    (Pipeline.RDat.FramePost.arr_in h c 3 rfl).trans ((A_eq m c 3).trans (V_main_arg2 m c)),
    (Pipeline.RDat.FramePost.arr_in h c 4 rfl).trans ((A_eq m c 4).trans (V_main_arg3 m c)),
    (Pipeline.RDat.FramePost.arr_in h c 5 rfl).trans ((A_eq m c 5).trans (V_main_arg4 m c)),
    (Pipeline.RDat.FramePost.arr_in h c 6 rfl).trans ((A_eq m c 6).trans (V_main_arg5 m c)),
    (Pipeline.RDat.FramePost.arr_in h c 7 rfl).trans ((A_eq m c 7).trans (V_main_arg6 m c))⟩

/-- THE FRAME: the argument arrays end unchanged and every semaphore counter at zero, at any float interpretation. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨frame_args m h.1, h.2⟩) (run_main_quiescent m ρ)

end Cert.KernelIdeal.Gen

end
-- ==== Proof.KI.Spec.lean ====
/- The mathematics of the problem, entry by entry, over the arrays at entry. -/
module

public import proofs.«01_k».proof.Proof.KI.Track
public import Idealize.ShloMosaic.Lib.Pointwise
public import Idealize.ShloMosaic.Lib.Pipeline.ValueKit

@[expose] public section

set_option maxRecDepth 16384

noncomputable section

namespace Cert.KernelIdeal.Gen

open Idealize.ShloMosaic Idealize.ShloMosaic.TcCoe

/-- The seven arrays, entry by entry: activations, dequantised weights, masked weights, targets, bias, smoothing scales, shifts. -/
structure Arr where
  X : Fin 18432 → Fin 2560 → EReal
  W : Fin 6912 → Fin 2560 → EReal
  M : Fin 6912 → Fin 2560 → EReal
  Y : Fin 18432 → Fin 6912 → EReal
  B : Fin 6912 → EReal
  S : Fin 2560 → EReal
  D : Fin 2560 → EReal

namespace Arr

variable (A : Arr)

/-- The smoothed activation. -/
def xs (r : Fin 18432) (j : Fin 2560) : EReal := Ideal.div (A.X r j - A.D j) (A.S j)

/-- The largest magnitude of a token's row. -/
def am (r : Fin 18432) : EReal :=
  Finset.univ.fold max (Ideal.ofBits FTy.f32 4286578688#32) fun j => FloatOps.absf (F := Ideal) (φ := .f32) (A.xs r j)

/-- A token's scale. -/
def sc (r : Fin 18432) : EReal :=
  if A.am r = 0 then 1 else Ideal.div (Ideal.ofBits FTy.f32 1060320051#32 * A.am r) (Ideal.ofBits FTy.f32 1123942400#32)

/-- A token's code, as a number. -/
def q (r : Fin 18432) (j : Fin 2560) : EReal :=
  min (Ideal.ofBits FTy.f32 1123942400#32)
    (max (Ideal.ofBits FTy.f32 3271426048#32) (Ideal.liftRound Ideal.roundHalfEven (Ideal.div (A.xs r j) (A.sc r))))

/-- A token's code, as an integer. -/
def code (r : Fin 18432) (j : Fin 2560) : BitVec 8 := FloatOps.fptosi (F := Ideal) (φ := .f32) 8 (A.q r j)

/-- The prediction. -/
def y (r : Fin 18432) (o : Fin 6912) : EReal := A.sc r * (∑ j, A.q r j * A.W o j) + A.B o

/-- The prediction less the target. -/
def df (r : Fin 18432) (o : Fin 6912) : EReal := A.y r o - A.Y r o

/-- The squared difference, at a column given as a number (0 past the end). -/
def d2 (r : Fin 18432) (o : ℕ) : EReal := if h : o < 6912 then A.df r ⟨o, h⟩ * A.df r ⟨o, h⟩ else 0

/-- The squared differences of the first `n` tiles of 256 columns that fall on lane `l` of 128. -/
def sq (r : Fin 18432) (l : ℕ) (n : ℕ) : EReal := ∑ p ∈ Finset.range n, (A.d2 r (256 * p + l) + A.d2 r (256 * p + 128 + l))

/-- A token's loss: the mean of the squared differences. -/
def loss (r : Fin 18432) : EReal := Ideal.div (∑ o : Fin 6912, A.df r o * A.df r o) (Ideal.ofBits FTy.f32 1171783680#32)

end Arr

/-- The token at row `i` of block `T`. -/
def row (T : Fin 24) (i : Fin 768) : Fin 18432 := ⟨768 * T.val + i.val, by omega⟩
/-- The token block of a point. -/
def tb (t : Fin cfg0.N) : Fin 24 := ⟨t.val / 19, by have : t.val < 456 := Nat.lt_of_lt_of_eq t.isLt N_0; omega⟩
/-- The output block that the forward pass is at, or was at last. -/
def ob (t : Fin cfg0.N) : Fin 9 := ⟨min (t.val % 19) 8, by omega⟩
/-- The output at column `j` of output block `k`. -/
def col (k : Fin 9) (j : Fin 768) : Fin 6912 := ⟨768 * k.val + j.val, by omega⟩

variable (m : (ℓ : Loc nD τ sig) → Buf (Elt Ideal) ℓ)

/-- The arrays that the launch finds on core `c`. -/
def arrs (c : Dev nD) : Arr where
  X r j := (m ((c : Thread nD τ).loc main_arg0) : S18432x2560.Idx → EReal) (ix2 r j)
  W r j := (m ((c : Thread nD τ).loc main_arg1) : S6912x2560.Idx → EReal) (ix2 r j)
  M r j := (m ((c : Thread nD τ).loc main_arg2) : S6912x2560.Idx → EReal) (ix2 r j)
  Y r j := (m ((c : Thread nD τ).loc main_arg3) : S18432x6912.Idx → EReal) (ix2 r j)
  B j := (m ((c : Thread nD τ).loc main_arg4) : S1x6912.Idx → EReal) (ix2 0 j)
  S j := (m ((c : Thread nD τ).loc main_arg5) : S1x2560.Idx → EReal) (ix2 0 j)
  D j := (m ((c : Thread nD τ).loc main_arg6) : S1x2560.Idx → EReal) (ix2 0 j)

/-! ## Which block of its array each window is at -/

theorem index0_0 : ∀ t : Fin cfg0.N, (cfg0.win 0).index t 0 = t.val / 19 ∧ (cfg0.win 0).index t 1 = 0 := by decide +kernel
theorem index0_1 : ∀ t : Fin cfg0.N, (cfg0.win 1).index t 0 = min (t.val % 19) 8 ∧ (cfg0.win 1).index t 1 = 0 := by decide +kernel
theorem index0_4 : ∀ t : Fin cfg0.N, (cfg0.win 4).index t 0 = t.val / 19 ∧ (cfg0.win 4).index t 1 = min (t.val % 19) 8 := by decide +kernel
theorem index0_5 : ∀ t : Fin cfg0.N, (cfg0.win 5).index t 0 = 0 ∧ (cfg0.win 5).index t 1 = 0 := by decide +kernel
theorem index0_6 : ∀ t : Fin cfg0.N, (cfg0.win 6).index t 0 = 0 ∧ (cfg0.win 6).index t 1 = 0 := by decide +kernel
theorem index0_7 : ∀ t : Fin cfg0.N, (cfg0.win 7).index t 0 = 0 ∧ (cfg0.win 7).index t 1 = 0 := by decide +kernel
theorem index0_8 : ∀ t : Fin cfg0.N, (cfg0.win 8).index t 0 = t.val / 19 ∧ (cfg0.win 8).index t 1 = min (t.val % 19) 8 := by decide +kernel
theorem index0_9 : ∀ t : Fin cfg0.N, (cfg0.win 9).index t 0 = t.val / 19 ∧ (cfg0.win 9).index t 1 = 0 := by decide +kernel
/-- The predictions' block is written back when the forward pass leaves it. -/
theorem flush0_8 : ∀ t : Fin cfg0.N, (cfg0.win 8).flush t = true ↔ t.val % 19 < 8 ∨ t.val % 19 = 18 := by decide +kernel

/-! ## The inputs' blocks, entry by entry -/

theorem ins_x (c : Dev nD) (t : Fin cfg0.N) (i : Fin 768) (j : Fin 2560) :
    (ins m c t).x (ix2 i j) = (arrs m c).X (row (tb t) i) j := by
  show (m ((c : Thread nD τ).loc main_arg0) : S18432x2560.Idx → EReal) (((cfg0.win 0).rect t).emb (ix2 i j)) = (m ((c : Thread nD τ).loc main_arg0) : S18432x2560.Idx → EReal) (ix2 (row (tb t) i) j)
  congr 1
  refine Shape.idx_ext₂ ?_ ?_
  · refine (Pipeline.Window.rect_emb_val (cfg0.win 0) t _ 0).trans ?_; rw [(index0_0 t).1]; show t.val / 19 * 768 + i.val = 768 * (t.val / 19) + i.val; omega
  · refine (Pipeline.Window.rect_emb_val (cfg0.win 0) t _ 1).trans ?_; rw [(index0_0 t).2]; show 0 * 2560 + j.val = j.val; omega

theorem ins_wa (c : Dev nD) (t : Fin cfg0.N) (i : Fin 768) (j : Fin 2560) :
    (ins m c t).wa (ix2 i j) = (arrs m c).W (col (ob t) i) j := by
  show (m ((c : Thread nD τ).loc main_arg1) : S6912x2560.Idx → EReal) (((cfg0.win 1).rect t).emb (ix2 i j)) = (m ((c : Thread nD τ).loc main_arg1) : S6912x2560.Idx → EReal) (ix2 (col (ob t) i) j)
  congr 1
  refine Shape.idx_ext₂ ?_ ?_
  · refine (Pipeline.Window.rect_emb_val (cfg0.win 1) t _ 0).trans ?_; rw [(index0_1 t).1]; show min (t.val % 19) 8 * 768 + i.val = 768 * min (t.val % 19) 8 + i.val; omega
  · refine (Pipeline.Window.rect_emb_val (cfg0.win 1) t _ 1).trans ?_; rw [(index0_1 t).2]; show 0 * 2560 + j.val = j.val; omega

theorem ins_yt (c : Dev nD) (t : Fin cfg0.N) (i : Fin 768) (j : Fin 768) :
    (ins m c t).yt (ix2 i j) = (arrs m c).Y (row (tb t) i) (col (ob t) j) := by
  show (m ((c : Thread nD τ).loc main_arg3) : S18432x6912.Idx → EReal) (((cfg0.win 4).rect t).emb (ix2 i j)) = (m ((c : Thread nD τ).loc main_arg3) : S18432x6912.Idx → EReal) (ix2 (row (tb t) i) (col (ob t) j))
  congr 1
  refine Shape.idx_ext₂ ?_ ?_
  · refine (Pipeline.Window.rect_emb_val (cfg0.win 4) t _ 0).trans ?_; rw [(index0_4 t).1]; show t.val / 19 * 768 + i.val = 768 * (t.val / 19) + i.val; omega
  · refine (Pipeline.Window.rect_emb_val (cfg0.win 4) t _ 1).trans ?_; rw [(index0_4 t).2]; show min (t.val % 19) 8 * 768 + j.val = 768 * min (t.val % 19) 8 + j.val; omega

theorem ins_bt (c : Dev nD) (t : Fin cfg0.N) (j : Fin 6912) : (ins m c t).bt (ix2 0 j) = (arrs m c).B j := by
  show (m ((c : Thread nD τ).loc main_arg4) : S1x6912.Idx → EReal) (((cfg0.win 5).rect t).emb (ix2 0 j)) = (m ((c : Thread nD τ).loc main_arg4) : S1x6912.Idx → EReal) (ix2 0 j)
  congr 1
  refine Shape.idx_ext₂ ?_ ?_
  · refine (Pipeline.Window.rect_emb_val (cfg0.win 5) t _ 0).trans ?_; rw [(index0_5 t).1]; rfl
  · refine (Pipeline.Window.rect_emb_val (cfg0.win 5) t _ 1).trans ?_; rw [(index0_5 t).2]; show 0 * 6912 + j.val = j.val; omega

theorem ins_s (c : Dev nD) (t : Fin cfg0.N) (j : Fin 2560) : (ins m c t).s (ix2 0 j) = (arrs m c).S j := by
  show (m ((c : Thread nD τ).loc main_arg5) : S1x2560.Idx → EReal) (((cfg0.win 6).rect t).emb (ix2 0 j)) = (m ((c : Thread nD τ).loc main_arg5) : S1x2560.Idx → EReal) (ix2 0 j)
  congr 1
  refine Shape.idx_ext₂ ?_ ?_
  · refine (Pipeline.Window.rect_emb_val (cfg0.win 6) t _ 0).trans ?_; rw [(index0_6 t).1]; rfl
  · refine (Pipeline.Window.rect_emb_val (cfg0.win 6) t _ 1).trans ?_; rw [(index0_6 t).2]; show 0 * 2560 + j.val = j.val; omega

theorem ins_delta (c : Dev nD) (t : Fin cfg0.N) (j : Fin 2560) : (ins m c t).delta (ix2 0 j) = (arrs m c).D j := by
  show (m ((c : Thread nD τ).loc main_arg6) : S1x2560.Idx → EReal) (((cfg0.win 7).rect t).emb (ix2 0 j)) = (m ((c : Thread nD τ).loc main_arg6) : S1x2560.Idx → EReal) (ix2 0 j)
  congr 1
  refine Shape.idx_ext₂ ?_ ?_
  · refine (Pipeline.Window.rect_emb_val (cfg0.win 7) t _ 0).trans ?_; rw [(index0_7 t).1]; rfl
  · refine (Pipeline.Window.rect_emb_val (cfg0.win 7) t _ 1).trans ?_; rw [(index0_7 t).2]; show 0 * 2560 + j.val = j.val; omega

end Cert.KernelIdeal.Gen

end
-- ==== Proof.KI.Fwd.lean ====
/- What the forward pass of a point computes, entry by entry. -/
module

public import proofs.«01_k».proof.Proof.KI.Spec

@[expose] public section

set_option maxRecDepth 16384

noncomputable section

namespace Cert.KernelIdeal.Gen

open Idealize.ShloMosaic Idealize.ShloMosaic.TcCoe

/-! ## A buffer after part of it was written -/

/-- Written over columns `c … c + w - 1`. -/
theorem put2_at {α : Type} {n0 n1 w c : ℕ} (x : (⟨2, ![n0, n1]⟩ : Shape).Idx → α) (u : (⟨2, ![n0, w]⟩ : Shape).Idx → α) (i : Fin n0) (o : Fin n1) :
    VecWindow.put (s := ⟨2, ![n0, n1]⟩) x ![0, c] ![n0, w] u (ix2 i o)
      = if h : c ≤ o.val ∧ o.val < c + w then u (ix2 i ⟨o.val - c, by omega⟩) else x (ix2 i o) := by
  unfold VecWindow.put
  by_cases h : c ≤ o.val ∧ o.val < c + w
  · have h' : ∀ a : Fin 2, (![0, c] : Fin 2 → ℕ) a ≤ ((ix2 i o : (⟨2, ![n0, n1]⟩ : Shape).Idx) a).val
        ∧ ((ix2 i o : (⟨2, ![n0, n1]⟩ : Shape).Idx) a).val < (![0, c] : Fin 2 → ℕ) a + (![n0, w] : Fin 2 → ℕ) a := fun a =>
      match a with
      | ⟨0, _⟩ => ⟨Nat.zero_le _, by show i.val < 0 + n0; omega⟩
      | ⟨1, _⟩ => h
    rw [dif_pos h, dif_pos h']
    congr 1
    refine Shape.idx_ext₂ ?_ ?_
    · show i.val - 0 = i.val; omega
    · rfl
  · have h' : ¬ ∀ a : Fin 2, (![0, c] : Fin 2 → ℕ) a ≤ ((ix2 i o : (⟨2, ![n0, n1]⟩ : Shape).Idx) a).val
        ∧ ((ix2 i o : (⟨2, ![n0, n1]⟩ : Shape).Idx) a).val < (![0, c] : Fin 2 → ℕ) a + (![n0, w] : Fin 2 → ℕ) a := fun hh => h (hh 1)
    rw [dif_neg h, dif_neg h']

/-- Written over columns `c … c + w - 1` of slice `T`. -/
theorem put3_at {α : Type} {n0 n1 w c T : ℕ} (x : (⟨3, ![n0, 1, n1]⟩ : Shape).Idx → α) (u : (⟨3, ![1, 1, w]⟩ : Shape).Idx → α) (i : Fin n0) (o : Fin n1) :
    VecWindow.put (s := ⟨3, ![n0, 1, n1]⟩) x ![T, 0, c] ![1, 1, w] u (ix3 i 0 o)
      = if h : i.val = T ∧ c ≤ o.val ∧ o.val < c + w then u (ix3 0 0 ⟨o.val - c, by omega⟩) else x (ix3 i 0 o) := by
  unfold VecWindow.put
  by_cases h : i.val = T ∧ c ≤ o.val ∧ o.val < c + w
  · have h' : ∀ a : Fin 3, (![T, 0, c] : Fin 3 → ℕ) a ≤ ((ix3 i 0 o : (⟨3, ![n0, 1, n1]⟩ : Shape).Idx) a).val
        ∧ ((ix3 i 0 o : (⟨3, ![n0, 1, n1]⟩ : Shape).Idx) a).val < (![T, 0, c] : Fin 3 → ℕ) a + (![1, 1, w] : Fin 3 → ℕ) a := fun a =>
      match a with
      | ⟨0, _⟩ => ⟨by show T ≤ i.val; omega, by show i.val < T + 1; omega⟩
      | ⟨1, _⟩ => ⟨Nat.zero_le _, by show 0 < 0 + 1; omega⟩
      | ⟨2, _⟩ => h.2
    rw [dif_pos h, dif_pos h']
    congr 1
    funext a
    match a with
    | ⟨0, _⟩ => exact Fin.ext (by show i.val - T = 0; omega)
    | ⟨1, _⟩ => rfl
    | ⟨2, _⟩ => rfl
  · have h' : ¬ ∀ a : Fin 3, (![T, 0, c] : Fin 3 → ℕ) a ≤ ((ix3 i 0 o : (⟨3, ![n0, 1, n1]⟩ : Shape).Idx) a).val
        ∧ ((ix3 i 0 o : (⟨3, ![n0, 1, n1]⟩ : Shape).Idx) a).val < (![T, 0, c] : Fin 3 → ℕ) a + (![1, 1, w] : Fin 3 → ℕ) a := fun hh => by
      have h0 : T ≤ i.val ∧ i.val < T + 1 := hh 0
      exact h ⟨by omega, hh 2⟩
    rw [dif_neg h, dif_neg h']

/-! ## The forward pass of one point -/

/-- The bias of tile `p` of the point's output block. -/
theorem bt_at (i : grid0.Coords) (v : Vec Ideal S1x6912 .f32) (p : Fin 3) (inb) (l : Fin 256) (h : 768 * (i 1).val + 256 * p.val + l.val < 6912) :
    View.ld v (Rect.unit (s := S1x6912) (k0_off9 i (BitVec.ofNat 32 (256 * p.val))) S1x256.size inb) (ix2 0 l)
      = v (ix2 0 ⟨768 * (i 1).val + 256 * p.val + l.val, h⟩) := by
  show v _ = _
  congr 1
  have e := k0_off9_eq i p
  refine Shape.idx_ext₂ ?_ ?_
  · show k0_off9 i (BitVec.ofNat 32 (256 * p.val)) 0 + 1 * 0 = 0
    rw [e]; rfl
  · show k0_off9 i (BitVec.ofNat 32 (256 * p.val)) 1 + 1 * l.val = _
    rw [e]; show 768 * (i 1).val + 256 * p.val + 1 * l.val = 768 * (i 1).val + 256 * p.val + l.val; omega

/-- The column at lane `l` of tile `p` of a point's output block. -/
def tcol (p : Fin 3) (l : Fin 256) : Fin 768 := ⟨256 * p.val + l.val, by omega⟩

section
variable (A : Arr) (T : Fin 24) (k : Fin 9) (i : grid0.Coords) (hi : (i 1).val = k.val) (hc : k0_cond3 i = 1#1) (a : In Ideal) (b : St Ideal)
  (hwa : ∀ o j, a.wa (ix2 o j) = A.W (col k o) j) (hbt : ∀ o, a.bt (ix2 0 o) = A.B o)
  (hyt : ∀ r o, a.yt (ix2 r o) = A.Y (row T r) (col k o))
  (hxq : ∀ r j, b.xq (ix2 r j) = A.q (row T r) j) (hsc : ∀ r l, b.sc (ix2 r l) = A.sc (row T r))

include hi hbt in
theorem bt_tile (p : Fin 3) (inb) (l : Fin 256) :
    View.ld a.bt (Rect.unit (s := S1x6912) (k0_off9 i (BitVec.ofNat 32 (256 * p.val))) S1x256.size inb) (ix2 0 l) = A.B (col k (tcol p l)) := by
  rw [bt_at i a.bt p inb l (by omega), hbt]
  congr 1; exact Fin.ext (by show 768 * (i 1).val + 256 * p.val + l.val = 768 * k.val + (256 * p.val + l.val); omega)

/-- One tile of predictions from its four operands. -/
theorem pay35_at (q : Vec Ideal S768x2560 .bf16) (w : Vec Ideal S256x2560 .bf16) (s : Vec Ideal S768x256 .f32) (v : Vec Ideal S1x256 .f32) (p : Fin 3)
    (hq : ∀ r j, q (ix2 r j) = A.q (row T r) j) (hw : ∀ l j, w (ix2 l j) = A.W (col k (tcol p l)) j)
    (hs : ∀ r l, s (ix2 r l) = A.sc (row T r)) (hv : ∀ l, v (ix2 0 l) = A.B (col k (tcol p l))) (r : Fin 768) (l : Fin 256) :
    k0_pay35 q w s v (ix2 r l) = A.y (row T r) (col k (tcol p l)) := by
  pointwise [k0_pay35]
  simp only [hq, hw, hs, hv]
  rfl

theorem pay45_eq (q : Vec Ideal S768x2560 .bf16) (w : Vec Ideal S256x2560 .bf16) (s : Vec Ideal S768x256 .f32) (v : Vec Ideal S1x256 .f32) :
    k0_pay45 q w s v = k0_pay35 q w s v := rfl
theorem pay55_eq (q : Vec Ideal S768x2560 .bf16) (w : Vec Ideal S256x2560 .bf16) (s : Vec Ideal S768x256 .f32) (v : Vec Ideal S1x256 .f32) :
    k0_pay55 q w s v = k0_pay35 q w s v := rfl

/-- The two columns of a tile that fall on a lane, of an output block. -/
theorem d2_at (r : Fin 18432) (p : Fin 3) (l : Fin 256) (n : ℕ) (h : n = 768 * k.val + 256 * p.val + l.val) :
    A.df r (col k (tcol p l)) * A.df r (col k (tcol p l)) = A.d2 r n := by
  subst h
  have h : 768 * k.val + 256 * p.val + l.val < 6912 := by omega
  unfold Arr.d2
  rw [dif_pos h]
  have e : col k (tcol p l) = ⟨768 * k.val + 256 * p.val + l.val, h⟩ := Fin.ext (by show 768 * k.val + (256 * p.val + l.val) = 768 * k.val + 256 * p.val + l.val; omega)
  rw [e]

/-- The running sums of squares over one tile, from the tile's differences. -/
theorem fold_at (v : FVec Ideal S768x256 .f32) (u : Vec Ideal S768x256 .bf16) (z : Vec Ideal S768x128 .f32) (p : Fin 3)
    (hv : ∀ r l, v (ix2 r l) = A.y (row T r) (col k (tcol p l))) (hu : ∀ r l, u (ix2 r l) = A.Y (row T r) (col k (tcol p l)))
    (r : Fin 768) (l : Fin 128) :
    k0_pay9 v u z (ix2 r l) = z (ix2 r l) + (A.d2 (row T r) (256 * (3 * k.val + p.val) + l.val) + A.d2 (row T r) (256 * (3 * k.val + p.val) + 128 + l.val)) := by
  pointwise [k0_pay9, k0_pay8]
  simp only [hv, hu]
  rw [← d2_at A k (row T r) p ⟨l.val, by omega⟩ _ (by show _ = 768 * k.val + 256 * p.val + l.val; omega),
    ← d2_at A k (row T r) p ⟨128 + l.val, by omega⟩ _ (by show _ = 768 * k.val + 256 * p.val + (128 + l.val); omega)]
  rfl

theorem pay38_eq (q : Vec Ideal S768x2560 .bf16) (w : Vec Ideal S256x2560 .bf16) (s : Vec Ideal S768x256 .f32) (v : Vec Ideal S1x256 .f32)
    (u : Vec Ideal S768x256 .bf16) (z : Vec Ideal S768x128 .f32) : k0_pay38 q w s v u z = k0_pay9 (k0_pay35 q w s v) u z := rfl
theorem pay49_eq (q : Vec Ideal S768x2560 .bf16) (w : Vec Ideal S256x2560 .bf16) (s : Vec Ideal S768x256 .f32) (v : Vec Ideal S1x256 .f32)
    (u : Vec Ideal S768x256 .bf16) (z : Vec Ideal S768x128 .f32) : k0_pay49 (k0_pay48 q w s v u z) = k0_pay9 (k0_pay35 q w s v) u z := rfl

include hxq in
theorem ld_xq (r : Fin 768) (j : Fin 2560) :
    View.ld b.xq (Rect.unit (s := S768x2560) ![0, 0] S768x2560.size inb_S768x2560_S768x2560_0_0) (ix2 r j) = A.q (row T r) j := by
  refine .trans ?_ (hxq r j); pointwise
include hsc in
theorem ld_sc (r : Fin 768) (l : Fin 256) :
    View.ld b.sc (Rect.unit (s := S768x256) ![0, 0] S768x256.size inb_S768x256_S768x256_0_0) (ix2 r l) = A.sc (row T r) := by
  refine .trans ?_ (hsc r l); pointwise
include hwa in
theorem ld_wa (p : Fin 3) (inb) (l : Fin 256) (j : Fin 2560) :
    View.ld a.wa (Rect.unit (s := S768x2560) ![256 * p.val, 0] S256x2560.size inb) (ix2 l j) = A.W (col k (tcol p l)) j := by
  refine .trans ?_ (hwa (tcol p l) j)
  show a.wa _ = _
  congr 1
  refine Shape.idx_ext₂ ?_ ?_
  · show 256 * p.val + 1 * l.val = 256 * p.val + l.val; omega
  · show 0 + 1 * j.val = j.val; omega
include hyt in
theorem ld_yt (p : Fin 3) (inb) (r : Fin 768) (l : Fin 256) :
    View.ld a.yt (Rect.unit (s := S768x768) ![0, 256 * p.val] S768x256.size inb) (ix2 r l) = A.Y (row T r) (col k (tcol p l)) := by
  refine .trans ?_ (hyt r (tcol p l))
  show a.yt _ = _
  congr 1
  refine Shape.idx_ext₂ ?_ ?_
  · show 0 + 1 * r.val = r.val; omega
  · show 256 * p.val + 1 * l.val = 256 * p.val + l.val; omega

/-- Tile `p` of the predictions, as the body loads its operands. -/
def tileY (i : grid0.Coords) (hc : k0_cond3 i = 1#1) (a : In Ideal) (b : St Ideal) (p : Fin 3)
    (inb : ∀ x, (![256 * p.val, 0] : Fin 2 → ℕ) x + S256x2560.size x ≤ S768x2560.size x) : FVec Ideal S768x256 .f32 :=
  k0_pay35 (View.ld b.xq (Rect.unit (s := S768x2560) ![0, 0] S768x2560.size inb_S768x2560_S768x2560_0_0))
    (View.ld a.wa (Rect.unit (s := S768x2560) ![256 * p.val, 0] S256x2560.size inb))
    (View.ld b.sc (Rect.unit (s := S768x256) ![0, 0] S768x256.size inb_S768x256_S768x256_0_0))
    (View.ld a.bt (Rect.unit (s := S1x6912) (k0_off9 i (BitVec.ofNat 32 (256 * p.val))) S1x256.size (k0_off9_inb i hc p)))

include hi hwa hbt hxq hsc in
theorem tileY_at (p : Fin 3) (inb) (r : Fin 768) (l : Fin 256) : tileY i hc a b p inb (ix2 r l) = A.y (row T r) (col k (tcol p l)) :=
  pay35_at A T k _ _ _ _ p (ld_xq A T b hxq) (ld_wa A k a hwa p inb) (ld_sc A T b hsc) (bt_tile A k i hi a hbt p _) r l

include hi hwa hbt hxq hsc in
/-- The predictions' buffer after the forward pass of a point. -/
theorem f3_y (r : Fin 768) (o : Fin 768) : (f3 i hc a b).y (ix2 r o) = A.y (row T r) (col k o) := by
  have t0 := tileY_at A T k i hi hc a b hwa hbt hxq hsc 0 inb_S768x2560_S256x2560_0_0 r
  have t1 := tileY_at A T k i hi hc a b hwa hbt hxq hsc 1 inb_S768x2560_S256x2560_256_0 r
  have t2 := tileY_at A T k i hi hc a b hwa hbt hxq hsc 2 inb_S768x2560_S256x2560_512_0 r
  have fin : ∀ (p : Fin 3) (h : 256 * p.val ≤ o.val ∧ o.val < 256 * p.val + 256), tcol p ⟨o.val - 256 * p.val, by omega⟩ = o :=
    fun p h => Fin.ext (by show 256 * p.val + (o.val - 256 * p.val) = o.val; omega)
  refine (put2_at (c := 512) (w := 256) _ _ r o).trans ?_
  by_cases h2 : 512 ≤ o.val ∧ o.val < 512 + 256
  · rw [dif_pos h2]; exact (t2 _).trans (congrArg (fun o => A.y (row T r) (col k o)) (fin 2 h2))
  rw [dif_neg h2]
  refine (put2_at (c := 256) (w := 256) _ _ r o).trans ?_
  by_cases h1 : 256 ≤ o.val ∧ o.val < 256 + 256
  · rw [dif_pos h1]; exact (t1 _).trans (congrArg (fun o => A.y (row T r) (col k o)) (fin 1 h1))
  rw [dif_neg h1]
  refine (put2_at (c := 0) (w := 256) _ _ r o).trans ?_
  have h0 : 0 ≤ o.val ∧ o.val < 0 + 256 := ⟨Nat.zero_le _, by omega⟩
  rw [dif_pos h0]
  exact (t0 _).trans (congrArg (fun o => A.y (row T r) (col k o)) (fin 0 ⟨Nat.zero_le _, by show o.val < 0 + 256; omega⟩))

include hi hwa hbt hyt hxq hsc in
/-- The running sums of squares after the forward pass of a point: three tiles further. -/
theorem f3_sq (hsq : ∀ (r : Fin 768) (l : Fin 128), b.sq (ix2 r l) = A.sq (row T r) l.val (3 * k.val)) (r : Fin 768) (l : Fin 128) :
    (f3 i hc a b).sq (ix2 r l) = A.sq (row T r) l.val (3 * k.val + 3) := by
  have t0 := tileY_at A T k i hi hc a b hwa hbt hxq hsc 0 inb_S768x2560_S256x2560_0_0
  have t1 := tileY_at A T k i hi hc a b hwa hbt hxq hsc 1 inb_S768x2560_S256x2560_256_0
  have t2 := tileY_at A T k i hi hc a b hwa hbt hxq hsc 2 inb_S768x2560_S256x2560_512_0
  have y0 := ld_yt A T k a hyt 0 inb_S768x768_S768x256_0_0
  have y1 := ld_yt A T k a hyt 1 inb_S768x768_S768x256_0_256
  have y2 := ld_yt A T k a hyt 2 inb_S768x768_S768x256_0_512
  have eA : sqA i hc a b (ix2 r l) = A.sq (row T r) l.val (3 * k.val + 1) := by
    refine (fold_at A T k _ _ _ 0 t0 y0 r l).trans ?_
    unfold Arr.sq; rw [Finset.sum_range_succ]
    refine congrArg₂ (· + ·) ?_ rfl
    refine .trans ?_ (hsq r l); pointwise
  have eB : sqB i hc a b (ix2 r l) = A.sq (row T r) l.val (3 * k.val + 2) := by
    refine (fold_at A T k _ _ _ 1 t1 y1 r l).trans ?_
    rw [eA]; unfold Arr.sq; rw [Finset.sum_range_succ _ (3 * k.val + 1)]
    rfl
  refine (fold_at A T k _ _ _ 2 t2 y2 r l).trans ?_
  rw [eB]; unfold Arr.sq; rw [Finset.sum_range_succ _ (3 * k.val + 2)]
  rfl
end

end Cert.KernelIdeal.Gen

end
-- ==== Proof.KI.Rows.lean ====
/- The rows of scales and of losses that a token block writes, entry by entry. -/
module

public import proofs.«01_k».proof.Proof.KI.Fwd

@[expose] public section

set_option maxRecDepth 16384

noncomputable section

namespace Cert.KernelIdeal.Gen

open Idealize.ShloMosaic Idealize.ShloMosaic.TcCoe

/-- Six lots of 128 columns written into slice `T`: the slice is the six lots, the others are as before. -/
theorem six_at {α : Type} (T : ℕ) (x : S24x1x768.Idx → α) (u0 u1 u2 u3 u4 u5 : S1x1x128.Idx → α) (f : Fin 768 → α)
    (h0 : ∀ l : Fin 128, u0 (ix3 0 0 l) = f ⟨l.val, by omega⟩) (h1 : ∀ l : Fin 128, u1 (ix3 0 0 l) = f ⟨128 + l.val, by omega⟩)
    (h2 : ∀ l : Fin 128, u2 (ix3 0 0 l) = f ⟨256 + l.val, by omega⟩) (h3 : ∀ l : Fin 128, u3 (ix3 0 0 l) = f ⟨384 + l.val, by omega⟩)
    (h4 : ∀ l : Fin 128, u4 (ix3 0 0 l) = f ⟨512 + l.val, by omega⟩) (h5 : ∀ l : Fin 128, u5 (ix3 0 0 l) = f ⟨640 + l.val, by omega⟩)
    (i : Fin 24) (o : Fin 768) :
    VecWindow.put (s := S24x1x768) (VecWindow.put (s := S24x1x768) (VecWindow.put (s := S24x1x768) (VecWindow.put (s := S24x1x768)
      (VecWindow.put (s := S24x1x768) (VecWindow.put (s := S24x1x768) x ![T, 0, 0] S1x1x128.size u0) ![T, 0, 128] S1x1x128.size u1)
      ![T, 0, 256] S1x1x128.size u2) ![T, 0, 384] S1x1x128.size u3) ![T, 0, 512] S1x1x128.size u4) ![T, 0, 640] S1x1x128.size u5 (ix3 i 0 o)
      = if i.val = T then f o else x (ix3 i 0 o) := by
  have fin : ∀ (n : ℕ) (h : n + (o.val - n) < 768) (_ : n ≤ o.val), f ⟨n + (o.val - n), h⟩ = f o :=
    fun n h hn => congrArg f (Fin.ext (by show n + (o.val - n) = o.val; omega))
  refine (put3_at (T := T) (c := 640) (w := 128) _ u5 i o).trans ?_
  split
  · rename_i h; rw [if_pos h.1, h5]; exact fin 640 _ h.2.1
  refine (put3_at (T := T) (c := 512) (w := 128) _ u4 i o).trans ?_
  split
  · rename_i h; rw [if_pos h.1, h4]; exact fin 512 _ h.2.1
  refine (put3_at (T := T) (c := 384) (w := 128) _ u3 i o).trans ?_
  split
  · rename_i h; rw [if_pos h.1, h3]; exact fin 384 _ h.2.1
  refine (put3_at (T := T) (c := 256) (w := 128) _ u2 i o).trans ?_
  split
  · rename_i h; rw [if_pos h.1, h2]; exact fin 256 _ h.2.1
  refine (put3_at (T := T) (c := 128) (w := 128) _ u1 i o).trans ?_
  split
  · rename_i h; rw [if_pos h.1, h1]; exact fin 128 _ h.2.1
  refine (put3_at (T := T) (c := 0) (w := 128) _ u0 i o).trans ?_
  split
  · rename_i h; rw [if_pos h.1, h0]; exact congrArg f (Fin.ext (by show o.val - 0 = o.val; omega))
  rename_i k5 k4 k3 k2 k1 k0
  rw [if_neg]
  intro h
  omega

/-! ## The scales' row and the losses' row of a token block -/

theorem pay32_eq (v : Vec Ideal S128x128 .f32) : k0_pay32 v = k0_pay31 v := rfl
theorem pay33_eq (v : Vec Ideal S128x128 .f32) : k0_pay33 v = k0_pay31 v := rfl
theorem pay5_eq (v : Vec Ideal S128x128 .f32) : k0_pay5 (k0_pay34 v) = k0_pay31 v := rfl
theorem pay6_eq (v : Vec Ideal S128x128 .f32) : k0_pay6 v = k0_pay31 v := rfl
theorem pay7_eq (v : Vec Ideal S128x128 .f32) : k0_pay7 v = k0_pay31 v := rfl
theorem pay58_eq (v : Vec Ideal S128x128 .f32) : k0_pay58 v = k0_pay57 v := rfl
theorem pay59_eq (v : Vec Ideal S128x128 .f32) : k0_pay59 v = k0_pay57 v := rfl
theorem pay15_eq (v : Vec Ideal S128x128 .f32) : k0_pay15 (k0_pay60 v) k0_pay61 = k0_pay57 v := rfl
theorem pay16_eq (v : Vec Ideal S128x128 .f32) : k0_pay16 v = k0_pay57 v := rfl
theorem pay17_eq (v : Vec Ideal S128x128 .f32) : k0_pay17 v = k0_pay57 v := rfl

/-- The first column, as a row. -/
theorem pay31_at (v : Vec Ideal S128x128 .f32) (l : Fin 128) : k0_pay31 v (ix3 0 0 l) = v (ix2 l 0) := by
  pointwise [k0_pay31]
/-- The mean of each row, as a row. -/
theorem pay57_at (v : Vec Ideal S128x128 .f32) (l : Fin 128) :
    k0_pay57 v (ix3 0 0 l) = Ideal.div (∑ x, v (ix2 l x)) (Ideal.ofBits FTy.f32 1171783680#32) := by
  pointwise [k0_pay57]

/-- 128 rows of the repeated scales. -/
theorem ld_sc128 (v : Vec Ideal S768x256 .f32) (n : ℕ) (inb) (l x : Fin 128) (h : n + l.val < 768) :
    View.ld v (Rect.unit (s := S768x256) ![n, 0] S128x128.size inb) (ix2 l x) = v (ix2 ⟨n + l.val, h⟩ ⟨x.val, by omega⟩) := by
  show v _ = _
  congr 1
  refine Shape.idx_ext₂ ?_ ?_
  · show n + 1 * l.val = n + l.val; omega
  · show 0 + 1 * x.val = x.val; omega
theorem ld_sq128 (v : Vec Ideal S768x128 .f32) (n : ℕ) (inb) (l x : Fin 128) (h : n + l.val < 768) :
    View.ld v (Rect.unit (s := S768x128) ![n, 0] S128x128.size inb) (ix2 l x) = v (ix2 ⟨n + l.val, h⟩ x) := by
  show v _ = _
  congr 1
  refine Shape.idx_ext₂ ?_ ?_
  · show n + 1 * l.val = n + l.val; omega
  · show 0 + 1 * x.val = x.val; omega

/-- The scales' buffer after the row of a token block was written. -/
theorem f2b_scales (i : grid0.Coords) (a : In Ideal) (b : St Ideal) (f : Fin 768 → EReal) (hsc : ∀ r l, b.sc (ix2 r l) = f r) (T : Fin 24) (o : Fin 768) :
    (f2b i a b).scales (ix3 T 0 o) = if T.val = (i 0).val then f o else b.scales (ix3 T 0 o) := by
  unfold f2b
  simp only [k0_off3_eq, k0_off4_eq, k0_off5_eq, k0_off6_eq, k0_off7_eq, k0_off8_eq, pay32_eq, pay33_eq, pay5_eq, pay6_eq, pay7_eq]
  have g : ∀ (n : ℕ) (inb) (l : Fin 128) (h : n + l.val < 768),
      k0_pay31 (View.ld b.sc (Rect.unit (s := S768x256) ![n, 0] S128x128.size inb)) (ix3 0 0 l) = f ⟨n + l.val, h⟩ := fun n inb l h => by
    rw [pay31_at, ld_sc128 _ _ _ _ _ h, hsc]
  refine six_at (i 0).val b.scales _ _ _ _ _ _ f (fun l => (g 0 _ l (by omega)).trans (congrArg f (Fin.ext (Nat.zero_add _)))) (fun l => g 128 _ l _) (fun l => g 256 _ l _)
    (fun l => g 384 _ l _) (fun l => g 512 _ l _) (fun l => g 640 _ l _) T o

/-- The losses' buffer after the row of a token block was written. -/
theorem f4_loss (i : grid0.Coords) (a : In Ideal) (b : St Ideal) (f : Fin 768 → EReal)
    (hsq : ∀ r, Ideal.div (∑ x, b.sq (ix2 r x)) (Ideal.ofBits FTy.f32 1171783680#32) = f r) (T : Fin 24) (o : Fin 768) :
    (f4 i a b).loss (ix3 T 0 o) = if T.val = (i 0).val then f o else b.loss (ix3 T 0 o) := by
  unfold f4
  simp only [k0_off12_eq, k0_off13_eq, k0_off14_eq, k0_off15_eq, k0_off16_eq, k0_off17_eq, pay58_eq, pay59_eq, pay15_eq, pay16_eq, pay17_eq]
  have g : ∀ (n : ℕ) (inb) (l : Fin 128) (h : n + l.val < 768),
      k0_pay57 (View.ld b.sq (Rect.unit (s := S768x128) ![n, 0] S128x128.size inb)) (ix3 0 0 l) = f ⟨n + l.val, h⟩ := fun n inb l h => by
    rw [pay57_at, ← hsq]
    exact congrArg (fun z => Ideal.div z _) (Finset.sum_congr rfl fun x _ => ld_sq128 _ _ _ _ _ h)
  refine six_at (i 0).val b.loss _ _ _ _ _ _ f (fun l => (g 0 _ l (by omega)).trans (congrArg f (Fin.ext (Nat.zero_add _)))) (fun l => g 128 _ l _) (fun l => g 256 _ l _)
    (fun l => g 384 _ l _) (fun l => g 512 _ l _) (fun l => g 640 _ l _) T o

/-! ## The sum over all columns from its tiles and lanes -/

/-- `n` tiles of `w` columns, one after another. -/
theorem sum_tiles (f : ℕ → EReal) (w : ℕ) : ∀ n : ℕ, ∑ p ∈ Finset.range n, ∑ j ∈ Finset.range w, f (w * p + j) = ∑ j ∈ Finset.range (w * n), f j
  | 0 => by simp
  | n + 1 => by rw [Finset.sum_range_succ, sum_tiles f w n, Nat.mul_succ, Finset.sum_range_add]

/-- 27 tiles of 256 columns, each folded to 128 lanes: together the sum over all 6912 columns. -/
theorem sum_lanes (f : ℕ → EReal) :
    ∑ l : Fin 128, ∑ p ∈ Finset.range 27, (f (256 * p + l.val) + f (256 * p + 128 + l.val)) = ∑ o ∈ Finset.range 6912, f o := by
  rw [Finset.sum_comm, ← show 256 * 27 = 6912 from rfl, ← sum_tiles f 256 27]
  refine Finset.sum_congr rfl fun p _ => ?_
  rw [Finset.sum_add_distrib, show (256 : ℕ) = 128 + 128 from rfl, Finset.sum_range_add,
    ← Fin.sum_univ_eq_sum_range (fun j => f ((128 + 128) * p + j)) 128, ← Fin.sum_univ_eq_sum_range (fun j => f ((128 + 128) * p + (128 + j))) 128]
  simp only [Nat.add_assoc]

/-- A token's loss from its running sums of squares after all 27 tiles. -/
theorem loss_eq (A : Arr) (r : Fin 18432) : Ideal.div (∑ l : Fin 128, A.sq r l.val 27) (Ideal.ofBits FTy.f32 1171783680#32) = A.loss r := by
  unfold Arr.loss Arr.sq
  rw [sum_lanes (A.d2 r), ← Fin.sum_univ_eq_sum_range (A.d2 r) 6912]
  refine congrArg (fun z => Ideal.div z _) (Finset.sum_congr rfl fun o _ => ?_)
  unfold Arr.d2
  rw [dif_pos o.isLt]

end Cert.KernelIdeal.Gen

end
-- ==== Proof.KI.Quant.lean ====
/- What the quantising loop computes, entry by entry. -/
module

public import proofs.«01_k».proof.Proof.KI.Spec

@[expose] public section

set_option maxRecDepth 16384

noncomputable section

namespace Cert.KernelIdeal.Gen

open Idealize.ShloMosaic Idealize.ShloMosaic.TcCoe

/-! ## A block of 32 rows -/

section
variable (A : Arr) (R : Fin 32 → Fin 18432) (x : Vec Ideal S32x2560 .bf16) (d s : Vec Ideal S1x2560 .f32)
  (hx : ∀ i j, x (ix2 i j) = A.X (R i) j) (hd : ∀ j, d (ix2 0 j) = A.D j) (hs : ∀ j, s (ix2 0 j) = A.S j)
include hx hd hs

theorem pay26_at (i : Fin 32) (j : Fin 2560) : k0_pay26 x d s (ix2 i j) = A.q (R i) j := by
  pointwise [k0_pay26, k0_pay25, k0_pay24, k0_pay23]
  simp only [hx, hd, hs]
  rfl

theorem pay27_at (i : Fin 32) (j : Fin 2560) : k0_pay27 x d s (ix2 i j) = A.code (R i) j := by
  pointwise [k0_pay27, k0_pay25, k0_pay24, k0_pay23]
  simp only [hx, hd, hs]
  rfl

theorem pay30_at (i : Fin 32) (j : Fin 256) : k0_pay30 (k0_pay28 x d s) (ix2 i j) = A.sc (R i) := by
  pointwise [k0_pay30, k0_pay28, k0_pay24, k0_pay23]
  simp only [hx, hd, hs]
  rfl
end

/-! ## The whole block of 768 rows -/

/-- The 24 blocks of 32 rows, read at a row: the block that holds it, at the row's place in it. -/
theorem rows1_at {α : Type} (G : Fin k0_t1_loop.trips → S32x2560.Idx → α) (i : Fin 768) (j : Fin 2560) :
    rows1 G (ix2 i j) = G (tripOf i) (ix2 ⟨i.val % 32, Nat.mod_lt _ (by decide)⟩ j) := by
  show G (tripOf i) _ = _
  congr 1
  have e := k0_off1_eq (tripOf i)
  refine Shape.idx_ext₂ ?_ ?_
  · show i.val - k0_off1 (tripOf i) 0 = i.val % 32
    rw [e]; show i.val - 32 * (i.val / 32) = i.val % 32; omega
  · show j.val - k0_off1 (tripOf i) 1 = j.val
    rw [e]; show j.val - 0 = j.val; omega

theorem rows2_at {α : Type} (G : Fin k0_t1_loop.trips → S32x256.Idx → α) (i : Fin 768) (j : Fin 256) :
    rows2 G (ix2 i j) = G (tripOf i) (ix2 ⟨i.val % 32, Nat.mod_lt _ (by decide)⟩ j) := by
  show G (tripOf i) _ = _
  congr 1
  have e := k0_off2_eq (tripOf i)
  refine Shape.idx_ext₂ ?_ ?_
  · show i.val - k0_off2 (tripOf i) 0 = i.val % 32
    rw [e]; show i.val - 32 * (i.val / 32) = i.val % 32; omega
  · show j.val - k0_off2 (tripOf i) 1 = j.val
    rw [e]; show j.val - 0 = j.val; omega

theorem xRows_at (x : Vec Ideal S768x2560 .bf16) (k : Fin k0_t1_loop.trips) (i : Fin 32) (j : Fin 2560) (h : 32 * k.val + i.val < 768) :
    xRows x k (ix2 i j) = x (ix2 ⟨32 * k.val + i.val, h⟩ j) := by
  unfold xRows
  show x _ = _
  congr 1
  have e := k0_off1_eq k
  refine Shape.idx_ext₂ ?_ ?_
  · show k0_off1 k 0 + 1 * i.val = 32 * k.val + i.val
    rw [e]; show 32 * k.val + 1 * i.val = _; omega
  · show k0_off1 k 1 + 1 * j.val = j.val
    rw [e]; show 0 + 1 * j.val = _; omega

theorem vRow_at (v : Vec Ideal S1x2560 .f32) (j : Fin 2560) : vRow v (ix2 0 j) = v (ix2 0 j) := by
  pointwise [vRow]

/-- The row of a token block at a row of one of its 24 parts. -/
def part (k : Fin k0_t1_loop.trips) (i : Fin 32) : Fin 768 := ⟨32 * k.val + i.val, by have hk : k.val < 24 := trips_eq' ▸ k.isLt; omega⟩

section
variable (A : Arr) (T : Fin 24) (a : In Ideal)
  (hx : ∀ i j, a.x (ix2 i j) = A.X (row T i) j) (hd : ∀ j, a.delta (ix2 0 j) = A.D j) (hs : ∀ j, a.s (ix2 0 j) = A.S j)
include hx hd hs

omit hx hd hs in
theorem part_tripOf (i : Fin 768) : part (tripOf i) ⟨i.val % 32, Nat.mod_lt _ (by decide)⟩ = i :=
  Fin.ext (by show 32 * (i.val / 32) + i.val % 32 = i.val; omega)

theorem qXq_at (i : Fin 768) (j : Fin 2560) : qXq a (ix2 i j) = A.q (row T i) j := by
  unfold qXq
  rw [rows1_at, pay26_at A (fun i' => row T (part (tripOf i) i')) _ _ _ (fun i' j' => (xRows_at _ _ _ _ _).trans (hx _ _))
    (fun j' => (vRow_at _ _).trans (hd _)) (fun j' => (vRow_at _ _).trans (hs _)), part_tripOf]

theorem qCodes_at (i : Fin 768) (j : Fin 2560) : qCodes a (ix2 i j) = A.code (row T i) j := by
  unfold qCodes
  rw [rows1_at, pay27_at A (fun i' => row T (part (tripOf i) i')) _ _ _ (fun i' j' => (xRows_at _ _ _ _ _).trans (hx _ _))
    (fun j' => (vRow_at _ _).trans (hd _)) (fun j' => (vRow_at _ _).trans (hs _)), part_tripOf]

theorem qSc_at (i : Fin 768) (j : Fin 256) : qSc a (ix2 i j) = A.sc (row T i) := by
  unfold qSc
  rw [rows2_at, pay30_at A (fun i' => row T (part (tripOf i) i')) _ _ _ (fun i' j' => (xRows_at _ _ _ _ _).trans (hx _ _))
    (fun j' => (vRow_at _ _).trans (hd _)) (fun j' => (vRow_at _ _).trans (hs _)), part_tripOf]
end

end Cert.KernelIdeal.Gen

end
-- ==== Proof.KI.Inv.lean ====
/- What the buffers of the idealised kernel hold after each grid point. -/
module

public import proofs.«01_k».proof.Proof.KI.Rows
public import proofs.«01_k».proof.Proof.KI.Quant
public import proofs.«01_k».proof.Proof.KI.Track

@[expose] public section

set_option maxRecDepth 16384

noncomputable section

namespace Cert.KernelIdeal.Gen

open Idealize.ShloMosaic Idealize.ShloMosaic.TcCoe

/-! ## Which buffers each part of the body leaves alone -/

section
variable (i : grid0.Coords) (a : In Ideal) (b : St Ideal)
theorem e1_keeps : (e1 i a b).y = b.y ∧ (e1 i a b).codes = b.codes ∧ (e1 i a b).scales = b.scales ∧ (e1 i a b).loss = b.loss
    ∧ (e1 i a b).xq = b.xq ∧ (e1 i a b).sc = b.sc ∧ (e1 i a b).sq = b.sq := by
  unfold e1; split <;> exact ⟨rfl, rfl, rfl, rfl, rfl, rfl, rfl⟩
theorem e2_keeps : (e2 i a b).y = b.y ∧ (e2 i a b).loss = b.loss := by
  unfold e2; split
  · dsimp only [f2b, f2a]; exact ⟨rfl, rfl⟩
  · exact ⟨rfl, rfl⟩
theorem f2_xq : (f2b i a (f2a i a b)).xq = qXq a := by dsimp only [f2b, f2a]
theorem f2_sc : (f2b i a (f2a i a b)).sc = qSc a := by dsimp only [f2b, f2a]
theorem f2_sq : (f2b i a (f2a i a b)).sq = k0_pay29 (F := Ideal) := by dsimp only [f2b, f2a]
theorem f2_codes : (f2b i a (f2a i a b)).codes = qCodes a := by dsimp only [f2b, f2a]
theorem f2_loss : (f2b i a (f2a i a b)).loss = b.loss := by dsimp only [f2b, f2a]
theorem e3_keeps : (e3 i a b).codes = b.codes ∧ (e3 i a b).scales = b.scales ∧ (e3 i a b).loss = b.loss ∧ (e3 i a b).xq = b.xq ∧ (e3 i a b).sc = b.sc := by
  unfold e3; split <;> exact ⟨rfl, rfl, rfl, rfl, rfl⟩
theorem e4_keeps : (e4 i a b).y = b.y ∧ (e4 i a b).codes = b.codes ∧ (e4 i a b).scales = b.scales ∧ (e4 i a b).xq = b.xq ∧ (e4 i a b).sc = b.sc ∧ (e4 i a b).sq = b.sq := by
  unfold e4; split <;> exact ⟨rfl, rfl, rfl, rfl, rfl, rfl⟩
theorem e5_keeps : (e5 i a b).y = b.y ∧ (e5 i a b).codes = b.codes ∧ (e5 i a b).scales = b.scales ∧ (e5 i a b).loss = b.loss
    ∧ (e5 i a b).xq = b.xq ∧ (e5 i a b).sc = b.sc ∧ (e5 i a b).sq = b.sq := by
  unfold e5; split <;> exact ⟨rfl, rfl, rfl, rfl, rfl, rfl, rfl⟩
theorem e6_keeps : (e6 i a b).y = b.y ∧ (e6 i a b).codes = b.codes ∧ (e6 i a b).scales = b.scales ∧ (e6 i a b).loss = b.loss
    ∧ (e6 i a b).xq = b.xq ∧ (e6 i a b).sc = b.sc ∧ (e6 i a b).sq = b.sq := by
  unfold e6; split <;> exact ⟨rfl, rfl, rfl, rfl, rfl, rfl, rfl⟩
end

/-! ## What holds after each point -/

/-- What the buffers hold right after point `t`: the token block's quantised rows, scales, running sums of squares, outputs and codes, the
scales of all token blocks so far, and the losses of all token blocks whose outputs are all done. -/
structure Good (A : Arr) (t : Fin cfg0.N) (b : St Ideal) : Prop where
  xq : ∀ r j, b.xq (ix2 r j) = A.q (row (tb t) r) j
  sc : ∀ r l, b.sc (ix2 r l) = A.sc (row (tb t) r)
  sq : ∀ (r : Fin 768) (l : Fin 128), b.sq (ix2 r l) = A.sq (row (tb t) r) l.val (3 * ((ob t).val + 1))
  y : ∀ r o, b.y (ix2 r o) = A.y (row (tb t) r) (col (ob t) o)
  codes : ∀ r j, b.codes (ix2 r j) = A.code (row (tb t) r) j
  scales : ∀ (T : Fin 24) o, T.val ≤ (tb t).val → b.scales (ix3 T 0 o) = A.sc (row T o)
  loss : ∀ (T : Fin 24) o, (T.val < (tb t).val ∨ T.val = (tb t).val ∧ 9 ≤ t.val % 19) → b.loss (ix3 T 0 o) = A.loss (row T o)

/-- What is left of it for the next point: an output that was written back may have lost its contents. -/
structure Carry (A : Arr) (t : Fin cfg0.N) (b : St Ideal) : Prop where
  xq : ∀ r j, b.xq (ix2 r j) = A.q (row (tb t) r) j
  sc : ∀ r l, b.sc (ix2 r l) = A.sc (row (tb t) r)
  sq : ∀ (r : Fin 768) (l : Fin 128), b.sq (ix2 r l) = A.sq (row (tb t) r) l.val (3 * ((ob t).val + 1))
  y : (cfg0.win 8).flush t = false → ∀ r o, b.y (ix2 r o) = A.y (row (tb t) r) (col (ob t) o)
  codes : (cfg0.win 9).flush t = false → ∀ r j, b.codes (ix2 r j) = A.code (row (tb t) r) j
  scales : (cfg0.win 10).flush t = false → ∀ (T : Fin 24) o, T.val ≤ (tb t).val → b.scales (ix3 T 0 o) = A.sc (row T o)
  loss : (cfg0.win 11).flush t = false → ∀ (T : Fin 24) o, (T.val < (tb t).val ∨ T.val = (tb t).val ∧ 9 ≤ t.val % 19) → b.loss (ix3 T 0 o) = A.loss (row T o)

/-- What the quantising part leaves: a token block's first point quantises its rows and clears the sums; a later point finds them. -/
structure Mid (A : Arr) (t : Fin cfg0.N) (b : St Ideal) : Prop where
  xq : ∀ r j, b.xq (ix2 r j) = A.q (row (tb t) r) j
  sc : ∀ r l, b.sc (ix2 r l) = A.sc (row (tb t) r)
  sq : ∀ (r : Fin 768) (l : Fin 128), b.sq (ix2 r l) = A.sq (row (tb t) r) l.val (3 * min (t.val % 19) 9)
  y : 9 ≤ t.val % 19 → ∀ r o, b.y (ix2 r o) = A.y (row (tb t) r) (col (ob t) o)
  codes : ∀ r j, b.codes (ix2 r j) = A.code (row (tb t) r) j
  scales : ∀ (T : Fin 24) o, T.val ≤ (tb t).val → b.scales (ix3 T 0 o) = A.sc (row T o)
  loss : ∀ (T : Fin 24) o, (T.val < (tb t).val ∨ T.val = (tb t).val ∧ 10 ≤ t.val % 19) → b.loss (ix3 T 0 o) = A.loss (row T o)

/-- The coordinates of a point. -/
theorem coord0 (t : Fin cfg0.N) : (grid0.coords t 0).val = (tb t).val := by
  refine (Pipeline.Grid.coords_val t 0 (by decide) rfl : _ = t.val / 19 % 24).trans ?_
  have : t.val < 456 := Nat.lt_of_lt_of_eq t.isLt N_0
  show t.val / 19 % 24 = t.val / 19
  omega
theorem coord1 (t : Fin cfg0.N) : (grid0.coords t 1).val = t.val % 19 := by
  refine (Pipeline.Grid.coords_val t 1 (by decide) rfl : _ = t.val / 1 % 19).trans ?_
  rw [Nat.div_one]

section
variable (m : (ℓ : Loc nD τ sig) → Buf (Elt Ideal) ℓ) (c : Dev nD)

/-- The point before `t`, if `t` is not the first. -/
def Before (A : Arr) (t : Fin cfg0.N) (b : St Ideal) : Prop := t.val ≠ 0 → ∃ t' : Fin cfg0.N, t'.val + 1 = t.val ∧ Carry A t' b

/-- After the first two parts. -/
theorem mid (t : Fin cfg0.N) (b : St Ideal) (hb : Before (arrs m c) t b) :
    Mid (arrs m c) t (e2 (grid0.coords t) (ins m c t) (e1 (grid0.coords t) (ins m c t) b)) := by
  have hlt : t.val < 456 := Nat.lt_of_lt_of_eq t.isLt N_0
  obtain ⟨k1, k2, k3, k4, k5, k6, k7⟩ := e1_keeps (grid0.coords t) (ins m c t) b
  generalize e1 (grid0.coords t) (ins m c t) b = b1 at k1 k2 k3 k4 k5 k6 k7 ⊢
  have hloss : ∀ (T : Fin 24) o, (T.val < (tb t).val ∨ T.val = (tb t).val ∧ 10 ≤ t.val % 19) → b1.loss (ix3 T 0 o) = (arrs m c).loss (row T o) := by
    intro T o hT
    rw [k4]
    have htb : (tb t).val = t.val / 19 := rfl
    obtain ⟨t', ht, hc⟩ := hb (by omega)
    have htb' : (tb t').val = t'.val / 19 := rfl
    exact hc.loss (by rw [Bool.eq_false_iff, ne_eq, flush0_11]; omega) T o (by omega)
  have hsca : ∀ (T : Fin 24) o, T.val ≤ (tb t).val → (T.val < (tb t).val ∨ t.val % 19 ≠ 0) → b1.scales (ix3 T 0 o) = (arrs m c).sc (row T o) := by
    intro T o hT hT'
    rw [k3]
    have htb : (tb t).val = t.val / 19 := rfl
    obtain ⟨t', ht, hc⟩ := hb (by omega)
    have htb' : (tb t').val = t'.val / 19 := rfl
    exact hc.scales (by rw [Bool.eq_false_iff, ne_eq, flush0_10]; omega) T o (by omega)
  by_cases h : t.val % 19 = 0
  · have hk : k0_cond2 (grid0.coords t) = 1#1 := (hcond0_1 t).2 h
    have hx := qXq_at (arrs m c) (tb t) (ins m c t) (ins_x m c t) (ins_delta m c t) (ins_s m c t)
    have hq := qCodes_at (arrs m c) (tb t) (ins m c t) (ins_x m c t) (ins_delta m c t) (ins_s m c t)
    have hs := qSc_at (arrs m c) (tb t) (ins m c t) (ins_x m c t) (ins_delta m c t) (ins_s m c t)
    unfold e2
    rw [if_pos hk]
    refine ⟨by rw [f2_xq]; exact hx, by rw [f2_sc]; exact hs, fun r l => ?_, fun h9 => by omega, by rw [f2_codes]; exact hq, fun T o hT => ?_,
      by rw [f2_loss]; exact hloss⟩
    · rw [f2_sq, h]
      refine Eq.trans ?_ (by unfold Arr.sq; rfl : (0 : EReal) = _)
      pointwise [k0_pay29]
    · have hs' : ∀ r l, (f2a (grid0.coords t) (ins m c t) b1).sc (ix2 r l) = (arrs m c).sc (row (tb t) r) := by dsimp only [f2a]; exact hs
      have hsc' : (f2a (grid0.coords t) (ins m c t) b1).scales = b1.scales := by dsimp only [f2a]
      refine (f2b_scales (grid0.coords t) (ins m c t) (f2a (grid0.coords t) (ins m c t) b1) (fun r => (arrs m c).sc (row (tb t) r)) hs' T o).trans ?_
      split
      · rename_i h'
        rw [coord0] at h'
        rw [Fin.ext h']
      · rename_i h'
        rw [coord0] at h'
        rw [hsc']
        exact hsca T o hT (Or.inl (by omega))
  · have hk : ¬ k0_cond2 (grid0.coords t) = 1#1 := fun h' => h ((hcond0_1 t).1 h')
    unfold e2
    rw [if_neg hk]
    obtain ⟨t', ht, hc⟩ := hb (by omega)
    have htb : tb t' = tb t := Fin.ext (show t'.val / 19 = t.val / 19 by omega)
    refine ⟨?_, ?_, ?_, ?_, ?_, ?_, hloss⟩
    · rw [k5, ← htb]; exact hc.xq
    · rw [k6, ← htb]; exact hc.sc
    · rw [k7, ← htb]
      intro r l
      rw [hc.sq]
      have : (ob t').val + 1 = min (t.val % 19) 9 := by
        show min (t'.val % 19) 8 + 1 = _
        omega
      rw [this]
    · rw [k1, ← htb]
      intro h9
      have : ob t' = ob t := Fin.ext (show min (t'.val % 19) 8 = min (t.val % 19) 8 by omega)
      rw [← this]
      exact hc.y (by rw [Bool.eq_false_iff, ne_eq, flush0_8]; omega)
    · rw [k2, ← htb]
      exact hc.codes (by rw [Bool.eq_false_iff, ne_eq, flush0_9]; omega)
    · exact fun T o hT => hsca T o hT (Or.inr h)

/-- One point: what holds after it from what was carried to it. -/
theorem good_step (t : Fin cfg0.N) (b : St Ideal) (hb : Before (arrs m c) t b) :
    Good (arrs m c) t (step (grid0.coords t) (ins m c t) b) := by
  have hlt : t.val < 456 := Nat.lt_of_lt_of_eq t.isLt N_0
  have hm := mid m c t b hb
  unfold step
  generalize e2 (grid0.coords t) (ins m c t) (e1 (grid0.coords t) (ins m c t) b) = b2 at hm ⊢
  obtain ⟨u1, u2, u3, u4, u5⟩ := e3_keeps (grid0.coords t) (ins m c t) b2
  have hyq : (∀ r o, (e3 (grid0.coords t) (ins m c t) b2).y (ix2 r o) = (arrs m c).y (row (tb t) r) (col (ob t) o))
      ∧ ∀ (r : Fin 768) (l : Fin 128), (e3 (grid0.coords t) (ins m c t) b2).sq (ix2 r l) = (arrs m c).sq (row (tb t) r) l.val (3 * ((ob t).val + 1)) := by
    have hob : (ob t).val = min (t.val % 19) 8 := rfl
    by_cases h : t.val % 19 ≤ 8
    · have hk : k0_cond3 (grid0.coords t) = 1#1 := (hcond0_2 t).2 h
      unfold e3
      rw [dif_pos hk]
      have hi : (grid0.coords t 1).val = (ob t).val := by rw [coord1]; omega
      have hq : ∀ (r : Fin 768) (l : Fin 128), b2.sq (ix2 r l) = (arrs m c).sq (row (tb t) r) l.val (3 * (ob t).val) := by
        have e : min (t.val % 19) 9 = (ob t).val := by omega
        rw [← e]; exact hm.sq
      exact ⟨f3_y (arrs m c) (tb t) (ob t) _ hi hk (ins m c t) b2 (ins_wa m c t) (ins_bt m c t) hm.xq hm.sc,
        f3_sq (arrs m c) (tb t) (ob t) _ hi hk (ins m c t) b2 (ins_wa m c t) (ins_bt m c t) (ins_yt m c t) hm.xq hm.sc hq⟩
    · have hk : ¬ k0_cond3 (grid0.coords t) = 1#1 := fun h' => h ((hcond0_2 t).1 h')
      unfold e3
      rw [dif_neg hk]
      have e : min (t.val % 19) 9 = (ob t).val + 1 := by omega
      exact ⟨hm.y (by omega), by rw [← e]; exact hm.sq⟩
  obtain ⟨hy, hsq⟩ := hyq
  generalize e3 (grid0.coords t) (ins m c t) b2 = b3 at u1 u2 u3 u4 u5 hy hsq ⊢
  obtain ⟨v1, v2, v3, v4, v5, v6⟩ := e4_keeps (grid0.coords t) (ins m c t) b3
  have hl : ∀ (T : Fin 24) o, (T.val < (tb t).val ∨ T.val = (tb t).val ∧ 9 ≤ t.val % 19) →
      (e4 (grid0.coords t) (ins m c t) b3).loss (ix3 T 0 o) = (arrs m c).loss (row T o) := by
    intro T o hT
    by_cases h : t.val % 19 = 9
    · have hk : k0_cond4 (grid0.coords t) = 1#1 := (hcond0_3 t).2 h
      unfold e4
      rw [if_pos hk]
      have e : 3 * ((ob t).val + 1) = 27 := by
        have hob : (ob t).val = min (t.val % 19) 8 := rfl
        omega
      refine (f4_loss (grid0.coords t) (ins m c t) b3 (fun r => (arrs m c).loss (row (tb t) r)) (fun r => ?_) T o).trans ?_
      · rw [← loss_eq]
        refine congrArg (fun z => Ideal.div z _) (Finset.sum_congr rfl fun l _ => ?_)
        rw [hsq, e]
      split
      · rename_i h'
        rw [coord0] at h'
        rw [Fin.ext h']
      · rename_i h'
        rw [coord0] at h'
        rw [u3]
        exact hm.loss T o (Or.inl (by omega))
    · have hk : ¬ k0_cond4 (grid0.coords t) = 1#1 := fun h' => h ((hcond0_3 t).1 h')
      unfold e4
      rw [if_neg hk, u3]
      exact hm.loss T o (by omega)
  generalize e4 (grid0.coords t) (ins m c t) b3 = b4 at v1 v2 v3 v4 v5 v6 hl ⊢
  obtain ⟨w1, w2, w3, w4, w5, w6, w7⟩ := e5_keeps (grid0.coords t) (ins m c t) b4
  obtain ⟨x1, x2, x3, x4, x5, x6, x7⟩ := e6_keeps (grid0.coords t) (ins m c t) (e5 (grid0.coords t) (ins m c t) b4)
  refine ⟨?_, ?_, ?_, ?_, ?_, ?_, ?_⟩
  · rw [x5, w5, v4, u4]; exact hm.xq
  · rw [x6, w6, v5, u5]; exact hm.sc
  · rw [x7, w7, v6]; exact hsq
  · rw [x1, w1, v1]; exact hy
  · rw [x2, w2, v2, u1]; exact hm.codes
  · rw [x3, w3, v3, u2]; exact hm.scales
  · rw [x4, w4]; exact hl

/-- From contents possible before a point to what holds after it. -/
theorem good (n : ℕ) : ∀ (t : Fin cfg0.N) (b : St Ideal), t.val = n → Known m c n b → Good (arrs m c) t (step (grid0.coords t) (ins m c t) b) := by
  induction n with
  | zero => exact fun t b ht _ => good_step m c t b fun h => absurd ht h
  | succ n ih =>
    intro t b ht hb
    refine good_step m c t b fun _ => ?_
    have hn : n < cfg0.N := by have := t.isLt; omega
    obtain ⟨ks, ko⟩ := hb ⟨n, hn⟩ rfl
    refine ⟨⟨n, hn⟩, ht.symm, ?_, ?_, ?_, ?_, ?_, ?_, ?_⟩
    · obtain ⟨b', hb', e⟩ := ks.xq; rw [e]; exact (ih ⟨n, hn⟩ b' rfl hb').xq
    · obtain ⟨b', hb', e⟩ := ks.sc; rw [e]; exact (ih ⟨n, hn⟩ b' rfl hb').sc
    · obtain ⟨b', hb', e⟩ := ks.sq; rw [e]; exact (ih ⟨n, hn⟩ b' rfl hb').sq
    · intro hf; obtain ⟨b', hb', e⟩ := ko.y hf; rw [e]; exact (ih ⟨n, hn⟩ b' rfl hb').y
    · intro hf; obtain ⟨b', hb', e⟩ := ko.codes hf; rw [e]; exact (ih ⟨n, hn⟩ b' rfl hb').codes
    · intro hf; obtain ⟨b', hb', e⟩ := ko.scales hf; rw [e]; exact (ih ⟨n, hn⟩ b' rfl hb').scales
    · intro hf; obtain ⟨b', hb', e⟩ := ko.loss hf; rw [e]; exact (ih ⟨n, hn⟩ b' rfl hb').loss

/-- Whatever buffer is followed: it holds what the step leaves from contents for which `Good` holds. -/
theorem Fld.good {t : Fin cfg0.N} {α : Type} {φ : St Ideal → α} {v : α} (h : Fld m c (Known m c t.val) t φ v) :
    ∃ b, Good (arrs m c) t b ∧ v = φ b := by
  obtain ⟨b, hb, e⟩ := h
  exact ⟨_, Gen.good m c t.val t b rfl hb, e⟩
end

end Cert.KernelIdeal.Gen

end
-- ==== Proof.KI.Back.lean ====
/- What the gradients' parts of a point compute, entry by entry. -/
module

public import proofs.«01_k».proof.Proof.KI.Fwd

@[expose] public section

set_option maxRecDepth 16384

noncomputable section

namespace Cert.KernelIdeal.Gen

open Idealize.ShloMosaic Idealize.ShloMosaic.TcCoe

/-! ## The gradients, entry by entry -/

namespace Arr

variable (A : Arr)

/-- The gradient of the mean loss with respect to a prediction: the difference times 2 over the number of predictions, rounded to a 32-bit float. -/
def G (r : Fin 18432) (o : Fin 6912) : EReal := A.df r o * Ideal.ofBits FTy.f32 847698181#32

/-- The gradient times the token's scale. -/
def Gx (r : Fin 18432) (o : Fin 6912) : EReal := A.G r o * A.sc r

/-- The gradient with respect to a smoothed activation: nothing where its code was clipped. -/
def gxs (r : Fin 18432) (j : Fin 2560) : EReal :=
  if FloatOps.absf (F := Ideal) (φ := .f32) (Ideal.div (A.xs r j) (A.sc r)) ≤ Ideal.ofBits FTy.f32 1123942400#32 then ∑ o, A.G r o * A.W o j else 0

/-- A token's share of the three sums over the tokens. -/
def t1 (j : Fin 2560) (r : Fin 18432) : EReal := A.gxs r j * A.xs r j
def t2 (j : Fin 2560) (r : Fin 18432) : EReal := A.gxs r j
def t3 (j : Fin 2560) (r : Fin 18432) : EReal := (∑ o, A.Gx r o * A.M o j) * A.q r j
/-- A token's share of the shifted bias's gradient. -/
def t0 (o : Fin 6912) (r : Fin 18432) : EReal := A.G r o

/-- The four results of the backward pass, with sums over all tokens at once. -/
def dsw (j : Fin 2560) : EReal := ∑ r, A.t3 j r
def ds (j : Fin 2560) : EReal := Ideal.div (0 - ∑ r, A.t1 j r) (A.S j) + A.dsw j
def dd (j : Fin 2560) : EReal := Ideal.div (0 - ∑ r, A.t2 j r) (A.S j)

end Arr

/-! ## Sums over the tokens, eight rows at a time -/

/-- The tokens of block `T` that fall on row `k` of eight. -/
def fold (f : Fin 18432 → EReal) (T : Fin 24) (k : Fin 8) : EReal := ∑ u : Fin 96, f (row T ⟨u.val * 8 + k.val, by omega⟩)

/-- The tokens of the first `n` blocks that fall on row `k` of eight. -/
def upto (f : Fin 18432 → EReal) (n : ℕ) (k : Fin 8) : EReal := ∑ T ∈ Finset.range n, if h : T < 24 then fold f ⟨T, h⟩ k else 0

theorem upto_zero (f : Fin 18432 → EReal) (k : Fin 8) : upto f 0 k = 0 := rfl

theorem upto_succ (f : Fin 18432 → EReal) (T : Fin 24) (k : Fin 8) : upto f (T.val + 1) k = upto f T.val k + fold f T k := by
  unfold upto
  rw [Finset.sum_range_succ, dif_pos T.isLt]

/-- The eight rows together are all the tokens. -/
theorem upto_all (f : Fin 18432 → EReal) : ∑ k, upto f 24 k = ∑ r, f r := by
  have e : ∀ k, upto f 24 k = ∑ T : Fin 24, fold f T k := fun k => by
    unfold upto
    rw [Finset.sum_range]
    exact Finset.sum_congr rfl fun T _ => dif_pos T.isLt
  rw [Finset.sum_congr rfl fun k _ => e k, Finset.sum_comm]
  refine Eq.trans (Finset.sum_congr rfl fun T _ => ?_) (Fin.sum_mul_add_fin 24 768 f)
  refine Eq.trans Finset.sum_comm ?_
  exact Fin.sum_mul_add_congr (S := 96) (n := 8) (f := fun l : Fin 768 => f ⟨T.val * 768 + l.val, by omega⟩)
    fun u k hl => congrArg f (Fin.ext (by show 768 * T.val + (u.val * 8 + k.val) = T.val * 768 + (u.val * 8 + k.val); omega))

/-! ## Buffers of all outputs or of all inputs, after a tile of 256 columns was written -/

theorem k0_off10_at : ∀ (i : grid0.Coords) (p : Fin 3), k0_off10 i (BitVec.ofNat 32 (256 * p.val)) = ![0, 768 * (i 1).val + 256 * p.val] := by decide +kernel
theorem k0_off11_at : ∀ (i : grid0.Coords) (p : Fin 3), k0_off11 i (BitVec.ofNat 32 (256 * p.val)) = ![0, 768 * (i 1).val + 256 * p.val] := by decide +kernel

/-- Three tiles written: the columns of output block `k` are the three tiles, the others are as before. -/
theorem three_at {α : Type} {n0 : ℕ} (k : Fin 9) (x : (⟨2, ![n0, 6912]⟩ : Shape).Idx → α) (u0 u1 u2 : (⟨2, ![n0, 256]⟩ : Shape).Idx → α) (o0 o1 o2 : Fin 2 → ℕ)
    (h0 : o0 = ![0, 768 * k.val]) (h1 : o1 = ![0, 768 * k.val + 256]) (h2 : o2 = ![0, 768 * k.val + 512]) (f : Fin n0 → Fin 6912 → α)
    (e0 : ∀ i l, u0 (ix2 i l) = f i (col k (tcol 0 l))) (e1 : ∀ i l, u1 (ix2 i l) = f i (col k (tcol 1 l))) (e2 : ∀ i l, u2 (ix2 i l) = f i (col k (tcol 2 l)))
    (i : Fin n0) (o : Fin 6912) :
    VecWindow.put (s := ⟨2, ![n0, 6912]⟩) (VecWindow.put (s := ⟨2, ![n0, 6912]⟩) (VecWindow.put (s := ⟨2, ![n0, 6912]⟩) x o0 ![n0, 256] u0)
      o1 ![n0, 256] u1) o2 ![n0, 256] u2 (ix2 i o) = if o.val / 768 = k.val then f i o else x (ix2 i o) := by
  subst h0 h1 h2
  have fin : ∀ (p : Fin 3) (c : ℕ) (hc : c = 768 * k.val + 256 * p.val) (h : c ≤ o.val ∧ o.val < c + 256),
      o.val / 768 = k.val ∧ col k (tcol p ⟨o.val - c, by omega⟩) = o := fun p c hc h =>
    ⟨by omega, Fin.ext (by show 768 * k.val + (256 * p.val + (o.val - c)) = o.val; omega)⟩
  refine (put2_at (c := 768 * k.val + 512) (w := 256) _ u2 i o).trans ?_
  split
  · rename_i h; obtain ⟨a, b⟩ := fin 2 (768 * k.val + 512) rfl h; rw [if_pos a, e2, b]
  refine (put2_at (c := 768 * k.val + 256) (w := 256) _ u1 i o).trans ?_
  split
  · rename_i h; obtain ⟨a, b⟩ := fin 1 (768 * k.val + 256) rfl h; rw [if_pos a, e1, b]
  refine (put2_at (c := 768 * k.val) (w := 256) _ u0 i o).trans ?_
  split
  · rename_i h; obtain ⟨a, b⟩ := fin 0 (768 * k.val) rfl h; rw [if_pos a, e0, b]
  rename_i k2 k1 k0
  rw [if_neg (by omega)]

/-! ## The gradients of the forward pass -/

section
variable (A : Arr) (T : Fin 24) (k : Fin 9) (i : grid0.Coords) (hi : (i 1).val = k.val) (hc : k0_cond3 i = 1#1) (a : In Ideal) (b : St Ideal)
  (hwa : ∀ o j, a.wa (ix2 o j) = A.W (col k o) j) (hbt : ∀ o, a.bt (ix2 0 o) = A.B o)
  (hyt : ∀ r o, a.yt (ix2 r o) = A.Y (row T r) (col k o))
  (hxq : ∀ r j, b.xq (ix2 r j) = A.q (row T r) j) (hsc : ∀ r l, b.sc (ix2 r l) = A.sc (row T r))

/-- One tile of gradients, of scaled gradients, and of their sums over the tokens, from the tile's predictions and targets. -/
theorem pay12_at (v : FVec Ideal S768x256 .f32) (u : Vec Ideal S768x256 .bf16) (p : Fin 3)
    (hv : ∀ r l, v (ix2 r l) = A.y (row T r) (col k (tcol p l))) (hu : ∀ r l, u (ix2 r l) = A.Y (row T r) (col k (tcol p l)))
    (r : Fin 768) (l : Fin 256) : k0_pay12 v u (ix2 r l) = A.G (row T r) (col k (tcol p l)) := by
  pointwise [k0_pay12, k0_pay11, k0_pay10, k0_pay8]
  rw [hv, hu]; rfl
theorem pay13_at (s : Vec Ideal S768x256 .f32) (v : FVec Ideal S768x256 .f32) (u : Vec Ideal S768x256 .bf16) (p : Fin 3)
    (hs : ∀ r l, s (ix2 r l) = A.sc (row T r))
    (hv : ∀ r l, v (ix2 r l) = A.y (row T r) (col k (tcol p l))) (hu : ∀ r l, u (ix2 r l) = A.Y (row T r) (col k (tcol p l)))
    (r : Fin 768) (l : Fin 256) : k0_pay13 s v u (ix2 r l) = A.Gx (row T r) (col k (tcol p l)) := by
  pointwise [k0_pay13, k0_pay10, k0_pay8]
  rw [hv, hu, hs]; rfl
theorem pay14_at (v : FVec Ideal S768x256 .f32) (u : Vec Ideal S768x256 .bf16) (z : Vec Ideal S8x256 .f32) (p : Fin 3)
    (hv : ∀ r l, v (ix2 r l) = A.y (row T r) (col k (tcol p l))) (hu : ∀ r l, u (ix2 r l) = A.Y (row T r) (col k (tcol p l)))
    (hz : ∀ r l, z (ix2 r l) = upto (A.t0 (col k (tcol p l))) T.val r)
    (r : Fin 8) (l : Fin 256) : k0_pay14 v u z (ix2 r l) = upto (A.t0 (col k (tcol p l))) (T.val + 1) r := by
  pointwise [k0_pay14, k0_pay11, k0_pay10, k0_pay8]
  rw [upto_succ, hz]
  refine congrArg₂ (· + ·) rfl (Finset.sum_congr rfl fun x _ => ?_)
  rw [hv, hu]; rfl

include hi in
theorem ld_gb (p : Fin 3) (h : (i 1).val = k.val) (inb) (r : Fin 8) (l : Fin 256) :
    View.ld b.gb (Rect.unit (s := S8x6912) (k0_off11 i (BitVec.ofNat 32 (256 * p.val))) S8x256.size inb) (ix2 r l) = b.gb (ix2 r (col k (tcol p l))) := by
  show b.gb _ = _
  congr 1
  have e := k0_off11_at i p
  refine Shape.idx_ext₂ ?_ ?_
  · show k0_off11 i (BitVec.ofNat 32 (256 * p.val)) 0 + 1 * r.val = r.val
    rw [e]; show 0 + 1 * r.val = r.val; omega
  · show k0_off11 i (BitVec.ofNat 32 (256 * p.val)) 1 + 1 * l.val = _
    rw [e]; show 768 * (i 1).val + 256 * p.val + 1 * l.val = 768 * k.val + (256 * p.val + l.val); omega

include hi in
theorem off10_k (p : Fin 3) : k0_off10 i (BitVec.ofNat 32 (256 * p.val)) = ![0, 768 * k.val + 256 * p.val] := by rw [k0_off10_at, hi]
include hi in
theorem off11_k (p : Fin 3) : k0_off11 i (BitVec.ofNat 32 (256 * p.val)) = ![0, 768 * k.val + 256 * p.val] := by rw [k0_off11_at, hi]

include hi hwa hbt hyt hxq hsc in
/-- The gradients' buffer after the forward pass of a point. -/
theorem f3_g (r : Fin 768) (o : Fin 6912) : (f3 i hc a b).g (ix2 r o) = if o.val / 768 = k.val then A.G (row T r) o else b.g (ix2 r o) := by
  have t0 := tileY_at A T k i hi hc a b hwa hbt hxq hsc 0 inb_S768x2560_S256x2560_0_0
  have t1 := tileY_at A T k i hi hc a b hwa hbt hxq hsc 1 inb_S768x2560_S256x2560_256_0
  have t2 := tileY_at A T k i hi hc a b hwa hbt hxq hsc 2 inb_S768x2560_S256x2560_512_0
  have y0 := ld_yt A T k a hyt 0 inb_S768x768_S768x256_0_0
  have y1 := ld_yt A T k a hyt 1 inb_S768x768_S768x256_0_256
  have y2 := ld_yt A T k a hyt 2 inb_S768x768_S768x256_0_512
  exact three_at k b.g _ _ _ _ _ _ (off10_k k i hi 0) (off10_k k i hi 1) (off10_k k i hi 2) (fun r o => A.G (row T r) o)
    (pay12_at A T k _ _ 0 t0 y0) (pay12_at A T k _ _ 1 t1 y1) (pay12_at A T k _ _ 2 t2 y2) r o

include hi hwa hbt hyt hxq hsc in
/-- The scaled gradients' buffer after the forward pass of a point. -/
theorem f3_gx (r : Fin 768) (o : Fin 6912) : (f3 i hc a b).gx (ix2 r o) = if o.val / 768 = k.val then A.Gx (row T r) o else b.gx (ix2 r o) := by
  have t0 := tileY_at A T k i hi hc a b hwa hbt hxq hsc 0 inb_S768x2560_S256x2560_0_0
  have t1 := tileY_at A T k i hi hc a b hwa hbt hxq hsc 1 inb_S768x2560_S256x2560_256_0
  have t2 := tileY_at A T k i hi hc a b hwa hbt hxq hsc 2 inb_S768x2560_S256x2560_512_0
  have y0 := ld_yt A T k a hyt 0 inb_S768x768_S768x256_0_0
  have y1 := ld_yt A T k a hyt 1 inb_S768x768_S768x256_0_256
  have y2 := ld_yt A T k a hyt 2 inb_S768x768_S768x256_0_512
  exact three_at k b.gx _ _ _ _ _ _ (off10_k k i hi 0) (off10_k k i hi 1) (off10_k k i hi 2) (fun r o => A.Gx (row T r) o)
    (pay13_at A T k _ _ _ 0 (ld_sc A T b hsc) t0 y0) (pay13_at A T k _ _ _ 1 (ld_sc A T b hsc) t1 y1) (pay13_at A T k _ _ _ 2 (ld_sc A T b hsc) t2 y2) r o

include hi hwa hbt hyt hxq hsc in
/-- The gradients' sums over the tokens after the forward pass of a point: one token block further at its outputs. -/
theorem f3_gb (hgb : ∀ r o, o.val / 768 = k.val → b.gb (ix2 r o) = upto (A.t0 o) T.val r) (r : Fin 8) (o : Fin 6912) :
    (f3 i hc a b).gb (ix2 r o) = if o.val / 768 = k.val then upto (A.t0 o) (T.val + 1) r else b.gb (ix2 r o) := by
  have t0 := tileY_at A T k i hi hc a b hwa hbt hxq hsc 0 inb_S768x2560_S256x2560_0_0
  have t1 := tileY_at A T k i hi hc a b hwa hbt hxq hsc 1 inb_S768x2560_S256x2560_256_0
  have t2 := tileY_at A T k i hi hc a b hwa hbt hxq hsc 2 inb_S768x2560_S256x2560_512_0
  have y0 := ld_yt A T k a hyt 0 inb_S768x768_S768x256_0_0
  have y1 := ld_yt A T k a hyt 1 inb_S768x768_S768x256_0_256
  have y2 := ld_yt A T k a hyt 2 inb_S768x768_S768x256_0_512
  have hz : ∀ (p : Fin 3) (inb) (r : Fin 8) (l : Fin 256),
      View.ld b.gb (Rect.unit (s := S8x6912) (k0_off11 i (BitVec.ofNat 32 (256 * p.val))) S8x256.size inb) (ix2 r l) = upto (A.t0 (col k (tcol p l))) T.val r :=
    fun p inb r l => (ld_gb k i hi b p hi inb r l).trans (hgb r _ (by show (768 * k.val + (256 * p.val + l.val)) / 768 = k.val; omega))
  exact three_at k b.gb _ _ _ _ _ _ (off11_k k i hi 0) (off11_k k i hi 1) (off11_k k i hi 2) (fun r o => upto (A.t0 o) (T.val + 1) r)
    (pay14_at A T k _ _ _ 0 t0 y0 (hz 0 (k0_off11_inb i hc 0))) (pay14_at A T k _ _ _ 1 t1 y1 (hz 1 (k0_off11_inb i hc 1))) (pay14_at A T k _ _ _ 2 t2 y2 (hz 2 (k0_off11_inb i hc 2))) r o
end

/-! ## The backward pass of one point -/

/-- The input at lane `l` of input block `k`. -/
def jcol (k : Fin 10) (l : Fin 256) : Fin 2560 := ⟨256 * k.val + l.val, by omega⟩

/-- A tile written: the columns of input block `k` are the tile, the others are as before. -/
theorem one_at {α : Type} {n0 : ℕ} (k : Fin 10) (x : (⟨2, ![n0, 2560]⟩ : Shape).Idx → α) (u : (⟨2, ![n0, 256]⟩ : Shape).Idx → α) (o : Fin 2 → ℕ)
    (h : o = ![0, 256 * k.val]) (f : Fin n0 → Fin 2560 → α) (e : ∀ i l, u (ix2 i l) = f i (jcol k l)) (i : Fin n0) (j : Fin 2560) :
    VecWindow.put (s := ⟨2, ![n0, 2560]⟩) x o ![n0, 256] u (ix2 i j) = if j.val / 256 = k.val then f i j else x (ix2 i j) := by
  subst h
  refine (put2_at (c := 256 * k.val) (w := 256) _ u i j).trans ?_
  split
  · rename_i h
    rw [if_pos (by omega), e]
    congr 1; exact Fin.ext (by show 256 * k.val + (j.val - 256 * k.val) = j.val; omega)
  · rw [if_neg (by omega)]

/-- A tile loaded: the columns of input block `k`. -/
theorem ld_jcol {α : EltTy → Type} {n0 : ℕ} {e : EltTy} (k : Fin 10) (x : (⟨2, ![n0, 2560]⟩ : Shape).Idx → α e) (o : Fin 2 → ℕ) (h : o = ![0, 256 * k.val]) (inb) (i : Fin n0) (l : Fin 256) :
    View.ld (Val := α) x (Rect.unit (s := ⟨2, ![n0, 2560]⟩) o ![n0, 256] inb) (ix2 i l) = x (ix2 i (jcol k l)) := by
  subst h
  show x _ = _
  congr 1
  refine Shape.idx_ext₂ ?_ ?_
  · show 0 + 1 * i.val = i.val; omega
  · show 256 * k.val + 1 * l.val = 256 * k.val + l.val; omega

section
variable (A : Arr) (T : Fin 24) (k : Fin 10) (i : grid0.Coords) (hi : (i 1).val = k.val + 9) (hc : k0_cond5 i = 1#1) (a : In Ideal) (b : St Ideal)
  (hx : ∀ r j, a.x (ix2 r j) = A.X (row T r) j) (hwb : ∀ o l, a.wb (ix2 o l) = A.W o (jcol k l)) (hwm : ∀ o l, a.wm (ix2 o l) = A.M o (jcol k l))
  (hs : ∀ j, a.s (ix2 0 j) = A.S j) (hd : ∀ j, a.delta (ix2 0 j) = A.D j)
  (hxq : ∀ r j, b.xq (ix2 r j) = A.q (row T r) j) (hsc : ∀ r l, b.sc (ix2 r l) = A.sc (row T r))
  (hg : ∀ r o, b.g (ix2 r o) = A.G (row T r) o) (hgx : ∀ r o, b.gx (ix2 r o) = A.Gx (row T r) o)

include hi in
theorem off18_k : k0_off18 i = ![0, 256 * k.val] := by
  rw [k0_off18_eq, hi]
  have : (256 * (k.val + 9) + 4294964992) % 4294967296 = 256 * k.val := by omega
  rw [this]
include hi in
theorem off19_k : k0_off19 i = ![0, 256 * k.val] := by
  rw [k0_off19_eq, hi]
  have : (256 * (k.val + 9) + 4294964992) % 4294967296 = 256 * k.val := by omega
  rw [this]
include hi in
theorem off20_k : k0_off20 i = ![0, 256 * k.val] := by
  rw [k0_off20_eq, hi]
  have : (256 * (k.val + 9) + 4294964992) % 4294967296 = 256 * k.val := by omega
  rw [this]

/-- What one tile of 256 inputs adds to the three sums, from the tile's operands. -/
theorem pay64_at (g : Vec Ideal S768x6912 .bf16) (w : Vec Ideal S6912x256 .bf16) (x : Vec Ideal S768x256 .bf16) (d s : Vec Ideal S1x256 .f32)
    (sc : Vec Ideal S768x256 .f32) (z : Vec Ideal S8x256 .f32)
    (hg : ∀ r o, g (ix2 r o) = A.G (row T r) o) (hw : ∀ o l, w (ix2 o l) = A.W o (jcol k l)) (hx : ∀ r l, x (ix2 r l) = A.X (row T r) (jcol k l))
    (hd : ∀ l, d (ix2 0 l) = A.D (jcol k l)) (hs : ∀ l, s (ix2 0 l) = A.S (jcol k l)) (hsc : ∀ r l, sc (ix2 r l) = A.sc (row T r))
    (hz : ∀ r l, z (ix2 r l) = upto (A.t1 (jcol k l)) T.val r) (r : Fin 8) (l : Fin 256) :
    k0_pay64 g w x d s sc z (ix2 r l) = upto (A.t1 (jcol k l)) (T.val + 1) r := by
  pointwise [k0_pay64, k0_pay63, k0_pay62]
  rw [upto_succ, hz]
  refine congrArg₂ (· + ·) rfl (Finset.sum_congr rfl fun u _ => ?_)
  simp only [hg, hw, hx, hd, hs, hsc]
  rfl
theorem pay65_at (g : Vec Ideal S768x6912 .bf16) (w : Vec Ideal S6912x256 .bf16) (x : Vec Ideal S768x256 .bf16) (d s : Vec Ideal S1x256 .f32)
    (sc : Vec Ideal S768x256 .f32) (z : Vec Ideal S8x256 .f32)
    (hg : ∀ r o, g (ix2 r o) = A.G (row T r) o) (hw : ∀ o l, w (ix2 o l) = A.W o (jcol k l)) (hx : ∀ r l, x (ix2 r l) = A.X (row T r) (jcol k l))
    (hd : ∀ l, d (ix2 0 l) = A.D (jcol k l)) (hs : ∀ l, s (ix2 0 l) = A.S (jcol k l)) (hsc : ∀ r l, sc (ix2 r l) = A.sc (row T r))
    (hz : ∀ r l, z (ix2 r l) = upto (A.t2 (jcol k l)) T.val r) (r : Fin 8) (l : Fin 256) :
    k0_pay18 (k0_pay65 g w x d s sc z) (ix2 r l) = upto (A.t2 (jcol k l)) (T.val + 1) r := by
  pointwise [k0_pay18, k0_pay65, k0_pay63, k0_pay62]
  rw [upto_succ, hz]
  refine congrArg₂ (· + ·) rfl (Finset.sum_congr rfl fun u _ => ?_)
  simp only [hg, hw, hx, hd, hs, hsc]
  rfl
theorem pay19_at (g : Vec Ideal S768x6912 .bf16) (w : Vec Ideal S6912x256 .bf16) (z : Vec Ideal S8x256 .f32) (x : Vec Ideal S768x256 .bf16)
    (hg : ∀ r o, g (ix2 r o) = A.Gx (row T r) o) (hw : ∀ o l, w (ix2 o l) = A.M o (jcol k l)) (hx : ∀ r l, x (ix2 r l) = A.q (row T r) (jcol k l))
    (hz : ∀ r l, z (ix2 r l) = upto (A.t3 (jcol k l)) T.val r) (r : Fin 8) (l : Fin 256) :
    k0_pay19 g w z x (ix2 r l) = upto (A.t3 (jcol k l)) (T.val + 1) r := by
  pointwise [k0_pay19]
  rw [upto_succ, hz]
  refine congrArg₂ (· + ·) rfl (Finset.sum_congr rfl fun u _ => ?_)
  simp only [hg, hw, hx]
  rfl

/-- A load of a whole buffer. -/
theorem ld_whole2 {n0 n1 : ℕ} {e : EltTy} {α : EltTy → Type} (x : (⟨2, ![n0, n1]⟩ : Shape).Idx → α e) (inb) (i : Fin n0) (j : Fin n1) :
    View.ld (Val := α) x (Rect.unit (s := ⟨2, ![n0, n1]⟩) ![0, 0] ![n0, n1] inb) (ix2 i j) = x (ix2 i j) := by
  show x _ = _
  congr 1
  refine Shape.idx_ext₂ ?_ ?_
  · show 0 + 1 * i.val = i.val; omega
  · show 0 + 1 * j.val = j.val; omega

include hi hx hwb hs hd hsc hg in
/-- The three sums after the backward pass of a point: one token block further at its inputs. -/
theorem f5_s1 (h1 : ∀ r j, j.val / 256 = k.val → b.s1 (ix2 r j) = upto (A.t1 j) T.val r) (r : Fin 8) (j : Fin 2560) :
    (f5 i hc a b).s1 (ix2 r j) = if j.val / 256 = k.val then upto (A.t1 j) (T.val + 1) r else b.s1 (ix2 r j) := by
  have hl : ∀ l, (jcol k l).val / 256 = k.val := fun l => by show (256 * k.val + l.val) / 256 = k.val; omega
  refine one_at k b.s1 _ _ (off20_k k i hi) (fun r j => upto (A.t1 j) (T.val + 1) r) (pay64_at A T k _ _ _ _ _ _ _ ?_ ?_ ?_ ?_ ?_ ?_ ?_) r j
  · exact fun r o => (ld_whole2 b.g _ r o).trans (hg r o)
  · exact fun o l => (ld_whole2 a.wb _ o l).trans (hwb o l)
  · exact fun r l => (ld_jcol k a.x _ (off18_k k i hi) _ r l).trans (hx r _)
  · exact fun l => (ld_jcol k a.delta _ (off19_k k i hi) _ 0 l).trans (hd _)
  · exact fun l => (ld_jcol k a.s _ (off19_k k i hi) _ 0 l).trans (hs _)
  · exact fun r l => (ld_whole2 b.sc _ r l).trans (hsc r l)
  · exact fun r l => (ld_jcol k b.s1 _ (off20_k k i hi) _ r l).trans (h1 r _ (hl l))

include hi hx hwb hs hd hsc hg in
theorem f5_s2 (h1 : ∀ r j, j.val / 256 = k.val → b.s2 (ix2 r j) = upto (A.t2 j) T.val r) (r : Fin 8) (j : Fin 2560) :
    (f5 i hc a b).s2 (ix2 r j) = if j.val / 256 = k.val then upto (A.t2 j) (T.val + 1) r else b.s2 (ix2 r j) := by
  have hl : ∀ l, (jcol k l).val / 256 = k.val := fun l => by show (256 * k.val + l.val) / 256 = k.val; omega
  refine one_at k b.s2 _ _ (off20_k k i hi) (fun r j => upto (A.t2 j) (T.val + 1) r) (pay65_at A T k _ _ _ _ _ _ _ ?_ ?_ ?_ ?_ ?_ ?_ ?_) r j
  · exact fun r o => (ld_whole2 b.g _ r o).trans (hg r o)
  · exact fun o l => (ld_whole2 a.wb _ o l).trans (hwb o l)
  · exact fun r l => (ld_jcol k a.x _ (off18_k k i hi) _ r l).trans (hx r _)
  · exact fun l => (ld_jcol k a.delta _ (off19_k k i hi) _ 0 l).trans (hd _)
  · exact fun l => (ld_jcol k a.s _ (off19_k k i hi) _ 0 l).trans (hs _)
  · exact fun r l => (ld_whole2 b.sc _ r l).trans (hsc r l)
  · exact fun r l => (ld_jcol k b.s2 _ (off20_k k i hi) _ r l).trans (h1 r _ (hl l))

include hi hwm hxq hgx in
theorem f5_s3 (h1 : ∀ r j, j.val / 256 = k.val → b.s3 (ix2 r j) = upto (A.t3 j) T.val r) (r : Fin 8) (j : Fin 2560) :
    (f5 i hc a b).s3 (ix2 r j) = if j.val / 256 = k.val then upto (A.t3 j) (T.val + 1) r else b.s3 (ix2 r j) := by
  have hl : ∀ l, (jcol k l).val / 256 = k.val := fun l => by show (256 * k.val + l.val) / 256 = k.val; omega
  refine one_at k b.s3 _ _ (off20_k k i hi) (fun r j => upto (A.t3 j) (T.val + 1) r) (pay19_at A T k _ _ _ _ ?_ ?_ ?_ ?_) r j
  · exact fun r o => (ld_whole2 b.gx _ r o).trans (hgx r o)
  · exact fun o l => (ld_whole2 a.wm _ o l).trans (hwm o l)
  · exact fun r l => (ld_jcol k b.xq _ (off18_k k i hi) _ r l).trans (hxq r _)
  · exact fun r l => (ld_jcol k b.s3 _ (off20_k k i hi) _ r l).trans (h1 r _ (hl l))
end

/-! ## The finished gradients -/

section
variable (A : Arr) (i : grid0.Coords) (a : In Ideal) (b : St Ideal) (hs : ∀ j, a.s (ix2 0 j) = A.S j)

include hs in
/-- The three gradients that the last point writes, from the three sums. -/
theorem f6_dd (h2 : ∀ r j, b.s2 (ix2 r j) = upto (A.t2 j) 24 r) (j : Fin 2560) : (f6 i a b).dd (ix2 0 j) = A.dd j := by
  show k0_pay22 _ _ (ix2 0 j) = _
  pointwise [k0_pay22]
  unfold Arr.dd
  rw [← upto_all, hs]
  simp only [h2]
theorem f6_dsw (h3 : ∀ r j, b.s3 (ix2 r j) = upto (A.t3 j) 24 r) (j : Fin 2560) : (f6 i a b).dsw (ix2 0 j) = A.dsw j := by
  show k0_pay20 _ (ix2 0 j) = _
  pointwise [k0_pay20]
  unfold Arr.dsw
  rw [← upto_all]
  simp only [h3]
include hs in
theorem f6_ds (h1 : ∀ r j, b.s1 (ix2 r j) = upto (A.t1 j) 24 r) (h3 : ∀ r j, b.s3 (ix2 r j) = upto (A.t3 j) 24 r) (j : Fin 2560) :
    (f6 i a b).ds (ix2 0 j) = A.ds j := by
  show k0_pay21 _ _ _ (ix2 0 j) = _
  pointwise [k0_pay21, k0_pay20]
  unfold Arr.ds Arr.dsw
  rw [← upto_all, ← upto_all, hs]
  simp only [h1, h3]
end

end Cert.KernelIdeal.Gen

end
-- ==== Proof.KI.BInv.lean ====
/- What the gradients' buffers of the idealised kernel hold after each grid point. -/
module

public import proofs.«01_k».proof.Proof.KI.Inv
public import proofs.«01_k».proof.Proof.KI.Back

@[expose] public section

set_option maxRecDepth 16384

noncomputable section

namespace Cert.KernelIdeal.Gen

open Idealize.ShloMosaic Idealize.ShloMosaic.TcCoe

/-! ## Which of the gradients' buffers each part of the body leaves alone -/

section
variable (i : grid0.Coords) (a : In Ideal) (b : St Ideal)
theorem e1_grads : (e1 i a b).g = b.g ∧ (e1 i a b).gx = b.gx := by
  unfold e1; split <;> exact ⟨rfl, rfl⟩
theorem e2_grads : (e2 i a b).g = b.g ∧ (e2 i a b).gx = b.gx ∧ (e2 i a b).gb = b.gb ∧ (e2 i a b).s1 = b.s1 ∧ (e2 i a b).s2 = b.s2 ∧ (e2 i a b).s3 = b.s3 := by
  unfold e2; split
  · dsimp only [f2b, f2a]; exact ⟨rfl, rfl, rfl, rfl, rfl, rfl⟩
  · exact ⟨rfl, rfl, rfl, rfl, rfl, rfl⟩
theorem e3_grads : (e3 i a b).s1 = b.s1 ∧ (e3 i a b).s2 = b.s2 ∧ (e3 i a b).s3 = b.s3 := by
  unfold e3; split <;> exact ⟨rfl, rfl, rfl⟩
theorem e4_grads : (e4 i a b).g = b.g ∧ (e4 i a b).gx = b.gx ∧ (e4 i a b).gb = b.gb ∧ (e4 i a b).s1 = b.s1 ∧ (e4 i a b).s2 = b.s2 ∧ (e4 i a b).s3 = b.s3 := by
  unfold e4; split <;> exact ⟨rfl, rfl, rfl, rfl, rfl, rfl⟩
theorem e5_grads : (e5 i a b).g = b.g ∧ (e5 i a b).gx = b.gx ∧ (e5 i a b).gb = b.gb := by
  unfold e5; split <;> exact ⟨rfl, rfl, rfl⟩
theorem e6_grads : (e6 i a b).g = b.g ∧ (e6 i a b).gx = b.gx ∧ (e6 i a b).gb = b.gb ∧ (e6 i a b).s1 = b.s1 ∧ (e6 i a b).s2 = b.s2 ∧ (e6 i a b).s3 = b.s3 := by
  unfold e6; split <;> exact ⟨rfl, rfl, rfl, rfl, rfl, rfl⟩
theorem f1_zero : (∀ r o, (f1 i a b).gb (ix2 r o) = (0 : EReal)) ∧ (∀ r j, (f1 i a b).s1 (ix2 r j) = (0 : EReal))
    ∧ (∀ r j, (f1 i a b).s2 (ix2 r j) = (0 : EReal)) ∧ ∀ r j, (f1 i a b).s3 (ix2 r j) = (0 : EReal) := by
  refine ⟨fun r o => ?_, fun r j => ?_, fun r j => ?_, fun r j => ?_⟩
  · show k0_pay1 (F := Ideal) (ix2 r o) = _; pointwise [k0_pay1]
  · show k0_pay2 (F := Ideal) (ix2 r j) = _; pointwise [k0_pay2]
  · show k0_pay3 (F := Ideal) (ix2 r j) = _; pointwise [k0_pay3]
  · show k0_pay4 (F := Ideal) (ix2 r j) = _; pointwise [k0_pay4]
end

/-! ## The backward pass's blocks of the weights -/

/-- The input block that the backward pass is at. -/
def jb (t : Fin cfg0.N) : Fin 10 := ⟨t.val % 19 - 9, by omega⟩

theorem index0_2 : ∀ t : Fin cfg0.N, (cfg0.win 2).index t 0 = 0 ∧ (cfg0.win 2).index t 1 = t.val % 19 - 9 := by decide +kernel
theorem index0_3 : ∀ t : Fin cfg0.N, (cfg0.win 3).index t 0 = 0 ∧ (cfg0.win 3).index t 1 = t.val % 19 - 9 := by decide +kernel

section
variable (m : (ℓ : Loc nD τ sig) → Buf (Elt Ideal) ℓ)

theorem ins_wb (c : Dev nD) (t : Fin cfg0.N) (i : Fin 6912) (j : Fin 256) : (ins m c t).wb (ix2 i j) = (arrs m c).W i (jcol (jb t) j) := by
  show (m ((c : Thread nD τ).loc main_arg1) : S6912x2560.Idx → EReal) (((cfg0.win 2).rect t).emb (ix2 i j)) = (m ((c : Thread nD τ).loc main_arg1) : S6912x2560.Idx → EReal) (ix2 i (jcol (jb t) j))
  congr 1
  refine Shape.idx_ext₂ ?_ ?_
  · refine (Pipeline.Window.rect_emb_val (cfg0.win 2) t _ 0).trans ?_; rw [(index0_2 t).1]; show 0 * 6912 + i.val = i.val; omega
  · refine (Pipeline.Window.rect_emb_val (cfg0.win 2) t _ 1).trans ?_; rw [(index0_2 t).2]; show (t.val % 19 - 9) * 256 + j.val = 256 * (t.val % 19 - 9) + j.val; omega

theorem ins_wm (c : Dev nD) (t : Fin cfg0.N) (i : Fin 6912) (j : Fin 256) : (ins m c t).wm (ix2 i j) = (arrs m c).M i (jcol (jb t) j) := by
  show (m ((c : Thread nD τ).loc main_arg2) : S6912x2560.Idx → EReal) (((cfg0.win 3).rect t).emb (ix2 i j)) = (m ((c : Thread nD τ).loc main_arg2) : S6912x2560.Idx → EReal) (ix2 i (jcol (jb t) j))
  congr 1
  refine Shape.idx_ext₂ ?_ ?_
  · refine (Pipeline.Window.rect_emb_val (cfg0.win 3) t _ 0).trans ?_; rw [(index0_3 t).1]; show 0 * 6912 + i.val = i.val; omega
  · refine (Pipeline.Window.rect_emb_val (cfg0.win 3) t _ 1).trans ?_; rw [(index0_3 t).2]; show (t.val % 19 - 9) * 256 + j.val = 256 * (t.val % 19 - 9) + j.val; omega
end

/-! ## What holds after each point -/

/-- The sums over the tokens when `n` token blocks are done everywhere, and one more where `p` holds. -/
structure Sums (A : Arr) (n : ℕ) (po : ℕ → Prop) (pj : ℕ → Prop) [DecidablePred po] [DecidablePred pj] (b : St Ideal) : Prop where
  gb : ∀ r o, b.gb (ix2 r o) = upto (A.t0 o) (n + if po (o.val / 768) then 1 else 0) r
  s1 : ∀ r j, b.s1 (ix2 r j) = upto (A.t1 j) (n + if pj (j.val / 256 + 9) then 1 else 0) r
  s2 : ∀ r j, b.s2 (ix2 r j) = upto (A.t2 j) (n + if pj (j.val / 256 + 9) then 1 else 0) r
  s3 : ∀ r j, b.s3 (ix2 r j) = upto (A.t3 j) (n + if pj (j.val / 256 + 9) then 1 else 0) r

/-- The token block's gradients at the output blocks where `p` holds. -/
structure Grads (A : Arr) (T : Fin 24) (p : ℕ → Prop) (b : St Ideal) : Prop where
  g : ∀ r o, p (o.val / 768) → b.g (ix2 r o) = A.G (row T r) o
  gx : ∀ r o, p (o.val / 768) → b.gx (ix2 r o) = A.Gx (row T r) o

/-- What the gradients' buffers hold right after point `t`. -/
structure GoodB (A : Arr) (t : Fin cfg0.N) (b : St Ideal) : Prop where
  grads : Grads A (tb t) (· ≤ t.val % 19) b
  sums : Sums A (tb t).val (· ≤ t.val % 19) (· ≤ t.val % 19) b
  ds : t.val % 456 = 455 → ∀ j, b.ds (ix2 0 j) = A.ds j
  dd : t.val % 456 = 455 → ∀ j, b.dd (ix2 0 j) = A.dd j
  dsw : t.val % 456 = 455 → ∀ j, b.dsw (ix2 0 j) = A.dsw j

section
variable (m : (ℓ : Loc nD τ sig) → Buf (Elt Ideal) ℓ) (c : Dev nD)

/-- What the point before `t` left of it, if `t` is not the first. -/
def BeforeB (A : Arr) (t : Fin cfg0.N) (b : St Ideal) : Prop :=
  t.val ≠ 0 → ∃ t' : Fin cfg0.N, t'.val + 1 = t.val ∧ Grads A (tb t') (· ≤ t'.val % 19) b ∧ Sums A (tb t').val (· ≤ t'.val % 19) (· ≤ t'.val % 19) b

/-- After the first two parts: the sums are cleared at the first point, and found at a later one. -/
theorem midB (A : Arr) (t : Fin cfg0.N) (a : In Ideal) (b : St Ideal) (hb : BeforeB A t b) :
    Grads A (tb t) (· < t.val % 19) (e2 (grid0.coords t) a (e1 (grid0.coords t) a b))
      ∧ Sums A (tb t).val (· < t.val % 19) (· < t.val % 19) (e2 (grid0.coords t) a (e1 (grid0.coords t) a b)) := by
  have hlt : t.val < 456 := Nat.lt_of_lt_of_eq t.isLt N_0
  have htb : (tb t).val = t.val / 19 := rfl
  obtain ⟨v1, v2, v3, v4, v5, v6⟩ := e2_grads (grid0.coords t) a (e1 (grid0.coords t) a b)
  obtain ⟨u1, u2⟩ := e1_grads (grid0.coords t) a b
  have hg : Grads A (tb t) (· < t.val % 19) b := by
    refine ⟨fun r o h => ?_, fun r o h => ?_⟩
    all_goals
      obtain ⟨t', ht, hg, _⟩ := hb (by intro h0; rw [h0] at h; exact absurd h (Nat.not_lt_zero _))
      have e : tb t' = tb t := Fin.ext (show t'.val / 19 = t.val / 19 by omega)
      rw [e] at hg
    · exact hg.g r o (by omega)
    · exact hg.gx r o (by omega)
  refine ⟨⟨by rw [v1, u1]; exact hg.g, by rw [v2, u2]; exact hg.gx⟩, ?_⟩
  have hs : Sums A (tb t).val (· < t.val % 19) (· < t.val % 19) (e1 (grid0.coords t) a b) := by
    unfold e1
    by_cases h : t.val % 456 = 0
    · rw [if_pos ((hcond0_0 t).2 h)]
      obtain ⟨z1, z2, z3, z4⟩ := f1_zero (grid0.coords t) a b
      have e0 : (tb t).val = 0 := by omega
      have e1 : t.val % 19 = 0 := by omega
      rw [e0, e1]
      exact ⟨z1, z2, z3, z4⟩
    · rw [if_neg fun h' => h ((hcond0_0 t).1 h')]
      obtain ⟨t', ht, _, hs⟩ := hb (by omega)
      have htb' : (tb t').val = t'.val / 19 := rfl
      have eo : ∀ o : Fin 6912, ((tb t').val + if o.val / 768 ≤ t'.val % 19 then 1 else 0) = (tb t).val + if o.val / 768 < t.val % 19 then 1 else 0 :=
        fun o => by split <;> split <;> omega
      have ej : ∀ j : Fin 2560, ((tb t').val + if j.val / 256 + 9 ≤ t'.val % 19 then 1 else 0) = (tb t).val + if j.val / 256 + 9 < t.val % 19 then 1 else 0 :=
        fun j => by split <;> split <;> omega
      refine ⟨fun r o => (hs.gb r o).trans ?_, fun r j => (hs.s1 r j).trans ?_, fun r j => (hs.s2 r j).trans ?_, fun r j => (hs.s3 r j).trans ?_⟩
      · rw [eo]
      · rw [ej]
      · rw [ej]
      · rw [ej]
  exact ⟨by rw [v3]; exact hs.gb, by rw [v4]; exact hs.s1, by rw [v5]; exact hs.s2, by rw [v6]; exact hs.s3⟩

/-- After the forward pass. -/
theorem fwdB (t : Fin cfg0.N) (b : St Ideal) (hm : Mid (arrs m c) t b)
    (hg : Grads (arrs m c) (tb t) (· < t.val % 19) b) (hs : Sums (arrs m c) (tb t).val (· < t.val % 19) (· < t.val % 19) b) :
    Grads (arrs m c) (tb t) (· ≤ t.val % 19) (e3 (grid0.coords t) (ins m c t) b)
      ∧ ∀ r o, (e3 (grid0.coords t) (ins m c t) b).gb (ix2 r o) = upto ((arrs m c).t0 o) ((tb t).val + if o.val / 768 ≤ t.val % 19 then 1 else 0) r := by
  have hob : (ob t).val = min (t.val % 19) 8 := rfl
  unfold e3
  by_cases h : t.val % 19 ≤ 8
  · have hk : k0_cond3 (grid0.coords t) = 1#1 := (hcond0_2 t).2 h
    rw [dif_pos hk]
    have hi : (grid0.coords t 1).val = (ob t).val := by rw [coord1]; omega
    have h1 := f3_g (arrs m c) (tb t) (ob t) _ hi hk (ins m c t) b (ins_wa m c t) (ins_bt m c t) (ins_yt m c t) hm.xq hm.sc
    have h2 := f3_gx (arrs m c) (tb t) (ob t) _ hi hk (ins m c t) b (ins_wa m c t) (ins_bt m c t) (ins_yt m c t) hm.xq hm.sc
    have h3 := f3_gb (arrs m c) (tb t) (ob t) _ hi hk (ins m c t) b (ins_wa m c t) (ins_bt m c t) (ins_yt m c t) hm.xq hm.sc
      fun r o ho => by
        refine (hs.gb r o).trans ?_
        rw [if_neg (by omega)]; rfl
    refine ⟨⟨fun r o ho => ?_, fun r o ho => ?_⟩, fun r o => ?_⟩
    · rw [h1]; split
      · rfl
      · exact hg.g r o (by omega)
    · rw [h2]; split
      · rfl
      · exact hg.gx r o (by omega)
    · rw [h3]; split
      · rw [if_pos (by omega)]
      · refine (hs.gb r o).trans ?_
        congr 2
        refine if_congr ?_ rfl rfl
        omega
  · rw [dif_neg fun h' => h ((hcond0_2 t).1 h')]
    refine ⟨⟨fun r o ho => hg.g r o (by omega), fun r o ho => hg.gx r o (by omega)⟩, fun r o => (hs.gb r o).trans ?_⟩
    congr 2
    refine if_congr ?_ rfl rfl
    omega

/-- The sums after the backward pass. -/
theorem backB (t : Fin cfg0.N) (b : St Ideal) (hxq : ∀ r j, b.xq (ix2 r j) = (arrs m c).q (row (tb t) r) j) (hsc : ∀ r l, b.sc (ix2 r l) = (arrs m c).sc (row (tb t) r))
    (hg : Grads (arrs m c) (tb t) (· ≤ t.val % 19) b)
    (h1 : ∀ r j, b.s1 (ix2 r j) = upto ((arrs m c).t1 j) ((tb t).val + if j.val / 256 + 9 < t.val % 19 then 1 else 0) r)
    (h2 : ∀ r j, b.s2 (ix2 r j) = upto ((arrs m c).t2 j) ((tb t).val + if j.val / 256 + 9 < t.val % 19 then 1 else 0) r)
    (h3 : ∀ r j, b.s3 (ix2 r j) = upto ((arrs m c).t3 j) ((tb t).val + if j.val / 256 + 9 < t.val % 19 then 1 else 0) r) :
    (∀ r j, (e5 (grid0.coords t) (ins m c t) b).s1 (ix2 r j) = upto ((arrs m c).t1 j) ((tb t).val + if j.val / 256 + 9 ≤ t.val % 19 then 1 else 0) r)
      ∧ (∀ r j, (e5 (grid0.coords t) (ins m c t) b).s2 (ix2 r j) = upto ((arrs m c).t2 j) ((tb t).val + if j.val / 256 + 9 ≤ t.val % 19 then 1 else 0) r)
      ∧ ∀ r j, (e5 (grid0.coords t) (ins m c t) b).s3 (ix2 r j) = upto ((arrs m c).t3 j) ((tb t).val + if j.val / 256 + 9 ≤ t.val % 19 then 1 else 0) r := by
  have hjb : (jb t).val = t.val % 19 - 9 := rfl
  unfold e5
  by_cases h : 9 ≤ t.val % 19
  · have hk : k0_cond5 (grid0.coords t) = 1#1 := (hcond0_4 t).2 h
    rw [dif_pos hk]
    have hi : (grid0.coords t 1).val = (jb t).val + 9 := by rw [coord1]; omega
    have hg1 : ∀ r o, b.g (ix2 r o) = (arrs m c).G (row (tb t) r) o := fun r o => hg.g r o (by omega)
    have hg2 : ∀ r o, b.gx (ix2 r o) = (arrs m c).Gx (row (tb t) r) o := fun r o => hg.gx r o (by omega)
    have z : ∀ j : Fin 2560, j.val / 256 = (jb t).val → ((tb t).val + if j.val / 256 + 9 < t.val % 19 then 1 else 0) = (tb t).val :=
      fun j hj => by rw [if_neg (by omega)]; rfl
    have y : ∀ j : Fin 2560, j.val / 256 = (jb t).val → (tb t).val + 1 = (tb t).val + if j.val / 256 + 9 ≤ t.val % 19 then 1 else 0 :=
      fun j hj => by rw [if_pos (by omega)]
    have x : ∀ j : Fin 2560, ¬ j.val / 256 = (jb t).val → ((tb t).val + if j.val / 256 + 9 < t.val % 19 then 1 else 0) = (tb t).val + if j.val / 256 + 9 ≤ t.val % 19 then 1 else 0 :=
      fun j hj => by congr 1; exact if_congr (by omega) rfl rfl
    have r1 := f5_s1 (arrs m c) (tb t) (jb t) _ hi hk (ins m c t) b (ins_x m c t) (ins_wb m c t) (ins_s m c t) (ins_delta m c t) hsc hg1
      fun r j hj => by rw [h1, z j hj]
    have r2 := f5_s2 (arrs m c) (tb t) (jb t) _ hi hk (ins m c t) b (ins_x m c t) (ins_wb m c t) (ins_s m c t) (ins_delta m c t) hsc hg1
      fun r j hj => by rw [h2, z j hj]
    have r3 := f5_s3 (arrs m c) (tb t) (jb t) _ hi hk (ins m c t) b (ins_wm m c t) hxq hg2
      fun r j hj => by rw [h3, z j hj]
    refine ⟨fun r j => ?_, fun r j => ?_, fun r j => ?_⟩
    · rw [r1]; split
      · rename_i hj; rw [y j hj]
      · rename_i hj; rw [h1, x j hj]
    · rw [r2]; split
      · rename_i hj; rw [y j hj]
      · rename_i hj; rw [h2, x j hj]
    · rw [r3]; split
      · rename_i hj; rw [y j hj]
      · rename_i hj; rw [h3, x j hj]
  · rw [dif_neg fun h' => h ((hcond0_4 t).1 h')]
    have x : ∀ j : Fin 2560, ((tb t).val + if j.val / 256 + 9 < t.val % 19 then 1 else 0) = (tb t).val + if j.val / 256 + 9 ≤ t.val % 19 then 1 else 0 :=
      fun j => by congr 1; exact if_congr (by omega) rfl rfl
    exact ⟨fun r j => by rw [h1, x], fun r j => by rw [h2, x], fun r j => by rw [h3, x]⟩

/-- One point: what holds after it from what was carried to it. -/
theorem goodB_step (t : Fin cfg0.N) (b : St Ideal) (hb : Before (arrs m c) t b) (hb' : BeforeB (arrs m c) t b) :
    GoodB (arrs m c) t (step (grid0.coords t) (ins m c t) b) := by
  have hlt : t.val < 456 := Nat.lt_of_lt_of_eq t.isLt N_0
  have hm := mid m c t b hb
  obtain ⟨hg, hs⟩ := midB (arrs m c) t (ins m c t) b hb'
  unfold step
  generalize e2 (grid0.coords t) (ins m c t) (e1 (grid0.coords t) (ins m c t) b) = b2 at hm hg hs ⊢
  obtain ⟨hg3, hgb⟩ := fwdB m c t b2 hm hg hs
  obtain ⟨_, _, _, u4, u5⟩ := e3_keeps (grid0.coords t) (ins m c t) b2
  obtain ⟨u1, u2, u3⟩ := e3_grads (grid0.coords t) (ins m c t) b2
  generalize e3 (grid0.coords t) (ins m c t) b2 = b3 at hg3 hgb u1 u2 u3 u4 u5 ⊢
  obtain ⟨v1, v2, v3, v4, v5, v6⟩ := e4_grads (grid0.coords t) (ins m c t) b3
  obtain ⟨_, _, _, v7, v8, _⟩ := e4_keeps (grid0.coords t) (ins m c t) b3
  generalize e4 (grid0.coords t) (ins m c t) b3 = b4 at v1 v2 v3 v4 v5 v6 v7 v8 ⊢
  have hg4 : Grads (arrs m c) (tb t) (· ≤ t.val % 19) b4 := ⟨by rw [v1]; exact hg3.g, by rw [v2]; exact hg3.gx⟩
  obtain ⟨k1, k2, k3⟩ := backB m c t b4 (by rw [v7, u4]; exact hm.xq) (by rw [v8, u5]; exact hm.sc) hg4
    (by rw [v4, u1]; exact hs.s1) (by rw [v5, u2]; exact hs.s2) (by rw [v6, u3]; exact hs.s3)
  obtain ⟨w1, w2, w3⟩ := e5_grads (grid0.coords t) (ins m c t) b4
  generalize e5 (grid0.coords t) (ins m c t) b4 = b5 at k1 k2 k3 w1 w2 w3 ⊢
  obtain ⟨x1, x2, x3, x4, x5, x6⟩ := e6_grads (grid0.coords t) (ins m c t) b5
  have hlast : t.val % 456 = 455 → ∀ j : Fin 2560, ((tb t).val + if j.val / 256 + 9 ≤ t.val % 19 then 1 else 0) = 24 := fun h j => by
    have htb : (tb t).val = t.val / 19 := rfl
    rw [if_pos (by omega)]; omega
  refine ⟨⟨by rw [x1, w1]; exact hg4.g, by rw [x2, w2]; exact hg4.gx⟩, ⟨by rw [x3, w3, v3]; exact hgb, by rw [x4]; exact k1, by rw [x5]; exact k2, by rw [x6]; exact k3⟩, ?_, ?_, ?_⟩
  all_goals
    intro h
    have hk : k0_cond6 (grid0.coords t) = 1#1 := (hcond0_5 t).2 h
    unfold e6
    rw [if_pos hk]
  · exact f6_ds (arrs m c) _ (ins m c t) b5 (ins_s m c t) (fun r j => by rw [k1, hlast h]) fun r j => by rw [k3, hlast h]
  · exact f6_dd (arrs m c) _ (ins m c t) b5 (ins_s m c t) fun r j => by rw [k2, hlast h]
  · exact f6_dsw (arrs m c) _ (ins m c t) b5 fun r j => by rw [k3, hlast h]

/-- What was possible before a point carries over what held after the point before it. -/
theorem before (n : ℕ) (t : Fin cfg0.N) (b : St Ideal) (ht : t.val = n) (hb : Known m c n b) : Before (arrs m c) t b := by
  intro h0
  obtain ⟨n, rfl⟩ := Nat.exists_eq_succ_of_ne_zero (by omega : n ≠ 0)
  have hn : n < cfg0.N := by have := t.isLt; omega
  obtain ⟨ks, ko⟩ := hb ⟨n, hn⟩ rfl
  have gd : ∀ b', Known m c n b' → Good (arrs m c) ⟨n, hn⟩ (step (grid0.coords ⟨n, hn⟩) (ins m c ⟨n, hn⟩) b') := fun b' h => good m c n ⟨n, hn⟩ b' rfl h
  refine ⟨⟨n, hn⟩, ht.symm, ?_, ?_, ?_, ?_, ?_, ?_, ?_⟩
  · obtain ⟨b', hb', e⟩ := ks.xq; rw [e]; exact (gd b' hb').xq
  · obtain ⟨b', hb', e⟩ := ks.sc; rw [e]; exact (gd b' hb').sc
  · obtain ⟨b', hb', e⟩ := ks.sq; rw [e]; exact (gd b' hb').sq
  · intro hf; obtain ⟨b', hb', e⟩ := ko.y hf; rw [e]; exact (gd b' hb').y
  · intro hf; obtain ⟨b', hb', e⟩ := ko.codes hf; rw [e]; exact (gd b' hb').codes
  · intro hf; obtain ⟨b', hb', e⟩ := ko.scales hf; rw [e]; exact (gd b' hb').scales
  · intro hf; obtain ⟨b', hb', e⟩ := ko.loss hf; rw [e]; exact (gd b' hb').loss

/-- From contents possible before a point to what holds after it. -/
theorem goodB (n : ℕ) : ∀ (t : Fin cfg0.N) (b : St Ideal), t.val = n → Known m c n b → GoodB (arrs m c) t (step (grid0.coords t) (ins m c t) b) := by
  induction n with
  | zero => exact fun t b ht hb => goodB_step m c t b (fun h => absurd ht h) fun h => absurd ht h
  | succ n ih =>
    intro t b ht hb
    refine goodB_step m c t b (before m c _ t b ht hb) fun _ => ?_
    have hlt : t.val < 456 := Nat.lt_of_lt_of_eq t.isLt N_0
    have hn : n < cfg0.N := by have := t.isLt; omega
    obtain ⟨ks, ko⟩ := hb ⟨n, hn⟩ rfl
    refine ⟨⟨n, hn⟩, ht.symm, ⟨?_, ?_⟩, ?_, ?_, ?_, ?_⟩
    · obtain ⟨b', hb', e⟩ := ks.g; rw [e]; exact (ih ⟨n, hn⟩ b' rfl hb').grads.g
    · obtain ⟨b', hb', e⟩ := ks.gx; rw [e]; exact (ih ⟨n, hn⟩ b' rfl hb').grads.gx
    · obtain ⟨b', hb', e⟩ := ko.gb (by rw [Bool.eq_false_iff, ne_eq, flush0_15]; show ¬ n % 456 = 455; omega)
      rw [e]; exact (ih ⟨n, hn⟩ b' rfl hb').sums.gb
    · obtain ⟨b', hb', e⟩ := ks.s1; rw [e]; exact (ih ⟨n, hn⟩ b' rfl hb').sums.s1
    · obtain ⟨b', hb', e⟩ := ks.s2; rw [e]; exact (ih ⟨n, hn⟩ b' rfl hb').sums.s2
    · obtain ⟨b', hb', e⟩ := ks.s3; rw [e]; exact (ih ⟨n, hn⟩ b' rfl hb').sums.s3

/-- Whatever buffer is followed: it holds what the step leaves from contents for which `GoodB` holds. -/
theorem Fld.goodB {t : Fin cfg0.N} {α : Type} {φ : St Ideal → α} {v : α} (h : Fld m c (Known m c t.val) t φ v) :
    ∃ b, GoodB (arrs m c) t b ∧ v = φ b := by
  obtain ⟨b, hb, e⟩ := h
  exact ⟨_, Gen.goodB m c t.val t b rfl hb, e⟩
end

end Cert.KernelIdeal.Gen

end
-- ==== Proof.KI.Final.lean ====
/- What the result arrays of the idealised kernel hold at the end. -/
module

public import proofs.«01_k».proof.Proof.KI.BInv

@[expose] public section

set_option maxRecDepth 16384

noncomputable section

namespace Cert.KernelIdeal.Gen

open Idealize.ShloMosaic Idealize.ShloMosaic.TcCoe

/-- The results of the forward pass, as the mathematics says them. -/
def outY (A : Arr) : S18432x6912.Idx → EReal := fun i => A.y (i 0) (i 1)
def outCodes (A : Arr) : S18432x2560.Idx → BitVec 8 := fun i => A.code (i 0) (i 1)
def outScales (A : Arr) : S24x1x768.Idx → EReal := fun i => A.sc (row (i 0) (i 2))
def outLoss (A : Arr) : S24x1x768.Idx → EReal := fun i => A.loss (row (i 0) (i 2))

/-- The results of the backward pass. -/
def outDs (A : Arr) : S1x2560.Idx → EReal := fun i => A.ds (i 1)
def outDd (A : Arr) : S1x2560.Idx → EReal := fun i => A.dd (i 1)
def outDsw (A : Arr) : S1x2560.Idx → EReal := fun i => A.dsw (i 1)
def outGb (A : Arr) : S8x6912.Idx → EReal := fun i => upto (A.t0 (i 1)) 24 (i 0)

/-- The last point. -/
def tLast : Fin cfg0.N := ⟨455, Nat.lt_of_lt_of_eq (by decide) N_0.symm⟩

theorem covers_y : (cfg0.win 8).Covers := by decide +kernel
theorem covers_codes : (cfg0.win 9).Covers := by decide +kernel
theorem whole_scales : (cfg0.win 10).WholeAt tLast := by decide +kernel
theorem whole_loss : (cfg0.win 11).WholeAt tLast := by decide +kernel
theorem whole_ds : (cfg0.win 12).WholeAt tLast := by decide +kernel
theorem whole_dd : (cfg0.win 13).WholeAt tLast := by decide +kernel
theorem whole_dsw : (cfg0.win 14).WholeAt tLast := by decide +kernel
theorem whole_gb : (cfg0.win 15).WholeAt tLast := by decide +kernel

section
variable (m : (ℓ : Loc nD τ sig) → Buf (Elt Ideal) ℓ) (c : Dev nD)

/-- The predictions at the end. -/
theorem arr_y (dat : Pipeline.Dat τ (Elt Ideal) Unit ℕ (UR sig nD τ) ℕ cfg0 c)
    (h : ∀ t, (cfg0.win 8).flush t = true → ∃ b, Good (arrs m c) t b ∧ dat.after 8 t = b.y) : dat.arrAt 8 cfg0.N = outY (arrs m c) := by
  refine dat.arrAt_eq_of_covers 8 _ covers_y fun t hf y => ?_
  obtain ⟨b, hb, e⟩ := h t hf
  refine Eq.trans (b := b.y y) (congrFun e y) ?_
  refine Eq.trans (b := (arrs m c).y (row (tb t) (y 0)) (col (ob t) (y 1))) ?_ ?_
  · rw [← hb.y (y 0) (y 1)]; exact congrArg b.y (Shape.idx_ext₂ rfl rfl)
  show _ = (arrs m c).y _ _
  congr 1
  · refine Fin.ext ?_
    refine Eq.trans ?_ (Pipeline.Window.rect_emb_val (cfg0.win 8) t y 0).symm
    rw [(index0_8 t).1]; show 768 * (t.val / 19) + (y 0).val = t.val / 19 * 768 + (y 0).val; omega
  · refine Fin.ext ?_
    refine Eq.trans ?_ (Pipeline.Window.rect_emb_val (cfg0.win 8) t y 1).symm
    rw [(index0_8 t).2]; show 768 * min (t.val % 19) 8 + (y 1).val = min (t.val % 19) 8 * 768 + (y 1).val; omega

/-- The codes at the end. -/
theorem arr_codes (dat : Pipeline.Dat τ (Elt Ideal) Unit ℕ (UR sig nD τ) ℕ cfg0 c)
    (h : ∀ t, (cfg0.win 9).flush t = true → ∃ b, Good (arrs m c) t b ∧ dat.after 9 t = b.codes) : dat.arrAt 9 cfg0.N = outCodes (arrs m c) := by
  refine dat.arrAt_eq_of_covers 9 _ covers_codes fun t hf y => ?_
  obtain ⟨b, hb, e⟩ := h t hf
  refine Eq.trans (b := b.codes y) (congrFun e y) ?_
  refine Eq.trans (b := (arrs m c).code (row (tb t) (y 0)) (y 1)) ?_ ?_
  · rw [← hb.codes (y 0) (y 1)]; exact congrArg b.codes (Shape.idx_ext₂ rfl rfl)
  show _ = (arrs m c).code _ _
  congr 1
  · refine Fin.ext ?_
    refine Eq.trans ?_ (Pipeline.Window.rect_emb_val (cfg0.win 9) t y 0).symm
    rw [(index0_9 t).1]; show 768 * (t.val / 19) + (y 0).val = t.val / 19 * 768 + (y 0).val; omega
  · refine Fin.ext ?_
    refine Eq.trans ?_ (Pipeline.Window.rect_emb_val (cfg0.win 9) t y 1).symm
    rw [(index0_9 t).2]; show (y 1).val = 0 * 2560 + (y 1).val; omega

/-- An index of a buffer of rows, from its coordinates. -/
theorem ix3_eta (j : S24x1x768.Idx) : j = ix3 (j 0) 0 (j 2) :=
  funext fun a => match a with
    | ⟨0, _⟩ => rfl
    | ⟨1, _⟩ => Fin.ext (by have := (j 1).isLt; show (j 1).val = 0; exact Nat.lt_one_iff.mp this)
    | ⟨2, _⟩ => rfl

theorem tb_last (T : Fin 24) : T.val ≤ (tb tLast).val := by show T.val ≤ 455 / 19; omega

/-- The scales at the end. -/
theorem arr_scales (dat : Pipeline.Dat τ (Elt Ideal) Unit ℕ (UR sig nD τ) ℕ cfg0 c)
    (h : ∀ t, (cfg0.win 10).flush t = true → ∃ b, Good (arrs m c) t b ∧ dat.after 10 t = b.scales) : dat.arrAt 10 cfg0.N = outScales (arrs m c) := by
  refine dat.arrAt_eq_of_after_last 10 tLast whole_scales _ fun j => ?_
  obtain ⟨b, hb, e⟩ := h tLast whole_scales.1
  refine Eq.trans (b := b.scales j) (congrFun e j) ?_
  refine Eq.trans ?_ (hb.scales (j 0) (j 2) (tb_last _))
  exact congrArg b.scales (ix3_eta j)

/-- The losses at the end. -/
theorem arr_loss (dat : Pipeline.Dat τ (Elt Ideal) Unit ℕ (UR sig nD τ) ℕ cfg0 c)
    (h : ∀ t, (cfg0.win 11).flush t = true → ∃ b, Good (arrs m c) t b ∧ dat.after 11 t = b.loss) : dat.arrAt 11 cfg0.N = outLoss (arrs m c) := by
  refine dat.arrAt_eq_of_after_last 11 tLast whole_loss _ fun j => ?_
  obtain ⟨b, hb, e⟩ := h tLast whole_loss.1
  refine Eq.trans (b := b.loss j) (congrFun e j) ?_
  refine Eq.trans ?_ (hb.loss (j 0) (j 2) ?_)
  · exact congrArg b.loss (ix3_eta j)
  have := tb_last (j 0)
  have h9 : 9 ≤ tLast.val % 19 := by decide
  omega

/-- An index of a buffer of one row, from its column. -/
theorem ix2_row (j : S1x2560.Idx) : j = ix2 0 (j 1) :=
  Shape.idx_ext₂ (by have : (j 0).val < 1 := (j 0).isLt; show (j 0).val = 0; omega) rfl

/-- The gradients at the end. -/
theorem arr_ds (dat : Pipeline.Dat τ (Elt Ideal) Unit ℕ (UR sig nD τ) ℕ cfg0 c)
    (h : ∀ t, (cfg0.win 12).flush t = true → ∃ b, GoodB (arrs m c) t b ∧ dat.after 12 t = b.ds) : dat.arrAt 12 cfg0.N = outDs (arrs m c) := by
  refine dat.arrAt_eq_of_after_last 12 tLast whole_ds _ fun j => ?_
  obtain ⟨b, hb, e⟩ := h tLast whole_ds.1
  refine Eq.trans (b := b.ds j) (congrFun e j) ?_
  exact (congrArg b.ds (ix2_row j)).trans (hb.ds (by decide) (j 1))

theorem arr_dd (dat : Pipeline.Dat τ (Elt Ideal) Unit ℕ (UR sig nD τ) ℕ cfg0 c)
    (h : ∀ t, (cfg0.win 13).flush t = true → ∃ b, GoodB (arrs m c) t b ∧ dat.after 13 t = b.dd) : dat.arrAt 13 cfg0.N = outDd (arrs m c) := by
  refine dat.arrAt_eq_of_after_last 13 tLast whole_dd _ fun j => ?_
  obtain ⟨b, hb, e⟩ := h tLast whole_dd.1
  refine Eq.trans (b := b.dd j) (congrFun e j) ?_
  exact (congrArg b.dd (ix2_row j)).trans (hb.dd (by decide) (j 1))

theorem arr_dsw (dat : Pipeline.Dat τ (Elt Ideal) Unit ℕ (UR sig nD τ) ℕ cfg0 c)
    (h : ∀ t, (cfg0.win 14).flush t = true → ∃ b, GoodB (arrs m c) t b ∧ dat.after 14 t = b.dsw) : dat.arrAt 14 cfg0.N = outDsw (arrs m c) := by
  refine dat.arrAt_eq_of_after_last 14 tLast whole_dsw _ fun j => ?_
  obtain ⟨b, hb, e⟩ := h tLast whole_dsw.1
  refine Eq.trans (b := b.dsw j) (congrFun e j) ?_
  exact (congrArg b.dsw (ix2_row j)).trans (hb.dsw (by decide) (j 1))

theorem arr_gb (dat : Pipeline.Dat τ (Elt Ideal) Unit ℕ (UR sig nD τ) ℕ cfg0 c)
    (h : ∀ t, (cfg0.win 15).flush t = true → ∃ b, GoodB (arrs m c) t b ∧ dat.after 15 t = b.gb) : dat.arrAt 15 cfg0.N = outGb (arrs m c) := by
  refine dat.arrAt_eq_of_after_last 15 tLast whole_gb _ fun j => ?_
  obtain ⟨b, hb, e⟩ := h tLast whole_gb.1
  refine Eq.trans (b := b.gb j) (congrFun e j) ?_
  refine (congrArg b.gb (show j = ix2 (j 0) (j 1) from Shape.idx_ext₂ rfl rfl)).trans ((hb.sums.gb (j 0) (j 1)).trans ?_)
  have h1 : (j 1).val < 6912 := (j 1).isLt
  have h18 : tLast.val % 19 = 18 := by decide
  have h23 : (tb tLast).val = 23 := by decide
  rw [if_pos (by omega), h23]
  rfl

/-- What the result arrays hold at the end. -/
structure Results (A : Arr) (y : S18432x6912.Idx → EReal) (codes : S18432x2560.Idx → BitVec 8) (scales loss : S24x1x768.Idx → EReal)
    (ds dd dsw : S1x2560.Idx → EReal) (gb : S8x6912.Idx → EReal) : Prop where
  y : y = outY A
  codes : codes = outCodes A
  scales : scales = outScales A
  loss : loss = outLoss A
  ds : ds = outDs A
  dd : dd = outDd A
  dsw : dsw = outDsw A
  gb : gb = outGb A

/-- All eight results at the end of a run. -/
theorem results {r : PUnit × MemSt nD τ sig (Elt Ideal)} (h : Pipeline.RDat.FramePost (cfgs 0) (rdat m) (V m) r) :
    Results (arrs m c) (r.2.mem ((c.tc : Thread nD τ).loc main_v0_0)) (r.2.mem ((c.tc : Thread nD τ).loc main_v0_1))
      (r.2.mem ((c.tc : Thread nD τ).loc main_v0_2)) (r.2.mem ((c.tc : Thread nD τ).loc main_v0_3))
      (r.2.mem ((c.tc : Thread nD τ).loc main_v0_4)) (r.2.mem ((c.tc : Thread nD τ).loc main_v0_5))
      (r.2.mem ((c.tc : Thread nD τ).loc main_v0_6)) (r.2.mem ((c.tc : Thread nD τ).loc main_v0_7)) := by
  obtain ⟨after, hL, hA⟩ := Pipeline.RDat.FramePost.exists_exact h c
  have rl : ∀ w t, rel0 w = true → (cfg0.win w).flush t = true → Rl m c w t (after w t) := fun w t hw hf =>
    Pipeline.Dat.toRRel_leaves (dat := dats m 0 c) (fgt := rel0) (Rl := Rl m c) hw (hL w t hf)
  exact ⟨(hA 8).trans (arr_y m c _ fun t hf => Fld.good m c (rl 8 t rfl hf)), (hA 9).trans (arr_codes m c _ fun t hf => Fld.good m c (rl 9 t rfl hf)),
    (hA 10).trans (arr_scales m c _ fun t hf => Fld.good m c (rl 10 t rfl hf)), (hA 11).trans (arr_loss m c _ fun t hf => Fld.good m c (rl 11 t rfl hf)),
    (hA 12).trans (arr_ds m c _ fun t hf => Fld.goodB m c (rl 12 t rfl hf)), (hA 13).trans (arr_dd m c _ fun t hf => Fld.goodB m c (rl 13 t rfl hf)),
    (hA 14).trans (arr_dsw m c _ fun t hf => Fld.goodB m c (rl 14 t rfl hf)), (hA 15).trans (arr_gb m c _ fun t hf => Fld.goodB m c (rl 15 t rfl hf))⟩
end

/-- THE KERNEL: every execution ends with the eight results at what the mathematics says, and the arguments unchanged. -/
theorem kernel_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      Results (arrs m c) (r.2.mem ((c.tc : Thread nD τ).loc main_v0_0)) (r.2.mem ((c.tc : Thread nD τ).loc main_v0_1))
        (r.2.mem ((c.tc : Thread nD τ).loc main_v0_2)) (r.2.mem ((c.tc : Thread nD τ).loc main_v0_3))
        (r.2.mem ((c.tc : Thread nD τ).loc main_v0_4)) (r.2.mem ((c.tc : Thread nD τ).loc main_v0_5))
        (r.2.mem ((c.tc : Thread nD τ).loc main_v0_6)) (r.2.mem ((c.tc : Thread nD τ).loc main_v0_7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨results m c h.1, frame_args m h.1 c⟩) (run_main_quiescent m ρ)

end Cert.KernelIdeal.Gen

end
-- ==== Proof.Ref.lean ====
/- The reference's results are the same mathematics, entry by entry. -/
module

public import proofs.«01_k».proof.Proof.Gen.ReferenceIdeal.Run
public import proofs.«01_k».proof.Proof.Gen.ReferenceIdeal.Read
public import proofs.«01_k».proof.Proof.KI.Final
public import Idealize.ShloMosaic.Lib.Quiescent
public import Idealize.ShloMosaic.Lib.IdealHost

@[expose] public section

set_option maxRecDepth 16384

noncomputable section

namespace Cert.ReferenceIdeal.Gen

open Idealize.ShloMosaic Idealize.ShloMosaic.TcCoe Idealize.SL.Sem
open Cert.ReferenceIdeal.Read
open Cert.KernelIdeal.Gen (Arr row outY outCodes outScales outLoss outDd outGb fold upto)

/-! ## Two ways to the eight-bit code -/

theorem lit_127 : Ideal.ofBits FTy.f32 1123942400#32 = ((127 : ℝ) : EReal) := by
  simp [Ideal.ofBits, Ideal.ieee, -EReal.coe_mul]; norm_num

theorem lit_neg_127 : Ideal.ofBits FTy.f32 3271426048#32 = ((-127 : ℝ) : EReal) := by
  simp [Ideal.ofBits, Ideal.ieee, -EReal.coe_mul, -EReal.coe_neg]; norm_num

/-- A number clipped to [-127, 127] is a real in that range. -/
theorem clipped (x : EReal) : ∃ r : ℝ, -127 ≤ r ∧ r ≤ 127 ∧
    min (Ideal.ofBits FTy.f32 1123942400#32) (max (Ideal.ofBits FTy.f32 3271426048#32) x) = (r : EReal) := by
  rw [lit_127, lit_neg_127]
  induction x with
  | bot => exact ⟨-127, by norm_num, by norm_num, by rw [max_eq_left bot_le, min_eq_right (by exact_mod_cast (by norm_num : (-127 : ℝ) ≤ 127))]⟩
  | top => exact ⟨127, by norm_num, by norm_num, by rw [max_eq_right le_top, min_eq_left le_top]⟩
  | coe r => exact ⟨min 127 (max (-127) r), le_min (by norm_num) (le_max_left _ _), min_le_left _ _, by
      rw [EReal.coe_strictMono.monotone.map_min, EReal.coe_strictMono.monotone.map_max]⟩

/-- Of a real in [-127, 127], the low eight bits of the 32-bit integer are the 8-bit integer. -/
theorem toInt8 (r : ℝ) (h1 : -127 ≤ r) (h2 : r ≤ 127) :
    (Ideal.fptosi 32 (r : EReal)).setWidth 8 = Ideal.fptosi 8 (r : EReal) := by
  unfold Ideal.fptosi
  rw [Ideal.toIntClamped_coe, Ideal.toIntClamped_coe]
  have a1 : -127 ≤ (if 0 ≤ r then ⌊r⌋ else ⌈r⌉) := by
    split
    · exact Int.le_floor.mpr (by push_cast; exact h1)
    · exact_mod_cast (le_trans (by push_cast; exact h1) (Int.le_ceil r) : (((-127 : ℤ) : ℝ)) ≤ ⌈r⌉)
  have a2 : (if 0 ≤ r then ⌊r⌋ else ⌈r⌉) ≤ 127 := by
    split
    · exact_mod_cast (le_trans (Int.floor_le r) (by push_cast; exact h2) : ((⌊r⌋ : ℤ) : ℝ) ≤ ((127 : ℤ) : ℝ))
    · exact Int.ceil_le.mpr (by push_cast; exact h2)
  generalize (if 0 ≤ r then ⌊r⌋ else ⌈r⌉) = z at a1 a2
  rw [show max (-((2 ^ (32 - 1) : ℕ) : ℤ)) (min (((2 ^ (32 - 1) : ℕ) : ℤ) - 1) z) = z by norm_num; omega,
    show max (-((2 ^ (8 - 1) : ℕ) : ℤ)) (min (((2 ^ (8 - 1) : ℕ) : ℤ) - 1) z) = z by norm_num; omega]
  apply BitVec.eq_of_toNat_eq
  rw [BitVec.toNat_setWidth, BitVec.toNat_ofInt, BitVec.toNat_ofInt]
  omega

/-! ## The reference's arrays -/

section
variable (x0 : S18432x2560.Idx → EReal) (x1 x2 : S6912x2560.Idx → EReal) (x3 : S18432x6912.Idx → EReal)
  (x4 : S1x6912.Idx → EReal) (x5 x6 : S1x2560.Idx → EReal)

/-- The arrays, by row and column. -/
def arrOf : Arr where
  X r j := x0 (ix2 r j)
  W r j := x1 (ix2 r j)
  M r j := x2 (ix2 r j)
  Y r j := x3 (ix2 r j)
  B j := x4 (ix2 0 j)
  S j := x5 (ix2 0 j)
  D j := x6 (ix2 0 j)

theorem xs_at (r : Fin 18432) (j : Fin 2560) :
    val_main_v4 (F := Ideal) x0 x5 x6 (ix2 r j) = (arrOf x0 x1 x2 x3 x4 x5 x6).xs r j := by
  rw [val_main_v4_apply, val_main_v2_apply, val_main_v3_apply, val_main_v0_apply, val_main_v1_apply]
  have e : ∀ a : S1x2560.Idx, (a 1).val = j.val → a = ix2 0 j := fun a h =>
    Shape.idx_ext₂ (by have : (a 0).val < 1 := (a 0).isLt; show (a 0).val = 0; omega) h
  rw [e (idx_main_v3 (ix2 r j)) rfl, e (idx_main_v1 (ix2 r j)) rfl]
  rfl

theorem am_at (r : Fin 18432) : val_main_v6 (F := Ideal) x0 x5 x6 (ix1 r) = (arrOf x0 x1 x2 x3 x4 x5 x6).am r := by
  pointwise [val_main_v6]
  unfold Arr.am
  refine congrArg₂ (fun a b => Finset.univ.fold max a b) rfl (funext fun j => ?_)
  rw [← xs_at]
  rfl

theorem sc_at (r : Fin 18432) : val_main_v13 (F := Ideal) x0 x5 x6 (ix1 r) = (arrOf x0 x1 x2 x3 x4 x5 x6).sc r := by
  have e0 : FloatOps.ofBits (F := Ideal) .f32 0x00000000#32 = 0 := Ideal.ofBits_zero_f32
  have e1 : FloatOps.ofBits (F := Ideal) .f32 0x3F800000#32 = 1 := Ideal.ofBits_one_f32
  rw [val_main_v13_apply, val_main_v8_apply, val_main_v12_apply, val_main_v10_apply, am_at x0 x1 x2 x3 x4 x5 x6, val_main_v7_apply,
    val_main_cst_0_apply, val_main_call0_v1_apply, val_main_call0_v0_apply, val_main_cst_3_apply, val_main_v9_apply,
    val_main_cst_1_apply, val_main_v11_apply, val_main_cst_2_apply, e0, e1]
  unfold Arr.sc
  pointwise []

theorem q_at (r : Fin 18432) (j : Fin 2560) :
    val_main_v18 (F := Ideal) x0 x5 x6 (ix2 r j) = (arrOf x0 x1 x2 x3 x4 x5 x6).q r j := by
  rw [val_main_v18_apply, val_main_call2_v4_apply, val_main_call2_v3_apply, val_main_cst_5_apply, val_main_call2_v2_apply,
    val_main_call2_v1_apply, val_main_call2_v0_apply, val_main_cst_4_apply, val_main_v17_apply, val_main_v16_apply,
    xs_at x0 x1 x2 x3 x4 x5 x6, val_main_v15_apply, val_main_v14_apply]
  rw [show idx_main_v14 (idx_main_v15 (ix2 r j)) = ix1 r from funext fun a => match a with | ⟨0, _⟩ => rfl, sc_at x0 x1 x2 x3 x4 x5 x6]
  rfl

theorem code_at (r : Fin 18432) (j : Fin 2560) :
    val_main_v20 (F := Ideal) x0 x5 x6 (ix2 r j) = (arrOf x0 x1 x2 x3 x4 x5 x6).code r j := by
  rw [val_main_v20_apply, val_main_v19_apply, q_at x0 x1 x2 x3 x4 x5 x6]
  unfold Arr.code Arr.q
  obtain ⟨z, h1, h2, e⟩ := clipped (Ideal.liftRound Ideal.roundHalfEven (Ideal.div ((arrOf x0 x1 x2 x3 x4 x5 x6).xs r j) ((arrOf x0 x1 x2 x3 x4 x5 x6).sc r)))
  rw [e]
  exact toInt8 z h1 h2

theorem y_at (r : Fin 18432) (o : Fin 6912) :
    val_main_v27 (F := Ideal) x0 x1 x4 x5 x6 (ix2 r o) = (arrOf x0 x1 x2 x3 x4 x5 x6).y r o := by
  rw [val_main_v27_apply, val_main_v25_apply, val_main_v24_apply, val_main_v22_apply, val_main_v23_apply, val_main_v26_apply]
  rw [show idx_main_v22 (idx_main_v24 (ix2 r o)) = ix1 r from funext fun a => match a with | ⟨0, _⟩ => rfl, sc_at x0 x1 x2 x3 x4 x5 x6,
    show idx_main_v26 (ix2 r o) = ix2 0 o from Shape.idx_ext₂ rfl rfl]
  unfold Arr.y
  have hs : (∑ k : Fin 2560, val_main_v21 (F := Ideal) x0 x5 x6 (lidx_main_v23 (ix2 r o) k) * x1 (ridx_main_v23 (ix2 r o) k) : EReal)
      = ∑ j, (arrOf x0 x1 x2 x3 x4 x5 x6).q r j * (arrOf x0 x1 x2 x3 x4 x5 x6).W o j := by
    refine Finset.sum_congr rfl fun k _ => ?_
    rw [val_main_v21_apply, show lidx_main_v23 (ix2 r o) k = ix2 r k from Shape.idx_ext₂ rfl rfl,
      show ridx_main_v23 (ix2 r o) k = ix2 o k from Shape.idx_ext₂ rfl rfl, q_at x0 x1 x2 x3 x4 x5 x6]
    rfl
  rw [← hs]
  rfl

theorem loss_at (r : Fin 18432) :
    val_main_v33 (F := Ideal) x0 x1 x3 x4 x5 x6 (ix1 r) = (arrOf x0 x1 x2 x3 x4 x5 x6).loss r := by
  rw [val_main_v33_apply, val_main_v31_apply, val_main_v32_apply, val_main_cst_7_apply, val_main_cst_6_apply]
  have hs : (∑ k : Fin 6912, val_main_v30 (F := Ideal) x0 x1 x3 x4 x5 x6 (idx_main_v31 (ix1 r) k) : EReal)
      = ∑ o, (arrOf x0 x1 x2 x3 x4 x5 x6).df r o * (arrOf x0 x1 x2 x3 x4 x5 x6).df r o := by
    refine Finset.sum_congr rfl fun k _ => ?_
    rw [val_main_v30_apply, val_main_v29_apply, show idx_main_v31 (ix1 r) k = ix2 r k from Shape.idx_ext₂ rfl rfl,
      y_at x0 x1 x2 x3 x4 x5 x6, val_main_v28_apply]
    rfl
  rw [hs, show FloatOps.ofBits (F := Ideal) .f32 0x00000000#32 = (0 : EReal) from Ideal.ofBits_zero_f32, zero_add]
  rfl

/-- A token's place, from its block and its place in the block. -/
theorem place (i : S24x1x768.Idx) (a : S18432.Idx) (h : (a 0).val = ((i 0).val * 1 + (i 1).val) * 768 + (i 2).val) :
    a = ix1 (row (i 0) (i 2)) := by
  have h1 : (i 1).val < 1 := (i 1).isLt
  refine funext fun b => Fin.ext ?_
  match b with
  | ⟨0, _⟩ => refine h.trans ?_; show _ = 768 * (i 0).val + (i 2).val; omega

theorem res_y : val_main_v62 (F := Ideal) x0 x1 x4 x5 x6 = outY (arrOf x0 x1 x2 x3 x4 x5 x6) := by
  funext i
  have e : i = (ix2 (i 0) (i 1) : S18432x6912.Idx) := Shape.idx_ext₂ rfl rfl
  exact (congrArg (val_main_v27 (F := Ideal) x0 x1 x4 x5 x6) e).trans (y_at x0 x1 x2 x3 x4 x5 x6 (i 0) (i 1))

theorem res_codes : val_main_v20 (F := Ideal) x0 x5 x6 = outCodes (arrOf x0 x1 x2 x3 x4 x5 x6) := by
  funext i
  have e : i = (ix2 (i 0) (i 1) : S18432x2560.Idx) := Shape.idx_ext₂ rfl rfl
  exact (congrArg (val_main_v20 (F := Ideal) x0 x5 x6) e).trans (code_at x0 x1 x2 x3 x4 x5 x6 (i 0) (i 1))

theorem res_scales : val_main_v63 (F := Ideal) x0 x5 x6 = outScales (arrOf x0 x1 x2 x3 x4 x5 x6) := by
  funext i
  rw [val_main_v63_apply, place i (idx_main_v63 i) rfl, sc_at x0 x1 x2 x3 x4 x5 x6]
  rfl

theorem res_loss : val_main_v64 (F := Ideal) x0 x1 x3 x4 x5 x6 = outLoss (arrOf x0 x1 x2 x3 x4 x5 x6) := by
  funext i
  rw [val_main_v64_apply, place i (idx_main_v64 i) rfl, loss_at x0 x1 x2 x3 x4 x5 x6]
  rfl
/-! ## The gradients -/

theorem G_at (r : Fin 18432) (o : Fin 6912) :
    val_main_v35 (F := Ideal) x0 x1 x3 x4 x5 x6 (ix2 r o) = (arrOf x0 x1 x2 x3 x4 x5 x6).G r o := by
  rw [val_main_v35_apply, val_main_v29_apply, y_at x0 x1 x2 x3 x4 x5 x6, val_main_v28_apply, val_main_v34_apply, val_main_cst_8_apply]
  rfl

theorem Gx_at (r : Fin 18432) (o : Fin 6912) :
    val_main_v54 (F := Ideal) x0 x1 x3 x4 x5 x6 (ix2 r o) = (arrOf x0 x1 x2 x3 x4 x5 x6).Gx r o := by
  rw [val_main_v54_apply, val_main_v53_apply, G_at x0 x1 x2 x3 x4 x5 x6, val_main_v52_apply, val_main_v51_apply]
  rw [show idx_main_v51 (idx_main_v52 (ix2 r o)) = ix1 r from funext fun a => match a with | ⟨0, _⟩ => rfl, sc_at x0 x1 x2 x3 x4 x5 x6]
  rfl

theorem gxs_at (r : Fin 18432) (j : Fin 2560) :
    val_main_v41 (F := Ideal) x0 x1 x3 x4 x5 x6 (ix2 r j) = (arrOf x0 x1 x2 x3 x4 x5 x6).gxs r j := by
  have hs : val_main_v37 (F := Ideal) x0 x1 x3 x4 x5 x6 (ix2 r j) = (∑ o, (arrOf x0 x1 x2 x3 x4 x5 x6).G r o * (arrOf x0 x1 x2 x3 x4 x5 x6).W o j : EReal) := by
    rw [val_main_v37_apply]
    refine Finset.sum_congr rfl fun k _ => ?_
    rw [val_main_v36_apply, show lidx_main_v37 (ix2 r j) k = ix2 r k from Shape.idx_ext₂ rfl rfl,
      show ridx_main_v37 (ix2 r j) k = ix2 k j from Shape.idx_ext₂ rfl rfl, G_at x0 x1 x2 x3 x4 x5 x6]
    rfl
  rw [val_main_v41_apply, hs, val_main_v40_apply, val_main_v38_apply, val_main_v16_apply, xs_at x0 x1 x2 x3 x4 x5 x6, val_main_v15_apply, val_main_v14_apply]
  rw [show idx_main_v14 (idx_main_v15 (ix2 r j)) = ix1 r from funext fun a => match a with | ⟨0, _⟩ => rfl, sc_at x0 x1 x2 x3 x4 x5 x6,
    val_main_v39_apply, val_main_cst_9_apply, val_main_call3_v1_apply, val_main_call3_v0_apply, val_main_cst_10_apply,
    show FloatOps.ofBits (F := Ideal) .f32 0x00000000#32 = (0 : EReal) from Ideal.ofBits_zero_f32]
  unfold Arr.gxs
  pointwise []

/-- The sum of the gradients of a smoothed activation times the activation, and of the gradients alone. -/
theorem t1_at (j : Fin 2560) : val_main_v43 (F := Ideal) x0 x1 x3 x4 x5 x6 (ix1 j) = ∑ r, (arrOf x0 x1 x2 x3 x4 x5 x6).t1 j r := by
  rw [val_main_v43_apply, val_main_cst_11_apply]
  refine Eq.trans (congrArg₂ (fun a b : EReal => a + b) Ideal.ofBits_zero_f32 ?_) (zero_add _)
  refine Finset.sum_congr rfl fun r _ => ?_
  rw [val_main_v42_apply, show idx_main_v43 (ix1 j) r = ix2 r j from Shape.idx_ext₂ rfl rfl, gxs_at x0 x1 x2 x3 x4 x5 x6, xs_at x0 x1 x2 x3 x4 x5 x6]
  rfl

theorem t2_at (j : Fin 2560) : val_main_v47 (F := Ideal) x0 x1 x3 x4 x5 x6 (ix1 j) = ∑ r, (arrOf x0 x1 x2 x3 x4 x5 x6).t2 j r := by
  rw [val_main_v47_apply, val_main_cst_12_apply]
  refine Eq.trans (congrArg₂ (fun a b : EReal => a + b) Ideal.ofBits_zero_f32 ?_) (zero_add _)
  refine Finset.sum_congr rfl fun r _ => ?_
  rw [show idx_main_v47 (ix1 j) r = ix2 r j from Shape.idx_ext₂ rfl rfl, gxs_at x0 x1 x2 x3 x4 x5 x6]
  rfl

/-- The weights' share of the smoothing factor's gradient, as the reference sums it: over the tokens first. -/
def refDsw (A : Arr) (j : Fin 2560) : EReal := ∑ o, (∑ r, A.Gx r o * A.q r j) * A.M o j

theorem dsw_at (j : Fin 2560) : val_main_v58 (F := Ideal) x0 x1 x2 x3 x4 x5 x6 (ix1 j) = refDsw (arrOf x0 x1 x2 x3 x4 x5 x6) j := by
  rw [val_main_v58_apply, val_main_cst_13_apply]
  refine Eq.trans (congrArg₂ (fun a b : EReal => a + b) Ideal.ofBits_zero_f32 ?_) (zero_add _)
  refine Finset.sum_congr rfl fun o _ => ?_
  rw [val_main_v57_apply, show idx_main_v58 (ix1 j) o = ix2 o j from Shape.idx_ext₂ rfl rfl, val_main_v55_apply, val_main_v56_apply]
  refine congrArg₂ (fun a b : EReal => a * b) (Finset.sum_congr rfl fun r _ => ?_) rfl
  rw [val_main_v21_apply, show lidx_main_v55 (ix2 o j) r = ix2 r o from Shape.idx_ext₂ rfl rfl,
    show ridx_main_v55 (ix2 o j) r = ix2 r j from Shape.idx_ext₂ rfl rfl, Gx_at x0 x1 x2 x3 x4 x5 x6, q_at x0 x1 x2 x3 x4 x5 x6]
  rfl

/-- The reference's gradient of the smoothing factor. -/
def refDs (A : Arr) (j : Fin 2560) : EReal := Ideal.div (0 - ∑ r, A.t1 j r) (A.S j) + refDsw A j

/-- An input's place, in a buffer of one row. -/
theorem row_place (j : Fin 2560) (a : S1x2560.Idx) (h : (a 1).val = j.val % 2560) : a = ix2 0 j :=
  Shape.idx_ext₂ (by have : (a 0).val < 1 := (a 0).isLt; show (a 0).val = 0; omega) (h.trans (Nat.mod_eq_of_lt j.isLt))

theorem ds_at (j : Fin 2560) : val_main_v65 (F := Ideal) x0 x1 x2 x3 x4 x5 x6 (ix1 j) = refDs (arrOf x0 x1 x2 x3 x4 x5 x6) j := by
  rw [val_main_v65_apply, dsw_at x0 x1 x2 x3 x4 x5 x6, val_main_v46_apply, val_main_v44_apply, t1_at x0 x1 x2 x3 x4 x5 x6, val_main_v45_apply,
    row_place j (idx_main_v45 (ix1 j)) rfl]
  unfold refDs
  rw [zero_sub]
  rfl

theorem dd_at (j : Fin 2560) : val_main_v50 (F := Ideal) x0 x1 x3 x4 x5 x6 (ix1 j) = (arrOf x0 x1 x2 x3 x4 x5 x6).dd j := by
  rw [val_main_v50_apply, val_main_v48_apply, t2_at x0 x1 x2 x3 x4 x5 x6, val_main_v49_apply, row_place j (idx_main_v49 (ix1 j)) rfl]
  unfold Arr.dd
  rw [zero_sub]
  rfl

/-- The column of an entry of a buffer of one row. -/
theorem col_place (i : S1x2560.Idx) (a : S2560.Idx) (h : (a 0).val = (i 1).val) : a = ix1 (n0 := 2560) (i 1) :=
  funext fun b => match b with | ⟨0, _⟩ => Fin.ext h

theorem res_ds : val_main_v66 (F := Ideal) x0 x1 x2 x3 x4 x5 x6 = fun i => refDs (arrOf x0 x1 x2 x3 x4 x5 x6) (i 1) := by
  funext i
  rw [val_main_v66_apply]
  exact (congrArg (val_main_v65 (F := Ideal) x0 x1 x2 x3 x4 x5 x6) (col_place i (idx_main_v66 i) rfl)).trans (ds_at x0 x1 x2 x3 x4 x5 x6 (i 1))

theorem res_dd : val_main_v67 (F := Ideal) x0 x1 x3 x4 x5 x6 = outDd (arrOf x0 x1 x2 x3 x4 x5 x6) := by
  funext i
  rw [val_main_v67_apply]
  exact (congrArg (val_main_v50 (F := Ideal) x0 x1 x3 x4 x5 x6) (col_place i (idx_main_v67 i) rfl)).trans (dd_at x0 x1 x2 x3 x4 x5 x6 (i 1))

theorem res_dsw : val_main_v68 (F := Ideal) x0 x1 x2 x3 x4 x5 x6 = fun i => refDsw (arrOf x0 x1 x2 x3 x4 x5 x6) (i 1) := by
  funext i
  rw [val_main_v68_apply]
  exact (congrArg (val_main_v58 (F := Ideal) x0 x1 x2 x3 x4 x5 x6) (col_place i (idx_main_v68 i) rfl)).trans (dsw_at x0 x1 x2 x3 x4 x5 x6 (i 1))

/-- The tokens that fall on row `k` of eight, from all blocks. -/
theorem upto_eq (f : Fin 18432 → EReal) (k : Fin 8) : upto f 24 k = ∑ u : Fin 2304, f ⟨u.val * 8 + k.val, by omega⟩ := by
  unfold upto
  rw [Finset.sum_range]
  refine Eq.trans (Finset.sum_congr rfl fun T _ => dif_pos T.isLt) ?_
  exact Fin.sum_mul_add_congr (S := 24) (n := 96) (f := fun u : Fin 2304 => f ⟨u.val * 8 + k.val, by omega⟩)
    fun T u hl => congrArg f (Fin.ext (by show 768 * T.val + (u.val * 8 + k.val) = (T.val * 96 + u.val) * 8 + k.val; omega))

theorem gb_at (k : Fin 8) (o : Fin 6912) : val_main_v61 (F := Ideal) x0 x1 x3 x4 x5 x6 (ix2 k o) = upto ((arrOf x0 x1 x2 x3 x4 x5 x6).t0 o) 24 k := by
  rw [val_main_v61_apply, val_main_cst_14_apply, upto_eq]
  refine Eq.trans (congrArg₂ (fun a b : EReal => a + b) Ideal.ofBits_zero_f32 ?_) (zero_add _)
  refine Finset.sum_congr rfl fun u _ => ?_
  have e : idx_main_v60 (idx_main_v61 (ix2 k o) u) = ix2 ⟨u.val * 8 + k.val, by omega⟩ o := by
    refine Shape.idx_ext₂ ?_ ?_
    · show ((u.val * 8 + k.val) * 6912 + o.val) / 6912 = u.val * 8 + k.val; omega
    · show ((u.val * 8 + k.val) * 6912 + o.val) % 6912 = o.val; omega
  rw [val_main_v60_apply, val_main_v59_apply, val_main_v36_apply, e, G_at x0 x1 x2 x3 x4 x5 x6]
  rfl

theorem res_gb : val_main_v61 (F := Ideal) x0 x1 x3 x4 x5 x6 = outGb (arrOf x0 x1 x2 x3 x4 x5 x6) := by
  funext i
  have e : i = (ix2 (i 0) (i 1) : S8x6912.Idx) := Shape.idx_ext₂ rfl rfl
  exact (congrArg (val_main_v61 (F := Ideal) x0 x1 x3 x4 x5 x6) e).trans (gb_at x0 x1 x2 x3 x4 x5 x6 (i 0) (i 1))
end

/-! ## The run -/

/-- The reference's arrays at entry, on core `c`. -/
def refArrs (m : (ℓ : Loc nD τ sig) → Buf (Elt Ideal) ℓ) (c : Dev nD) : Arr :=
  arrOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The reference ends, with its arguments kept and its counters at zero. -/
theorem frame_main (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0 :=
  (θ_run defs _ _).mono (fun r h => ⟨fun c => (h c).2.2.2.2.2.2.2.2, sem_eq_zero_of_no_sems (by decide) r.2⟩)
    (Cert.ReferenceIdeal.Value.run (F := Ideal) m ρ)

/-- The reference ends, with its eight results what the mathematics says. -/
theorem reference_values (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v62) = outY (refArrs m c)
      ∧ r.2.mem ((c.tc : Thread nD τ).loc main_v20) = outCodes (refArrs m c)
      ∧ r.2.mem ((c.tc : Thread nD τ).loc main_v63) = outScales (refArrs m c)
      ∧ r.2.mem ((c.tc : Thread nD τ).loc main_v64) = outLoss (refArrs m c)
      ∧ r.2.mem ((c.tc : Thread nD τ).loc main_v66) = (fun i => refDs (refArrs m c) (i 1))
      ∧ r.2.mem ((c.tc : Thread nD τ).loc main_v67) = outDd (refArrs m c)
      ∧ r.2.mem ((c.tc : Thread nD τ).loc main_v68) = (fun i => refDsw (refArrs m c) (i 1))
      ∧ r.2.mem ((c.tc : Thread nD τ).loc main_v61) = outGb (refArrs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1.trans (val_main_v62_eq _ _ _ _ _)).trans (res_y _ _ _ _ _ _ _),
      ((h c).2.1.trans (val_main_v20_eq _ _ _)).trans (res_codes _ _ _ _ _ _ _),
      ((h c).2.2.1.trans (val_main_v63_eq _ _ _)).trans (res_scales _ _ _ _ _ _ _),
      ((h c).2.2.2.1.trans (val_main_v64_eq m c)).trans (res_loss _ _ _ _ _ _ _),
      ((h c).2.2.2.2.1.trans (val_main_v66_eq m c)).trans (res_ds _ _ _ _ _ _ _),
      ((h c).2.2.2.2.2.1.trans (val_main_v67_eq m c)).trans (res_dd _ _ _ _ _ _ _),
      ((h c).2.2.2.2.2.2.1.trans (val_main_v68_eq m c)).trans (res_dsw _ _ _ _ _ _ _),
      ((h c).2.2.2.2.2.2.2.1.trans (val_main_v61_eq _ _ _ _ _ _)).trans (res_gb _ _ _ _ _ _ _), (h c).2.2.2.2.2.2.2.2⟩)
    (Cert.ReferenceIdeal.Value.run (F := Ideal) m ρ)

end Cert.ReferenceIdeal.Gen

end
-- ==== Proof.Real.lean ====
/- Where the weights, the masked weights, the targets and the shifted bias are reals, the backward pass's sums over the tokens
   and over the outputs can be taken in either order. -/
module

public import proofs.«01_k».proof.Proof.KI.Back
public import Idealize.ShloMosaic.PureOps

@[expose] public section

set_option maxRecDepth 16384

noncomputable section

namespace Cert.KernelIdeal.Gen

open Idealize.ShloMosaic

/-! ## The extended reals that are reals -/

/-- An extended real that is a real. -/
def IsR (x : EReal) : Prop := ∃ a : ℝ, x = (a : EReal)

theorem IsR.of_ne {x : EReal} (h : x ≠ ⊤ ∧ x ≠ ⊥) : IsR x := ⟨x.toReal, (EReal.coe_toReal h.1 h.2).symm⟩
theorem IsR.zero : IsR 0 := ⟨0, rfl⟩
theorem IsR.one : IsR 1 := ⟨1, rfl⟩
theorem IsR.add {x y : EReal} : IsR x → IsR y → IsR (x + y) := fun ⟨a, ha⟩ ⟨b, hb⟩ => ⟨a + b, by rw [ha, hb, EReal.coe_add]⟩
theorem IsR.sub {x y : EReal} : IsR x → IsR y → IsR (x - y) := fun ⟨a, ha⟩ ⟨b, hb⟩ => ⟨a - b, by rw [ha, hb, EReal.coe_sub]⟩
theorem IsR.mul {x y : EReal} : IsR x → IsR y → IsR (x * y) := fun ⟨a, ha⟩ ⟨b, hb⟩ => ⟨a * b, by rw [ha, hb, EReal.coe_mul]⟩
theorem coe_sum {n : ℕ} (f : Fin n → ℝ) (s : Finset (Fin n)) : ((∑ i ∈ s, f i : ℝ) : EReal) = ∑ i ∈ s, (f i : EReal) := by
  induction s using Finset.cons_induction with
  | empty => rfl
  | cons a s ha ih => rw [Finset.sum_cons, Finset.sum_cons, EReal.coe_add, ih]

theorem IsR.sum {n : ℕ} {f : Fin n → EReal} (h : ∀ i, IsR (f i)) : IsR (∑ i, f i) := by
  choose g hg using h
  exact ⟨∑ i, g i, by rw [coe_sum]; exact Finset.sum_congr rfl fun i _ => hg i⟩

/-- Of reals, two sums one inside the other can change places; the factors that the outer term multiplies by zero may be infinite. -/
theorem sum_swap {m n : ℕ} (a : Fin m → Fin n → EReal) (b : Fin n → EReal) (c : Fin m → EReal)
    (ha : ∀ r, (∀ o, IsR (a r o)) ∨ c r = 0) (hb : ∀ o, IsR (b o)) (hc : ∀ r, IsR (c r)) :
    ∑ r, (∑ o, a r o * b o) * c r = ∑ o, (∑ r, a r o * c r) * b o := by
  have e : ∀ r, ∃ a' : Fin n → ℝ, (∀ o, a r o * c r = (a' o : EReal) * c r) ∧ (∑ o, a r o * b o) * c r = (∑ o, (a' o : EReal) * b o) * c r := fun r => by
    rcases ha r with h | h
    · choose a' h using h
      exact ⟨a', fun o => by rw [h], by simp only [h]⟩
    · exact ⟨fun _ => 0, fun o => by rw [h, mul_zero, mul_zero], by rw [h, mul_zero, mul_zero]⟩
  choose a' e1 e2 using e
  choose b' hb using hb
  choose c' hc using hc
  simp only [e1, e2]
  simp only [hb, hc, ← EReal.coe_mul, ← coe_sum]
  congr 1
  simp only [Finset.sum_mul]
  rw [Finset.sum_comm]
  exact Finset.sum_congr rfl fun o _ => Finset.sum_congr rfl fun r _ => mul_right_comm _ _ _

/-! ## The kernel's arrays -/

theorem lit_bot : Ideal.ofBits FTy.f32 4286578688#32 = ⊥ := by simp [Ideal.ofBits, Ideal.ieee]
theorem lit_max : Ideal.ofBits FTy.f32 1123942400#32 = ((127 : ℝ) : EReal) := by
  simp [Ideal.ofBits, Ideal.ieee, -EReal.coe_mul]; norm_num
theorem lit_min : Ideal.ofBits FTy.f32 3271426048#32 = ((-127 : ℝ) : EReal) := by
  simp [Ideal.ofBits, Ideal.ieee, -EReal.coe_mul, -EReal.coe_neg]; norm_num
theorem lit_ratio : ∃ c : ℝ, 0 < c ∧ Ideal.ofBits FTy.f32 1060320051#32 = (c : EReal) := by
  simp [Ideal.ofBits, Ideal.ieee, -EReal.coe_mul]
theorem lit_g : IsR (Ideal.ofBits FTy.f32 847698181#32) := by
  simp [Ideal.ofBits, Ideal.ieee, -EReal.coe_mul]; exact ⟨_, rfl⟩

namespace Arr

/-- The weights, the masked weights, the targets and the shifted bias are reals. -/
structure Real (A : Arr) : Prop where
  W : ∀ o j, IsR (A.W o j)
  M : ∀ o j, IsR (A.M o j)
  Y : ∀ r o, IsR (A.Y r o)
  B : ∀ o, IsR (A.B o)

theorem abs_nonneg (x : EReal) : 0 ≤ FloatOps.absf (F := Ideal) (φ := .f32) x := by
  show (0 : EReal) ≤ max x (-x)
  rcases le_total 0 x with h | h
  · exact le_max_of_le_left h
  · exact le_max_of_le_right (by rw [← neg_zero]; exact EReal.neg_le_neg_iff.2 h)

/-- A token's scale is a real, or plus infinity: the latter where an activation is infinite. -/
theorem sc_cases (A : Arr) (r : Fin 18432) : IsR (A.sc r) ∨ A.sc r = ⊤ := by
  have h0 : 0 ≤ A.am r := by
    unfold Arr.am
    exact (Finset.le_fold_max _).2 (Or.inr ⟨0, Finset.mem_univ _, abs_nonneg _⟩)
  unfold Arr.sc
  split
  · exact Or.inl .one
  · obtain ⟨c, hc, e⟩ := lit_ratio
    rw [lit_max, e, Ideal.div_coe (by norm_num)]
    generalize A.am r = x at h0
    induction x with
    | bot => exact absurd h0 (by simp)
    | top => right; rw [EReal.coe_mul_top_of_pos hc, EReal.top_mul_coe_of_pos (by norm_num)]
    | coe x => left; exact ⟨c * x * (1 / 127), by rw [EReal.coe_mul, EReal.coe_mul]⟩

/-- Where the scale is infinite, the token's codes are zero. -/
theorem q_of_top (A : Arr) (r : Fin 18432) (j : Fin 2560) (h : A.sc r = ⊤) : A.q r j = 0 := by
  unfold Arr.q
  rw [lit_max, lit_min, h]
  have e : Ideal.div (A.xs r j) ⊤ = ((0 : ℝ) : EReal) := by
    rw [Ideal.div, if_neg (by simp), EReal.inv_top, mul_zero]; rfl
  rw [e, Ideal.liftRound_coe, show Ideal.roundHalfEven 0 = 0 by simp [Ideal.roundHalfEven]]
  rw [← EReal.coe_strictMono.monotone.map_max, ← EReal.coe_strictMono.monotone.map_min]
  norm_num

/-- A code is a real whatever the arguments are: it is clipped to [-127, 127]. -/
theorem q_real (A : Arr) (r : Fin 18432) (j : Fin 2560) : IsR (A.q r j) := by
  unfold Arr.q
  rw [lit_max, lit_min]
  generalize Ideal.liftRound Ideal.roundHalfEven (Ideal.div (A.xs r j) (A.sc r)) = x
  induction x with
  | bot => exact ⟨-127, by rw [max_eq_left bot_le, min_eq_right (by exact_mod_cast (by norm_num : (-127 : ℝ) ≤ 127))]⟩
  | top => exact ⟨127, by rw [max_eq_right le_top, min_eq_left le_top]⟩
  | coe r => exact ⟨min 127 (Max.max (-127) r), by rw [EReal.coe_strictMono.monotone.map_min, EReal.coe_strictMono.monotone.map_max]⟩

variable {A : Arr} (h : A.Real)
include h

theorem Real.y (r : Fin 18432) (o : Fin 6912) : IsR (A.y r o) := by
  unfold Arr.y
  rcases A.sc_cases r with hs | hs
  · exact (hs.mul (IsR.sum fun j => (A.q_real r j).mul (h.W o j))).add (h.B o)
  · have e : ∑ j, A.q r j * A.W o j = 0 := Finset.sum_eq_zero fun j _ => by rw [A.q_of_top r j hs, zero_mul]
    rw [e, mul_zero, zero_add]
    exact h.B o

theorem Real.G (r : Fin 18432) (o : Fin 6912) : IsR (A.G r o) := ((h.y r o).sub (h.Y r o)).mul lit_g

/-- The weights' share of the smoothing factor's gradient: first the gradient of every weight, then the sum over the outputs. -/
theorem Real.dsw (j : Fin 2560) : A.dsw j = ∑ o, (∑ r, A.Gx r o * A.q r j) * A.M o j :=
  sum_swap (fun r o => A.Gx r o) (fun o => A.M o j) (fun r => A.q r j)
    (fun r => (A.sc_cases r).imp (fun hs o => (h.G r o).mul hs) fun hs => A.q_of_top r j hs) (fun o => h.M o j) fun r => A.q_real r j

end Arr

end Cert.KernelIdeal.Gen

end
-- ==== Proof.BG.Kernel.lean ====
/- What the kernel that carries the output gradients back to the bias holds after each block of rows, and at the end. -/
module

public import proofs.«01_k».proof.Proof.Gen.BiasGradIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.BiasGradIdeal.Gen

open Idealize.ShloMosaic Idealize.ShloMosaic.TcCoe Idealize.SL.Sem

/-! ## What each point leaves -/

section
variable {F : FTy → Type} [FloatOps F]
variable (m : (ℓ : Loc nD τ sig) → Buf (Elt F) ℓ) (c : Dev nD)

/-- The running sum, in eight rows, after point `n`. -/
def accum (n : ℕ) (h : n < cfg0.N) : Vec F S8x2560 .f32 := (outsAt0 m c n h).2.2

theorem before_lt (t : Fin cfg0.N) : t.val - 1 < cfg0.N := Nat.lt_of_le_of_lt (Nat.sub_le _ _) t.isLt

theorem first_point (t : Fin cfg0.N) (h0 : t.val % 9 = 0) :
    accum m c t.val t.isLt = k0_pay4 (iblk m c 0 t) k0_pay3 (iblk m c 1 t) := by
  unfold accum; rw [outsAt0_A m c t h0 (by omega)]; frame_out

theorem next_point (t : Fin cfg0.N) (h0 : ¬t.val % 9 = 0) :
    accum m c t.val t.isLt = k0_pay4 (iblk m c 0 t) (accum m c (t.val - 1) (before_lt t)) (iblk m c 1 t) := by
  unfold accum
  by_cases h1 : t.val % 9 = 8
  · rw [outsAt0_C m c t h0 h1]; frame_out; rw [read_unread_whole]
  · rw [outsAt0_B m c t h0 h1]; frame_out; rw [read_unread_whole]

/-- The two results, at the last point, are computed from the running sum there. -/
theorem last_sum (t : Fin cfg0.N) (h1 : t.val % 9 = 8) : (outsAt0 m c t.val t.isLt).1 = k0_pay1 (accum m c t.val t.isLt) := by
  rw [next_point m c t (by omega), outsAt0_C m c t (by omega) h1]; frame_out; rw [read_unread_whole]; rfl

theorem last_total (t : Fin cfg0.N) (h1 : t.val % 9 = 8) :
    (outsAt0 m c t.val t.isLt).2.1 = k0_pay2 (accum m c t.val t.isLt) (iblk m c 2 t) := by
  rw [next_point m c t (by omega), outsAt0_C m c t (by omega) h1]; frame_out; rw [read_unread_whole]; rfl

end

/-! ## One block -/

/-- What a block adds to row `i` of the running sum: the product with the block's summed gradients in the first row, nothing in the others. -/
def part (v : Vec Ideal S8x768 .f32) (w : Vec Ideal S768x2560 .bf16) (i : Fin 8) (j : Fin 2560) : EReal :=
  if i.val = 0 then ∑ k : Fin 768, (∑ r : Fin 8, (v (ix2 r k) : EReal)) * w (ix2 k j) else 0

/-- A sum of reals less itself is nothing. -/
theorem sum_sub_self (f : Fin 8 → EReal) (h : ∀ r, f r ≠ ⊤ ∧ f r ≠ ⊥) : (∑ r, f r) - ∑ r, f r = 0 := by
  obtain ⟨x, hx⟩ : ∃ x : ℝ, ∑ r, f r = x :=
    Finset.sum_induction f (fun z => ∃ x : ℝ, z = x) (fun _ _ ⟨x, hx⟩ ⟨y, hy⟩ => ⟨x + y, by rw [hx, hy, EReal.coe_add]⟩) ⟨0, EReal.coe_zero.symm⟩
      (fun r _ => ⟨(f r).toReal, (EReal.coe_toReal (h r).1 (h r).2).symm⟩)
  rw [hx, ← EReal.coe_sub, sub_self, EReal.coe_zero]

/-- A row number against a literal, as the kernel compares them. -/
theorem row_eq (i : Fin 8) (n : ℕ) (hn : n < 8) : IntOp.cmpi CmpIPredicate.eq (BitVec.ofNat 32 i.val) (BitVec.ofNat 32 n) = if i.val = n then 1#1 else 0#1 := by
  have e : (BitVec.ofNat 32 i.val = BitVec.ofNat 32 n) ↔ i.val = n := by
    constructor
    · intro h
      have := congrArg BitVec.toNat h
      rw [BitVec.toNat_ofNat, BitVec.toNat_ofNat] at this
      omega
    · intro h; rw [h]
  by_cases h : i.val = n
  · rw [if_pos h, h]; simp [IntOp.cmpi]
  · rw [if_neg h]
    show BitVec.ofBool (BitVec.ofNat 32 i.val == BitVec.ofNat 32 n) = 0#1
    rw [beq_false_of_ne fun h' => h (e.mp h')]; rfl

theorem pay4_at (v : Vec Ideal S8x768 .f32) (a : Vec Ideal S8x2560 .f32) (w : Vec Ideal S768x2560 .bf16)
    (hv : ∀ r k, (v (ix2 r k) : EReal) ≠ ⊤ ∧ (v (ix2 r k) : EReal) ≠ ⊥) (i : Fin 8) (j : Fin 2560) :
    k0_pay4 v a w (ix2 i j) = (a (ix2 i j) + part v w i j : EReal) := by
  pointwise [k0_pay4]
  refine congrArg (fun z : EReal => a (ix2 i j) + z) ?_
  unfold part
  have hz : ∀ k : Fin 768, (∑ r : Fin 8, (v (ix2 r k) : EReal)) - ∑ r : Fin 8, (v (ix2 r k) : EReal) = 0 :=
    fun k => sum_sub_self (fun r => v (ix2 r k)) fun r => hv r k
  have e0 := row_eq i 0 (by omega)
  have e1 := row_eq i 1 (by omega)
  have e2 := row_eq i 2 (by omega)
  split
  · next h =>
    refine Finset.sum_congr rfl fun k _ => ?_
    rw [e0, if_pos h]; rfl
  · next h =>
    refine Finset.sum_eq_zero fun k _ => ?_
    refine Eq.trans (congrArg (fun z : EReal => z * w (ix2 k j)) ?_) (zero_mul _)
    rw [e0, if_neg h, e1, e2]
    refine Eq.trans (b := Scalar.select (if i.val = 1 then 1#1 else 0#1) (0 : EReal) (Scalar.select (if i.val = 2 then 1#1 else 0#1) (0 : EReal) 0)) ?_ ?_
    · exact congrArg₂ (Scalar.select (if i.val = 1 then 1#1 else 0#1)) (hz k)
        (congrArg (fun z : EReal => Scalar.select (if i.val = 2 then 1#1 else 0#1) z 0) (by rw [hz k]; exact sub_zero _))
    · by_cases h1 : i.val = 1 <;> by_cases h2 : i.val = 2 <;> simp [h1, h2, Scalar.select]

theorem pay1_at (a : Vec Ideal S8x2560 .f32) (j : Fin 2560) : k0_pay1 a (ix2 0 j) = ∑ i : Fin 8, (a (ix2 i j) : EReal) := by
  pointwise [k0_pay1]

theorem pay2_at (a : Vec Ideal S8x2560 .f32) (d : Vec Ideal S1x2560 .f32) (j : Fin 2560) :
    k0_pay2 a d (ix2 0 j) = (d (ix2 0 j) + ∑ i : Fin 8, (a (ix2 i j) : EReal) : EReal) := by
  pointwise [k0_pay2, k0_pay1]

theorem pay3_at (i : Fin 8) (j : Fin 2560) : (k0_pay3 (F := Ideal)) (ix2 i j) = (0 : EReal) := by
  pointwise [k0_pay3]

/-! ## The whole -/

section
variable (m : (ℓ : Loc nD τ sig) → Buf (Elt Ideal) ℓ) (c : Dev nD)

/-- The arrays that the launch finds on core `c`: the output gradients in eight rows, the weights, and the activation part. -/
def gIn (r : Fin 8) (o : Fin 6912) : EReal := (m ((c : Thread nD τ).loc main_arg0) : S8x6912.Idx → EReal) (ix2 r o)
def wIn (o : Fin 6912) (j : Fin 2560) : EReal := (m ((c : Thread nD τ).loc main_arg1) : S6912x2560.Idx → EReal) (ix2 o j)
def dIn (j : Fin 2560) : EReal := (m ((c : Thread nD τ).loc main_arg2) : S1x2560.Idx → EReal) (ix2 0 j)

/-- The bias gradient: the gradients summed over the rows, times the weights. -/
def biasSum (g : Fin 8 → Fin 6912 → EReal) (w : Fin 6912 → Fin 2560 → EReal) (j : Fin 2560) : EReal := ∑ o, (∑ r, g r o) * w o j

theorem index_0 : ∀ t : Fin cfg0.N, win0_0.index t (0 : Fin 2) = 0 ∧ win0_0.index t (1 : Fin 2) = t.val := by decide +kernel
theorem index_1 : ∀ t : Fin cfg0.N, win0_1.index t (0 : Fin 2) = t.val ∧ win0_1.index t (1 : Fin 2) = 0 := by decide +kernel
theorem index_2 : ∀ t : Fin cfg0.N, win0_2.index t (0 : Fin 2) = 0 ∧ win0_2.index t (1 : Fin 2) = 0 := by decide +kernel

theorem lt9 (t : Fin cfg0.N) : t.val < 9 := lt_of_lt_of_eq t.isLt N_0

/-- Output column `k` of block `t`. -/
def outAt (t : Fin cfg0.N) (k : Fin 768) : Fin 6912 := ⟨t.val * 768 + k.val, by have := lt9 t; omega⟩

theorem blk_g (t : Fin cfg0.N) (r : Fin 8) (k : Fin 768) : (iblk m c 0 t : S8x768.Idx → EReal) (ix2 r k) = gIn m c r (outAt t k) := by
  show (m ((c : Thread nD τ).loc main_arg0) : S8x6912.Idx → EReal) (((cfg0.win 0).rect t).emb (ix2 r k)) = (m ((c : Thread nD τ).loc main_arg0) : S8x6912.Idx → EReal) (ix2 r (outAt t k))
  congr 1
  refine Shape.idx_ext₂ ?_ ?_
  · refine (Pipeline.Window.rect_emb_val (cfg0.win 0) t _ 0).trans ?_; rw [(index_0 t).1]; show 0 * 8 + r.val = r.val; omega
  · refine (Pipeline.Window.rect_emb_val (cfg0.win 0) t _ 1).trans ?_; rw [(index_0 t).2]; rfl

theorem blk_w (t : Fin cfg0.N) (k : Fin 768) (j : Fin 2560) : (iblk m c 1 t : S768x2560.Idx → EReal) (ix2 k j) = wIn m c (outAt t k) j := by
  show (m ((c : Thread nD τ).loc main_arg1) : S6912x2560.Idx → EReal) (((cfg0.win 1).rect t).emb (ix2 k j)) = (m ((c : Thread nD τ).loc main_arg1) : S6912x2560.Idx → EReal) (ix2 (outAt t k) j)
  congr 1
  refine Shape.idx_ext₂ ?_ ?_
  · refine (Pipeline.Window.rect_emb_val (cfg0.win 1) t _ 0).trans ?_; rw [(index_1 t).1]; rfl
  · refine (Pipeline.Window.rect_emb_val (cfg0.win 1) t _ 1).trans ?_; rw [(index_1 t).2]; show 0 * 2560 + j.val = j.val; omega

theorem blk_d (t : Fin cfg0.N) (j : Fin 2560) : (iblk m c 2 t : S1x2560.Idx → EReal) (ix2 0 j) = dIn m c j := by
  show (m ((c : Thread nD τ).loc main_arg2) : S1x2560.Idx → EReal) (((cfg0.win 2).rect t).emb (ix2 0 j)) = (m ((c : Thread nD τ).loc main_arg2) : S1x2560.Idx → EReal) (ix2 0 j)
  congr 1
  refine Shape.idx_ext₂ ?_ ?_
  · refine (Pipeline.Window.rect_emb_val (cfg0.win 2) t _ 0).trans ?_; rw [(index_2 t).1]; rfl
  · refine (Pipeline.Window.rect_emb_val (cfg0.win 2) t _ 1).trans ?_; rw [(index_2 t).2]; show 0 * 2560 + j.val = j.val; omega

variable (hg : ∀ r o, gIn m c r o ≠ ⊤ ∧ gIn m c r o ≠ ⊥)
include hg

theorem blk_real (t : Fin cfg0.N) (v : Vec Ideal S8x768 .f32) (hv : v = iblk m c 0 t) (r : Fin 8) (k : Fin 768) :
    (v (ix2 r k) : EReal) ≠ ⊤ ∧ (v (ix2 r k) : EReal) ≠ ⊥ := by
  have e : (v (ix2 r k) : EReal) = gIn m c r (outAt t k) := by rw [hv]; exact blk_g m c t r k
  rw [e]; exact hg _ _

/-- The last point. -/
abbrev tEnd : Fin cfg0.N := ⟨8, by rw [show cfg0.N = 9 from N_0]; decide⟩

/-- The running sum at the end, row by row: what the nine blocks add. -/
theorem accum_end (i : Fin 8) (j : Fin 2560) :
    (accum m c tEnd.val tEnd.isLt (ix2 i j) : EReal) = ∑ t : Fin cfg0.N, part (iblk m c 0 t) (iblk m c 1 t) i j := by
  have e := Pipeline.eq_sum_fin_of_reset_step_apply_last (ι := Fin 8 × Fin 2560) (M := EReal) (fun n h p => (accum m c n h (ix2 p.1 p.2) : EReal)) 9 (fun _ => 0)
    (fun t p => part (iblk m c 0 t) (iblk m c 1 t) p.1 p.2)
    (fun t h p => by
      rw [first_point m c t h]
      exact (pay4_at _ _ _ (blk_real m c hg t _ rfl) p.1 p.2).trans (congrArg (fun z : EReal => z + part (iblk m c 0 t) (iblk m c 1 t) p.1 p.2) (pay3_at p.1 p.2)))
    (fun t h p => by
      rw [next_point m c t h]
      exact pay4_at _ _ _ (blk_real m c hg t _ rfl) p.1 p.2)
    (le_of_eq N_0) tEnd (show (8 : ℕ) + 1 = cfg0.N from N_0.symm) (i, j)
  exact e.trans (zero_add _)

/-- The eight rows of the running sum together are the bias gradient. -/
theorem rows_end (j : Fin 2560) :
    ∑ i : Fin 8, (accum m c tEnd.val tEnd.isLt (ix2 i j) : EReal) = biasSum (gIn m c) (wIn m c) j := by
  rw [Finset.sum_congr rfl fun i _ => accum_end m c hg i j, Finset.sum_comm]
  have hN : cfg0.N = 9 := N_0
  unfold biasSum
  refine Eq.trans (Finset.sum_congr rfl fun t _ => ?_)
    (Fin.sum_mul_add_fin cfg0.N 768 (fun o : Fin 6912 => (∑ r, gIn m c r o) * wIn m c o j) (by rw [hN]))
  refine (Finset.sum_eq_single (0 : Fin 8) (fun i _ hi => if_neg fun h => hi (Fin.ext h)) (fun h => absurd (Finset.mem_univ _) h)).trans ?_
  refine (if_pos rfl).trans (Finset.sum_congr rfl fun k _ => ?_)
  refine congrArg₂ (fun a b : EReal => a * b) (Finset.sum_congr rfl fun r _ => ?_) ?_
  · exact blk_g m c t r k
  · exact blk_w m c t k j

end

/-! ## The results -/

def outBias (g : Fin 8 → Fin 6912 → EReal) (w : Fin 6912 → Fin 2560 → EReal) : S1x2560.Idx → EReal := fun i => biasSum g w (i 1)
def outDelta (g : Fin 8 → Fin 6912 → EReal) (w : Fin 6912 → Fin 2560 → EReal) (d : Fin 2560 → EReal) : S1x2560.Idx → EReal :=
  fun i => d (i 1) + biasSum g w (i 1)

theorem row_idx (i : S1x2560.Idx) : i = (ix2 0 (i 1) : S1x2560.Idx) :=
  Shape.idx_ext₂ (by have : (i 0).val < 1 := (i 0).isLt; show (i 0).val = 0; omega) rfl

section
variable (m : (ℓ : Loc nD τ sig) → Buf (Elt Ideal) ℓ) (ρ : Dev nD → PrngReg)
  (hg : ∀ c r o, gIn m c r o ≠ ⊤ ∧ gIn m c r o ≠ ⊥)
include hg

theorem arr_bias (c : Dev nD) : Value.G3 m c = outBias (gIn m c) (wIn m c) := by
  rw [Value.G3_last, ← Value.outsAt0_sweep m c 8 tEnd.isLt]
  refine (last_sum m c tEnd rfl).trans (funext fun i => ?_)
  exact (congrArg (k0_pay1 (accum m c tEnd.val tEnd.isLt)) (row_idx i)).trans ((pay1_at _ (i 1)).trans (rows_end m c (hg c) (i 1)))

theorem arr_delta (c : Dev nD) : Value.G4 m c = outDelta (gIn m c) (wIn m c) (dIn m c) := by
  rw [Value.G4_last, ← Value.outsAt0_sweep m c 8 tEnd.isLt]
  refine (last_total m c tEnd rfl).trans (funext fun i => ?_)
  refine (congrArg (k0_pay2 (accum m c tEnd.val tEnd.isLt) (iblk m c 2 tEnd)) (row_idx i)).trans ((pay2_at _ _ (i 1)).trans ?_)
  exact congrArg₂ (fun a b : EReal => a + b) (blk_d m c tEnd (i 1)) (rows_end m c (hg c) (i 1))

/-- The kernel runs, and ends with the bias gradient and the shift's gradient, its arguments unchanged. -/
theorem kernel_values : θ_run defs (onTc (τ := τ) (main (F := Ideal))) ⟨m, fun _ => 0, ρ⟩ fun r => ∀ c : Dev nD,
      r.2.mem ((c : Thread nD τ).loc main_v0_0) = outBias (gIn m c) (wIn m c)
      ∧ r.2.mem ((c : Thread nD τ).loc main_v0_1) = outDelta (gIn m c) (wIn m c) (dIn m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr_bias m hg c), (h c).2.1.trans (arr_delta m hg c), (h c).2.2⟩)
    (Value.run m ρ)

end

end Cert.BiasGradIdeal.Gen

end
-- ==== Proof.BG.Ref.lean ====
/- What the reference of the bias gradient computes is the same sum, and what its precondition says of the gradients. -/
module

public import proofs.«01_k».proof.Proof.Gen.BiasGradReferenceIdeal.Run
public import proofs.«01_k».proof.Proof.Gen.BiasGradReferenceIdeal.Read
public import proofs.«01_k».proof.Proof.Gen.Pre_finite
public import proofs.«01_k».proof.Proof.BG.Kernel
public import Idealize.ShloMosaic.Lib.ReduceAll
public import Idealize.ShloMosaic.Lib.Quiescent
public import Idealize.ShloMosaic.Lib.IdealHost

@[expose] public section

set_option maxRecDepth 16384

noncomputable section

namespace Cert.BiasGradReferenceIdeal.Gen

open Idealize.ShloMosaic Idealize.ShloMosaic.TcCoe Idealize.SL.Sem
open Cert.BiasGradReferenceIdeal.Read
open Cert.BiasGradIdeal.Gen (biasSum outBias outDelta)

/-! ## The precondition -/

theorem inf_eq : FloatOps.ofBits (F := Ideal) .f32 0x7F800000#32 = (⊤ : EReal) := by
  show Ideal.ofBits FTy.f32 0x7F800000#32 = ⊤
  simp [Ideal.ofBits, Ideal.ieee]

/-- An extended real whose absolute value is below infinity is a real. -/
theorem real_of_abs (x : EReal) (h : Ideal.cmp .olt (max x (-x)) (⊤ : EReal) = 1#1) : x ≠ ⊤ ∧ x ≠ ⊥ := by
  refine ⟨fun e => ?_, fun e => ?_⟩ <;>
  · subst e; revert h; simp [Ideal.cmp]

/-- Of gradients of which the precondition holds, every one is a real. -/
theorem finite_of_pre (g : FVec Ideal Cert.Pre_finite.S8x6912 .f32) (w : FVec Ideal Cert.Pre_finite.S6912x2560 .bf16) (d : FVec Ideal Cert.Pre_finite.S1x2560 .f32)
    (h : Cert.Pre_finite.fn (F := Ideal) g w d = fun _ => 1#1) (r : Fin 8) (o : Fin 6912) :
    (g (ix2 r o) : EReal) ≠ ⊤ ∧ (g (ix2 r o) : EReal) ≠ ⊥ := by
  have e := congrFun h (Shape.Idx.first Cert.Pre_finite.Gen.h_S_)
  haveI : Subsingleton Cert.Pre_finite.S_.Idx := ⟨fun a b => funext fun i => i.elim0⟩
  have e' := Host.reduce_andi_all _ _ _ _ _ e (ix2 r o)
  refine real_of_abs _ (Eq.trans ?_ e')
  exact congrArg (Ideal.cmp .olt _) inf_eq.symm

/-! ## The results -/

section
variable (x0 : S8x6912.Idx → EReal) (x1 : S6912x2560.Idx → EReal) (x2 : S1x2560.Idx → EReal)

theorem bias_at (i : S1x2560.Idx) :
    val_main_v3 (F := Ideal) x0 x1 i = biasSum (fun r o => x0 (ix2 r o)) (fun o j => x1 (ix2 o j)) (i 1) := by
  rw [val_main_v3_apply, val_main_v2_apply]
  unfold biasSum
  refine Finset.sum_congr rfl fun o _ => ?_
  rw [val_main_v0_apply, val_main_v1_apply, val_main_cst_apply]
  refine congrArg₂ (fun a b : EReal => a * b) ?_ (congrArg x1 (Shape.idx_ext₂ rfl rfl))
  refine Eq.trans (congrArg₂ (fun a b : EReal => a + b) Ideal.ofBits_zero_f32 ?_) (zero_add _)
  exact Finset.sum_congr rfl fun r _ => congrArg x0 (Shape.idx_ext₂ rfl rfl)

theorem res_bias : val_main_v3 (F := Ideal) x0 x1 = outBias (fun r o => x0 (ix2 r o)) (fun o j => x1 (ix2 o j)) :=
  funext fun i => bias_at x0 x1 i

theorem res_delta : val_main_v4 (F := Ideal) x0 x1 x2
    = outDelta (fun r o => x0 (ix2 r o)) (fun o j => x1 (ix2 o j)) (fun j => x2 (ix2 0 j)) :=
  funext fun i => congrArg₂ (fun a b : EReal => a + b) (congrArg x2 (Cert.BiasGradIdeal.Gen.row_idx i)) (bias_at x0 x1 i)
end

section
variable (m : (ℓ : Loc nD τ sig) → Buf (Elt Ideal) ℓ) (ρ : Dev nD → PrngReg)

def gRef (c : Dev nD) (r : Fin 8) (o : Fin 6912) : EReal := (m ((c.tc : Thread nD τ).loc main_arg0) : S8x6912.Idx → EReal) (ix2 r o)
def wRef (c : Dev nD) (o : Fin 6912) (j : Fin 2560) : EReal := (m ((c.tc : Thread nD τ).loc main_arg1) : S6912x2560.Idx → EReal) (ix2 o j)
def dRef (c : Dev nD) (j : Fin 2560) : EReal := (m ((c.tc : Thread nD τ).loc main_arg2) : S1x2560.Idx → EReal) (ix2 0 j)

/-- The reference runs, and leaves its arguments as they were. -/
theorem frame_main :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2.2, sem_eq_zero_of_no_sems (by decide) r.2⟩)
    (Cert.BiasGradReferenceIdeal.Value.run (F := Ideal) m ρ)

/-- The reference runs, and ends with the bias gradient and the shift's gradient, its arguments unchanged. -/
theorem reference_values :
    θ_run (defs (F := Ideal)) (onTc (τ := τ) (main (F := Ideal))) ⟨m, fun _ => 0, ρ⟩ fun r => ∀ c : Dev nD,
      r.2.mem ((c.tc : Thread nD τ).loc main_v3) = outBias (gRef m c) (wRef m c)
      ∧ r.2.mem ((c.tc : Thread nD τ).loc main_v4) = outDelta (gRef m c) (wRef m c) (dRef m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1.trans (val_main_v3_eq _ _)).trans (res_bias _ _),
      ((h c).2.1.trans (val_main_v4_eq _ _ _)).trans (res_delta _ _ _), (h c).2.2⟩)
    (Cert.BiasGradReferenceIdeal.Value.run (F := Ideal) m ρ)

end

end Cert.BiasGradReferenceIdeal.Gen

end
-- ==== Proof.OnReal.lean ====
/- What it means that the mask of the two results that it guards is set: the weights, the masked weights, the targets and the
   shifted bias are reals. -/
module

public import proofs.«01_k».proof.On_real
public import proofs.«01_k».proof.Proof.Real
public import proofs.«01_k».proof.Proof.Ref
public import proofs.«01_k».proof.Proof.BG.Ref

@[expose] public section

set_option maxRecDepth 16384

noncomputable section

namespace Cert.On_real.Gen

open Idealize.ShloMosaic
open Cert.KernelIdeal.Gen (Arr IsR)
open Cert.BiasGradReferenceIdeal.Gen (inf_eq real_of_abs)

/-- The mask's side conditions. -/
instance facts : Cert.On_real.Facts where
  bcast_S_S1x6912 := by decide
  reducesTo_S1x6912_S_d0_1 := by decide
  h_S_ := by decide
  bitsLt_bf16_f32 := by decide
  bcast_S_S6912x2560 := by decide
  reducesTo_S6912x2560_S_d0_1 := by decide
  bcast_S_S18432x6912 := by decide
  reducesTo_S18432x6912_S_d0_1 := by decide
  bcast_S_S18432x2560 := by decide
  bcast_S_S24x1x768 := by decide
  bcast_S_S1x2560 := by decide
  bcast_S_S8x6912 := by decide

theorem and_one : ∀ a b : BitVec 1, a &&& b = 1#1 → a = 1#1 ∧ b = 1#1 := by decide

theorem andi_one {s : Shape} (x y : IVec s 1) (i : s.Idx) (h : andi x y i = 1#1) : x i = 1#1 ∧ y i = 1#1 := and_one _ _ h

/-- An array of which every entry is below infinity in magnitude holds reals. -/
theorem all_real {s : Shape} (x : FVec Ideal s .f32) (d : List (Fin s.rank)) (hr : s.ReducesTo d S_) (hb : S_.BroadcastsInDim s (![] : Fin 0 → Fin s.rank))
    (h0 : 0 < S_.numel) (i : S_.Idx)
    (h : Host.reduce IntOp.andi (cmpf .olt (Host.absf x) (broadcastInDim s ![] hb (constant S_ .f32 0x7F800000#32))) (constantI S_ 1 1#1) hr h0 i = 1#1)
    (a : s.Idx) : IsR (x a) := by
  haveI : Subsingleton S_.Idx := ⟨fun a b => funext fun i => i.elim0⟩
  have e := Host.reduce_andi_all _ _ _ _ _ h a
  refine IsR.of_ne (real_of_abs _ (Eq.trans ?_ e))
  exact congrArg (Ideal.cmp .olt _) inf_eq.symm

section
variable (x0 : FVec Ideal S18432x2560 .bf16) (x1 x2 : FVec Ideal S6912x2560 .bf16) (x3 : FVec Ideal S18432x6912 .bf16)
  (x4 : FVec Ideal S1x6912 .f32) (x5 x6 : FVec Ideal S1x2560 .f32)

/-- The mask, before it is spread over the results it guards. -/
theorem real_of_all (i : S_.Idx)
    (h : andi (andi (andi
      (Host.reduce IntOp.andi (cmpf .olt (Host.absf x4) (broadcastInDim S1x6912 ![] facts.bcast_S_S1x6912 (constant S_ .f32 0x7F800000#32))) (constantI S_ 1 1#1) facts.reducesTo_S1x6912_S_d0_1 facts.h_S_)
      (Host.reduce IntOp.andi (cmpf .olt (Host.absf (extf .f32 x1 facts.bitsLt_bf16_f32)) (broadcastInDim S6912x2560 ![] facts.bcast_S_S6912x2560 (constant S_ .f32 0x7F800000#32))) (constantI S_ 1 1#1) facts.reducesTo_S6912x2560_S_d0_1 facts.h_S_))
      (Host.reduce IntOp.andi (cmpf .olt (Host.absf (extf .f32 x2 facts.bitsLt_bf16_f32)) (broadcastInDim S6912x2560 ![] facts.bcast_S_S6912x2560 (constant S_ .f32 0x7F800000#32))) (constantI S_ 1 1#1) facts.reducesTo_S6912x2560_S_d0_1 facts.h_S_))
      (Host.reduce IntOp.andi (cmpf .olt (Host.absf (extf .f32 x3 facts.bitsLt_bf16_f32)) (broadcastInDim S18432x6912 ![] facts.bcast_S_S18432x6912 (constant S_ .f32 0x7F800000#32))) (constantI S_ 1 1#1) facts.reducesTo_S18432x6912_S_d0_1 facts.h_S_) i = 1#1) :
    (Cert.ReferenceIdeal.Gen.arrOf x0 x1 x2 x3 x4 x5 x6).Real := by
  obtain ⟨h, r3⟩ := andi_one _ _ i h
  obtain ⟨h, r2⟩ := andi_one _ _ i h
  obtain ⟨r4, r1⟩ := andi_one _ _ i h
  exact ⟨fun r j => all_real _ _ _ _ _ i r1 (ix2 r j), fun r j => all_real _ _ _ _ _ i r2 (ix2 r j),
    fun r j => all_real _ _ _ _ _ i r3 (ix2 r j), fun j => all_real _ _ _ _ _ i r4 (ix2 0 j)⟩

/-- Where the mask of the smoothing factor's gradient is set, those arguments are reals. -/
theorem real_ds (i : S1x2560.Idx) (h : (Cert.On_real.fn (F := Ideal) x0 x1 x2 x3 x4 x5 x6).2.2.2.2.1 i = 1#1) :
    (Cert.ReferenceIdeal.Gen.arrOf x0 x1 x2 x3 x4 x5 x6).Real :=
  real_of_all x0 x1 x2 x3 x4 x5 x6 (fun a => a.elim0) ((broadcastInDim_apply _ facts.bcast_S_S1x2560 _ i (fun a => a.elim0) (fun a => a.elim0)).symm.trans h)

/-- Where the mask of the weights' share of it is set, those arguments are reals. -/
theorem real_dsw (i : S1x2560.Idx) (h : (Cert.On_real.fn (F := Ideal) x0 x1 x2 x3 x4 x5 x6).2.2.2.2.2.2.1 i = 1#1) :
    (Cert.ReferenceIdeal.Gen.arrOf x0 x1 x2 x3 x4 x5 x6).Real :=
  real_of_all x0 x1 x2 x3 x4 x5 x6 (fun a => a.elim0) ((broadcastInDim_apply _ facts.bcast_S_S1x2560 _ i (fun a => a.elim0) (fun a => a.elim0)).symm.trans h)
end

end Cert.On_real.Gen

end
-- ==== Proof.QW.Group.lean ====
/- The quantisation of the weights, as mathematics; and what the kernel computes for one group of 128 columns. -/
module

public import proofs.«01_k».proof.Proof.Gen.QuantWIdeal.Skeleton
public import Idealize.ShloMosaic.Lib.Pointwise
public import Idealize.ShloMosaic.Lib.Pipeline.ValueKit

@[expose] public section

set_option maxRecDepth 16384

noncomputable section

namespace Cert.QuantWIdeal.Gen

open Idealize.ShloMosaic Idealize.ShloMosaic.TcCoe

/-- The column at place `l` of group `g`. -/
def lane (g : Fin 20) (l : Fin 128) : Fin 2560 := ⟨128 * g.val + l.val, by omega⟩

/-- The group of a column. -/
def grp (j : Fin 2560) : Fin 20 := ⟨j.val / 128, by omega⟩

/-- The weights and the smoothing factors, as extended reals. -/
structure WArr where
  W : Fin 6912 → Fin 2560 → EReal
  S : Fin 2560 → EReal

namespace WArr

variable (A : WArr)

/-- The smoothed weight. -/
def wt (o : Fin 6912) (j : Fin 2560) : EReal := A.W o j * A.S j

/-- The clipped maximum of a group. -/
def hi (o : Fin 6912) (g : Fin 20) : EReal :=
  Ideal.ofBits FTy.f32 0x3F4CCCCD#32 * Finset.univ.fold max (Ideal.ofBits FTy.f32 0xFF800000#32) fun l => A.wt o (lane g l)

/-- The clipped minimum of a group. -/
def lo (o : Fin 6912) (g : Fin 20) : EReal :=
  Ideal.ofBits FTy.f32 0x3F4CCCCD#32 * Finset.univ.fold min (Ideal.ofBits FTy.f32 0x7F800000#32) fun l => A.wt o (lane g l)

/-- A group's scale. -/
def scale (o : Fin 6912) (g : Fin 20) : EReal :=
  if A.hi o g = A.lo o g then 1 else Ideal.div (A.hi o g - A.lo o g) (Ideal.ofBits FTy.f32 0x41700000#32)

/-- A group's zero point. -/
def zp (o : Fin 6912) (g : Fin 20) : EReal := Ideal.liftRound Ideal.roundHalfEven (Ideal.div (- A.lo o g) (A.scale o g))

/-- A weight in units of its group's scale, from the zero point. -/
def r (o : Fin 6912) (g : Fin 20) (l : Fin 128) : EReal := Ideal.div (A.wt o (lane g l)) (A.scale o g) + A.zp o g

/-- A weight's code, as a number. -/
def q (o : Fin 6912) (g : Fin 20) (l : Fin 128) : EReal :=
  min (Ideal.ofBits FTy.f32 0x41700000#32) (max 0 (Ideal.liftRound Ideal.roundHalfEven (A.r o g l)))

/-- A weight's code, as an integer. -/
def code (o : Fin 6912) (g : Fin 20) (l : Fin 128) : BitVec 8 := (FloatOps.fptosi (F := Ideal) (φ := .f32) 32 (A.q o g l)).setWidth 8

/-- The dequantised weight. -/
def deq (o : Fin 6912) (g : Fin 20) (l : Fin 128) : EReal := (A.q o g l - A.zp o g) * A.scale o g

/-- The weight where it was not clipped, 0 elsewhere. -/
def masked (o : Fin 6912) (g : Fin 20) (l : Fin 128) : EReal :=
  if 0 ≤ A.r o g l ∧ A.r o g l ≤ Ideal.ofBits FTy.f32 0x41700000#32 then A.W o (lane g l) else 0

end WArr

/-- A choice under two comparisons at once. -/
theorem select_and {α : Type} (p q : Prop) [Decidable p] [Decidable q] (a b : α) :
    Scalar.select (IntOp.andi (BitVec.ofBool (decide p)) (BitVec.ofBool (decide q))) a b = if p ∧ q then a else b := by
  by_cases hp : p <;> by_cases hq : q <;> simp [hp, hq, Scalar.select, IntOp.andi]

/-! ## One group of 256 rows -/

section
variable (A : WArr) (R : Fin 256 → Fin 6912) (g : Fin 20) (x : Vec Ideal S256x128 .bf16) (s : Vec Ideal S1x128 .f32)
  (hx : ∀ i l, x (ix2 i l) = A.W (R i) (lane g l)) (hs : ∀ l, s (ix2 0 l) = A.S (lane g l))
include hx hs

theorem pay5_at (i : Fin 256) : k0_pay5 x s (ix2 i 0) = A.lo (R i) g := by
  pointwise [k0_pay5, k0_pay4, k0_pay3]
  simp only [hx, hs]
  rfl

theorem pay6_at (i : Fin 256) : k0_pay6 x s (ix2 i 0) = A.scale (R i) g := by
  pointwise [k0_pay6, k0_pay4, k0_pay3]
  rw [pay5_at A R g x s hx hs]
  simp only [hx, hs]
  rfl

theorem pay7_at (i : Fin 256) : k0_pay7 x s (ix2 i 0) = A.zp (R i) g := by
  pointwise [k0_pay7]
  rw [pay5_at A R g x s hx hs, pay6_at A R g x s hx hs, zero_sub]
  rfl

theorem pay8_at (i : Fin 256) (l : Fin 128) : k0_pay8 x s (ix2 i l) = A.r (R i) g l := by
  pointwise [k0_pay8, k0_pay4, k0_pay3]
  rw [pay7_at A R g x s hx hs, pay6_at A R g x s hx hs, hx, hs]
  rfl

theorem pay9_at (i : Fin 256) (l : Fin 128) : k0_pay9 x s (ix2 i l) = A.q (R i) g l := by
  pointwise [k0_pay9]
  rw [pay8_at A R g x s hx hs]
  rfl

theorem pay10_at (i : Fin 256) (l : Fin 128) : k0_pay10 x s (ix2 i l) = A.code (R i) g l := by
  pointwise [k0_pay10]
  rw [pay9_at A R g x s hx hs]
  rfl

theorem pay14_at (i : Fin 256) (l : Fin 128) : k0_pay14 (k0_pay6 x s) (k0_pay7 x s) (k0_pay9 x s) (ix2 i l) = A.deq (R i) g l := by
  pointwise [k0_pay14]
  rw [pay7_at A R g x s hx hs, pay6_at A R g x s hx hs, pay9_at A R g x s hx hs]
  rfl

theorem pay15_at (i : Fin 256) (l : Fin 128) : k0_pay15 (k0_pay3 x) (k0_pay8 x s) (ix2 i l) = A.masked (R i) g l := by
  pointwise [k0_pay15, k0_pay3]
  rw [pay8_at A R g x s hx hs, hx, select_and]
  rfl
end

end Cert.QuantWIdeal.Gen

end
-- ==== Proof.QW.Kernel.lean ====
/- What the kernel that quantises the weights leaves in its results: the twenty groups of a block put together. -/
module

public import proofs.«01_k».proof.Proof.QW.Group
public import proofs.«01_k».proof.Proof.Gen.QuantWIdeal.Value

@[expose] public section

set_option maxRecDepth 16384

noncomputable section

namespace Cert.QuantWIdeal.Gen

open Idealize.ShloMosaic Idealize.ShloMosaic.TcCoe

/-! ## The twenty groups of a block -/

theorem inbG (g : Fin 20) : ∀ a, (![0, 128 * g.val] : Fin 2 → Nat) a + S256x128.size a ≤ S256x2560.size a
  | ⟨0, _⟩ => by show 0 + 256 ≤ 256; omega
  | ⟨1, _⟩ => by show 128 * g.val + 128 ≤ 2560; omega

theorem inbS (g : Fin 20) : ∀ a, (![0, 128 * g.val] : Fin 2 → Nat) a + S1x128.size a ≤ S1x2560.size a
  | ⟨0, _⟩ => by show 0 + 1 ≤ 1; omega
  | ⟨1, _⟩ => by show 128 * g.val + 128 ≤ 2560; omega

/-- The columns of group `g`, of the block of 256 rows and of the row of factors. -/
abbrev rectG (g : Fin 20) : Rect S256x2560 := Rect.unit (s := S256x2560) ![0, 128 * g.val] S256x128.size (inbG g)
abbrev rectS (g : Fin 20) : Rect S1x2560 := Rect.unit (s := S1x2560) ![0, 128 * g.val] S1x128.size (inbS g)

variable {F : FTy → Type} [FloatOps F]

/-- Group `g` of the weights and of the factors. -/
def wG (x : Vec F S256x2560 .bf16) (g : Fin 20) : Vec F S256x128 .bf16 := View.ld x (rectG g)
def sG (s : Vec F S1x2560 .f32) (g : Fin 20) : Vec F S1x128 .f32 := View.ld s (rectS g)

/-- The group computed `k`-th before the last. -/
def gOf (k : Fin 20) : Fin 20 := ⟨19 - k.val, by omega⟩
def gN (n : ℕ) : Fin 20 := ⟨n % 20, Nat.mod_lt _ (by decide)⟩

variable (x : Vec F S256x2560 .bf16) (s d : Vec F S1x2560 .f32) (b : Vec F S1x256 .f32)

theorem out4_eq : out0_4 x s d b = View.canon (List.ofFn fun k : Fin 20 =>
    (⟨rectG (gOf k), k0_pay10 (wG x (gOf k)) (sG s (gOf k))⟩ : View.Piece (Elt F) S256x2560 .i8)) := rfl

theorem out7_eq : out0_7 x s d b = View.canon (List.ofFn fun k : Fin 20 =>
    (⟨rectG (gOf k), k0_pay14 (k0_pay6 (wG x (gOf k)) (sG s (gOf k))) (k0_pay7 (wG x (gOf k)) (sG s (gOf k))) (k0_pay9 (wG x (gOf k)) (sG s (gOf k)))⟩ :
      View.Piece (Elt F) S256x2560 .bf16)) := rfl

theorem out8_eq : out0_8 x s d b = View.canon (List.ofFn fun k : Fin 20 =>
    (⟨rectG (gOf k), k0_pay15 (k0_pay3 (wG x (gOf k))) (k0_pay8 (wG x (gOf k)) (sG s (gOf k)))⟩ : View.Piece (Elt F) S256x2560 .bf16)) := rfl

/-- A column of 256 values, put on lane `n` of what there was. -/
def onLane (n : ℕ) (v : FVec F S256x1 .f32) (p : FVec F S256x128 .f32) : FVec F S256x128 .f32 :=
  select (cmpi .eq (iota .tc S256x128 32 [1] iota_S256x128_d1_w32) (broadcast S256x128 (BitVec.ofNat 32 n)))
    (broadcastTo S256x128 (shapeCast S256x1 v shapeCasts_S256x1_S256x1) broadcasts_S256x1_S256x128) p

/-- The scales, and the zero points, of the first `n` groups, one to a lane. -/
def scalesTo : ℕ → FVec F S256x128 .f32
  | 0 => k0_pay1
  | n + 1 => onLane n (k0_pay6 (wG x (gN n)) (sG s (gN n))) (scalesTo n)
def zerosTo : ℕ → FVec F S256x128 .f32
  | 0 => k0_pay2
  | n + 1 => onLane n (k0_pay7 (wG x (gN n)) (sG s (gN n))) (zerosTo n)

theorem out5_eq : out0_5 x s d b = View.canon [(⟨r0_40, k0_pay270 (scalesTo x s 20)⟩ : View.Piece (Elt F) S256x20 .f32)] := rfl
theorem out6_eq : out0_6 x s d b = View.canon [(⟨r0_40, k0_pay271 (zerosTo x s 20)⟩ : View.Piece (Elt F) S256x20 .f32)] := rfl

end Cert.QuantWIdeal.Gen

end
-- ==== Proof.QW.Final.lean ====
/- What the arrays of codes, scales, zero points and weights hold at the end. -/
module

public import proofs.«01_k».proof.Proof.QW.Kernel

@[expose] public section

set_option maxRecDepth 16384

noncomputable section

namespace Cert.QuantWIdeal.Gen

open Idealize.ShloMosaic Idealize.ShloMosaic.TcCoe Idealize.SL.Sem

/-- A column's place in its group. -/
def pl (j : Fin 2560) : Fin 128 := ⟨j.val % 128, Nat.mod_lt _ (by decide)⟩

theorem lane_grp_pl (j : Fin 2560) : lane (grp j) (pl j) = j := Fin.ext (by show 128 * (j.val / 128) + j.val % 128 = j.val; omega)

/-- Twenty groups put side by side, at a row and a column. -/
theorem tiles {e : EltTy} (P : Fin 20 → S256x128.Idx → Elt Ideal e) (v : Fin 256 → Fin 20 → Fin 128 → Elt Ideal e)
    (h : ∀ g i l, P g (ix2 i l) = v i g l) (i : Fin 256) (j : Fin 2560) :
    View.canon (List.ofFn fun k : Fin 20 => (⟨rectG (gOf k), P (gOf k)⟩ : View.Piece (Elt Ideal) S256x2560 e)) (ix2 i j) = v i (grp j) (pl j) := by
  refine View.canon_ofFn_unit_eq_of_forall (S := S256x2560) (fun k => ![0, 128 * (gOf k).val]) S256x128.size (fun k => inbG (gOf k))
    (fun k => P (gOf k)) (ix2 i j) _ ⟨⟨19 - j.val / 128, by omega⟩, fun a => ?_⟩ fun k x hx => ?_
  · match a with
    | ⟨0, _⟩ => exact ⟨Nat.zero_le _, by show i.val < 0 + 256; omega⟩
    | ⟨1, _⟩ =>
      constructor
      · show 128 * (19 - (19 - j.val / 128)) ≤ j.val; omega
      · show j.val < 128 * (19 - (19 - j.val / 128)) + 128; omega
  · have h0 : i.val = 0 + (x 0).val := hx 0
    have h1 : j.val = 128 * (gOf k).val + (x 1).val := hx 1
    have hl : (x 1).val < 128 := (x 1).isLt
    have e : x = (ix2 (x 0) (x 1) : S256x128.Idx) := Shape.idx_ext₂ rfl rfl
    refine (congrArg (P (gOf k)) e).trans ((h _ _ _).trans ?_)
    rw [show grp j = gOf k from Fin.ext (by show j.val / 128 = _; omega), show pl j = x 1 from Fin.ext (by show j.val % 128 = _; omega),
      show i = x 0 from Fin.ext (by omega)]

theorem wG_at (x : Vec Ideal S256x2560 .bf16) (g : Fin 20) (i : Fin 256) (l : Fin 128) : wG x g (ix2 i l) = x (ix2 i (lane g l)) :=
  congrArg x (Shape.idx_ext₂ (by show 0 + 1 * i.val = i.val; omega) (by show 128 * g.val + 1 * l.val = 128 * g.val + l.val; omega))

theorem sG_at (s : Vec Ideal S1x2560 .f32) (g : Fin 20) (l : Fin 128) : sG s g (ix2 0 l) = s (ix2 0 (lane g l)) :=
  congrArg s (Shape.idx_ext₂ rfl (by show 128 * g.val + 1 * l.val = 128 * g.val + l.val; omega))

theorem of_ofBool {a b : BitVec 32} (h : BitVec.ofBool (a == b) = 1#1) : a = b := by
  by_cases e : a = b
  · exact e
  · rw [beq_false_of_ne e] at h; exact absurd h (by decide)

theorem first_scales (v : FVec Ideal S256x128 .f32) (i : Fin 256) (g : Fin 20) : k0_pay270 v (ix2 i g) = v (ix2 i ⟨g.val, by omega⟩) := by
  pointwise [k0_pay270]

theorem first_zeros (v : FVec Ideal S256x128 .f32) (i : Fin 256) (g : Fin 20) : k0_pay271 v (ix2 i g) = v (ix2 i ⟨g.val, by omega⟩) := by
  pointwise [k0_pay271]

/-! ## A block's results -/

section
variable (A : WArr) (R : Fin 256 → Fin 6912) (x : Vec Ideal S256x2560 .bf16) (s d : Vec Ideal S1x2560 .f32) (b : Vec Ideal S1x256 .f32)
  (hx : ∀ i j, x (ix2 i j) = A.W (R i) j) (hs : ∀ j, s (ix2 0 j) = A.S j)
include hx hs

theorem wG_arr (g : Fin 20) (i : Fin 256) (l : Fin 128) : wG x g (ix2 i l) = A.W (R i) (lane g l) := (wG_at x g i l).trans (hx _ _)
theorem sG_arr (g : Fin 20) (l : Fin 128) : sG s g (ix2 0 l) = A.S (lane g l) := (sG_at s g l).trans (hs _)

theorem codes_at (i : Fin 256) (j : Fin 2560) : out0_4 x s d b (ix2 i j) = A.code (R i) (grp j) (pl j) := by
  refine (congrFun (out4_eq x s d b) _).trans ?_
  exact tiles (e := .i8) (fun g => k0_pay10 (wG x g) (sG s g)) (fun i g l => A.code (R i) g l)
    (fun g i l => pay10_at A R g _ _ (wG_arr A R x s hx hs g) (sG_arr A R x s hx hs g) i l) i j

theorem deq_at (i : Fin 256) (j : Fin 2560) : out0_7 x s d b (ix2 i j) = A.deq (R i) (grp j) (pl j) := by
  refine (congrFun (out7_eq x s d b) _).trans ?_
  exact tiles (e := .bf16) (fun g => k0_pay14 (k0_pay6 (wG x g) (sG s g)) (k0_pay7 (wG x g) (sG s g)) (k0_pay9 (wG x g) (sG s g))) (fun i g l => A.deq (R i) g l)
    (fun g i l => pay14_at A R g _ _ (wG_arr A R x s hx hs g) (sG_arr A R x s hx hs g) i l) i j

theorem masked_at (i : Fin 256) (j : Fin 2560) : out0_8 x s d b (ix2 i j) = A.masked (R i) (grp j) (pl j) := by
  refine (congrFun (out8_eq x s d b) _).trans ?_
  exact tiles (e := .bf16) (fun g => k0_pay15 (k0_pay3 (wG x g)) (k0_pay8 (wG x g) (sG s g))) (fun i g l => A.masked (R i) g l)
    (fun g i l => pay15_at A R g _ _ (wG_arr A R x s hx hs g) (sG_arr A R x s hx hs g) i l) i j

omit hx hs in
/-- A column put on lane `n`: there it is, elsewhere what there was. -/
theorem onLane_at (n : ℕ) (hn : n < 20) (v : FVec Ideal S256x1 .f32) (p : FVec Ideal S256x128 .f32) (i : Fin 256) (l : Fin 128) :
    onLane n v p (ix2 i l) = if l.val = n then v (ix2 i 0) else p (ix2 i l) := by
  pointwise [onLane]
  have e : (BitVec.ofNat 32 l.val = BitVec.ofNat 32 n) ↔ l.val = n := by
    constructor
    · intro h
      have := congrArg BitVec.toNat h
      rw [BitVec.toNat_ofNat, BitVec.toNat_ofNat] at this
      omega
    · intro h; rw [h]
  by_cases h : l.val = n
  · simp [h, Scalar.select, IntOp.cmpi]
  · rw [if_neg h]; exact if_neg (fun h' => h (e.mp (of_ofBool h')))

theorem scalesTo_at (n : ℕ) (hn : n ≤ 20) (i : Fin 256) (g : Fin 20) (hg : g.val < n) :
    scalesTo x s n (ix2 i ⟨g.val, by omega⟩) = A.scale (R i) g := by
  induction n with
  | zero => omega
  | succ n ih =>
    show onLane n _ _ _ = _
    rw [onLane_at n (by omega)]
    split
    · next h =>
      have e : gN n = g := Fin.ext (by have h' : g.val = n := h; show n % 20 = g.val; omega)
      rw [e]
      exact pay6_at A R g _ _ (wG_arr A R x s hx hs g) (sG_arr A R x s hx hs g) i
    · next h => exact ih (by omega) (by have h' : ¬ g.val = n := h; omega)

theorem zerosTo_at (n : ℕ) (hn : n ≤ 20) (i : Fin 256) (g : Fin 20) (hg : g.val < n) :
    zerosTo x s n (ix2 i ⟨g.val, by omega⟩) = A.zp (R i) g := by
  induction n with
  | zero => omega
  | succ n ih =>
    show onLane n _ _ _ = _
    rw [onLane_at n (by omega)]
    split
    · next h =>
      have e : gN n = g := Fin.ext (by have h' : g.val = n := h; show n % 20 = g.val; omega)
      rw [e]
      exact pay7_at A R g _ _ (wG_arr A R x s hx hs g) (sG_arr A R x s hx hs g) i
    · next h => exact ih (by omega) (by have h' : ¬ g.val = n := h; omega)

theorem scales_at (i : Fin 256) (g : Fin 20) : out0_5 x s d b (ix2 i g) = A.scale (R i) g := by
  rw [out5_eq, View.canon_unit_zero (h := by funext a; fin_cases a <;> rfl)]
  exact (first_scales _ i g).trans (scalesTo_at A R x s hx hs 20 le_rfl i g g.isLt)

theorem zeros_at (i : Fin 256) (g : Fin 20) : out0_6 x s d b (ix2 i g) = A.zp (R i) g := by
  rw [out6_eq, View.canon_unit_zero (h := by funext a; fin_cases a <;> rfl)]
  exact (first_zeros _ i g).trans (zerosTo_at A R x s hx hs 20 le_rfl i g g.isLt)
end

/-! ## The arrays -/

/-- The results, as the mathematics says them. -/
def outCodes (A : WArr) : S6912x2560.Idx → BitVec 8 := fun i => A.code (i 0) (grp (i 1)) (pl (i 1))
def outScales (A : WArr) : S6912x20.Idx → EReal := fun i => A.scale (i 0) (i 1)
def outZeros (A : WArr) : S6912x20.Idx → EReal := fun i => A.zp (i 0) (i 1)
def outDeq (A : WArr) : S6912x2560.Idx → EReal := fun i => A.deq (i 0) (grp (i 1)) (pl (i 1))
def outMasked (A : WArr) : S6912x2560.Idx → EReal := fun i => A.masked (i 0) (grp (i 1)) (pl (i 1))

/-- Row `i` of the block at `t`. -/
def wrow (t : Fin cfg0.N) (i : Fin 256) : Fin 6912 :=
  ⟨256 * t.val + i.val, by have := Nat.lt_of_lt_of_eq t.isLt N_0; have : t.val < 27 := this; omega⟩

theorem index_0 : ∀ t : Fin cfg0.N, (cfg0.win 0).index t 0 = t.val ∧ (cfg0.win 0).index t 1 = 0 := by decide +kernel
theorem index_1 : ∀ t : Fin cfg0.N, (cfg0.win 1).index t 0 = 0 ∧ (cfg0.win 1).index t 1 = 0 := by decide +kernel
theorem index_4 : ∀ t : Fin cfg0.N, (cfg0.win 4).index t 0 = t.val ∧ (cfg0.win 4).index t 1 = 0 := by decide +kernel
theorem index_5 : ∀ t : Fin cfg0.N, (cfg0.win 5).index t 0 = t.val ∧ (cfg0.win 5).index t 1 = 0 := by decide +kernel
theorem index_6 : ∀ t : Fin cfg0.N, (cfg0.win 6).index t 0 = t.val ∧ (cfg0.win 6).index t 1 = 0 := by decide +kernel
theorem index_7 : ∀ t : Fin cfg0.N, (cfg0.win 7).index t 0 = t.val ∧ (cfg0.win 7).index t 1 = 0 := by decide +kernel
theorem index_8 : ∀ t : Fin cfg0.N, (cfg0.win 8).index t 0 = t.val ∧ (cfg0.win 8).index t 1 = 0 := by decide +kernel
theorem covers_4 : (cfg0.win 4).Covers := by decide +kernel
theorem covers_5 : (cfg0.win 5).Covers := by decide +kernel
theorem covers_6 : (cfg0.win 6).Covers := by decide +kernel
theorem covers_7 : (cfg0.win 7).Covers := by decide +kernel
theorem covers_8 : (cfg0.win 8).Covers := by decide +kernel

section
variable (m : (ℓ : Loc nD τ sig) → Buf (Elt Ideal) ℓ) (c : Dev nD)

/-- The arrays that the launch finds on core `c`. -/
def warrs : WArr where
  W r j := (m ((c : Thread nD τ).loc main_arg0) : S6912x2560.Idx → EReal) (ix2 r j)
  S j := (m ((c : Thread nD τ).loc main_arg1) : S1x2560.Idx → EReal) (ix2 0 j)

theorem blk_w (t : Fin cfg0.N) (i : Fin 256) (j : Fin 2560) :
    (iblk m c 0 t : S256x2560.Idx → EReal) (ix2 i j) = (warrs m c).W (wrow t i) j := by
  show (m ((c : Thread nD τ).loc main_arg0) : S6912x2560.Idx → EReal) (((cfg0.win 0).rect t).emb (ix2 i j)) = (m ((c : Thread nD τ).loc main_arg0) : S6912x2560.Idx → EReal) (ix2 (wrow t i) j)
  congr 1
  refine Shape.idx_ext₂ ?_ ?_
  · refine (Pipeline.Window.rect_emb_val (cfg0.win 0) t _ 0).trans ?_; rw [(index_0 t).1]; show t.val * 256 + i.val = 256 * t.val + i.val; omega
  · refine (Pipeline.Window.rect_emb_val (cfg0.win 0) t _ 1).trans ?_; rw [(index_0 t).2]; show 0 * 2560 + j.val = j.val; omega

theorem blk_s (t : Fin cfg0.N) (j : Fin 2560) : (iblk m c 1 t : S1x2560.Idx → EReal) (ix2 0 j) = (warrs m c).S j := by
  show (m ((c : Thread nD τ).loc main_arg1) : S1x2560.Idx → EReal) (((cfg0.win 1).rect t).emb (ix2 0 j)) = (m ((c : Thread nD τ).loc main_arg1) : S1x2560.Idx → EReal) (ix2 0 j)
  congr 1
  refine Shape.idx_ext₂ ?_ ?_
  · refine (Pipeline.Window.rect_emb_val (cfg0.win 1) t _ 0).trans ?_; rw [(index_1 t).1]; rfl
  · refine (Pipeline.Window.rect_emb_val (cfg0.win 1) t _ 1).trans ?_; rw [(index_1 t).2]; show 0 * 2560 + j.val = j.val; omega

/-- The codes at the end. -/
theorem arr_codes : (dats m 0 c).arrAt 4 cfg0.N = outCodes (warrs m c) := by
  refine (dats m 0 c).arrAt_eq_of_covers 4 _ covers_4 fun t hf y => ?_
  refine Eq.trans (congrFun (after0_4 m c t) y) ?_
  have e : y = (ix2 (y 0) (y 1) : S256x2560.Idx) := Shape.idx_ext₂ rfl rfl
  refine (congrArg (out0_4 (iblk m c 0 t) (iblk m c 1 t) (iblk m c 2 t) (iblk m c 3 t)) e).trans
    ((codes_at (warrs m c) (wrow t) _ _ _ _ (blk_w m c t) (blk_s m c t) (y 0) (y 1)).trans ?_)
  refine congrArg₂ (fun a b => (warrs m c).code a (grp b) (pl b)) (Fin.ext ?_) (Fin.ext ?_)
  · refine Eq.trans ?_ (Pipeline.Window.rect_emb_val (cfg0.win 4) t y 0).symm
    rw [(index_4 t).1]; show 256 * t.val + (y 0).val = t.val * 256 + (y 0).val; omega
  · refine Eq.trans ?_ (Pipeline.Window.rect_emb_val (cfg0.win 4) t y 1).symm
    rw [(index_4 t).2]; show (y 1).val = 0 * 2560 + (y 1).val; omega

/-- The scales at the end. -/
theorem arr_scales : (dats m 0 c).arrAt 5 cfg0.N = outScales (warrs m c) := by
  refine (dats m 0 c).arrAt_eq_of_covers 5 _ covers_5 fun t hf y => ?_
  refine Eq.trans (congrFun (after0_5 m c t) y) ?_
  have e : y = (ix2 (y 0) (y 1) : S256x20.Idx) := Shape.idx_ext₂ rfl rfl
  refine (congrArg (out0_5 (iblk m c 0 t) (iblk m c 1 t) (iblk m c 2 t) (iblk m c 3 t)) e).trans
    ((scales_at (warrs m c) (wrow t) _ _ _ _ (blk_w m c t) (blk_s m c t) (y 0) (y 1)).trans ?_)
  refine congrArg₂ (fun a b => (warrs m c).scale a b) (Fin.ext ?_) (Fin.ext ?_)
  · refine Eq.trans ?_ (Pipeline.Window.rect_emb_val (cfg0.win 5) t y 0).symm
    rw [(index_5 t).1]; show 256 * t.val + (y 0).val = t.val * 256 + (y 0).val; omega
  · refine Eq.trans ?_ (Pipeline.Window.rect_emb_val (cfg0.win 5) t y 1).symm
    rw [(index_5 t).2]; show (y 1).val = 0 * 20 + (y 1).val; omega

/-- The zero points at the end. -/
theorem arr_zeros : (dats m 0 c).arrAt 6 cfg0.N = outZeros (warrs m c) := by
  refine (dats m 0 c).arrAt_eq_of_covers 6 _ covers_6 fun t hf y => ?_
  refine Eq.trans (congrFun (after0_6 m c t) y) ?_
  have e : y = (ix2 (y 0) (y 1) : S256x20.Idx) := Shape.idx_ext₂ rfl rfl
  refine (congrArg (out0_6 (iblk m c 0 t) (iblk m c 1 t) (iblk m c 2 t) (iblk m c 3 t)) e).trans
    ((zeros_at (warrs m c) (wrow t) _ _ _ _ (blk_w m c t) (blk_s m c t) (y 0) (y 1)).trans ?_)
  refine congrArg₂ (fun a b => (warrs m c).zp a b) (Fin.ext ?_) (Fin.ext ?_)
  · refine Eq.trans ?_ (Pipeline.Window.rect_emb_val (cfg0.win 6) t y 0).symm
    rw [(index_6 t).1]; show 256 * t.val + (y 0).val = t.val * 256 + (y 0).val; omega
  · refine Eq.trans ?_ (Pipeline.Window.rect_emb_val (cfg0.win 6) t y 1).symm
    rw [(index_6 t).2]; show (y 1).val = 0 * 20 + (y 1).val; omega

/-- The dequantised weights at the end. -/
theorem arr_deq : (dats m 0 c).arrAt 7 cfg0.N = outDeq (warrs m c) := by
  refine (dats m 0 c).arrAt_eq_of_covers 7 _ covers_7 fun t hf y => ?_
  refine Eq.trans (congrFun (after0_7 m c t) y) ?_
  have e : y = (ix2 (y 0) (y 1) : S256x2560.Idx) := Shape.idx_ext₂ rfl rfl
  refine (congrArg (out0_7 (iblk m c 0 t) (iblk m c 1 t) (iblk m c 2 t) (iblk m c 3 t)) e).trans
    ((deq_at (warrs m c) (wrow t) _ _ _ _ (blk_w m c t) (blk_s m c t) (y 0) (y 1)).trans ?_)
  refine congrArg₂ (fun a b => (warrs m c).deq a (grp b) (pl b)) (Fin.ext ?_) (Fin.ext ?_)
  · refine Eq.trans ?_ (Pipeline.Window.rect_emb_val (cfg0.win 7) t y 0).symm
    rw [(index_7 t).1]; show 256 * t.val + (y 0).val = t.val * 256 + (y 0).val; omega
  · refine Eq.trans ?_ (Pipeline.Window.rect_emb_val (cfg0.win 7) t y 1).symm
    rw [(index_7 t).2]; show (y 1).val = 0 * 2560 + (y 1).val; omega

/-- The masked weights at the end. -/
theorem arr_masked : (dats m 0 c).arrAt 8 cfg0.N = outMasked (warrs m c) := by
  refine (dats m 0 c).arrAt_eq_of_covers 8 _ covers_8 fun t hf y => ?_
  refine Eq.trans (congrFun (after0_8 m c t) y) ?_
  have e : y = (ix2 (y 0) (y 1) : S256x2560.Idx) := Shape.idx_ext₂ rfl rfl
  refine (congrArg (out0_8 (iblk m c 0 t) (iblk m c 1 t) (iblk m c 2 t) (iblk m c 3 t)) e).trans
    ((masked_at (warrs m c) (wrow t) _ _ _ _ (blk_w m c t) (blk_s m c t) (y 0) (y 1)).trans ?_)
  refine congrArg₂ (fun a b => (warrs m c).masked a (grp b) (pl b)) (Fin.ext ?_) (Fin.ext ?_)
  · refine Eq.trans ?_ (Pipeline.Window.rect_emb_val (cfg0.win 8) t y 0).symm
    rw [(index_8 t).1]; show 256 * t.val + (y 0).val = t.val * 256 + (y 0).val; omega
  · refine Eq.trans ?_ (Pipeline.Window.rect_emb_val (cfg0.win 8) t y 1).symm
    rw [(index_8 t).2]; show (y 1).val = 0 * 2560 + (y 1).val; omega
end

end Cert.QuantWIdeal.Gen

end
-- ==== Proof.QW.Shift.lean ====
/- The shifted bias: the kernel splits the shift into three rows of a product, and the first of them is all of it where the shift
   is real. Then the run of the kernel, with all six results. -/
module

public import proofs.«01_k».proof.Proof.QW.Final
public import proofs.«01_k».proof.Proof.BG.Kernel

@[expose] public section

set_option maxRecDepth 16384

noncomputable section

namespace Cert.QuantWIdeal.Gen

open Idealize.ShloMosaic Idealize.ShloMosaic.TcCoe Idealize.SL.Sem
open Cert.BiasGradIdeal.Gen (row_eq)

/-- The bias of an output, and the product of its weights with the shift. -/
def shifted (w : Fin 6912 → Fin 2560 → EReal) (d : Fin 2560 → EReal) (b : Fin 6912 → EReal) (o : Fin 6912) : EReal :=
  b o + ∑ j, w o j * d j

/-- Row `r` of the product that the kernel takes: the weights with the shift in the first row, nothing in the others. -/
def shiftRow (d : Vec Ideal S1x2560 .f32) (w : Vec Ideal S256x2560 .bf16) (r : Fin 8) (i : Fin 256) : EReal :=
  if r.val = 0 then ∑ j : Fin 2560, w (ix2 i j) * d (ix2 0 j) else 0

theorem pay272_at (d : Vec Ideal S1x2560 .f32) (w : Vec Ideal S256x2560 .bf16) (b : Vec Ideal S1x256 .f32)
    (hd : ∀ j, (d (ix2 0 j) : EReal) ≠ ⊤ ∧ (d (ix2 0 j) : EReal) ≠ ⊥) (i : Fin 256) :
    k0_pay272 d w b (ix2 0 i) = (b (ix2 0 i) + ∑ r : Fin 8, shiftRow d w r i : EReal) := by
  pointwise [k0_pay272]
  refine congrArg (fun z : EReal => b (ix2 0 i) + z) (Finset.sum_congr rfl fun r _ => ?_)
  unfold shiftRow
  have hz : ∀ j : Fin 2560, (d (ix2 0 j) : EReal) - d (ix2 0 j) = 0 := fun j => EReal.sub_self (hd j).1 (hd j).2
  have e0 := row_eq r 0 (by omega)
  have e1 := row_eq r 1 (by omega)
  have e2 := row_eq r 2 (by omega)
  split
  · next h =>
    refine Finset.sum_congr rfl fun j _ => ?_
    rw [e0, if_pos h]; exact mul_comm _ _
  · next h =>
    refine Finset.sum_eq_zero fun j _ => ?_
    refine Eq.trans (congrArg (fun z : EReal => z * w (ix2 i j)) ?_) (zero_mul _)
    rw [e0, if_neg h, e1, e2]
    refine Eq.trans (b := Scalar.select (if r.val = 1 then 1#1 else 0#1) (0 : EReal) (Scalar.select (if r.val = 2 then 1#1 else 0#1) (0 : EReal) 0)) ?_ ?_
    · exact congrArg₂ (Scalar.select (if r.val = 1 then 1#1 else 0#1)) (hz j)
        (congrArg (fun z : EReal => Scalar.select (if r.val = 2 then 1#1 else 0#1) z 0) (by rw [hz j]; exact sub_zero _))
    · by_cases h1 : r.val = 1 <;> by_cases h2 : r.val = 2 <;> simp [h1, h2, Scalar.select]

/-- Of the eight rows only the first counts. -/
theorem rows_sum (d : Vec Ideal S1x2560 .f32) (w : Vec Ideal S256x2560 .bf16) (i : Fin 256) :
    ∑ r : Fin 8, shiftRow d w r i = ∑ j : Fin 2560, (w (ix2 i j) * d (ix2 0 j) : EReal) :=
  (Finset.sum_eq_single (0 : Fin 8) (fun r _ hr => if_neg fun h => hr (Fin.ext h)) (fun h => absurd (Finset.mem_univ _) h)).trans (if_pos rfl)

theorem out9_eq (x : Vec Ideal S256x2560 .bf16) (s d : Vec Ideal S1x2560 .f32) (b : Vec Ideal S1x256 .f32) :
    out0_9 x s d b = k0_pay272 d x b := by
  unfold out0_9
  rw [View.canon_unit_zero (h := by funext a; fin_cases a <;> rfl)]
  congr 1 <;> exact View.ld_unit_zero (h := by funext a; fin_cases a <;> rfl) ..

/-! ## The array -/

/-- The result, as the mathematics says it. -/
def outShift (w : Fin 6912 → Fin 2560 → EReal) (d : Fin 2560 → EReal) (b : Fin 6912 → EReal) : S1x6912.Idx → EReal :=
  fun i => shifted w d b (i 1)

theorem index_2 : ∀ t : Fin cfg0.N, (cfg0.win 2).index t 0 = 0 ∧ (cfg0.win 2).index t 1 = 0 := by decide +kernel
theorem index_3 : ∀ t : Fin cfg0.N, (cfg0.win 3).index t 0 = 0 ∧ (cfg0.win 3).index t 1 = t.val := by decide +kernel
theorem index_9 : ∀ t : Fin cfg0.N, (cfg0.win 9).index t 0 = 0 ∧ (cfg0.win 9).index t 1 = t.val := by decide +kernel
theorem covers_9 : (cfg0.win 9).Covers := by decide +kernel

section
variable (m : (ℓ : Loc nD τ sig) → Buf (Elt Ideal) ℓ) (c : Dev nD)

/-- The shift and the bias that the launch finds on core `c`. -/
def dIn (j : Fin 2560) : EReal := (m ((c : Thread nD τ).loc main_arg2) : S1x2560.Idx → EReal) (ix2 0 j)
def bIn (o : Fin 6912) : EReal := (m ((c : Thread nD τ).loc main_arg3) : S1x6912.Idx → EReal) (ix2 0 o)

theorem blk_d (t : Fin cfg0.N) (j : Fin 2560) : (iblk m c 2 t : S1x2560.Idx → EReal) (ix2 0 j) = dIn m c j := by
  show (m ((c : Thread nD τ).loc main_arg2) : S1x2560.Idx → EReal) (((cfg0.win 2).rect t).emb (ix2 0 j)) = (m ((c : Thread nD τ).loc main_arg2) : S1x2560.Idx → EReal) (ix2 0 j)
  congr 1
  refine Shape.idx_ext₂ ?_ ?_
  · refine (Pipeline.Window.rect_emb_val (cfg0.win 2) t _ 0).trans ?_; rw [(index_2 t).1]; rfl
  · refine (Pipeline.Window.rect_emb_val (cfg0.win 2) t _ 1).trans ?_; rw [(index_2 t).2]; show 0 * 2560 + j.val = j.val; omega

theorem blk_b (t : Fin cfg0.N) (i : Fin 256) : (iblk m c 3 t : S1x256.Idx → EReal) (ix2 0 i) = bIn m c (wrow t i) := by
  show (m ((c : Thread nD τ).loc main_arg3) : S1x6912.Idx → EReal) (((cfg0.win 3).rect t).emb (ix2 0 i)) = (m ((c : Thread nD τ).loc main_arg3) : S1x6912.Idx → EReal) (ix2 0 (wrow t i))
  congr 1
  refine Shape.idx_ext₂ ?_ ?_
  · refine (Pipeline.Window.rect_emb_val (cfg0.win 3) t _ 0).trans ?_; rw [(index_3 t).1]; rfl
  · refine (Pipeline.Window.rect_emb_val (cfg0.win 3) t _ 1).trans ?_; rw [(index_3 t).2]; show t.val * 256 + i.val = 256 * t.val + i.val; omega

variable (hd : ∀ j, dIn m c j ≠ ⊤ ∧ dIn m c j ≠ ⊥)
include hd

theorem shift_at (t : Fin cfg0.N) (i : Fin 256) :
    (out0_9 (iblk m c 0 t) (iblk m c 1 t) (iblk m c 2 t) (iblk m c 3 t) : S1x256.Idx → EReal) (ix2 0 i) = shifted (warrs m c).W (dIn m c) (bIn m c) (wrow t i) := by
  refine (congrFun (out9_eq _ _ _ _) _).trans ((pay272_at _ _ _ (fun j => ?_) i).trans ?_)
  · have e := blk_d m c t j
    exact ⟨fun h => (hd j).1 (e.symm.trans h), fun h => (hd j).2 (e.symm.trans h)⟩
  · rw [rows_sum]
    exact congrArg₂ (fun a b : EReal => a + b) (blk_b m c t i)
      (Finset.sum_congr rfl fun j _ => congrArg₂ (fun a b : EReal => a * b) (blk_w m c t i j) (blk_d m c t j))

/-- The shifted bias at the end, where the shift is real. -/
theorem arr_shift : (dats m 0 c).arrAt 9 cfg0.N = outShift (warrs m c).W (dIn m c) (bIn m c) := by
  refine (dats m 0 c).arrAt_eq_of_covers 9 _ covers_9 fun t hf y => ?_
  refine Eq.trans (congrFun (after0_9 m c t) y) ?_
  have e : y = (ix2 0 (y 1) : S1x256.Idx) := Shape.idx_ext₂ (by have : (y 0).val < 1 := (y 0).isLt; show (y 0).val = 0; omega) rfl
  refine (congrArg (out0_9 (iblk m c 0 t) (iblk m c 1 t) (iblk m c 2 t) (iblk m c 3 t)) e).trans ((shift_at m c hd t (y 1)).trans ?_)
  refine congrArg (shifted (warrs m c).W (dIn m c) (bIn m c)) (Fin.ext ?_)
  refine Eq.trans ?_ (Pipeline.Window.rect_emb_val (cfg0.win 9) t y 1).symm
  rw [(index_9 t).2]; show 256 * t.val + (y 1).val = t.val * 256 + (y 1).val; omega
end

/-- THE KERNEL: every execution ends with the first five results at what the mathematics says, and the sixth where the shift is
    real, and the arguments unchanged. -/
theorem kernel_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = outCodes (warrs m c)
      ∧ r.2.mem ((c.tc : Thread nD τ).loc main_v0_1) = outScales (warrs m c)
      ∧ r.2.mem ((c.tc : Thread nD τ).loc main_v0_2) = outZeros (warrs m c)
      ∧ r.2.mem ((c.tc : Thread nD τ).loc main_v0_3) = outDeq (warrs m c)
      ∧ r.2.mem ((c.tc : Thread nD τ).loc main_v0_4) = outMasked (warrs m c)
      ∧ ((∀ j, dIn m c j ≠ ⊤ ∧ dIn m c j ≠ ⊥) → r.2.mem ((c.tc : Thread nD τ).loc main_v0_5) = outShift (warrs m c).W (dIn m c) (bIn m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (arr_codes m c), (h c).2.1.trans (arr_scales m c), (h c).2.2.1.trans (arr_zeros m c),
    (h c).2.2.2.1.trans (arr_deq m c), (h c).2.2.2.2.1.trans (arr_masked m c), fun hd => (h c).2.2.2.2.2.1.trans (arr_shift m c hd),
    (h c).2.2.2.2.2.2⟩) (Cert.QuantWIdeal.Value.run_blocks m ρ)

end Cert.QuantWIdeal.Gen

end
-- ==== Proof.QW.Ref.lean ====
/- The quantisation of the weights as the reference states it is the same mathematics, entry by entry. -/
module

public import proofs.«01_k».proof.Proof.Gen.QuantWReferenceIdeal.Run
public import proofs.«01_k».proof.Proof.Gen.QuantWReferenceIdeal.Read
public import proofs.«01_k».proof.Proof.QW.Shift
public import proofs.«01_k».proof.Proof.BG.Ref
public import proofs.«01_k».proof.On_real_shift
public import Idealize.ShloMosaic.Lib.Quiescent
public import Idealize.ShloMosaic.Lib.IdealHost

@[expose] public section

set_option maxRecDepth 16384

noncomputable section

namespace Cert.QuantWReferenceIdeal.Gen

open Idealize.ShloMosaic Idealize.ShloMosaic.TcCoe Idealize.SL.Sem
open Cert.QuantWReferenceIdeal.Read
open Cert.QuantWIdeal.Gen (WArr lane grp pl lane_grp_pl select_and outCodes outScales outZeros outDeq outMasked shifted outShift)
open Cert.BiasGradReferenceIdeal.Gen (inf_eq real_of_abs)

section
variable (x0 : S6912x2560.Idx → EReal) (x1 : S1x2560.Idx → EReal)

/-- The arrays, by row and column. -/
def warrOf : WArr where
  W r j := x0 (ix2 r j)
  S j := x1 (ix2 0 j)

theorem e0 : FloatOps.ofBits (F := Ideal) .f32 0x00000000#32 = 0 := Ideal.ofBits_zero_f32
theorem e1 : FloatOps.ofBits (F := Ideal) .f32 0x3F800000#32 = 1 := Ideal.ofBits_one_f32

theorem wt_at (o : Fin 6912) (g : Fin 20) (l : Fin 128) :
    val_main_v3 (F := Ideal) x0 x1 (ix3 o g l) = (warrOf x0 x1).wt o (lane g l) := by
  rw [val_main_v3_apply, val_main_v2_apply, val_main_v0_apply, val_main_v1_apply]
  have e : idx_main_v3 (ix3 o g l) = (ix2 o (lane g l) : S6912x2560.Idx) := Shape.idx_ext₂
    (by show ((o.val * 20 + g.val) * 128 + l.val) / 2560 = o.val; omega)
    (by show ((o.val * 20 + g.val) * 128 + l.val) % 2560 = 128 * g.val + l.val; omega)
  rw [e, show idx_main_v1 (ix2 o (lane g l)) = (ix2 0 (lane g l) : S1x2560.Idx) from Shape.idx_ext₂ rfl rfl]
  rfl

theorem hi_at (o : Fin 6912) (g : Fin 20) : val_main_v6 (F := Ideal) x0 x1 (ix2 o g) = (warrOf x0 x1).hi o g := by
  rw [val_main_v6_apply, val_main_v5_apply, val_main_cst_0_apply]
  unfold WArr.hi
  refine congrArg (fun z : EReal => Ideal.ofBits FTy.f32 0x3F4CCCCD#32 * z) ?_
  pointwise [val_main_v4]
  refine congrArg₂ (fun a b => Finset.univ.fold max a b) rfl (funext fun l => ?_)
  exact wt_at x0 x1 o g l

theorem lo_at (o : Fin 6912) (g : Fin 20) : val_main_v9 (F := Ideal) x0 x1 (ix2 o g) = (warrOf x0 x1).lo o g := by
  rw [val_main_v9_apply, val_main_v8_apply, val_main_cst_2_apply]
  unfold WArr.lo
  refine congrArg (fun z : EReal => Ideal.ofBits FTy.f32 0x3F4CCCCD#32 * z) ?_
  pointwise [val_main_v7]
  refine congrArg₂ (fun a b => Finset.univ.fold min a b) rfl (funext fun l => ?_)
  exact wt_at x0 x1 o g l

theorem scale_at (o : Fin 6912) (g : Fin 20) : val_main_v14 (F := Ideal) x0 x1 (ix2 o g) = (warrOf x0 x1).scale o g := by
  rw [val_main_v14_apply, val_main_v10_apply, val_main_call0_v1_apply, val_main_call0_v0_apply, val_main_cst_4_apply, val_main_v13_apply,
    val_main_v11_apply, val_main_v12_apply, val_main_cst_3_apply, hi_at, lo_at, e1]
  unfold WArr.scale
  pointwise []

theorem zp_at (o : Fin 6912) (g : Fin 20) : val_main_v17 (F := Ideal) x0 x1 (ix2 o g) = (warrOf x0 x1).zp o g := by
  rw [val_main_v17_apply, val_main_v16_apply, val_main_v15_apply, lo_at, scale_at]
  rfl

theorem r_at (o : Fin 6912) (g : Fin 20) (l : Fin 128) : val_main_v23 (F := Ideal) x0 x1 (ix3 o g l) = (warrOf x0 x1).r o g l := by
  rw [val_main_v23_apply, val_main_v20_apply, val_main_v19_apply, val_main_v18_apply, val_main_v22_apply, val_main_v21_apply, wt_at,
    show idx_main_v18 (idx_main_v19 (ix3 o g l)) = (ix2 o g : S6912x20.Idx) from Shape.idx_ext₂ rfl rfl,
    show idx_main_v21 (idx_main_v22 (ix3 o g l)) = (ix2 o g : S6912x20.Idx) from Shape.idx_ext₂ rfl rfl, scale_at, zp_at]
  rfl

theorem q_at (o : Fin 6912) (g : Fin 20) (l : Fin 128) : val_main_v25 (F := Ideal) x0 x1 (ix3 o g l) = (warrOf x0 x1).q o g l := by
  rw [val_main_v25_apply, val_main_call3_v4_apply, val_main_call3_v3_apply, val_main_cst_6_apply, val_main_call3_v2_apply,
    val_main_call3_v1_apply, val_main_call3_v0_apply, val_main_cst_5_apply, val_main_v24_apply, r_at, e0]
  rfl

theorem deq_at (o : Fin 6912) (g : Fin 20) (l : Fin 128) : val_main_v36 (F := Ideal) x0 x1 (ix3 o g l) = (warrOf x0 x1).deq o g l := by
  rw [val_main_v36_apply, val_main_v32_apply, val_main_v28_apply, val_main_v31_apply, val_main_v30_apply, val_main_v29_apply,
    val_main_v35_apply, val_main_v34_apply, val_main_v33_apply, q_at,
    show idx_main_v30 (idx_main_v31 (ix3 o g l)) = (ix2 o g : S6912x20.Idx) from Shape.idx_ext₂ rfl rfl,
    show idx_main_v34 (idx_main_v35 (ix3 o g l)) = (ix2 o g : S6912x20.Idx) from Shape.idx_ext₂ rfl rfl, scale_at, zp_at]
  rfl

/-- A column's group and place in it, from its place in the flat array. -/
theorem place (o : Fin 6912) (j : Fin 2560) (a : S6912x20x128.Idx) (h0 : (a 0).val = (o.val * 2560 + j.val) / 2560)
    (h1 : (a 1).val = (o.val * 2560 + j.val) / 128 % 20) (h2 : (a 2).val = (o.val * 2560 + j.val) % 128) :
    a = ix3 o (grp j) (pl j) := by
  refine funext fun b => Fin.ext ?_
  match b with
  | ⟨0, _⟩ => refine h0.trans ?_; show _ = o.val; omega
  | ⟨1, _⟩ => refine h1.trans ?_; show _ = j.val / 128; omega
  | ⟨2, _⟩ => refine h2.trans ?_; show _ = j.val % 128; omega

theorem code_at (o : Fin 6912) (j : Fin 2560) : val_main_v49 (F := Ideal) x0 x1 (ix2 o j) = (warrOf x0 x1).code o (grp j) (pl j) := by
  rw [val_main_v49_apply, place o j (idx_main_v49 (ix2 o j)) rfl rfl rfl, val_main_v27_apply, val_main_v26_apply, q_at]
  rfl

theorem deq_flat_at (o : Fin 6912) (j : Fin 2560) : val_main_v50 (F := Ideal) x0 x1 (ix2 o j) = (warrOf x0 x1).deq o (grp j) (pl j) := by
  rw [val_main_v50_apply, place o j (idx_main_v50 (ix2 o j)) rfl rfl rfl, deq_at]

theorem masked_at (o : Fin 6912) (j : Fin 2560) : val_main_v44 (F := Ideal) x0 x1 (ix2 o j) = (warrOf x0 x1).masked o (grp j) (pl j) := by
  rw [val_main_v44_apply, val_main_v43_apply, val_main_v42_apply, place o j (idx_main_v42 (ix2 o j)) rfl rfl rfl, val_main_v41_apply,
    val_main_v38_apply, val_main_v40_apply, val_main_v37_apply, val_main_v39_apply, val_main_cst_7_apply, val_main_cst_8_apply, r_at, e0,
    val_main_call4_v1_apply, val_main_call4_v0_apply, val_main_cst_9_apply, e0, val_main_v0_apply]
  refine (select_and (0 ≤ (warrOf x0 x1).r o (grp j) (pl j)) ((warrOf x0 x1).r o (grp j) (pl j) ≤ Ideal.ofBits FTy.f32 0x41700000#32) _ _).trans ?_
  unfold WArr.masked
  rw [lane_grp_pl]
  rfl

theorem res_codes : val_main_v49 (F := Ideal) x0 x1 = outCodes (warrOf x0 x1) := by
  funext i
  have e : i = (ix2 (i 0) (i 1) : S6912x2560.Idx) := Shape.idx_ext₂ rfl rfl
  exact (congrArg (val_main_v49 (F := Ideal) x0 x1) e).trans (code_at x0 x1 (i 0) (i 1))

theorem res_deq : val_main_v50 (F := Ideal) x0 x1 = outDeq (warrOf x0 x1) := by
  funext i
  have e : i = (ix2 (i 0) (i 1) : S6912x2560.Idx) := Shape.idx_ext₂ rfl rfl
  exact (congrArg (val_main_v50 (F := Ideal) x0 x1) e).trans (deq_flat_at x0 x1 (i 0) (i 1))

theorem res_masked : val_main_v44 (F := Ideal) x0 x1 = outMasked (warrOf x0 x1) := by
  funext i
  have e : i = (ix2 (i 0) (i 1) : S6912x2560.Idx) := Shape.idx_ext₂ rfl rfl
  exact (congrArg (val_main_v44 (F := Ideal) x0 x1) e).trans (masked_at x0 x1 (i 0) (i 1))

theorem res_scales : val_main_v14 (F := Ideal) x0 x1 = outScales (warrOf x0 x1) := by
  funext i
  have e : i = (ix2 (i 0) (i 1) : S6912x20.Idx) := Shape.idx_ext₂ rfl rfl
  exact (congrArg (val_main_v14 (F := Ideal) x0 x1) e).trans (scale_at x0 x1 (i 0) (i 1))

theorem res_zeros : val_main_v17 (F := Ideal) x0 x1 = outZeros (warrOf x0 x1) := by
  funext i
  have e : i = (ix2 (i 0) (i 1) : S6912x20.Idx) := Shape.idx_ext₂ rfl rfl
  exact (congrArg (val_main_v17 (F := Ideal) x0 x1) e).trans (zp_at x0 x1 (i 0) (i 1))

theorem res_shift (x2 : S1x2560.Idx → EReal) (x3 : S1x6912.Idx → EReal) :
    val_main_v48 (F := Ideal) x0 x2 x3 = outShift (warrOf x0 x1).W (fun j => x2 (ix2 0 j)) (fun o => x3 (ix2 0 o)) := by
  funext i
  rw [val_main_v48_apply, val_main_v47_apply, val_main_v46_apply]
  refine congrArg₂ (fun a b : EReal => a + b)
    (congrArg x3 (Shape.idx_ext₂ (by have : (i 0).val < 1 := (i 0).isLt; show (i 0).val = 0; omega) rfl)) (Finset.sum_congr rfl fun j _ => ?_)
  rw [val_main_v0_apply, val_main_v45_apply]
  refine congrArg₂ (fun a b : EReal => a * b) (congrArg x0 (Shape.idx_ext₂ rfl rfl)) (congrArg x2 (Shape.idx_ext₂ rfl ?_))
  show j.val % 2560 = j.val
  omega
end

/-! ## The mask -/

/-- The mask's side conditions. -/
instance mask_facts : Cert.On_real_shift.Facts where
  bcast_S_S1x2560 := by decide
  reducesTo_S1x2560_S_d0_1 := by decide
  h_S_ := by decide
  bcast_S_S6912x2560 := by decide
  bcast_S_S6912x20 := by decide
  bcast_S_S1x6912 := by decide

/-- The mask, before it is spread over the result it guards. -/
theorem real_of_all (x2 : FVec Ideal Cert.On_real_shift.S1x2560 .f32) (k : Cert.On_real_shift.S_.Idx)
    (h : Host.reduce IntOp.andi (cmpf .olt (Host.absf x2) (broadcastInDim Cert.On_real_shift.S1x2560 ![] mask_facts.bcast_S_S1x2560 (constant Cert.On_real_shift.S_ .f32 0x7F800000#32)))
      (constantI Cert.On_real_shift.S_ 1 1#1) mask_facts.reducesTo_S1x2560_S_d0_1 mask_facts.h_S_ k = 1#1) (j : Fin 2560) :
    (x2 (ix2 0 j) : EReal) ≠ ⊤ ∧ (x2 (ix2 0 j) : EReal) ≠ ⊥ := by
  haveI : Subsingleton Cert.On_real_shift.S_.Idx := ⟨fun a b => funext fun i => i.elim0⟩
  have e := Host.reduce_andi_all _ _ _ _ _ h (ix2 0 j)
  refine real_of_abs _ (Eq.trans ?_ e)
  exact congrArg (Ideal.cmp .olt _) inf_eq.symm

/-- Where the mask of the shifted bias is set, the shift is real. -/
theorem real_shift (x0 : FVec Ideal Cert.On_real_shift.S6912x2560 .bf16) (x1 x2 : FVec Ideal Cert.On_real_shift.S1x2560 .f32)
    (x3 : FVec Ideal Cert.On_real_shift.S1x6912 .f32) (i : Cert.On_real_shift.S1x6912.Idx)
    (h : (Cert.On_real_shift.fn (F := Ideal) x0 x1 x2 x3).2.2.2.2.2 i = 1#1) (j : Fin 2560) : (x2 (ix2 0 j) : EReal) ≠ ⊤ ∧ (x2 (ix2 0 j) : EReal) ≠ ⊥ :=
  real_of_all x2 (fun a => a.elim0) ((broadcastInDim_apply _ mask_facts.bcast_S_S1x6912 _ i (fun a => a.elim0) (fun a => a.elim0)).symm.trans h) j

/-! ## The run -/

/-- The reference's arrays at entry, on core `c`. -/
def refArrs (m : (ℓ : Loc nD τ sig) → Buf (Elt Ideal) ℓ) (c : Dev nD) : WArr :=
  warrOf (m ((c : Thread nD τ).loc main_arg0)) (m ((c : Thread nD τ).loc main_arg1))

def dRef (m : (ℓ : Loc nD τ sig) → Buf (Elt Ideal) ℓ) (c : Dev nD) (j : Fin 2560) : EReal := (m ((c : Thread nD τ).loc main_arg2) : S1x2560.Idx → EReal) (ix2 0 j)
def bRef (m : (ℓ : Loc nD τ sig) → Buf (Elt Ideal) ℓ) (c : Dev nD) (o : Fin 6912) : EReal := (m ((c : Thread nD τ).loc main_arg3) : S1x6912.Idx → EReal) (ix2 0 o)

/-- The reference ends, with its arguments kept and its counters at zero. -/
theorem frame_main (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2.2.2.2.2, sem_eq_zero_of_no_sems (by decide) r.2⟩)
    (Cert.QuantWReferenceIdeal.Value.run (F := Ideal) m ρ)

/-- The reference ends, with its six results what the mathematics says. -/
theorem reference_values (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v49) = outCodes (refArrs m c)
      ∧ r.2.mem ((c.tc : Thread nD τ).loc main_v14) = outScales (refArrs m c)
      ∧ r.2.mem ((c.tc : Thread nD τ).loc main_v17) = outZeros (refArrs m c)
      ∧ r.2.mem ((c.tc : Thread nD τ).loc main_v50) = outDeq (refArrs m c)
      ∧ r.2.mem ((c.tc : Thread nD τ).loc main_v44) = outMasked (refArrs m c)
      ∧ r.2.mem ((c.tc : Thread nD τ).loc main_v48) = outShift (refArrs m c).W (dRef m c) (bRef m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1.trans (val_main_v49_eq m c)).trans (res_codes _ _),
      ((h c).2.1.trans (val_main_v14_eq _ _)).trans (res_scales _ _),
      ((h c).2.2.1.trans (val_main_v17_eq _ _)).trans (res_zeros _ _),
      ((h c).2.2.2.1.trans (val_main_v50_eq m c)).trans (res_deq _ _),
      ((h c).2.2.2.2.1.trans (val_main_v44_eq m c)).trans (res_masked _ _),
      ((h c).2.2.2.2.2.1.trans (val_main_v48_eq _ _ _)).trans (res_shift _ _ _ _), (h c).2.2.2.2.2.2⟩)
    (Cert.QuantWReferenceIdeal.Value.run (F := Ideal) m ρ)

end Cert.QuantWReferenceIdeal.Gen

end
-- ==== Proof.lean ====
/- The claims, for each of the three calls: the frames of the kernel, of the idealised kernel and of the reference, and the
   equality over the extended reals of the kernel's results with the reference's. -/
module

public import proofs.«01_k».proof.Defs
public import proofs.«01_k».proof.Proof.K.Track
public import proofs.«01_k».proof.Proof.KI.Final
public import proofs.«01_k».proof.Proof.Ref
public import proofs.«01_k».proof.Proof.OnReal
public import proofs.«01_k».proof.Proof.QW.Ref
public import proofs.«01_k».proof.Proof.Gen.Kernel
public import proofs.«01_k».proof.Proof.Gen.KernelIdeal
public import proofs.«01_k».proof.Proof.Gen.ReferenceIdeal
public import proofs.«01_k».proof.Proof.Gen.QuantW
public import proofs.«01_k».proof.Proof.Gen.QuantWIdeal
public import proofs.«01_k».proof.Proof.Gen.QuantWReferenceIdeal
public import proofs.«01_k».proof.Proof.Gen.QuantW.Frame
public import proofs.«01_k».proof.Proof.Gen.QuantWIdeal.Frame
public import proofs.«01_k».proof.Proof.Gen.QuantWIdeal.Value
public import proofs.«01_k».proof.Proof.Gen.QuantWReferenceIdeal.Run
public import proofs.«01_k».proof.Proof.Gen.QuantWReferenceIdeal.Read
public import proofs.«01_k».proof.Proof.BG.Ref
public import proofs.«01_k».proof.Proof.Gen.BiasGrad
public import proofs.«01_k».proof.Proof.Gen.BiasGradIdeal
public import proofs.«01_k».proof.Proof.Gen.BiasGradReferenceIdeal
public import proofs.«01_k».proof.Proof.Gen.Pre_finite
public import proofs.«01_k».proof.Proof.Gen.BiasGrad.Frame
public import proofs.«01_k».proof.Proof.Gen.BiasGradIdeal.Frame
public import proofs.«01_k».proof.Proof.Gen.BiasGradIdeal.Value
public import proofs.«01_k».proof.Proof.Gen.BiasGradReferenceIdeal.Run
public import proofs.«01_k».proof.Proof.Gen.BiasGradReferenceIdeal.Read
public import Idealize.ShloMosaic.Adequacy
public import Idealize.ShloMosaic.Init

@[expose] public section

noncomputable section

namespace Cert.Proof

open Idealize.ShloMosaic Idealize.SL.Sem
open Cert.KernelIdeal.Gen (Arr arrs outY outCodes outScales outLoss outDs outDd outDsw outGb kernel_values)
open Cert.ReferenceIdeal.Gen (refArrs arrOf refDs refDsw reference_values)

/-- From the same arguments, the kernel and the reference find the same arrays. -/
theorem same_arrs (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    refArrs m' c = arrs m c := by
  obtain ⟨h0, h1, h2, h3, h4, h5, h6⟩ := h
  unfold refArrs
  rw [h0, h1, h2, h3, h4, h5, h6]
  rfl

/-- Over reals, the reference's order of summation gives the kernel's gradients. -/
theorem same_dsw {A : Arr} (h : A.Real) (j : Fin 2560) : refDsw A j = A.dsw j := (h.dsw j).symm
theorem same_ds {A : Arr} (h : A.Real) (j : Fin 2560) : refDs A j = A.ds j := by
  unfold refDs Arr.ds
  rw [same_dsw h j]

/-- The kernel's predictions, codes, scales, losses and gradients are the reference's: the gradient of the smoothing factor and the
    weights' share of it where the weights, the masked weights, the targets and the shifted bias are reals, the others always. -/
theorem algebraic : Cert.algebraic_KernelIdeal_ReferenceIdeal_on_real := by
  intro m g m' g' _ hagree
  refine ⟨fun c => outY (arrs m c), fun c => outCodes (arrs m c), fun c => outScales (arrs m c), fun c => outLoss (arrs m c),
    fun c => outDs (arrs m c), fun c => outDd (arrs m c), fun c => outDsw (arrs m c), fun c => outGb (arrs m c), ?_, ?_⟩
  · refine (θ_run Cert.KernelIdeal.defs _ _).mono (fun _ h c => ?_) (kernel_values m g)
    obtain ⟨v, h⟩ := h c
    exact ⟨fun i _ => congrFun v.y i, fun i _ => congrFun v.codes i, fun i _ => congrFun v.scales i, fun i _ => congrFun v.loss i,
      fun i _ => congrFun v.ds i, fun i _ => congrFun v.dd i, fun i _ => congrFun v.dsw i, fun i _ => congrFun v.gb i, h⟩
  · refine (θ_run Cert.ReferenceIdeal.defs _ _).mono (fun _ h c => ?_) (reference_values m' g')
    have e := same_arrs m m' c (hagree c)
    obtain ⟨h0, h1, h2, h3, h4, h5, h6, h7, h⟩ := h c
    rw [e] at h0 h1 h2 h3 h4 h5 h6 h7
    exact ⟨fun i _ => congrFun h0 i, fun i _ => congrFun h1 i, fun i _ => congrFun h2 i, fun i _ => congrFun h3 i,
      fun i hi => (congrFun h4 i).trans (same_ds (A := arrs m c) (Cert.On_real.Gen.real_ds _ _ _ _ _ _ _ i hi) (i 1)), fun i _ => congrFun h5 i,
      fun i hi => (congrFun h6 i).trans (same_dsw (A := arrs m c) (Cert.On_real.Gen.real_dsw _ _ _ _ _ _ _ i hi) (i 1)), fun i _ => congrFun h7 i, h⟩

/-- From the same arguments, the kernel that quantises the weights and its reference find the same arrays. -/
theorem same_warrs (m : (ℓ : Loc Cert.QuantWIdeal.nD Cert.QuantWIdeal.τ Cert.QuantWIdeal.sig) → Buf (Elt Ideal) ℓ)
    (m' : (ℓ : Loc Cert.QuantWReferenceIdeal.nD Cert.QuantWReferenceIdeal.τ Cert.QuantWReferenceIdeal.sig) → Buf (Elt Ideal) ℓ) (c : Dev Cert.QuantWIdeal.nD)
    (h : m' ((c.tc : Thread Cert.QuantWReferenceIdeal.nD Cert.QuantWReferenceIdeal.τ).loc Cert.QuantWReferenceIdeal.main_arg0) = m ((c.tc : Thread Cert.QuantWIdeal.nD Cert.QuantWIdeal.τ).loc Cert.QuantWIdeal.main_arg0)
      ∧ m' ((c.tc : Thread Cert.QuantWReferenceIdeal.nD Cert.QuantWReferenceIdeal.τ).loc Cert.QuantWReferenceIdeal.main_arg1) = m ((c.tc : Thread Cert.QuantWIdeal.nD Cert.QuantWIdeal.τ).loc Cert.QuantWIdeal.main_arg1)
      ∧ m' ((c.tc : Thread Cert.QuantWReferenceIdeal.nD Cert.QuantWReferenceIdeal.τ).loc Cert.QuantWReferenceIdeal.main_arg2) = m ((c.tc : Thread Cert.QuantWIdeal.nD Cert.QuantWIdeal.τ).loc Cert.QuantWIdeal.main_arg2)
      ∧ m' ((c.tc : Thread Cert.QuantWReferenceIdeal.nD Cert.QuantWReferenceIdeal.τ).loc Cert.QuantWReferenceIdeal.main_arg3) = m ((c.tc : Thread Cert.QuantWIdeal.nD Cert.QuantWIdeal.τ).loc Cert.QuantWIdeal.main_arg3)) :
    Cert.QuantWReferenceIdeal.Gen.refArrs m' c = Cert.QuantWIdeal.Gen.warrs m c := by
  obtain ⟨h0, h1, _⟩ := h
  unfold Cert.QuantWReferenceIdeal.Gen.refArrs
  rw [h0, h1]
  rfl

/-- The weights' codes, scales and zero points, and the dequantised and the masked weights, are the reference's; and the shifted
    bias where the shift is real. -/
theorem algebraic_w : Cert.algebraic_QuantWIdeal_QuantWReferenceIdeal_on_real_shift := by
  intro m g m' g' _ hagree
  refine ⟨fun c => Cert.QuantWIdeal.Gen.outCodes (Cert.QuantWIdeal.Gen.warrs m c), fun c => Cert.QuantWIdeal.Gen.outScales (Cert.QuantWIdeal.Gen.warrs m c), fun c => Cert.QuantWIdeal.Gen.outZeros (Cert.QuantWIdeal.Gen.warrs m c),
    fun c => Cert.QuantWIdeal.Gen.outDeq (Cert.QuantWIdeal.Gen.warrs m c), fun c => Cert.QuantWIdeal.Gen.outMasked (Cert.QuantWIdeal.Gen.warrs m c),
    fun c => Cert.QuantWIdeal.Gen.outShift (Cert.QuantWIdeal.Gen.warrs m c).W (Cert.QuantWIdeal.Gen.dIn m c) (Cert.QuantWIdeal.Gen.bIn m c), ?_, ?_⟩
  · refine (θ_run Cert.QuantWIdeal.defs _ _).mono (fun _ h c => ?_) (Cert.QuantWIdeal.Gen.kernel_values m g)
    obtain ⟨h0, h1, h2, h3, h4, h5, h⟩ := h c
    exact ⟨fun i _ => congrFun h0 i, fun i _ => congrFun h1 i, fun i _ => congrFun h2 i, fun i _ => congrFun h3 i, fun i _ => congrFun h4 i,
      fun i hi => congrFun (h5 (Cert.QuantWReferenceIdeal.Gen.real_shift _ _ _ _ i hi)) i, h⟩
  · refine (θ_run Cert.QuantWReferenceIdeal.defs _ _).mono (fun _ h c => ?_) (Cert.QuantWReferenceIdeal.Gen.reference_values m' g')
    have e := same_warrs m m' c (hagree c)
    have ed : Cert.QuantWReferenceIdeal.Gen.dRef m' c = Cert.QuantWIdeal.Gen.dIn m c := by
      unfold Cert.QuantWReferenceIdeal.Gen.dRef; rw [(hagree c).2.2.1]; rfl
    have eb : Cert.QuantWReferenceIdeal.Gen.bRef m' c = Cert.QuantWIdeal.Gen.bIn m c := by
      unfold Cert.QuantWReferenceIdeal.Gen.bRef; rw [(hagree c).2.2.2]; rfl
    obtain ⟨h0, h1, h2, h3, h4, h5, h⟩ := h c
    rw [e] at h0 h1 h2 h3 h4 h5
    rw [ed, eb] at h5
    exact ⟨fun i _ => congrFun h0 i, fun i _ => congrFun h1 i, fun i _ => congrFun h2 i, fun i _ => congrFun h3 i, fun i _ => congrFun h4 i,
      fun i _ => congrFun h5 i, h⟩

/-- The bias gradient and the shift's gradient are the reference's, over gradients that are reals. -/
theorem algebraic_b : Cert.algebraic_BiasGradIdeal_BiasGradReferenceIdeal_pre_finite := by
  intro m g m' g' hpre hagree
  have hg : ∀ c r o, Cert.BiasGradIdeal.Gen.gIn m c r o ≠ ⊤ ∧ Cert.BiasGradIdeal.Gen.gIn m c r o ≠ ⊥ :=
    fun c r o => Cert.BiasGradReferenceIdeal.Gen.finite_of_pre _ _ _ (hpre c) r o
  refine ⟨fun c => Cert.BiasGradIdeal.Gen.outBias (Cert.BiasGradIdeal.Gen.gIn m c) (Cert.BiasGradIdeal.Gen.wIn m c),
    fun c => Cert.BiasGradIdeal.Gen.outDelta (Cert.BiasGradIdeal.Gen.gIn m c) (Cert.BiasGradIdeal.Gen.wIn m c) (Cert.BiasGradIdeal.Gen.dIn m c),
    Cert.BiasGradIdeal.Gen.kernel_values m g hg, ?_⟩
  refine (θ_run Cert.BiasGradReferenceIdeal.defs _ _).mono (fun _ h c => ?_) (Cert.BiasGradReferenceIdeal.Gen.reference_values m' g')
  obtain ⟨h0, h1, h2⟩ := hagree c
  have e0 : Cert.BiasGradReferenceIdeal.Gen.gRef m' c = Cert.BiasGradIdeal.Gen.gIn m c := by
    unfold Cert.BiasGradReferenceIdeal.Gen.gRef; rw [h0]; rfl
  have e1 : Cert.BiasGradReferenceIdeal.Gen.wRef m' c = Cert.BiasGradIdeal.Gen.wIn m c := by
    unfold Cert.BiasGradReferenceIdeal.Gen.wRef; rw [h1]; rfl
  have e2 : Cert.BiasGradReferenceIdeal.Gen.dRef m' c = Cert.BiasGradIdeal.Gen.dIn m c := by
    unfold Cert.BiasGradReferenceIdeal.Gen.dRef; rw [h2]; rfl
  have h' := h c
  rw [e0, e1, e2] at h'
  exact h'

theorem claim : Cert.Claim :=
  ⟨Cert.Kernel.Gen.facts, Cert.KernelIdeal.Gen.facts, Cert.ReferenceIdeal.Gen.facts,
    Cert.QuantW.Gen.facts, Cert.QuantWIdeal.Gen.facts, Cert.QuantWReferenceIdeal.Gen.facts,
    Cert.BiasGrad.Gen.facts, Cert.BiasGradIdeal.Gen.facts, Cert.BiasGradReferenceIdeal.Gen.facts, Cert.Pre_finite.Gen.facts, Cert.On_real.Gen.facts, Cert.QuantWReferenceIdeal.Gen.mask_facts,
    fun m ρ _ => Cert.Kernel.Gen.frame_main m ρ, fun m ρ _ => Cert.KernelIdeal.Gen.frame_main m ρ,
    fun m ρ _ => Cert.ReferenceIdeal.Gen.frame_main m ρ,
    fun m ρ _ => Cert.QuantW.Gen.frame m ρ, fun m ρ _ => Cert.QuantWIdeal.Gen.frame m ρ, fun m ρ _ => Cert.QuantWReferenceIdeal.Gen.frame_main m ρ,
    fun m ρ _ => Cert.BiasGrad.Gen.frame m ρ, fun m ρ _ => Cert.BiasGradIdeal.Gen.frame m ρ, fun m ρ _ => Cert.BiasGradIdeal.Gen.frame m ρ,
    fun m ρ _ => Cert.BiasGradReferenceIdeal.Gen.frame_main m ρ, fun m ρ _ => Cert.BiasGradReferenceIdeal.Gen.frame_main m ρ,
    trivial, algebraic, trivial, algebraic_w, trivial, algebraic_b⟩

end Cert.Proof

end
